-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Kernel20Ideal_finite_dout [hPre_finite_dout : Cert.Pre_finite_dout.Facts] (m : (ℓ : Loc Cert.Kernel20Ideal.nD Cert.Kernel20Ideal.τ Cert.Kernel20Ideal.sig) → Buf (Elt Ideal) ℓ) : Prop :=
  ∀ c : Dev Cert.Kernel20Ideal.nD,
    (Cert.Pre_finite_dout.fn (F := Ideal) (m ((c.tc : Thread Cert.Kernel20Ideal.nD Cert.Kernel20Ideal.τ).loc Cert.Kernel20Ideal.main_arg0)) (m ((c.tc : Thread Cert.Kernel20Ideal.nD Cert.Kernel20Ideal.τ).loc Cert.Kernel20Ideal.main_arg1)) (m ((c.tc : Thread Cert.Kernel20Ideal.nD Cert.Kernel20Ideal.τ).loc Cert.Kernel20Ideal.main_arg2)) (m ((c.tc : Thread Cert.Kernel20Ideal.nD Cert.Kernel20Ideal.τ).loc Cert.Kernel20Ideal.main_arg3))) = (fun _ => 1#1)

def Pre_Reference20Ideal (m : (ℓ : Loc Cert.Reference20Ideal.nD Cert.Reference20Ideal.τ Cert.Reference20Ideal.sig) → Buf (Elt Ideal) ℓ) : Prop :=
  True

def Pre_Reference20Ideal_finite_dout [hPre_finite_dout : Cert.Pre_finite_dout.Facts] (m : (ℓ : Loc Cert.Reference20Ideal.nD Cert.Reference20Ideal.τ Cert.Reference20Ideal.sig) → Buf (Elt Ideal) ℓ) : Prop :=
  ∀ c : Dev Cert.Reference20Ideal.nD,
    (Cert.Pre_finite_dout.fn (F := Ideal) (m ((c.tc : Thread Cert.Reference20Ideal.nD Cert.Reference20Ideal.τ).loc Cert.Reference20Ideal.main_arg0)) (m ((c.tc : Thread Cert.Reference20Ideal.nD Cert.Reference20Ideal.τ).loc Cert.Reference20Ideal.main_arg1)) (m ((c.tc : Thread Cert.Reference20Ideal.nD Cert.Reference20Ideal.τ).loc Cert.Reference20Ideal.main_arg2)) (m ((c.tc : Thread Cert.Reference20Ideal.nD Cert.Reference20Ideal.τ).loc Cert.Reference20Ideal.main_arg3))) = (fun _ => 1#1)

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Kernel21Ideal_finite_dout [hPre_finite_dout : Cert.Pre_finite_dout.Facts] (m : (ℓ : Loc Cert.Kernel21Ideal.nD Cert.Kernel21Ideal.τ Cert.Kernel21Ideal.sig) → Buf (Elt Ideal) ℓ) : Prop :=
  ∀ c : Dev Cert.Kernel21Ideal.nD,
    (Cert.Pre_finite_dout.fn (F := Ideal) (m ((c.tc : Thread Cert.Kernel21Ideal.nD Cert.Kernel21Ideal.τ).loc Cert.Kernel21Ideal.main_arg0)) (m ((c.tc : Thread Cert.Kernel21Ideal.nD Cert.Kernel21Ideal.τ).loc Cert.Kernel21Ideal.main_arg1)) (m ((c.tc : Thread Cert.Kernel21Ideal.nD Cert.Kernel21Ideal.τ).loc Cert.Kernel21Ideal.main_arg2)) (m ((c.tc : Thread Cert.Kernel21Ideal.nD Cert.Kernel21Ideal.τ).loc Cert.Kernel21Ideal.main_arg3))) = (fun _ => 1#1)

def Pre_Reference21Ideal (m : (ℓ : Loc Cert.Reference21Ideal.nD Cert.Reference21Ideal.τ Cert.Reference21Ideal.sig) → Buf (Elt Ideal) ℓ) : Prop :=
  True

def Pre_Reference21Ideal_finite_dout [hPre_finite_dout : Cert.Pre_finite_dout.Facts] (m : (ℓ : Loc Cert.Reference21Ideal.nD Cert.Reference21Ideal.τ Cert.Reference21Ideal.sig) → Buf (Elt Ideal) ℓ) : Prop :=
  ∀ c : Dev Cert.Reference21Ideal.nD,
    (Cert.Pre_finite_dout.fn (F := Ideal) (m ((c.tc : Thread Cert.Reference21Ideal.nD Cert.Reference21Ideal.τ).loc Cert.Reference21Ideal.main_arg0)) (m ((c.tc : Thread Cert.Reference21Ideal.nD Cert.Reference21Ideal.τ).loc Cert.Reference21Ideal.main_arg1)) (m ((c.tc : Thread Cert.Reference21Ideal.nD Cert.Reference21Ideal.τ).loc Cert.Reference21Ideal.main_arg2)) (m ((c.tc : Thread Cert.Reference21Ideal.nD Cert.Reference21Ideal.τ).loc Cert.Reference21Ideal.main_arg3))) = (fun _ => 1#1)

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Kernel22Ideal_finite_dout [hPre_finite_dout : Cert.Pre_finite_dout.Facts] (m : (ℓ : Loc Cert.Kernel22Ideal.nD Cert.Kernel22Ideal.τ Cert.Kernel22Ideal.sig) → Buf (Elt Ideal) ℓ) : Prop :=
  ∀ c : Dev Cert.Kernel22Ideal.nD,
    (Cert.Pre_finite_dout.fn (F := Ideal) (m ((c.tc : Thread Cert.Kernel22Ideal.nD Cert.Kernel22Ideal.τ).loc Cert.Kernel22Ideal.main_arg0)) (m ((c.tc : Thread Cert.Kernel22Ideal.nD Cert.Kernel22Ideal.τ).loc Cert.Kernel22Ideal.main_arg1)) (m ((c.tc : Thread Cert.Kernel22Ideal.nD Cert.Kernel22Ideal.τ).loc Cert.Kernel22Ideal.main_arg2)) (m ((c.tc : Thread Cert.Kernel22Ideal.nD Cert.Kernel22Ideal.τ).loc Cert.Kernel22Ideal.main_arg3))) = (fun _ => 1#1)

def Pre_Reference22Ideal (m : (ℓ : Loc Cert.Reference22Ideal.nD Cert.Reference22Ideal.τ Cert.Reference22Ideal.sig) → Buf (Elt Ideal) ℓ) : Prop :=
  True

def Pre_Reference22Ideal_finite_dout [hPre_finite_dout : Cert.Pre_finite_dout.Facts] (m : (ℓ : Loc Cert.Reference22Ideal.nD Cert.Reference22Ideal.τ Cert.Reference22Ideal.sig) → Buf (Elt Ideal) ℓ) : Prop :=
  ∀ c : Dev Cert.Reference22Ideal.nD,
    (Cert.Pre_finite_dout.fn (F := Ideal) (m ((c.tc : Thread Cert.Reference22Ideal.nD Cert.Reference22Ideal.τ).loc Cert.Reference22Ideal.main_arg0)) (m ((c.tc : Thread Cert.Reference22Ideal.nD Cert.Reference22Ideal.τ).loc Cert.Reference22Ideal.main_arg1)) (m ((c.tc : Thread Cert.Reference22Ideal.nD Cert.Reference22Ideal.τ).loc Cert.Reference22Ideal.main_arg2)) (m ((c.tc : Thread Cert.Reference22Ideal.nD Cert.Reference22Ideal.τ).loc Cert.Reference22Ideal.main_arg3))) = (fun _ => 1#1)

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ r.2.sem = fun _ => 0)

def quiescent_Kernel20Ideal_pre_finite_dout [hKernel20Ideal : Cert.Kernel20Ideal.Facts] [hPre_finite_dout : Cert.Pre_finite_dout.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal_finite_dout m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3))
      ∧ r.2.sem = fun _ => 0)

def quiescent_Reference20Ideal_pre_finite_dout [hReference20Ideal : Cert.Reference20Ideal.Facts] [hPre_finite_dout : Cert.Pre_finite_dout.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal_finite_dout m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ r.2.sem = fun _ => 0)

def quiescent_Kernel21Ideal_pre_finite_dout [hKernel21Ideal : Cert.Kernel21Ideal.Facts] [hPre_finite_dout : Cert.Pre_finite_dout.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal_finite_dout m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3))
      ∧ r.2.sem = fun _ => 0)

def quiescent_Reference21Ideal_pre_finite_dout [hReference21Ideal : Cert.Reference21Ideal.Facts] [hPre_finite_dout : Cert.Pre_finite_dout.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal_finite_dout m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ r.2.sem = fun _ => 0)

def quiescent_Kernel22Ideal_pre_finite_dout [hKernel22Ideal : Cert.Kernel22Ideal.Facts] [hPre_finite_dout : Cert.Pre_finite_dout.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal_finite_dout m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3))
      ∧ r.2.sem = fun _ => 0)

def quiescent_Reference22Ideal_pre_finite_dout [hReference22Ideal : Cert.Reference22Ideal.Facts] [hPre_finite_dout : Cert.Pre_finite_dout.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal_finite_dout m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1))
      ∧ r.2.sem = fun _ => 0)

def preserves_Kernel_KernelIdeal : Prop :=
  True

def algebraic_KernelIdeal_ReferenceIdeal_on_written_pre_finite [hKernelIdeal : Cert.KernelIdeal.Facts] [hReferenceIdeal : Cert.ReferenceIdeal.Facts] [hPre_finite : Cert.Pre_finite.Facts] [hOn_written : Cert.On_written.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)) (v5 : (c : Dev Cert.KernelIdeal.nD) → Buf (Elt Ideal) ((c.tc : Thread Cert.KernelIdeal.nD Cert.KernelIdeal.τ).loc Cert.KernelIdeal.main_v0_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![2048, 1024]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 i = 1#1 → r.2.mem ((c.tc : Thread Cert.KernelIdeal.nD Cert.KernelIdeal.τ).loc Cert.KernelIdeal.main_v0_0) i = v0 c i)
          ∧ (∀ i : (⟨2, ![2048, 1024]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 i = 1#1 → r.2.mem ((c.tc : Thread Cert.KernelIdeal.nD Cert.KernelIdeal.τ).loc Cert.KernelIdeal.main_v0_1) i = v1 c i)
          ∧ (∀ i : (⟨2, ![2048, 1024]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 i = 1#1 → r.2.mem ((c.tc : Thread Cert.KernelIdeal.nD Cert.KernelIdeal.τ).loc Cert.KernelIdeal.main_v0_2) i = v2 c i)
          ∧ (∀ i : (⟨2, ![2048, 4096]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.1 i = 1#1 → r.2.mem ((c.tc : Thread Cert.KernelIdeal.nD Cert.KernelIdeal.τ).loc Cert.KernelIdeal.main_v0_3) i = v3 c i)
          ∧ (∀ i : (⟨2, ![2048, 128]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.1 i = 1#1 → r.2.mem ((c.tc : Thread Cert.KernelIdeal.nD Cert.KernelIdeal.τ).loc Cert.KernelIdeal.main_v0_4) i = v4 c i)
          ∧ (∀ i : (⟨2, ![1, 128]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2 i = 1#1 → r.2.mem ((c.tc : Thread Cert.KernelIdeal.nD Cert.KernelIdeal.τ).loc Cert.KernelIdeal.main_v0_5) i = v5 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![2048, 1024]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 i = 1#1 → r.2.mem ((c.tc : Thread Cert.ReferenceIdeal.nD Cert.ReferenceIdeal.τ).loc Cert.ReferenceIdeal.main_v10) i = v0 c i)
          ∧ (∀ i : (⟨2, ![2048, 1024]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 i = 1#1 → r.2.mem ((c.tc : Thread Cert.ReferenceIdeal.nD Cert.ReferenceIdeal.τ).loc Cert.ReferenceIdeal.main_v11) i = v1 c i)
          ∧ (∀ i : (⟨2, ![2048, 1024]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 i = 1#1 → r.2.mem ((c.tc : Thread Cert.ReferenceIdeal.nD Cert.ReferenceIdeal.τ).loc Cert.ReferenceIdeal.main_v12) i = v2 c i)
          ∧ (∀ i : (⟨2, ![2048, 4096]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.1 i = 1#1 → r.2.mem ((c.tc : Thread Cert.ReferenceIdeal.nD Cert.ReferenceIdeal.τ).loc Cert.ReferenceIdeal.main_v14) i = v3 c i)
          ∧ (∀ i : (⟨2, ![2048, 128]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.1 i = 1#1 → r.2.mem ((c.tc : Thread Cert.ReferenceIdeal.nD Cert.ReferenceIdeal.τ).loc Cert.ReferenceIdeal.main_v15) i = v4 c i)
          ∧ (∀ i : (⟨2, ![1, 128]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2 i = 1#1 → r.2.mem ((c.tc : Thread Cert.ReferenceIdeal.nD Cert.ReferenceIdeal.τ).loc Cert.ReferenceIdeal.main_v16) i = v5 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v15) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v6) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v6) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v4) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v3) = v0 c
          ∧ r.2.mem ((c.tc : Thread Cert.Reference6Ideal.nD Cert.Reference6Ideal.τ).loc Cert.Reference6Ideal.main_v6) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v2) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v4) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v6) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v5) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v4) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v5) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v3) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v5) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v3) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v2) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v2) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v0)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v2) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)) →
    ∃ (v0 : (c : Dev Cert.Kernel19Ideal.nD) → Buf (Elt Ideal) ((c.tc : Thread Cert.Kernel19Ideal.nD Cert.Kernel19Ideal.τ).loc Cert.Kernel19Ideal.main_v0)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v2) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1))

def preserves_Kernel20_Kernel20Ideal : Prop :=
  True

def algebraic_Kernel20Ideal_Reference20Ideal_pre_finite_dout [hKernel20Ideal : Cert.Kernel20Ideal.Facts] [hReference20Ideal : Cert.Reference20Ideal.Facts] [hPre_finite_dout : Cert.Pre_finite_dout.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal_finite_dout m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)) →
    ∃ (v0 : (c : Dev Cert.Kernel20Ideal.nD) → Buf (Elt Ideal) ((c.tc : Thread Cert.Kernel20Ideal.nD Cert.Kernel20Ideal.τ).loc Cert.Kernel20Ideal.main_v0_0)) (v1 : (c : Dev Cert.Kernel20Ideal.nD) → Buf (Elt Ideal) ((c.tc : Thread Cert.Kernel20Ideal.nD Cert.Kernel20Ideal.τ).loc Cert.Kernel20Ideal.main_v0_1)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0_0) = v0 c
          ∧ r.2.mem ((c.tc : Thread Cert.Kernel20Ideal.nD Cert.Kernel20Ideal.τ).loc Cert.Kernel20Ideal.main_v0_1) = v1 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v81) = v0 c
          ∧ r.2.mem ((c.tc : Thread Cert.Reference20Ideal.nD Cert.Reference20Ideal.τ).loc Cert.Reference20Ideal.main_v77) = v1 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3))

def preserves_Kernel21_Kernel21Ideal : Prop :=
  True

def algebraic_Kernel21Ideal_Reference21Ideal_pre_finite_dout [hKernel21Ideal : Cert.Kernel21Ideal.Facts] [hReference21Ideal : Cert.Reference21Ideal.Facts] [hPre_finite_dout : Cert.Pre_finite_dout.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal_finite_dout m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)) →
    ∃ (v0 : (c : Dev Cert.Kernel21Ideal.nD) → Buf (Elt Ideal) ((c.tc : Thread Cert.Kernel21Ideal.nD Cert.Kernel21Ideal.τ).loc Cert.Kernel21Ideal.main_v0_0)) (v1 : (c : Dev Cert.Kernel21Ideal.nD) → Buf (Elt Ideal) ((c.tc : Thread Cert.Kernel21Ideal.nD Cert.Kernel21Ideal.τ).loc Cert.Kernel21Ideal.main_v0_1)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0_0) = v0 c
          ∧ r.2.mem ((c.tc : Thread Cert.Kernel21Ideal.nD Cert.Kernel21Ideal.τ).loc Cert.Kernel21Ideal.main_v0_1) = v1 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v82) = v0 c
          ∧ r.2.mem ((c.tc : Thread Cert.Reference21Ideal.nD Cert.Reference21Ideal.τ).loc Cert.Reference21Ideal.main_v77) = v1 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3))

def preserves_Kernel22_Kernel22Ideal : Prop :=
  True

def algebraic_Kernel22Ideal_Reference22Ideal_pre_finite_dout [hKernel22Ideal : Cert.Kernel22Ideal.Facts] [hReference22Ideal : Cert.Reference22Ideal.Facts] [hPre_finite_dout : Cert.Pre_finite_dout.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal_finite_dout m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)) →
    ∃ (v0 : (c : Dev Cert.Kernel22Ideal.nD) → Buf (Elt Ideal) ((c.tc : Thread Cert.Kernel22Ideal.nD Cert.Kernel22Ideal.τ).loc Cert.Kernel22Ideal.main_v0_0)) (v1 : (c : Dev Cert.Kernel22Ideal.nD) → Buf (Elt Ideal) ((c.tc : Thread Cert.Kernel22Ideal.nD Cert.Kernel22Ideal.τ).loc Cert.Kernel22Ideal.main_v0_1)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0_0) = v0 c
          ∧ r.2.mem ((c.tc : Thread Cert.Kernel22Ideal.nD Cert.Kernel22Ideal.τ).loc Cert.Kernel22Ideal.main_v0_1) = v1 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v82) = v0 c
          ∧ r.2.mem ((c.tc : Thread Cert.Reference22Ideal.nD Cert.Reference22Ideal.τ).loc Cert.Reference22Ideal.main_v77) = v1 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)) →
    ∃ (v0 : (c : Dev Cert.Kernel23Ideal.nD) → Buf (Elt Ideal) ((c.tc : Thread Cert.Kernel23Ideal.nD Cert.Kernel23Ideal.τ).loc Cert.Kernel23Ideal.main_v0)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0) = v0 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v32) = v0 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)) →
    ∃ (v0 : (c : Dev Cert.Kernel24Ideal.nD) → Buf (Elt Ideal) ((c.tc : Thread Cert.Kernel24Ideal.nD Cert.Kernel24Ideal.τ).loc Cert.Kernel24Ideal.main_v0)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0) = v0 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v9) = v0 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)) →
    ∃ (v0 : (c : Dev Cert.Kernel25Ideal.nD) → Buf (Elt Ideal) ((c.tc : Thread Cert.Kernel25Ideal.nD Cert.Kernel25Ideal.τ).loc Cert.Kernel25Ideal.main_v0)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0) = v0 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v3) = v0 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hPre_finite : Cert.Pre_finite.Facts) (hPre_finite_dout : Cert.Pre_finite_dout.Facts) (hOn_written : Cert.On_written.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Kernel20Ideal_pre_finite_dout (hKernel20Ideal := hKernel20Ideal) (hPre_finite_dout := hPre_finite_dout)
    ∧ quiescent_Reference20Ideal (hReference20Ideal := hReference20Ideal)
    ∧ quiescent_Reference20Ideal_pre_finite_dout (hReference20Ideal := hReference20Ideal) (hPre_finite_dout := hPre_finite_dout)
    ∧ quiescent_Kernel21 (hKernel21 := hKernel21)
    ∧ quiescent_Kernel21Ideal (hKernel21Ideal := hKernel21Ideal)
    ∧ quiescent_Kernel21Ideal_pre_finite_dout (hKernel21Ideal := hKernel21Ideal) (hPre_finite_dout := hPre_finite_dout)
    ∧ quiescent_Reference21Ideal (hReference21Ideal := hReference21Ideal)
    ∧ quiescent_Reference21Ideal_pre_finite_dout (hReference21Ideal := hReference21Ideal) (hPre_finite_dout := hPre_finite_dout)
    ∧ quiescent_Kernel22 (hKernel22 := hKernel22)
    ∧ quiescent_Kernel22Ideal (hKernel22Ideal := hKernel22Ideal)
    ∧ quiescent_Kernel22Ideal_pre_finite_dout (hKernel22Ideal := hKernel22Ideal) (hPre_finite_dout := hPre_finite_dout)
    ∧ quiescent_Reference22Ideal (hReference22Ideal := hReference22Ideal)
    ∧ quiescent_Reference22Ideal_pre_finite_dout (hReference22Ideal := hReference22Ideal) (hPre_finite_dout := hPre_finite_dout)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ preserves_Kernel_KernelIdeal
    ∧ algebraic_KernelIdeal_ReferenceIdeal_on_written_pre_finite (hKernelIdeal := hKernelIdeal) (hReferenceIdeal := hReferenceIdeal) (hPre_finite := hPre_finite) (hOn_written := hOn_written)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal_pre_finite_dout (hKernel20Ideal := hKernel20Ideal) (hReference20Ideal := hReference20Ideal) (hPre_finite_dout := hPre_finite_dout)
    ∧ preserves_Kernel21_Kernel21Ideal
    ∧ algebraic_Kernel21Ideal_Reference21Ideal_pre_finite_dout (hKernel21Ideal := hKernel21Ideal) (hReference21Ideal := hReference21Ideal) (hPre_finite_dout := hPre_finite_dout)
    ∧ preserves_Kernel22_Kernel22Ideal
    ∧ algebraic_Kernel22Ideal_Reference22Ideal_pre_finite_dout (hKernel22Ideal := hKernel22Ideal) (hReference22Ideal := hReference22Ideal) (hPre_finite_dout := hPre_finite_dout)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
-- ==== On_written.lean ====
abbrev S2048x3072 : Shape := ⟨2, ![2048, 3072]⟩
abbrev S2048x4096 : Shape := ⟨2, ![2048, 4096]⟩
abbrev S2048x128 : Shape := ⟨2, ![2048, 128]⟩
abbrev S1x128 : Shape := ⟨2, ![1, 128]⟩
abbrev S32x8x128x128 : Shape := ⟨4, ![32, 8, 128, 128]⟩
abbrev S32x8x64x64 : Shape := ⟨4, ![32, 8, 64, 64]⟩
abbrev S2048x1024 : Shape := ⟨2, ![2048, 1024]⟩
abbrev S_ : Shape := ⟨0, ![]⟩

class Facts : Prop where
  bcast_S_S2048x4096 : S_.BroadcastsInDim S2048x4096 (![] : Fin 0 → Fin S2048x4096.rank)
  bcast_S_S2048x1024 : S_.BroadcastsInDim S2048x1024 (![] : Fin 0 → Fin S2048x1024.rank)
  bcast_S_S2048x128 : S_.BroadcastsInDim S2048x128 (![] : Fin 0 → Fin S2048x128.rank)
  bcast_S_S1x128 : S_.BroadcastsInDim S1x128 (![] : Fin 0 → Fin S1x128.rank)

variable [Facts]

def fn {F : FTy → Type} [FloatOps F] (main_arg0 : FVec F S2048x3072 .f32) (main_arg1 : FVec F S2048x4096 .f32) (main_arg2 : FVec F S2048x128 .f32) (main_arg3 : FVec F S1x128 .f32) (main_arg4 : FVec F S32x8x128x128 .f32) (main_arg5 : FVec F S32x8x64x64 .f32) (main_arg6 : FVec F S2048x1024 .f32) : IVec S2048x1024 1 × IVec S2048x1024 1 × IVec S2048x1024 1 × IVec S2048x4096 1 × IVec S2048x128 1 × IVec S1x128 1 :=
  let main_v0 : IVec S2048x4096 32 := iotaInDim S2048x4096 32 1
  let main_c : IVec S_ 32 := constantI S_ 32 3072#32
  let main_v1 : IVec S2048x4096 32 := broadcastInDim S2048x4096 ![] bcast_S_S2048x4096 main_c
  let main_v2 : IVec S2048x4096 1 := cmpi .sge main_v0 main_v1
  let main_v3 : IVec S2048x1024 32 := iotaInDim S2048x1024 32 0
  let main_c_0 : IVec S_ 32 := constantI S_ 32 0#32
  let main_v4 : IVec S2048x1024 32 := broadcastInDim S2048x1024 ![] bcast_S_S2048x1024 main_c_0
  let main_v5 : IVec S2048x1024 1 := cmpi .sge main_v3 main_v4
  let main_v6 : IVec S2048x1024 32 := iotaInDim S2048x1024 32 0
  let main_c_1 : IVec S_ 32 := constantI S_ 32 0#32
  let main_v7 : IVec S2048x1024 32 := broadcastInDim S2048x1024 ![] bcast_S_S2048x1024 main_c_1
  let main_v8 : IVec S2048x1024 1 := cmpi .sge main_v6 main_v7
  let main_v9 : IVec S2048x1024 32 := iotaInDim S2048x1024 32 0
  let main_c_2 : IVec S_ 32 := constantI S_ 32 0#32
  let main_v10 : IVec S2048x1024 32 := broadcastInDim S2048x1024 ![] bcast_S_S2048x1024 main_c_2
  let main_v11 : IVec S2048x1024 1 := cmpi .sge main_v9 main_v10
  let main_v12 : IVec S2048x128 32 := iotaInDim S2048x128 32 0
  let main_c_3 : IVec S_ 32 := constantI S_ 32 0#32
  let main_v13 : IVec S2048x128 32 := broadcastInDim S2048x128 ![] bcast_S_S2048x128 main_c_3
  let main_v14 : IVec S2048x128 1 := cmpi .sge main_v12 main_v13
  let main_v15 : IVec S1x128 32 := iotaInDim S1x128 32 0
  let main_c_4 : IVec S_ 32 := constantI S_ 32 0#32
  let main_v16 : IVec S1x128 32 := broadcastInDim S1x128 ![] bcast_S_S1x128 main_c_4
  let main_v17 : IVec S1x128 1 := cmpi .sge main_v15 main_v16
  (main_v5, main_v8, main_v11, main_v2, main_v14, main_v17)
-- ==== Pre_finite.lean ====
abbrev S2048x3072 : Shape := ⟨2, ![2048, 3072]⟩
abbrev S2048x4096 : Shape := ⟨2, ![2048, 4096]⟩
abbrev S2048x128 : Shape := ⟨2, ![2048, 128]⟩
abbrev S1x128 : Shape := ⟨2, ![1, 128]⟩
abbrev S32x8x128x128 : Shape := ⟨4, ![32, 8, 128, 128]⟩
abbrev S32x8x64x64 : Shape := ⟨4, ![32, 8, 64, 64]⟩
abbrev S2048x1024 : Shape := ⟨2, ![2048, 1024]⟩
abbrev S_ : Shape := ⟨0, ![]⟩
abbrev S2048x16 : Shape := ⟨2, ![2048, 16]⟩

class Facts : Prop where
  bcast_S_S2048x3072 : S_.BroadcastsInDim S2048x3072 (![] : Fin 0 → Fin S2048x3072.rank)
  slices_S2048x4096_S2048x1024_0_3072 : S2048x4096.Slices ![0, 3072] S2048x1024
  bcast_S_S2048x1024 : S_.BroadcastsInDim S2048x1024 (![] : Fin 0 → Fin S2048x1024.rank)
  slices_S2048x128_S2048x16_0_0 : S2048x128.Slices ![0, 0] S2048x16
  bcast_S_S2048x16 : S_.BroadcastsInDim S2048x16 (![] : Fin 0 → Fin S2048x16.rank)
  bcast_S_S1x128 : S_.BroadcastsInDim S1x128 (![] : Fin 0 → Fin S1x128.rank)
  bcast_S_S32x8x128x128 : S_.BroadcastsInDim S32x8x128x128 (![] : Fin 0 → Fin S32x8x128x128.rank)
  bcast_S_S32x8x64x64 : S_.BroadcastsInDim S32x8x64x64 (![] : Fin 0 → Fin S32x8x64x64.rank)

variable [Facts]

def fn_part1 {F : FTy → Type} [FloatOps F] (main_arg6 : FVec F S2048x1024 .f32) (main_v2 : IVec S2048x3072 1) (main_v6 : IVec S2048x1024 1) (main_v10 : IVec S2048x16 1) (main_v13 : IVec S1x128 1) (main_v16 : IVec S32x8x128x128 1) (main_v17 : FVec F S32x8x64x64 .f32) (main_cst_4 : FVec F S_ .f32) : IVec S2048x3072 1 × IVec S2048x1024 1 × IVec S2048x16 1 × IVec S1x128 1 × IVec S32x8x128x128 1 × IVec S32x8x64x64 1 × IVec S2048x1024 1 :=
  let main_v18 : FVec F S32x8x64x64 .f32 := broadcastInDim S32x8x64x64 ![] bcast_S_S32x8x64x64 main_cst_4
  let main_v19 : IVec S32x8x64x64 1 := cmpf .olt main_v17 main_v18
  let main_v20 : FVec F S2048x1024 .f32 := Host.absf main_arg6
  let main_cst_5 : FVec F S_ .f32 := constant S_ .f32 0x7F800000#32
  let main_v21 : FVec F S2048x1024 .f32 := broadcastInDim S2048x1024 ![] bcast_S_S2048x1024 main_cst_5
  let main_v22 : IVec S2048x1024 1 := cmpf .olt main_v20 main_v21
  (main_v2, main_v6, main_v10, main_v13, main_v16, main_v19, main_v22)

def fn {F : FTy → Type} [FloatOps F] (main_arg0 : FVec F S2048x3072 .f32) (main_arg1 : FVec F S2048x4096 .f32) (main_arg2 : FVec F S2048x128 .f32) (main_arg3 : FVec F S1x128 .f32) (main_arg4 : FVec F S32x8x128x128 .f32) (main_arg5 : FVec F S32x8x64x64 .f32) (main_arg6 : FVec F S2048x1024 .f32) : IVec S2048x3072 1 × IVec S2048x1024 1 × IVec S2048x16 1 × IVec S1x128 1 × IVec S32x8x128x128 1 × IVec S32x8x64x64 1 × IVec S2048x1024 1 :=
  let main_v0 : FVec F S2048x3072 .f32 := Host.absf main_arg0
  let main_cst : FVec F S_ .f32 := constant S_ .f32 0x7F800000#32
  let main_v1 : FVec F S2048x3072 .f32 := broadcastInDim S2048x3072 ![] bcast_S_S2048x3072 main_cst
  let main_v2 : IVec S2048x3072 1 := cmpf .olt main_v0 main_v1
  let main_v3 : FVec F S2048x1024 .f32 := (extractStridedSlice S2048x1024 ![0, 3072] · slices_S2048x4096_S2048x1024_0_3072) main_arg1
  let main_v4 : FVec F S2048x1024 .f32 := Host.absf main_v3
  let main_cst_0 : FVec F S_ .f32 := constant S_ .f32 0x7F800000#32
  let main_v5 : FVec F S2048x1024 .f32 := broadcastInDim S2048x1024 ![] bcast_S_S2048x1024 main_cst_0
  let main_v6 : IVec S2048x1024 1 := cmpf .olt main_v4 main_v5
  let main_v7 : FVec F S2048x16 .f32 := (extractStridedSlice S2048x16 ![0, 0] · slices_S2048x128_S2048x16_0_0) main_arg2
  let main_v8 : FVec F S2048x16 .f32 := Host.absf main_v7
  let main_cst_1 : FVec F S_ .f32 := constant S_ .f32 0x7F800000#32
  let main_v9 : FVec F S2048x16 .f32 := broadcastInDim S2048x16 ![] bcast_S_S2048x16 main_cst_1
  let main_v10 : IVec S2048x16 1 := cmpf .olt main_v8 main_v9
  let main_v11 : FVec F S1x128 .f32 := Host.absf main_arg3
  let main_cst_2 : FVec F S_ .f32 := constant S_ .f32 0x7F800000#32
  let main_v12 : FVec F S1x128 .f32 := broadcastInDim S1x128 ![] bcast_S_S1x128 main_cst_2
  let main_v13 : IVec S1x128 1 := cmpf .olt main_v11 main_v12
  let main_v14 : FVec F S32x8x128x128 .f32 := Host.absf main_arg4
  let main_cst_3 : FVec F S_ .f32 := constant S_ .f32 0x7F800000#32
  let main_v15 : FVec F S32x8x128x128 .f32 := broadcastInDim S32x8x128x128 ![] bcast_S_S32x8x128x128 main_cst_3
  let main_v16 : IVec S32x8x128x128 1 := cmpf .olt main_v14 main_v15
  let main_v17 : FVec F S32x8x64x64 .f32 := Host.absf main_arg5
  let main_cst_4 : FVec F S_ .f32 := constant S_ .f32 0x7F800000#32
  fn_part1 (F := F) main_arg6 main_v2 main_v6 main_v10 main_v13 main_v16 main_v17 main_cst_4
-- ==== Pre_finite_dout.lean ====
abbrev S2048x4096 : Shape := ⟨2, ![2048, 4096]⟩
abbrev S4x3072 : Shape := ⟨2, ![4, 3072]⟩
abbrev S2048x1024 : Shape := ⟨2, ![2048, 1024]⟩
abbrev S_ : Shape := ⟨0, ![]⟩

class Facts : Prop where
  bcast_S_S2048x1024 : S_.BroadcastsInDim S2048x1024 (![] : Fin 0 → Fin S2048x1024.rank)

variable [Facts]

def fn {F : FTy → Type} [FloatOps F] (main_arg0 : FVec F S2048x4096 .f32) (main_arg1 : FVec F S4x3072 .f32) (main_arg2 : FVec F S2048x1024 .f32) (main_arg3 : FVec F S2048x4096 .f32) : IVec S2048x1024 1 :=
  let main_v0 : FVec F S2048x1024 .f32 := Host.absf main_arg2
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  main_v2
-- ==== Kernel.lean ====
abbrev S2048x3072 : Shape := ⟨2, ![2048, 3072]⟩
abbrev S2048x4096 : Shape := ⟨2, ![2048, 4096]⟩
abbrev S2048x128 : Shape := ⟨2, ![2048, 128]⟩
abbrev S1x128 : Shape := ⟨2, ![1, 128]⟩
abbrev S32x8x128x128 : Shape := ⟨4, ![32, 8, 128, 128]⟩
abbrev S32x8x64x64 : Shape := ⟨4, ![32, 8, 64, 64]⟩
abbrev S2048x1024 : Shape := ⟨2, ![2048, 1024]⟩
abbrev S64x1024 : Shape := ⟨2, ![64, 1024]⟩
abbrev S64x128 : Shape := ⟨2, ![64, 128]⟩
abbrev S1x8x128x128 : Shape := ⟨4, ![1, 8, 128, 128]⟩
abbrev S1x8x64x64 : Shape := ⟨4, ![1, 8, 64, 64]⟩
abbrev S8x128x128 : Shape := ⟨3, ![8, 128, 128]⟩
abbrev S8x64x64 : Shape := ⟨3, ![8, 64, 64]⟩
abbrev S1x64x128 : Shape := ⟨3, ![1, 64, 128]⟩
abbrev S8x64x128 : Shape := ⟨3, ![8, 64, 128]⟩
abbrev S64 : Shape := ⟨1, ![64]⟩
abbrev S64x1 : Shape := ⟨2, ![64, 1]⟩
abbrev S1x64x1 : Shape := ⟨3, ![1, 64, 1]⟩
abbrev S8x64x1 : Shape := ⟨3, ![8, 64, 1]⟩
abbrev S8x64 : Shape := ⟨2, ![8, 64]⟩
abbrev S1x64x64 : Shape := ⟨3, ![1, 64, 64]⟩
abbrev S8x1x64 : Shape := ⟨3, ![8, 1, 64]⟩
abbrev S8x1 : Shape := ⟨2, ![8, 1]⟩
abbrev S8x1x1 : Shape := ⟨3, ![8, 1, 1]⟩
abbrev S1x1x128 : Shape := ⟨3, ![1, 1, 128]⟩
abbrev S128 : Shape := ⟨1, ![128]⟩
abbrev S8 : Shape := ⟨1, ![8]⟩

abbrev nBuf : Space → Nat
  | .hbm => 13
  | .vmem => 29
  | .smem => 0
  | _ => 0

abbrev bufTy : (tb : Table) → Fin (tcTables nBuf tb) → BufTy
  | .hbm, ⟨0, _⟩ => ⟨S2048x3072, .f32⟩
  | .hbm, ⟨1, _⟩ => ⟨S2048x4096, .f32⟩
  | .hbm, ⟨2, _⟩ => ⟨S2048x128, .f32⟩
  | .hbm, ⟨3, _⟩ => ⟨S1x128, .f32⟩
  | .hbm, ⟨4, _⟩ => ⟨S32x8x128x128, .f32⟩
  | .hbm, ⟨5, _⟩ => ⟨S32x8x64x64, .f32⟩
  | .hbm, ⟨6, _⟩ => ⟨S2048x1024, .f32⟩
  | .hbm, ⟨7, _⟩ => ⟨S2048x1024, .f32⟩
  | .hbm, ⟨8, _⟩ => ⟨S2048x1024, .f32⟩
  | .hbm, ⟨9, _⟩ => ⟨S2048x1024, .f32⟩
  | .hbm, ⟨10, _⟩ => ⟨S2048x4096, .f32⟩
  | .hbm, ⟨11, _⟩ => ⟨S2048x128, .f32⟩
  | .hbm, ⟨12, _⟩ => ⟨S1x128, .f32⟩
  | .local _ .vmem, ⟨0, _⟩ => ⟨S64x1024, .f32⟩
  | .local _ .vmem, ⟨1, _⟩ => ⟨S64x1024, .f32⟩
  | .local _ .vmem, ⟨2, _⟩ => ⟨S64x1024, .f32⟩
  | .local _ .vmem, ⟨3, _⟩ => ⟨S64x1024, .f32⟩
  | .local _ .vmem, ⟨4, _⟩ => ⟨S64x1024, .f32⟩
  | .local _ .vmem, ⟨5, _⟩ => ⟨S64x1024, .f32⟩
  | .local _ .vmem, ⟨6, _⟩ => ⟨S64x1024, .f32⟩
  | .local _ .vmem, ⟨7, _⟩ => ⟨S64x1024, .f32⟩
  | .local _ .vmem, ⟨8, _⟩ => ⟨S64x128, .f32⟩
  | .local _ .vmem, ⟨9, _⟩ => ⟨S64x128, .f32⟩
  | .local _ .vmem, ⟨10, _⟩ => ⟨S1x128, .f32⟩
  | .local _ .vmem, ⟨11, _⟩ => ⟨S1x8x128x128, .f32⟩
  | .local _ .vmem, ⟨12, _⟩ => ⟨S1x8x128x128, .f32⟩
  | .local _ .vmem, ⟨13, _⟩ => ⟨S1x8x64x64, .f32⟩
  | .local _ .vmem, ⟨14, _⟩ => ⟨S1x8x64x64, .f32⟩
  | .local _ .vmem, ⟨15, _⟩ => ⟨S64x1024, .f32⟩
  | .local _ .vmem, ⟨16, _⟩ => ⟨S64x1024, .f32⟩
  | .local _ .vmem, ⟨17, _⟩ => ⟨S64x1024, .f32⟩
  | .local _ .vmem, ⟨18, _⟩ => ⟨S64x1024, .f32⟩
  | .local _ .vmem, ⟨19, _⟩ => ⟨S64x1024, .f32⟩
  | .local _ .vmem, ⟨20, _⟩ => ⟨S64x1024, .f32⟩
  | .local _ .vmem, ⟨21, _⟩ => ⟨S64x1024, .f32⟩
  | .local _ .vmem, ⟨22, _⟩ => ⟨S64x1024, .f32⟩
  | .local _ .vmem, ⟨23, _⟩ => ⟨S64x1024, .f32⟩
  | .local _ .vmem, ⟨24, _⟩ => ⟨S64x1024, .f32⟩
  | .local _ .vmem, ⟨25, _⟩ => ⟨S64x128, .f32⟩
  | .local _ .vmem, ⟨26, _⟩ => ⟨S64x128, .f32⟩
  | .local _ .vmem, ⟨27, _⟩ => ⟨S1x128, .f32⟩
  | .local _ .vmem, ⟨28, _⟩ => ⟨S8x128x128, .f32⟩
  | _, _ => ⟨S2048x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v0_4 : Ref sig .tc := ⟨.hbm, 11, rfl⟩
abbrev main_v0_5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg13_1 : Ref sig .tc := ⟨.vmem, 26, rfl⟩
abbrev cc0_stg14_0 : Ref sig .tc := ⟨.vmem, 27, rfl⟩
abbrev cc0_scratch0 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26
abbrev cc0_sem14_0 : DmaSem sig := 27

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c0_i32_325 : BitVec 32 := 0#32
  let v816 : BitVec 1 := Scalar.cmpi .eq arg0 c0_i32_325
  let v817 : BitVec 32 := Scalar.extui v816
  let c0_i32_326 : BitVec 32 := 0#32
  let v818 : BitVec 1 := Scalar.cmpi .ne v817 c0_i32_326
  v818

def k0_cond3 (i : grid0.Coords) : BitVec 1 :=
  let arg0 : BitVec 32 := BitVec.ofNat 32 (i 0).val
  let c0_i32_327 : BitVec 32 := 0#32
  let v819 : BitVec 1 := Scalar.cmpi .ne arg0 c0_i32_327
  let v820 : BitVec 32 := Scalar.extui v819
  let c0_i32_328 : BitVec 32 := 0#32
  let v821 : BitVec 1 := Scalar.cmpi .ne v820 c0_i32_328
  v821

def cc0_transform_0 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c31_i32 : BitVec 32 := 31#32
  let v0 : BitVec 32 := Scalar.subi c31_i32 arg0
  let c1_i32 : BitVec 32 := 1#32
  let c0_i32 : BitVec 32 := 0#32
  ![v0.toNat, c1_i32.toNat]

def cc0_transform_2 (i : grid0.Coords) : Fin 2 → Nat :=
  let arg0 : BitVec 32 := BitVec.ofNat 32 (i 0).val
  let c31_i32 : BitVec 32 := 31#32
  let v0 : BitVec 32 := Scalar.subi c31_i32 arg0
  let c2_i32 : BitVec 32 := 2#32
  let c0_i32 : BitVec 32 := 0#32
  ![v0.toNat, c2_i32.toNat]

def cc0_transform_3 (i : grid0.Coords) : Fin 2 → Nat :=
  let arg0 : BitVec 32 := BitVec.ofNat 32 (i 0).val
  let c31_i32 : BitVec 32 := 31#32
  let v0 : BitVec 32 := Scalar.subi c31_i32 arg0
  let c3_i32 : BitVec 32 := 3#32
  let c0_i32 : BitVec 32 := 0#32
  ![v0.toNat, c3_i32.toNat]

def cc0_transform_4 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_7 (i : grid0.Coords) : Fin 4 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_8 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_11 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_12 (i : grid0.Coords) : Fin 2 → Nat :=
  let arg0 : BitVec 32 := BitVec.ofNat 32 (i 0).val
  let c31_i32 : BitVec 32 := 31#32
  let v0 : BitVec 32 := Scalar.subi c31_i32 arg0
  let c3_i32 : BitVec 32 := 3#32
  let c0_i32 : BitVec 32 := 0#32
  ![v0.toNat, c3_i32.toNat]

def cc0_transform_13 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x8x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x8x64x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S64x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S64x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S64x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S64x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S64x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S64x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S1x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== ReferenceIdeal.lean ====
abbrev S2048x3072 : Shape := ⟨2, ![2048, 3072]⟩
abbrev S2048x4096 : Shape := ⟨2, ![2048, 4096]⟩
abbrev S2048x128 : Shape := ⟨2, ![2048, 128]⟩
abbrev S1x128 : Shape := ⟨2, ![1, 128]⟩
abbrev S32x8x128x128 : Shape := ⟨4, ![32, 8, 128, 128]⟩
abbrev S32x8x64x64 : Shape := ⟨4, ![32, 8, 64, 64]⟩
abbrev S2048x1024 : Shape := ⟨2, ![2048, 1024]⟩
abbrev S32x64x3072 : Shape := ⟨3, ![32, 64, 3072]⟩
abbrev S32x64x1024 : Shape := ⟨3, ![32, 64, 1024]⟩
abbrev S32x64x128 : Shape := ⟨3, ![32, 64, 128]⟩
abbrev S_ : Shape := ⟨0, ![]⟩
abbrev S8x128x128 : Shape := ⟨3, ![8, 128, 128]⟩
abbrev S128 : Shape := ⟨1, ![128]⟩
abbrev S1x64x3072 : Shape := ⟨3, ![1, 64, 3072]⟩
abbrev S64x3072 : Shape := ⟨2, ![64, 3072]⟩
abbrev S1x64x1024 : Shape := ⟨3, ![1, 64, 1024]⟩
abbrev S64x1024 : Shape := ⟨2, ![64, 1024]⟩
abbrev S1x64x128 : Shape := ⟨3, ![1, 64, 128]⟩
abbrev S64x128 : Shape := ⟨2, ![64, 128]⟩
abbrev S1x8x128x128 : Shape := ⟨4, ![1, 8, 128, 128]⟩
abbrev S1x8x64x64 : Shape := ⟨4, ![1, 8, 64, 64]⟩
abbrev S8x64x64 : Shape := ⟨3, ![8, 64, 64]⟩
abbrev S64x8x128 : Shape := ⟨3, ![64, 8, 128]⟩
abbrev S64x8 : Shape := ⟨2, ![64, 8]⟩
abbrev S64x8x1 : Shape := ⟨3, ![64, 8, 1]⟩
abbrev S8x64x128 : Shape := ⟨3, ![8, 64, 128]⟩
abbrev S8x64 : Shape := ⟨2, ![8, 64]⟩
abbrev S64x64 : Shape := ⟨2, ![64, 64]⟩
abbrev S8x64x1 : Shape := ⟨3, ![8, 64, 1]⟩
abbrev S8x1x64 : Shape := ⟨3, ![8, 1, 64]⟩
abbrev S8x1 : Shape := ⟨2, ![8, 1]⟩
abbrev S8 : Shape := ⟨1, ![8]⟩
abbrev S8x1x1 : Shape := ⟨3, ![8, 1, 1]⟩
abbrev S1x1x128 : Shape := ⟨3, ![1, 1, 128]⟩
abbrev S8x128x64 : Shape := ⟨3, ![8, 128, 64]⟩
abbrev S32 : Shape := ⟨1, ![32]⟩
abbrev S32x1x1 : Shape := ⟨3, ![32, 1, 1]⟩

abbrev nBuf : Space → Nat
  | .hbm => 557
  | .vmem => 0
  | .smem => 0
  | _ => 0

abbrev hbmTy0_0 (i : Nat) : BufTy := match i % 128 with
  | 0 => ⟨S2048x3072, .f32⟩
  | 1 => ⟨S2048x4096, .f32⟩
  | 2 => ⟨S2048x128, .f32⟩
  | 3 => ⟨S1x128, .f32⟩
  | 4 => ⟨S32x8x128x128, .f32⟩
  | 5 => ⟨S32x8x64x64, .f32⟩
  | 6 => ⟨S2048x1024, .f32⟩
  | 7 => ⟨S32x64x3072, .f32⟩
  | 8 => ⟨S2048x1024, .f32⟩
  | 9 => ⟨S32x64x1024, .f32⟩
  | 10 => ⟨S32x64x128, .f32⟩
  | 11 => ⟨S32x64x1024, .f32⟩
  | 12 => ⟨S_, .f32⟩
  | 13 => ⟨S32x64x1024, .f32⟩
  | 14 => ⟨S_, .f32⟩
  | 15 => ⟨S32x64x128, .f32⟩
  | 16 => ⟨S_, .f32⟩
  | 17 => ⟨S8x128x128, .f32⟩
  | 18 => ⟨S_, .f32⟩
  | 19 => ⟨S128, .f32⟩
  | 20 => ⟨S_, .i32⟩
  | 21 => ⟨S_, .i32⟩
  | 22 => ⟨S32x64x3072, .f32⟩
  | 23 => ⟨S32x64x1024, .f32⟩
  | 24 => ⟨S32x64x128, .f32⟩
  | 25 => ⟨S32x8x128x128, .f32⟩
  | 26 => ⟨S32x8x64x64, .f32⟩
  | 27 => ⟨S32x64x1024, .f32⟩
  | 28 => ⟨S1x128, .f32⟩
  | 29 => ⟨S_, .i32⟩
  | 30 => ⟨S_, .i32⟩
  | 31 => ⟨S8x128x128, .f32⟩
  | 32 => ⟨S128, .f32⟩
  | 33 => ⟨S32x64x1024, .f32⟩
  | 34 => ⟨S32x64x1024, .f32⟩
  | 35 => ⟨S32x64x1024, .f32⟩
  | 36 => ⟨S32x64x1024, .f32⟩
  | 37 => ⟨S32x64x128, .f32⟩
  | 38 => ⟨S_, .i32⟩
  | 39 => ⟨S_, .i1⟩
  | 40 => ⟨S_, .i32⟩
  | 41 => ⟨S_, .i32⟩
  | 42 => ⟨S_, .i32⟩
  | 43 => ⟨S_, .i32⟩
  | 44 => ⟨S_, .i32⟩
  | 45 => ⟨S_, .i32⟩
  | 46 => ⟨S_, .i32⟩
  | 47 => ⟨S_, .i1⟩
  | 48 => ⟨S_, .i32⟩
  | 49 => ⟨S_, .i32⟩
  | 50 => ⟨S_, .i32⟩
  | 51 => ⟨S_, .i32⟩
  | 52 => ⟨S_, .i32⟩
  | 53 => ⟨S_, .i32⟩
  | 54 => ⟨S1x64x3072, .f32⟩
  | 55 => ⟨S64x3072, .f32⟩
  | 56 => ⟨S_, .i32⟩
  | 57 => ⟨S_, .i1⟩
  | 58 => ⟨S_, .i32⟩
  | 59 => ⟨S_, .i32⟩
  | 60 => ⟨S_, .i32⟩
  | 61 => ⟨S_, .i32⟩
  | 62 => ⟨S_, .i32⟩
  | 63 => ⟨S_, .i32⟩
  | 64 => ⟨S1x64x1024, .f32⟩
  | 65 => ⟨S64x1024, .f32⟩
  | 66 => ⟨S_, .i32⟩
  | 67 => ⟨S_, .i1⟩
  | 68 => ⟨S_, .i32⟩
  | 69 => ⟨S_, .i32⟩
  | 70 => ⟨S_, .i32⟩
  | 71 => ⟨S_, .i32⟩
  | 72 => ⟨S_, .i32⟩
  | 73 => ⟨S_, .i32⟩
  | 74 => ⟨S1x64x128, .f32⟩
  | 75 => ⟨S64x128, .f32⟩
  | 76 => ⟨S_, .i32⟩
  | 77 => ⟨S_, .i1⟩
  | 78 => ⟨S_, .i32⟩
  | 79 => ⟨S_, .i32⟩
  | 80 => ⟨S_, .i32⟩
  | 81 => ⟨S_, .i32⟩
  | 82 => ⟨S_, .i32⟩
  | 83 => ⟨S_, .i32⟩
  | 84 => ⟨S_, .i32⟩
  | 85 => ⟨S1x8x128x128, .f32⟩
  | 86 => ⟨S8x128x128, .f32⟩
  | 87 => ⟨S_, .i32⟩
  | 88 => ⟨S_, .i1⟩
  | 89 => ⟨S_, .i32⟩
  | 90 => ⟨S_, .i32⟩
  | 91 => ⟨S_, .i32⟩
  | 92 => ⟨S_, .i32⟩
  | 93 => ⟨S_, .i32⟩
  | 94 => ⟨S_, .i32⟩
  | 95 => ⟨S_, .i32⟩
  | 96 => ⟨S1x8x64x64, .f32⟩
  | 97 => ⟨S8x64x64, .f32⟩
  | 98 => ⟨S_, .i32⟩
  | 99 => ⟨S_, .i1⟩
  | 100 => ⟨S_, .i32⟩
  | 101 => ⟨S_, .i32⟩
  | 102 => ⟨S_, .i32⟩
  | 103 => ⟨S_, .i32⟩
  | 104 => ⟨S_, .i32⟩
  | 105 => ⟨S_, .i32⟩
  | 106 => ⟨S1x64x1024, .f32⟩
  | 107 => ⟨S64x1024, .f32⟩
  | 108 => ⟨S64x1024, .f32⟩
  | 109 => ⟨S64x1024, .f32⟩
  | 110 => ⟨S64x1024, .f32⟩
  | 111 => ⟨S128, .f32⟩
  | 112 => ⟨S64x8x128, .f32⟩
  | 113 => ⟨S64x8x128, .f32⟩
  | 114 => ⟨S_, .f32⟩
  | 115 => ⟨S64x8, .f32⟩
  | 116 => ⟨S64x8x1, .f32⟩
  | 117 => ⟨S_, .f32⟩
  | 118 => ⟨S64x8x1, .f32⟩
  | 119 => ⟨S64x8x1, .f32⟩
  | 120 => ⟨S64x8x1, .f32⟩
  | 121 => ⟨S64x8x1, .f32⟩
  | 122 => ⟨S_, .f32⟩
  | 123 => ⟨S64x8x1, .f32⟩
  | 124 => ⟨S64x8x1, .f32⟩
  | 125 => ⟨S64x8x128, .f32⟩
  | 126 => ⟨S64x8x128, .f32⟩
  | 127 => ⟨S64x8x128, .f32⟩
  | _ => ⟨S2048x3072, .f32⟩

abbrev hbmTy0_1 (i : Nat) : BufTy := match i % 128 with
  | 0 => ⟨S64x8x128, .f32⟩
  | 1 => ⟨S_, .f32⟩
  | 2 => ⟨S64x8, .f32⟩
  | 3 => ⟨S64x8x1, .f32⟩
  | 4 => ⟨S_, .f32⟩
  | 5 => ⟨S64x8x1, .f32⟩
  | 6 => ⟨S64x8x1, .f32⟩
  | 7 => ⟨S64x8x1, .f32⟩
  | 8 => ⟨S64x8x1, .f32⟩
  | 9 => ⟨S_, .f32⟩
  | 10 => ⟨S64x8x1, .f32⟩
  | 11 => ⟨S64x8x1, .f32⟩
  | 12 => ⟨S64x8x128, .f32⟩
  | 13 => ⟨S64x8x128, .f32⟩
  | 14 => ⟨S64x8x128, .f32⟩
  | 15 => ⟨S64x8, .f32⟩
  | 16 => ⟨S64x8, .f32⟩
  | 17 => ⟨S8x64x128, .f32⟩
  | 18 => ⟨S8x64x128, .f32⟩
  | 19 => ⟨S8x64x128, .f32⟩
  | 20 => ⟨S8x64, .f32⟩
  | 21 => ⟨S8x64, .f32⟩
  | 22 => ⟨S_, .f32⟩
  | 23 => ⟨S8x64x128, .f32⟩
  | 24 => ⟨S8x64x128, .f32⟩
  | 25 => ⟨S_, .f32⟩
  | 26 => ⟨S_, .f32⟩
  | 27 => ⟨S8x64, .f32⟩
  | 28 => ⟨S_, .i1⟩
  | 29 => ⟨S64x64, .i1⟩
  | 30 => ⟨S64x64, .i32⟩
  | 31 => ⟨S_, .i32⟩
  | 32 => ⟨S64x64, .i32⟩
  | 33 => ⟨S64x64, .i32⟩
  | 34 => ⟨S64x64, .i32⟩
  | 35 => ⟨S64x64, .i1⟩
  | 36 => ⟨S_, .i1⟩
  | 37 => ⟨S64x64, .i1⟩
  | 38 => ⟨S64x64, .i1⟩
  | 39 => ⟨S_, .i1⟩
  | 40 => ⟨S64x64, .i1⟩
  | 41 => ⟨S64x64, .i32⟩
  | 42 => ⟨S_, .i32⟩
  | 43 => ⟨S64x64, .i32⟩
  | 44 => ⟨S64x64, .i32⟩
  | 45 => ⟨S64x64, .i32⟩
  | 46 => ⟨S64x64, .i1⟩
  | 47 => ⟨S_, .i1⟩
  | 48 => ⟨S64x64, .i1⟩
  | 49 => ⟨S64x64, .i1⟩
  | 50 => ⟨S8x64x1, .f32⟩
  | 51 => ⟨S8x1x64, .f32⟩
  | 52 => ⟨S8x64x64, .f32⟩
  | 53 => ⟨S8x64x64, .f32⟩
  | 54 => ⟨S8x64x64, .f32⟩
  | 55 => ⟨S_, .f32⟩
  | 56 => ⟨S_, .f32⟩
  | 57 => ⟨S8x64x64, .i1⟩
  | 58 => ⟨S8x64x64, .f32⟩
  | 59 => ⟨S8x64x64, .f32⟩
  | 60 => ⟨S_, .f32⟩
  | 61 => ⟨S8x64x64, .f32⟩
  | 62 => ⟨S8x64x64, .f32⟩
  | 63 => ⟨S8x64x1, .f32⟩
  | 64 => ⟨S8x64x128, .f32⟩
  | 65 => ⟨S8x64x128, .f32⟩
  | 66 => ⟨S8x64x64, .f32⟩
  | 67 => ⟨S8x64x64, .f32⟩
  | 68 => ⟨S_, .f32⟩
  | 69 => ⟨S_, .f32⟩
  | 70 => ⟨S8x64x64, .i1⟩
  | 71 => ⟨S8x64x64, .f32⟩
  | 72 => ⟨S8x64x64, .f32⟩
  | 73 => ⟨S_, .f32⟩
  | 74 => ⟨S8x64x64, .f32⟩
  | 75 => ⟨S8x64x1, .f32⟩
  | 76 => ⟨S8x64x128, .f32⟩
  | 77 => ⟨S8x64x128, .f32⟩
  | 78 => ⟨S8x64x128, .f32⟩
  | 79 => ⟨S8x64, .f32⟩
  | 80 => ⟨S8x64x1, .f32⟩
  | 81 => ⟨S8x64x128, .f32⟩
  | 82 => ⟨S8x64x128, .f32⟩
  | 83 => ⟨S8x64x128, .f32⟩
  | 84 => ⟨S8x64x64, .f32⟩
  | 85 => ⟨S8x64x64, .f32⟩
  | 86 => ⟨S8x64, .f32⟩
  | 87 => ⟨S8x64x1, .f32⟩
  | 88 => ⟨S8x64x128, .f32⟩
  | 89 => ⟨S8x64x128, .f32⟩
  | 90 => ⟨S8x1, .f32⟩
  | 91 => ⟨S8x64, .f32⟩
  | 92 => ⟨S8x64, .f32⟩
  | 93 => ⟨S8x64, .f32⟩
  | 94 => ⟨S8x64x1, .f32⟩
  | 95 => ⟨S8x64x128, .f32⟩
  | 96 => ⟨S8x64x128, .f32⟩
  | 97 => ⟨S8x1, .f32⟩
  | 98 => ⟨S8, .f32⟩
  | 99 => ⟨S8, .f32⟩
  | 100 => ⟨S8x64x128, .f32⟩
  | 101 => ⟨S8x64x128, .f32⟩
  | 102 => ⟨S8x64x128, .f32⟩
  | 103 => ⟨S8x64x128, .f32⟩
  | 104 => ⟨S8x64x128, .f32⟩
  | 105 => ⟨S8x1x1, .f32⟩
  | 106 => ⟨S8x128x128, .f32⟩
  | 107 => ⟨S8x128x128, .f32⟩
  | 108 => ⟨S8x128x128, .f32⟩
  | 109 => ⟨S8x128x128, .f32⟩
  | 110 => ⟨S64x8x128, .f32⟩
  | 111 => ⟨S64x8x128, .f32⟩
  | 112 => ⟨S_, .f32⟩
  | 113 => ⟨S64x8, .f32⟩
  | 114 => ⟨S64x8x1, .f32⟩
  | 115 => ⟨S_, .f32⟩
  | 116 => ⟨S64x8x1, .f32⟩
  | 117 => ⟨S64x8x1, .f32⟩
  | 118 => ⟨S_, .f32⟩
  | 119 => ⟨S64x8x1, .f32⟩
  | 120 => ⟨S64x8x1, .f32⟩
  | 121 => ⟨S64x8x1, .f32⟩
  | 122 => ⟨S64x8x1, .f32⟩
  | 123 => ⟨S_, .f32⟩
  | 124 => ⟨S64x8x1, .f32⟩
  | 125 => ⟨S64x8x1, .f32⟩
  | 126 => ⟨S64x8x128, .f32⟩
  | 127 => ⟨S64x8x128, .f32⟩
  | _ => ⟨S2048x3072, .f32⟩

abbrev hbmTy0_2 (i : Nat) : BufTy := match i % 128 with
  | 0 => ⟨S1x1x128, .f32⟩
  | 1 => ⟨S64x8x128, .f32⟩
  | 2 => ⟨S64x8x128, .f32⟩
  | 3 => ⟨S64x8x128, .f32⟩
  | 4 => ⟨S64x8x128, .f32⟩
  | 5 => ⟨S64x8x128, .f32⟩
  | 6 => ⟨S_, .f32⟩
  | 7 => ⟨S64x8x128, .f32⟩
  | 8 => ⟨S64x8x128, .f32⟩
  | 9 => ⟨S_, .f32⟩
  | 10 => ⟨S64x8x128, .f32⟩
  | 11 => ⟨S64x8x128, .f32⟩
  | 12 => ⟨S_, .f32⟩
  | 13 => ⟨S64x8x128, .f32⟩
  | 14 => ⟨S64x8x128, .f32⟩
  | 15 => ⟨S64x8x128, .f32⟩
  | 16 => ⟨S64x8x128, .f32⟩
  | 17 => ⟨S64x8x128, .f32⟩
  | 18 => ⟨S64x1024, .f32⟩
  | 19 => ⟨S64x8x128, .f32⟩
  | 20 => ⟨S64x8x128, .f32⟩
  | 21 => ⟨S64x8x128, .f32⟩
  | 22 => ⟨S64x8x128, .f32⟩
  | 23 => ⟨S64x8x128, .f32⟩
  | 24 => ⟨S64x8x128, .f32⟩
  | 25 => ⟨S64x8x128, .f32⟩
  | 26 => ⟨S64x1024, .f32⟩
  | 27 => ⟨S64x8x128, .f32⟩
  | 28 => ⟨S_, .f32⟩
  | 29 => ⟨S128, .f32⟩
  | 30 => ⟨S1x1x128, .f32⟩
  | 31 => ⟨S64x8x128, .f32⟩
  | 32 => ⟨S64x8x128, .f32⟩
  | 33 => ⟨S_, .f32⟩
  | 34 => ⟨S128, .f32⟩
  | 35 => ⟨S64x8x128, .f32⟩
  | 36 => ⟨S_, .f32⟩
  | 37 => ⟨S64x8, .f32⟩
  | 38 => ⟨S64x8x1, .f32⟩
  | 39 => ⟨S64x8x128, .f32⟩
  | 40 => ⟨S64x8x128, .f32⟩
  | 41 => ⟨S64x8x1, .f32⟩
  | 42 => ⟨S_, .f32⟩
  | 43 => ⟨S64x8x1, .f32⟩
  | 44 => ⟨S64x8x1, .f32⟩
  | 45 => ⟨S_, .f32⟩
  | 46 => ⟨S64x8, .f32⟩
  | 47 => ⟨S64x8x128, .f32⟩
  | 48 => ⟨S64x8x128, .f32⟩
  | 49 => ⟨S64x8x128, .f32⟩
  | 50 => ⟨S64x8x128, .f32⟩
  | 51 => ⟨S64x8x128, .f32⟩
  | 52 => ⟨S8x64x128, .f32⟩
  | 53 => ⟨S8x128x64, .f32⟩
  | 54 => ⟨S8x64x128, .f32⟩
  | 55 => ⟨S8x128x64, .f32⟩
  | 56 => ⟨S8x64x128, .f32⟩
  | 57 => ⟨S8x128x128, .f32⟩
  | 58 => ⟨S_, .f32⟩
  | 59 => ⟨S8, .f32⟩
  | 60 => ⟨S8x1x1, .f32⟩
  | 61 => ⟨S8x128x128, .f32⟩
  | 62 => ⟨S8x128x128, .f32⟩
  | 63 => ⟨S_, .f32⟩
  | 64 => ⟨S8, .f32⟩
  | 65 => ⟨S8x128x64, .f32⟩
  | 66 => ⟨S8x64x128, .f32⟩
  | 67 => ⟨S8x64x128, .f32⟩
  | 68 => ⟨S8x64x64, .f32⟩
  | 69 => ⟨S8x128x128, .f32⟩
  | 70 => ⟨S8x128x128, .f32⟩
  | 71 => ⟨S8x128x128, .f32⟩
  | 72 => ⟨S8x64x128, .f32⟩
  | 73 => ⟨S8x64x128, .f32⟩
  | 74 => ⟨S8x128x128, .f32⟩
  | 75 => ⟨S8x128x128, .f32⟩
  | 76 => ⟨S8x128x128, .f32⟩
  | 77 => ⟨S8x64x128, .f32⟩
  | 78 => ⟨S8, .f32⟩
  | 79 => ⟨S8x1, .f32⟩
  | 80 => ⟨S_, .f32⟩
  | 81 => ⟨S8x64, .f32⟩
  | 82 => ⟨S8x64x128, .f32⟩
  | 83 => ⟨S_, .f32⟩
  | 84 => ⟨S8x64, .f32⟩
  | 85 => ⟨S8x64x1, .f32⟩
  | 86 => ⟨S8x64x128, .f32⟩
  | 87 => ⟨S8x64x128, .f32⟩
  | 88 => ⟨S_, .f32⟩
  | 89 => ⟨S8x64, .f32⟩
  | 90 => ⟨S8x64, .f32⟩
  | 91 => ⟨S_, .f32⟩
  | 92 => ⟨S8, .f32⟩
  | 93 => ⟨S8x1, .f32⟩
  | 94 => ⟨S8x64, .f32⟩
  | 95 => ⟨S8x64, .f32⟩
  | 96 => ⟨S_, .f32⟩
  | 97 => ⟨S8x64, .f32⟩
  | 98 => ⟨S8x64, .f32⟩
  | 99 => ⟨S8x64x128, .f32⟩
  | 100 => ⟨S_, .f32⟩
  | 101 => ⟨S8x64, .f32⟩
  | 102 => ⟨S8x64x1, .f32⟩
  | 103 => ⟨S8x64x128, .f32⟩
  | 104 => ⟨S8x64x128, .f32⟩
  | 105 => ⟨S_, .f32⟩
  | 106 => ⟨S8x64, .f32⟩
  | 107 => ⟨S8x64, .f32⟩
  | 108 => ⟨S8x64, .f32⟩
  | 109 => ⟨S8x64x64, .f32⟩
  | 110 => ⟨S8x64x64, .f32⟩
  | 111 => ⟨S8x64x128, .f32⟩
  | 112 => ⟨S8x64x128, .f32⟩
  | 113 => ⟨S8x64x128, .f32⟩
  | 114 => ⟨S8x64x128, .f32⟩
  | 115 => ⟨S8x128x64, .f32⟩
  | 116 => ⟨S8x64x128, .f32⟩
  | 117 => ⟨S8x64x64, .f32⟩
  | 118 => ⟨S8x64x128, .f32⟩
  | 119 => ⟨S_, .f32⟩
  | 120 => ⟨S8x64, .f32⟩
  | 121 => ⟨S8x64x1, .f32⟩
  | 122 => ⟨S8x64x128, .f32⟩
  | 123 => ⟨S8x64x128, .f32⟩
  | 124 => ⟨S_, .f32⟩
  | 125 => ⟨S8x64, .f32⟩
  | 126 => ⟨S8x64, .f32⟩
  | 127 => ⟨S8x64, .f32⟩
  | _ => ⟨S2048x3072, .f32⟩

abbrev hbmTy0_3 (i : Nat) : BufTy := match i % 128 with
  | 0 => ⟨S8x128x64, .f32⟩
  | 1 => ⟨S8x64x128, .f32⟩
  | 2 => ⟨S8x64x64, .f32⟩
  | 3 => ⟨S8x64x64, .f32⟩
  | 4 => ⟨S8x64x128, .f32⟩
  | 5 => ⟨S_, .f32⟩
  | 6 => ⟨S8x64, .f32⟩
  | 7 => ⟨S8x64x1, .f32⟩
  | 8 => ⟨S8x64x128, .f32⟩
  | 9 => ⟨S8x64x128, .f32⟩
  | 10 => ⟨S_, .f32⟩
  | 11 => ⟨S8x64, .f32⟩
  | 12 => ⟨S8x64x64, .f32⟩
  | 13 => ⟨S8x64x64, .f32⟩
  | 14 => ⟨S8x64x64, .f32⟩
  | 15 => ⟨S_, .f32⟩
  | 16 => ⟨S8x64x64, .f32⟩
  | 17 => ⟨S_, .f32⟩
  | 18 => ⟨S8x64x64, .f32⟩
  | 19 => ⟨S8x64x64, .f32⟩
  | 20 => ⟨S8x64x64, .f32⟩
  | 21 => ⟨S8x64x64, .f32⟩
  | 22 => ⟨S8x64x64, .f32⟩
  | 23 => ⟨S8x64x128, .f32⟩
  | 24 => ⟨S8x64x128, .f32⟩
  | 25 => ⟨S8x64x128, .f32⟩
  | 26 => ⟨S8x64x128, .f32⟩
  | 27 => ⟨S8x64x128, .f32⟩
  | 28 => ⟨S_, .f32⟩
  | 29 => ⟨S8x64, .f32⟩
  | 30 => ⟨S8x64x1, .f32⟩
  | 31 => ⟨S8x64x128, .f32⟩
  | 32 => ⟨S8x64x128, .f32⟩
  | 33 => ⟨S8x64x128, .f32⟩
  | 34 => ⟨S_, .f32⟩
  | 35 => ⟨S8x64, .f32⟩
  | 36 => ⟨S8x64, .f32⟩
  | 37 => ⟨S8x64x64, .f32⟩
  | 38 => ⟨S_, .f32⟩
  | 39 => ⟨S8x64x64, .f32⟩
  | 40 => ⟨S8x64x64, .f32⟩
  | 41 => ⟨S_, .f32⟩
  | 42 => ⟨S8x64, .f32⟩
  | 43 => ⟨S8x64x1, .f32⟩
  | 44 => ⟨S8x64x64, .f32⟩
  | 45 => ⟨S_, .f32⟩
  | 46 => ⟨S8x64, .f32⟩
  | 47 => ⟨S8x1x64, .f32⟩
  | 48 => ⟨S_, .f32⟩
  | 49 => ⟨S8x64, .f32⟩
  | 50 => ⟨S8x64, .f32⟩
  | 51 => ⟨S_, .f32⟩
  | 52 => ⟨S8x64, .f32⟩
  | 53 => ⟨S8x64, .f32⟩
  | 54 => ⟨S_, .f32⟩
  | 55 => ⟨S_, .f32⟩
  | 56 => ⟨S8x64, .f32⟩
  | 57 => ⟨S_, .f32⟩
  | 58 => ⟨S8x64x128, .f32⟩
  | 59 => ⟨S8x64x128, .f32⟩
  | 60 => ⟨S64x8, .f32⟩
  | 61 => ⟨S64x8, .f32⟩
  | 62 => ⟨S64x8x128, .f32⟩
  | 63 => ⟨S64x8x128, .f32⟩
  | 64 => ⟨S64x8x128, .f32⟩
  | 65 => ⟨S_, .f32⟩
  | 66 => ⟨S64x128, .f32⟩
  | 67 => ⟨S_, .f32⟩
  | 68 => ⟨S64x128, .f32⟩
  | 69 => ⟨S64x128, .f32⟩
  | 70 => ⟨S64x1024, .f32⟩
  | 71 => ⟨S64x8x128, .f32⟩
  | 72 => ⟨S_, .f32⟩
  | 73 => ⟨S64x8, .f32⟩
  | 74 => ⟨S64x8x1, .f32⟩
  | 75 => ⟨S64x8x128, .f32⟩
  | 76 => ⟨S64x8x128, .f32⟩
  | 77 => ⟨S64x8x1, .f32⟩
  | 78 => ⟨S_, .f32⟩
  | 79 => ⟨S64x8, .f32⟩
  | 80 => ⟨S64x8x128, .f32⟩
  | 81 => ⟨S64x8x128, .f32⟩
  | 82 => ⟨S64x8x128, .f32⟩
  | 83 => ⟨S64x8x128, .f32⟩
  | 84 => ⟨S64x8x128, .f32⟩
  | 85 => ⟨S64x1024, .f32⟩
  | 86 => ⟨S64x8x128, .f32⟩
  | 87 => ⟨S_, .f32⟩
  | 88 => ⟨S64x8, .f32⟩
  | 89 => ⟨S64x8x1, .f32⟩
  | 90 => ⟨S64x8x128, .f32⟩
  | 91 => ⟨S64x8x128, .f32⟩
  | 92 => ⟨S64x8x1, .f32⟩
  | 93 => ⟨S_, .f32⟩
  | 94 => ⟨S64x8, .f32⟩
  | 95 => ⟨S64x8x128, .f32⟩
  | 96 => ⟨S64x8x128, .f32⟩
  | 97 => ⟨S64x8x128, .f32⟩
  | 98 => ⟨S64x8x128, .f32⟩
  | 99 => ⟨S64x8x128, .f32⟩
  | 100 => ⟨S64x1024, .f32⟩
  | 101 => ⟨S128, .f32⟩
  | 102 => ⟨S32, .i32⟩
  | 103 => ⟨S_, .i32⟩
  | 104 => ⟨S32, .i32⟩
  | 105 => ⟨S32, .i1⟩
  | 106 => ⟨S32x1x1, .i1⟩
  | 107 => ⟨S_, .f32⟩
  | 108 => ⟨S_, .f32⟩
  | 109 => ⟨S32x64x1024, .i1⟩
  | 110 => ⟨S32x64x1024, .f32⟩
  | 111 => ⟨S32x64x1024, .f32⟩
  | 112 => ⟨S32x64x1024, .f32⟩
  | 113 => ⟨S32x64x1024, .f32⟩
  | 114 => ⟨S32, .i32⟩
  | 115 => ⟨S_, .i32⟩
  | 116 => ⟨S32, .i32⟩
  | 117 => ⟨S32, .i1⟩
  | 118 => ⟨S32x1x1, .i1⟩
  | 119 => ⟨S_, .f32⟩
  | 120 => ⟨S_, .f32⟩
  | 121 => ⟨S32x64x1024, .i1⟩
  | 122 => ⟨S32x64x1024, .f32⟩
  | 123 => ⟨S32x64x1024, .f32⟩
  | 124 => ⟨S32x64x1024, .f32⟩
  | 125 => ⟨S32x64x1024, .f32⟩
  | 126 => ⟨S32, .i32⟩
  | 127 => ⟨S_, .i32⟩
  | _ => ⟨S2048x3072, .f32⟩

abbrev hbmTy0_4 (i : Nat) : BufTy := match i % 128 with
  | 0 => ⟨S32, .i32⟩
  | 1 => ⟨S32, .i1⟩
  | 2 => ⟨S32x1x1, .i1⟩
  | 3 => ⟨S_, .f32⟩
  | 4 => ⟨S_, .f32⟩
  | 5 => ⟨S32x64x1024, .i1⟩
  | 6 => ⟨S32x64x1024, .f32⟩
  | 7 => ⟨S32x64x1024, .f32⟩
  | 8 => ⟨S32x64x1024, .f32⟩
  | 9 => ⟨S32x64x1024, .f32⟩
  | 10 => ⟨S32, .i32⟩
  | 11 => ⟨S_, .i32⟩
  | 12 => ⟨S32, .i32⟩
  | 13 => ⟨S32, .i1⟩
  | 14 => ⟨S32x1x1, .i1⟩
  | 15 => ⟨S_, .f32⟩
  | 16 => ⟨S_, .f32⟩
  | 17 => ⟨S32x64x1024, .i1⟩
  | 18 => ⟨S32x64x1024, .f32⟩
  | 19 => ⟨S32x64x1024, .f32⟩
  | 20 => ⟨S32x64x1024, .f32⟩
  | 21 => ⟨S32x64x1024, .f32⟩
  | 22 => ⟨S32, .i32⟩
  | 23 => ⟨S_, .i32⟩
  | 24 => ⟨S32, .i32⟩
  | 25 => ⟨S32, .i1⟩
  | 26 => ⟨S32x1x1, .i1⟩
  | 27 => ⟨S_, .f32⟩
  | 28 => ⟨S_, .f32⟩
  | 29 => ⟨S32x64x128, .i1⟩
  | 30 => ⟨S32x64x128, .f32⟩
  | 31 => ⟨S32x64x128, .f32⟩
  | 32 => ⟨S32x64x128, .f32⟩
  | 33 => ⟨S32x64x128, .f32⟩
  | 34 => ⟨S_, .i32⟩
  | 35 => ⟨S_, .i32⟩
  | 36 => ⟨S2048x1024, .f32⟩
  | 37 => ⟨S2048x1024, .f32⟩
  | 38 => ⟨S2048x1024, .f32⟩
  | 39 => ⟨S2048x1024, .f32⟩
  | 40 => ⟨S_, .i32⟩
  | 41 => ⟨S_, .f32⟩
  | 42 => ⟨S2048x4096, .f32⟩
  | 43 => ⟨S2048x128, .f32⟩
  | 44 => ⟨S1x128, .f32⟩
  | _ => ⟨S2048x3072, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S2048x3072, .f32⟩

abbrev bufTy : (tb : Table) → Fin (tcTables nBuf tb) → BufTy
  | .hbm, ⟨i, _⟩ => hbmTy i
  | _, _ => ⟨S2048x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_cst_2 : Ref sig .tc := ⟨.hbm, 18, rfl⟩
abbrev main_v8 : Ref sig .tc := ⟨.hbm, 19, rfl⟩
abbrev main_c : Ref sig .tc := ⟨.hbm, 20, rfl⟩
abbrev main_c_3 : Ref sig .tc := ⟨.hbm, 21, rfl⟩
abbrev main_v9_0 : Ref sig .tc := ⟨.hbm, 22, rfl⟩
abbrev main_v9_1 : Ref sig .tc := ⟨.hbm, 23, rfl⟩
abbrev main_v9_2 : Ref sig .tc := ⟨.hbm, 24, rfl⟩
abbrev main_v9_3 : Ref sig .tc := ⟨.hbm, 25, rfl⟩
abbrev main_v9_4 : Ref sig .tc := ⟨.hbm, 26, rfl⟩
abbrev main_v9_5 : Ref sig .tc := ⟨.hbm, 27, rfl⟩
abbrev main_v9_6 : Ref sig .tc := ⟨.hbm, 28, rfl⟩
abbrev main_v9_7 : Ref sig .tc := ⟨.hbm, 29, rfl⟩
abbrev main_v9_8 : Ref sig .tc := ⟨.hbm, 30, rfl⟩
abbrev main_v9_9 : Ref sig .tc := ⟨.hbm, 31, rfl⟩
abbrev main_v9_10 : Ref sig .tc := ⟨.hbm, 32, rfl⟩
abbrev main_v9_11 : Ref sig .tc := ⟨.hbm, 33, rfl⟩
abbrev main_v9_12 : Ref sig .tc := ⟨.hbm, 34, rfl⟩
abbrev main_v9_13 : Ref sig .tc := ⟨.hbm, 35, rfl⟩
abbrev main_v9_14 : Ref sig .tc := ⟨.hbm, 36, rfl⟩
abbrev main_v9_15 : Ref sig .tc := ⟨.hbm, 37, rfl⟩
abbrev main_while0c_c_20 : Ref sig .tc := ⟨.hbm, 38, rfl⟩
abbrev main_while0c_v17 : Ref sig .tc := ⟨.hbm, 39, rfl⟩
abbrev main_while0b_c_20 : Ref sig .tc := ⟨.hbm, 40, rfl⟩
abbrev main_while0b_v17 : Ref sig .tc := ⟨.hbm, 41, rfl⟩
abbrev main_while0b_c_21 : Ref sig .tc := ⟨.hbm, 42, rfl⟩
abbrev main_while0b_v18 : Ref sig .tc := ⟨.hbm, 43, rfl⟩
abbrev main_while0b_c_22 : Ref sig .tc := ⟨.hbm, 44, rfl⟩
abbrev main_while0b_v19 : Ref sig .tc := ⟨.hbm, 45, rfl⟩
abbrev main_while0b_c_23 : Ref sig .tc := ⟨.hbm, 46, rfl⟩
abbrev main_while0b_v20 : Ref sig .tc := ⟨.hbm, 47, rfl⟩
abbrev main_while0b_v21 : Ref sig .tc := ⟨.hbm, 48, rfl⟩
abbrev main_while0b_c_24 : Ref sig .tc := ⟨.hbm, 49, rfl⟩
abbrev main_while0b_v22 : Ref sig .tc := ⟨.hbm, 50, rfl⟩
abbrev main_while0b_v23 : Ref sig .tc := ⟨.hbm, 51, rfl⟩
abbrev main_while0b_c_25 : Ref sig .tc := ⟨.hbm, 52, rfl⟩
abbrev main_while0b_c_26 : Ref sig .tc := ⟨.hbm, 53, rfl⟩
abbrev main_while0b_v24 : Ref sig .tc := ⟨.hbm, 54, rfl⟩
abbrev main_while0b_v25 : Ref sig .tc := ⟨.hbm, 55, rfl⟩
abbrev main_while0b_c_27 : Ref sig .tc := ⟨.hbm, 56, rfl⟩
abbrev main_while0b_v26 : Ref sig .tc := ⟨.hbm, 57, rfl⟩
abbrev main_while0b_v27 : Ref sig .tc := ⟨.hbm, 58, rfl⟩
abbrev main_while0b_c_28 : Ref sig .tc := ⟨.hbm, 59, rfl⟩
abbrev main_while0b_v28 : Ref sig .tc := ⟨.hbm, 60, rfl⟩
abbrev main_while0b_v29 : Ref sig .tc := ⟨.hbm, 61, rfl⟩
abbrev main_while0b_c_29 : Ref sig .tc := ⟨.hbm, 62, rfl⟩
abbrev main_while0b_c_30 : Ref sig .tc := ⟨.hbm, 63, rfl⟩
abbrev main_while0b_v30 : Ref sig .tc := ⟨.hbm, 64, rfl⟩
abbrev main_while0b_v31 : Ref sig .tc := ⟨.hbm, 65, rfl⟩
abbrev main_while0b_c_31 : Ref sig .tc := ⟨.hbm, 66, rfl⟩
abbrev main_while0b_v32 : Ref sig .tc := ⟨.hbm, 67, rfl⟩
abbrev main_while0b_v33 : Ref sig .tc := ⟨.hbm, 68, rfl⟩
abbrev main_while0b_c_32 : Ref sig .tc := ⟨.hbm, 69, rfl⟩
abbrev main_while0b_v34 : Ref sig .tc := ⟨.hbm, 70, rfl⟩
abbrev main_while0b_v35 : Ref sig .tc := ⟨.hbm, 71, rfl⟩
abbrev main_while0b_c_33 : Ref sig .tc := ⟨.hbm, 72, rfl⟩
abbrev main_while0b_c_34 : Ref sig .tc := ⟨.hbm, 73, rfl⟩
abbrev main_while0b_v36 : Ref sig .tc := ⟨.hbm, 74, rfl⟩
abbrev main_while0b_v37 : Ref sig .tc := ⟨.hbm, 75, rfl⟩
abbrev main_while0b_c_35 : Ref sig .tc := ⟨.hbm, 76, rfl⟩
abbrev main_while0b_v38 : Ref sig .tc := ⟨.hbm, 77, rfl⟩
abbrev main_while0b_v39 : Ref sig .tc := ⟨.hbm, 78, rfl⟩
abbrev main_while0b_c_36 : Ref sig .tc := ⟨.hbm, 79, rfl⟩
abbrev main_while0b_v40 : Ref sig .tc := ⟨.hbm, 80, rfl⟩
abbrev main_while0b_v41 : Ref sig .tc := ⟨.hbm, 81, rfl⟩
abbrev main_while0b_c_37 : Ref sig .tc := ⟨.hbm, 82, rfl⟩
abbrev main_while0b_c_38 : Ref sig .tc := ⟨.hbm, 83, rfl⟩
abbrev main_while0b_c_39 : Ref sig .tc := ⟨.hbm, 84, rfl⟩
abbrev main_while0b_v42 : Ref sig .tc := ⟨.hbm, 85, rfl⟩
abbrev main_while0b_v43 : Ref sig .tc := ⟨.hbm, 86, rfl⟩
abbrev main_while0b_c_40 : Ref sig .tc := ⟨.hbm, 87, rfl⟩
abbrev main_while0b_v44 : Ref sig .tc := ⟨.hbm, 88, rfl⟩
abbrev main_while0b_v45 : Ref sig .tc := ⟨.hbm, 89, rfl⟩
abbrev main_while0b_c_41 : Ref sig .tc := ⟨.hbm, 90, rfl⟩
abbrev main_while0b_v46 : Ref sig .tc := ⟨.hbm, 91, rfl⟩
abbrev main_while0b_v47 : Ref sig .tc := ⟨.hbm, 92, rfl⟩
abbrev main_while0b_c_42 : Ref sig .tc := ⟨.hbm, 93, rfl⟩
abbrev main_while0b_c_43 : Ref sig .tc := ⟨.hbm, 94, rfl⟩
abbrev main_while0b_c_44 : Ref sig .tc := ⟨.hbm, 95, rfl⟩
abbrev main_while0b_v48 : Ref sig .tc := ⟨.hbm, 96, rfl⟩
abbrev main_while0b_v49 : Ref sig .tc := ⟨.hbm, 97, rfl⟩
abbrev main_while0b_c_45 : Ref sig .tc := ⟨.hbm, 98, rfl⟩
abbrev main_while0b_v50 : Ref sig .tc := ⟨.hbm, 99, rfl⟩
abbrev main_while0b_v51 : Ref sig .tc := ⟨.hbm, 100, rfl⟩
abbrev main_while0b_c_46 : Ref sig .tc := ⟨.hbm, 101, rfl⟩
abbrev main_while0b_v52 : Ref sig .tc := ⟨.hbm, 102, rfl⟩
abbrev main_while0b_v53 : Ref sig .tc := ⟨.hbm, 103, rfl⟩
abbrev main_while0b_c_47 : Ref sig .tc := ⟨.hbm, 104, rfl⟩
abbrev main_while0b_c_48 : Ref sig .tc := ⟨.hbm, 105, rfl⟩
abbrev main_while0b_v54 : Ref sig .tc := ⟨.hbm, 106, rfl⟩
abbrev main_while0b_v55 : Ref sig .tc := ⟨.hbm, 107, rfl⟩
abbrev main_while0b_v56 : Ref sig .tc := ⟨.hbm, 108, rfl⟩
abbrev main_while0b_v57 : Ref sig .tc := ⟨.hbm, 109, rfl⟩
abbrev main_while0b_v58 : Ref sig .tc := ⟨.hbm, 110, rfl⟩
abbrev main_while0b_v59 : Ref sig .tc := ⟨.hbm, 111, rfl⟩
abbrev main_while0b_v60 : Ref sig .tc := ⟨.hbm, 112, rfl⟩
abbrev main_while0b_v61 : Ref sig .tc := ⟨.hbm, 113, rfl⟩
abbrev main_while0b_cst_49 : Ref sig .tc := ⟨.hbm, 114, rfl⟩
abbrev main_while0b_v62 : Ref sig .tc := ⟨.hbm, 115, rfl⟩
abbrev main_while0b_v63 : Ref sig .tc := ⟨.hbm, 116, rfl⟩
abbrev main_while0b_cst_50 : Ref sig .tc := ⟨.hbm, 117, rfl⟩
abbrev main_while0b_v64 : Ref sig .tc := ⟨.hbm, 118, rfl⟩
abbrev main_while0b_v65 : Ref sig .tc := ⟨.hbm, 119, rfl⟩
abbrev main_while0b_v66 : Ref sig .tc := ⟨.hbm, 120, rfl⟩
abbrev main_while0b_v67 : Ref sig .tc := ⟨.hbm, 121, rfl⟩
abbrev main_while0b_cst_51 : Ref sig .tc := ⟨.hbm, 122, rfl⟩
abbrev main_while0b_v68 : Ref sig .tc := ⟨.hbm, 123, rfl⟩
abbrev main_while0b_v69 : Ref sig .tc := ⟨.hbm, 124, rfl⟩
abbrev main_while0b_v70 : Ref sig .tc := ⟨.hbm, 125, rfl⟩
abbrev main_while0b_v71 : Ref sig .tc := ⟨.hbm, 126, rfl⟩
abbrev main_while0b_v72 : Ref sig .tc := ⟨.hbm, 127, rfl⟩
abbrev main_while0b_v73 : Ref sig .tc := ⟨.hbm, 128, rfl⟩
abbrev main_while0b_cst_52 : Ref sig .tc := ⟨.hbm, 129, rfl⟩
abbrev main_while0b_v74 : Ref sig .tc := ⟨.hbm, 130, rfl⟩
abbrev main_while0b_v75 : Ref sig .tc := ⟨.hbm, 131, rfl⟩
abbrev main_while0b_cst_53 : Ref sig .tc := ⟨.hbm, 132, rfl⟩
abbrev main_while0b_v76 : Ref sig .tc := ⟨.hbm, 133, rfl⟩
abbrev main_while0b_v77 : Ref sig .tc := ⟨.hbm, 134, rfl⟩
abbrev main_while0b_v78 : Ref sig .tc := ⟨.hbm, 135, rfl⟩
abbrev main_while0b_v79 : Ref sig .tc := ⟨.hbm, 136, rfl⟩
abbrev main_while0b_cst_54 : Ref sig .tc := ⟨.hbm, 137, rfl⟩
abbrev main_while0b_v80 : Ref sig .tc := ⟨.hbm, 138, rfl⟩
abbrev main_while0b_v81 : Ref sig .tc := ⟨.hbm, 139, rfl⟩
abbrev main_while0b_v82 : Ref sig .tc := ⟨.hbm, 140, rfl⟩
abbrev main_while0b_v83 : Ref sig .tc := ⟨.hbm, 141, rfl⟩
abbrev main_while0b_v84 : Ref sig .tc := ⟨.hbm, 142, rfl⟩
abbrev main_while0b_v85 : Ref sig .tc := ⟨.hbm, 143, rfl⟩
abbrev main_while0b_v86 : Ref sig .tc := ⟨.hbm, 144, rfl⟩
abbrev main_while0b_v87 : Ref sig .tc := ⟨.hbm, 145, rfl⟩
abbrev main_while0b_v88 : Ref sig .tc := ⟨.hbm, 146, rfl⟩
abbrev main_while0b_v89 : Ref sig .tc := ⟨.hbm, 147, rfl⟩
abbrev main_while0b_v90 : Ref sig .tc := ⟨.hbm, 148, rfl⟩
abbrev main_while0b_v91 : Ref sig .tc := ⟨.hbm, 149, rfl⟩
abbrev main_while0b_cst_55 : Ref sig .tc := ⟨.hbm, 150, rfl⟩
abbrev main_while0b_v92 : Ref sig .tc := ⟨.hbm, 151, rfl⟩
abbrev main_while0b_v93 : Ref sig .tc := ⟨.hbm, 152, rfl⟩
abbrev main_while0b_call0_call0_cst : Ref sig .tc := ⟨.hbm, 153, rfl⟩
abbrev main_while0b_call0_call0_v0 : Ref sig .tc := ⟨.hbm, 154, rfl⟩
abbrev main_while0b_v94 : Ref sig .tc := ⟨.hbm, 155, rfl⟩
abbrev main_while0b_c_56 : Ref sig .tc := ⟨.hbm, 156, rfl⟩
abbrev main_while0b_v95 : Ref sig .tc := ⟨.hbm, 157, rfl⟩
abbrev main_while0b_call1_v0 : Ref sig .tc := ⟨.hbm, 158, rfl⟩
abbrev main_while0b_call1_c : Ref sig .tc := ⟨.hbm, 159, rfl⟩
abbrev main_while0b_call1_v1 : Ref sig .tc := ⟨.hbm, 160, rfl⟩
abbrev main_while0b_call1_v2 : Ref sig .tc := ⟨.hbm, 161, rfl⟩
abbrev main_while0b_call1_v3 : Ref sig .tc := ⟨.hbm, 162, rfl⟩
abbrev main_while0b_call1_v4 : Ref sig .tc := ⟨.hbm, 163, rfl⟩
abbrev main_while0b_call1_c_0 : Ref sig .tc := ⟨.hbm, 164, rfl⟩
abbrev main_while0b_call1_v5 : Ref sig .tc := ⟨.hbm, 165, rfl⟩
abbrev main_while0b_v96 : Ref sig .tc := ⟨.hbm, 166, rfl⟩
abbrev main_while0b_c_57 : Ref sig .tc := ⟨.hbm, 167, rfl⟩
abbrev main_while0b_v97 : Ref sig .tc := ⟨.hbm, 168, rfl⟩
abbrev main_while0b_call2_v0 : Ref sig .tc := ⟨.hbm, 169, rfl⟩
abbrev main_while0b_call2_c : Ref sig .tc := ⟨.hbm, 170, rfl⟩
abbrev main_while0b_call2_v1 : Ref sig .tc := ⟨.hbm, 171, rfl⟩
abbrev main_while0b_call2_v2 : Ref sig .tc := ⟨.hbm, 172, rfl⟩
abbrev main_while0b_call2_v3 : Ref sig .tc := ⟨.hbm, 173, rfl⟩
abbrev main_while0b_call2_v4 : Ref sig .tc := ⟨.hbm, 174, rfl⟩
abbrev main_while0b_call2_c_0 : Ref sig .tc := ⟨.hbm, 175, rfl⟩
abbrev main_while0b_call2_v5 : Ref sig .tc := ⟨.hbm, 176, rfl⟩
abbrev main_while0b_v98 : Ref sig .tc := ⟨.hbm, 177, rfl⟩
abbrev main_while0b_v99 : Ref sig .tc := ⟨.hbm, 178, rfl⟩
abbrev main_while0b_v100 : Ref sig .tc := ⟨.hbm, 179, rfl⟩
abbrev main_while0b_v101 : Ref sig .tc := ⟨.hbm, 180, rfl⟩
abbrev main_while0b_v102 : Ref sig .tc := ⟨.hbm, 181, rfl⟩
abbrev main_while0b_v103 : Ref sig .tc := ⟨.hbm, 182, rfl⟩
abbrev main_while0b_cst_58 : Ref sig .tc := ⟨.hbm, 183, rfl⟩
abbrev main_while0b_call3_v0 : Ref sig .tc := ⟨.hbm, 184, rfl⟩
abbrev main_while0b_v104_1 : Ref sig .tc := ⟨.hbm, 185, rfl⟩
abbrev main_while0b_call3_v2 : Ref sig .tc := ⟨.hbm, 186, rfl⟩
abbrev main_while0b_v104_0 : Ref sig .tc := ⟨.hbm, 187, rfl⟩
abbrev main_while0b_call3_cst : Ref sig .tc := ⟨.hbm, 188, rfl⟩
abbrev main_while0b_v104_2 : Ref sig .tc := ⟨.hbm, 189, rfl⟩
abbrev main_while0b_v105 : Ref sig .tc := ⟨.hbm, 190, rfl⟩
abbrev main_while0b_v106 : Ref sig .tc := ⟨.hbm, 191, rfl⟩
abbrev main_while0b_v107 : Ref sig .tc := ⟨.hbm, 192, rfl⟩
abbrev main_while0b_v108 : Ref sig .tc := ⟨.hbm, 193, rfl⟩
abbrev main_while0b_v109 : Ref sig .tc := ⟨.hbm, 194, rfl⟩
abbrev main_while0b_v110 : Ref sig .tc := ⟨.hbm, 195, rfl⟩
abbrev main_while0b_cst_59 : Ref sig .tc := ⟨.hbm, 196, rfl⟩
abbrev main_while0b_call4_v0 : Ref sig .tc := ⟨.hbm, 197, rfl⟩
abbrev main_while0b_v111_1 : Ref sig .tc := ⟨.hbm, 198, rfl⟩
abbrev main_while0b_call4_v2 : Ref sig .tc := ⟨.hbm, 199, rfl⟩
abbrev main_while0b_v111_0 : Ref sig .tc := ⟨.hbm, 200, rfl⟩
abbrev main_while0b_call4_cst : Ref sig .tc := ⟨.hbm, 201, rfl⟩
abbrev main_while0b_v111_2 : Ref sig .tc := ⟨.hbm, 202, rfl⟩
abbrev main_while0b_v112 : Ref sig .tc := ⟨.hbm, 203, rfl⟩
abbrev main_while0b_v113 : Ref sig .tc := ⟨.hbm, 204, rfl⟩
abbrev main_while0b_v114 : Ref sig .tc := ⟨.hbm, 205, rfl⟩
abbrev main_while0b_v115 : Ref sig .tc := ⟨.hbm, 206, rfl⟩
abbrev main_while0b_v116 : Ref sig .tc := ⟨.hbm, 207, rfl⟩
abbrev main_while0b_v117 : Ref sig .tc := ⟨.hbm, 208, rfl⟩
abbrev main_while0b_v118 : Ref sig .tc := ⟨.hbm, 209, rfl⟩
abbrev main_while0b_v119 : Ref sig .tc := ⟨.hbm, 210, rfl⟩
abbrev main_while0b_v120 : Ref sig .tc := ⟨.hbm, 211, rfl⟩
abbrev main_while0b_v121 : Ref sig .tc := ⟨.hbm, 212, rfl⟩
abbrev main_while0b_v122 : Ref sig .tc := ⟨.hbm, 213, rfl⟩
abbrev main_while0b_v123 : Ref sig .tc := ⟨.hbm, 214, rfl⟩
abbrev main_while0b_v124 : Ref sig .tc := ⟨.hbm, 215, rfl⟩
abbrev main_while0b_v125 : Ref sig .tc := ⟨.hbm, 216, rfl⟩
abbrev main_while0b_v126 : Ref sig .tc := ⟨.hbm, 217, rfl⟩
abbrev main_while0b_v127 : Ref sig .tc := ⟨.hbm, 218, rfl⟩
abbrev main_while0b_v128 : Ref sig .tc := ⟨.hbm, 219, rfl⟩
abbrev main_while0b_v129 : Ref sig .tc := ⟨.hbm, 220, rfl⟩
abbrev main_while0b_v130 : Ref sig .tc := ⟨.hbm, 221, rfl⟩
abbrev main_while0b_v131 : Ref sig .tc := ⟨.hbm, 222, rfl⟩
abbrev main_while0b_v132 : Ref sig .tc := ⟨.hbm, 223, rfl⟩
abbrev main_while0b_v133 : Ref sig .tc := ⟨.hbm, 224, rfl⟩
abbrev main_while0b_v134 : Ref sig .tc := ⟨.hbm, 225, rfl⟩
abbrev main_while0b_v135 : Ref sig .tc := ⟨.hbm, 226, rfl⟩
abbrev main_while0b_v136 : Ref sig .tc := ⟨.hbm, 227, rfl⟩
abbrev main_while0b_v137 : Ref sig .tc := ⟨.hbm, 228, rfl⟩
abbrev main_while0b_v138 : Ref sig .tc := ⟨.hbm, 229, rfl⟩
abbrev main_while0b_v139 : Ref sig .tc := ⟨.hbm, 230, rfl⟩
abbrev main_while0b_v140 : Ref sig .tc := ⟨.hbm, 231, rfl⟩
abbrev main_while0b_v141 : Ref sig .tc := ⟨.hbm, 232, rfl⟩
abbrev main_while0b_v142 : Ref sig .tc := ⟨.hbm, 233, rfl⟩
abbrev main_while0b_v143 : Ref sig .tc := ⟨.hbm, 234, rfl⟩
abbrev main_while0b_v144 : Ref sig .tc := ⟨.hbm, 235, rfl⟩
abbrev main_while0b_v145 : Ref sig .tc := ⟨.hbm, 236, rfl⟩
abbrev main_while0b_v146 : Ref sig .tc := ⟨.hbm, 237, rfl⟩
abbrev main_while0b_v147 : Ref sig .tc := ⟨.hbm, 238, rfl⟩
abbrev main_while0b_v148 : Ref sig .tc := ⟨.hbm, 239, rfl⟩
abbrev main_while0b_cst_60 : Ref sig .tc := ⟨.hbm, 240, rfl⟩
abbrev main_while0b_v149 : Ref sig .tc := ⟨.hbm, 241, rfl⟩
abbrev main_while0b_v150 : Ref sig .tc := ⟨.hbm, 242, rfl⟩
abbrev main_while0b_cst_61 : Ref sig .tc := ⟨.hbm, 243, rfl⟩
abbrev main_while0b_v151 : Ref sig .tc := ⟨.hbm, 244, rfl⟩
abbrev main_while0b_v152 : Ref sig .tc := ⟨.hbm, 245, rfl⟩
abbrev main_while0b_cst_62 : Ref sig .tc := ⟨.hbm, 246, rfl⟩
abbrev main_while0b_v153 : Ref sig .tc := ⟨.hbm, 247, rfl⟩
abbrev main_while0b_v154 : Ref sig .tc := ⟨.hbm, 248, rfl⟩
abbrev main_while0b_v155 : Ref sig .tc := ⟨.hbm, 249, rfl⟩
abbrev main_while0b_v156 : Ref sig .tc := ⟨.hbm, 250, rfl⟩
abbrev main_while0b_cst_63 : Ref sig .tc := ⟨.hbm, 251, rfl⟩
abbrev main_while0b_v157 : Ref sig .tc := ⟨.hbm, 252, rfl⟩
abbrev main_while0b_v158 : Ref sig .tc := ⟨.hbm, 253, rfl⟩
abbrev main_while0b_v159 : Ref sig .tc := ⟨.hbm, 254, rfl⟩
abbrev main_while0b_v160 : Ref sig .tc := ⟨.hbm, 255, rfl⟩
abbrev main_while0b_v161 : Ref sig .tc := ⟨.hbm, 256, rfl⟩
abbrev main_while0b_v162 : Ref sig .tc := ⟨.hbm, 257, rfl⟩
abbrev main_while0b_v163 : Ref sig .tc := ⟨.hbm, 258, rfl⟩
abbrev main_while0b_v164 : Ref sig .tc := ⟨.hbm, 259, rfl⟩
abbrev main_while0b_call5_v0 : Ref sig .tc := ⟨.hbm, 260, rfl⟩
abbrev main_while0b_call5_v1 : Ref sig .tc := ⟨.hbm, 261, rfl⟩
abbrev main_while0b_call5_cst : Ref sig .tc := ⟨.hbm, 262, rfl⟩
abbrev main_while0b_call5_v2 : Ref sig .tc := ⟨.hbm, 263, rfl⟩
abbrev main_while0b_call5_v3 : Ref sig .tc := ⟨.hbm, 264, rfl⟩
abbrev main_while0b_call5_cst_0 : Ref sig .tc := ⟨.hbm, 265, rfl⟩
abbrev main_while0b_call5_v4 : Ref sig .tc := ⟨.hbm, 266, rfl⟩
abbrev main_while0b_v165_2 : Ref sig .tc := ⟨.hbm, 267, rfl⟩
abbrev main_while0b_call5_cst_1 : Ref sig .tc := ⟨.hbm, 268, rfl⟩
abbrev main_while0b_call5_v6 : Ref sig .tc := ⟨.hbm, 269, rfl⟩
abbrev main_while0b_call5_v7 : Ref sig .tc := ⟨.hbm, 270, rfl⟩
abbrev main_while0b_v165_1 : Ref sig .tc := ⟨.hbm, 271, rfl⟩
abbrev main_while0b_v165_0 : Ref sig .tc := ⟨.hbm, 272, rfl⟩
abbrev main_while0b_v166 : Ref sig .tc := ⟨.hbm, 273, rfl⟩
abbrev main_while0b_v167 : Ref sig .tc := ⟨.hbm, 274, rfl⟩
abbrev main_while0b_v168 : Ref sig .tc := ⟨.hbm, 275, rfl⟩
abbrev main_while0b_v169 : Ref sig .tc := ⟨.hbm, 276, rfl⟩
abbrev main_while0b_v170 : Ref sig .tc := ⟨.hbm, 277, rfl⟩
abbrev main_while0b_call6_v0 : Ref sig .tc := ⟨.hbm, 278, rfl⟩
abbrev main_while0b_call6_v1 : Ref sig .tc := ⟨.hbm, 279, rfl⟩
abbrev main_while0b_call6_v2 : Ref sig .tc := ⟨.hbm, 280, rfl⟩
abbrev main_while0b_v171 : Ref sig .tc := ⟨.hbm, 281, rfl⟩
abbrev main_while0b_v172 : Ref sig .tc := ⟨.hbm, 282, rfl⟩
abbrev main_while0b_v173 : Ref sig .tc := ⟨.hbm, 283, rfl⟩
abbrev main_while0b_cst_64 : Ref sig .tc := ⟨.hbm, 284, rfl⟩
abbrev main_while0b_v174 : Ref sig .tc := ⟨.hbm, 285, rfl⟩
abbrev main_while0b_v175 : Ref sig .tc := ⟨.hbm, 286, rfl⟩
abbrev main_while0b_v176 : Ref sig .tc := ⟨.hbm, 287, rfl⟩
abbrev main_while0b_v177 : Ref sig .tc := ⟨.hbm, 288, rfl⟩
abbrev main_while0b_cst_65 : Ref sig .tc := ⟨.hbm, 289, rfl⟩
abbrev main_while0b_v178 : Ref sig .tc := ⟨.hbm, 290, rfl⟩
abbrev main_while0b_v179 : Ref sig .tc := ⟨.hbm, 291, rfl⟩
abbrev main_while0b_cst_66 : Ref sig .tc := ⟨.hbm, 292, rfl⟩
abbrev main_while0b_v180 : Ref sig .tc := ⟨.hbm, 293, rfl⟩
abbrev main_while0b_v181 : Ref sig .tc := ⟨.hbm, 294, rfl⟩
abbrev main_while0b_v182 : Ref sig .tc := ⟨.hbm, 295, rfl⟩
abbrev main_while0b_v183 : Ref sig .tc := ⟨.hbm, 296, rfl⟩
abbrev main_while0b_v184 : Ref sig .tc := ⟨.hbm, 297, rfl⟩
abbrev main_while0b_cst_67 : Ref sig .tc := ⟨.hbm, 298, rfl⟩
abbrev main_while0b_v185 : Ref sig .tc := ⟨.hbm, 299, rfl⟩
abbrev main_while0b_v186 : Ref sig .tc := ⟨.hbm, 300, rfl⟩
abbrev main_while0b_cst_68 : Ref sig .tc := ⟨.hbm, 301, rfl⟩
abbrev main_while0b_v187 : Ref sig .tc := ⟨.hbm, 302, rfl⟩
abbrev main_while0b_v188 : Ref sig .tc := ⟨.hbm, 303, rfl⟩
abbrev main_while0b_v189 : Ref sig .tc := ⟨.hbm, 304, rfl⟩
abbrev main_while0b_v190 : Ref sig .tc := ⟨.hbm, 305, rfl⟩
abbrev main_while0b_v191 : Ref sig .tc := ⟨.hbm, 306, rfl⟩
abbrev main_while0b_v192 : Ref sig .tc := ⟨.hbm, 307, rfl⟩
abbrev main_while0b_v193 : Ref sig .tc := ⟨.hbm, 308, rfl⟩
abbrev main_while0b_v194 : Ref sig .tc := ⟨.hbm, 309, rfl⟩
abbrev main_while0b_v195 : Ref sig .tc := ⟨.hbm, 310, rfl⟩
abbrev main_while0b_v196 : Ref sig .tc := ⟨.hbm, 311, rfl⟩
abbrev main_while0b_v197 : Ref sig .tc := ⟨.hbm, 312, rfl⟩
abbrev main_while0b_v198 : Ref sig .tc := ⟨.hbm, 313, rfl⟩
abbrev main_while0b_cst_69 : Ref sig .tc := ⟨.hbm, 314, rfl⟩
abbrev main_while0b_v199 : Ref sig .tc := ⟨.hbm, 315, rfl⟩
abbrev main_while0b_v200 : Ref sig .tc := ⟨.hbm, 316, rfl⟩
abbrev main_while0b_v201 : Ref sig .tc := ⟨.hbm, 317, rfl⟩
abbrev main_while0b_v202 : Ref sig .tc := ⟨.hbm, 318, rfl⟩
abbrev main_while0b_cst_70 : Ref sig .tc := ⟨.hbm, 319, rfl⟩
abbrev main_while0b_v203 : Ref sig .tc := ⟨.hbm, 320, rfl⟩
abbrev main_while0b_v204 : Ref sig .tc := ⟨.hbm, 321, rfl⟩
abbrev main_while0b_v205 : Ref sig .tc := ⟨.hbm, 322, rfl⟩
abbrev main_while0b_v206 : Ref sig .tc := ⟨.hbm, 323, rfl⟩
abbrev main_while0b_v207 : Ref sig .tc := ⟨.hbm, 324, rfl⟩
abbrev main_while0b_v208 : Ref sig .tc := ⟨.hbm, 325, rfl⟩
abbrev main_while0b_v209 : Ref sig .tc := ⟨.hbm, 326, rfl⟩
abbrev main_while0b_v210 : Ref sig .tc := ⟨.hbm, 327, rfl⟩
abbrev main_while0b_v211 : Ref sig .tc := ⟨.hbm, 328, rfl⟩
abbrev main_while0b_v212 : Ref sig .tc := ⟨.hbm, 329, rfl⟩
abbrev main_while0b_v213 : Ref sig .tc := ⟨.hbm, 330, rfl⟩
abbrev main_while0b_v214 : Ref sig .tc := ⟨.hbm, 331, rfl⟩
abbrev main_while0b_v215 : Ref sig .tc := ⟨.hbm, 332, rfl⟩
abbrev main_while0b_v216 : Ref sig .tc := ⟨.hbm, 333, rfl⟩
abbrev main_while0b_v217 : Ref sig .tc := ⟨.hbm, 334, rfl⟩
abbrev main_while0b_v218 : Ref sig .tc := ⟨.hbm, 335, rfl⟩
abbrev main_while0b_cst_71 : Ref sig .tc := ⟨.hbm, 336, rfl⟩
abbrev main_while0b_v219 : Ref sig .tc := ⟨.hbm, 337, rfl⟩
abbrev main_while0b_v220 : Ref sig .tc := ⟨.hbm, 338, rfl⟩
abbrev main_while0b_cst_72 : Ref sig .tc := ⟨.hbm, 339, rfl⟩
abbrev main_while0b_v221 : Ref sig .tc := ⟨.hbm, 340, rfl⟩
abbrev main_while0b_v222 : Ref sig .tc := ⟨.hbm, 341, rfl⟩
abbrev main_while0b_v223 : Ref sig .tc := ⟨.hbm, 342, rfl⟩
abbrev main_while0b_v224 : Ref sig .tc := ⟨.hbm, 343, rfl⟩
abbrev main_while0b_cst_73 : Ref sig .tc := ⟨.hbm, 344, rfl⟩
abbrev main_while0b_v225 : Ref sig .tc := ⟨.hbm, 345, rfl⟩
abbrev main_while0b_v226 : Ref sig .tc := ⟨.hbm, 346, rfl⟩
abbrev main_while0b_cst_74 : Ref sig .tc := ⟨.hbm, 347, rfl⟩
abbrev main_while0b_v227 : Ref sig .tc := ⟨.hbm, 348, rfl⟩
abbrev main_while0b_v228 : Ref sig .tc := ⟨.hbm, 349, rfl⟩
abbrev main_while0b_v229 : Ref sig .tc := ⟨.hbm, 350, rfl⟩
abbrev main_while0b_v230 : Ref sig .tc := ⟨.hbm, 351, rfl⟩
abbrev main_while0b_cst_75 : Ref sig .tc := ⟨.hbm, 352, rfl⟩
abbrev main_while0b_v231 : Ref sig .tc := ⟨.hbm, 353, rfl⟩
abbrev main_while0b_v232 : Ref sig .tc := ⟨.hbm, 354, rfl⟩
abbrev main_while0b_v233 : Ref sig .tc := ⟨.hbm, 355, rfl⟩
abbrev main_while0b_cst_76 : Ref sig .tc := ⟨.hbm, 356, rfl⟩
abbrev main_while0b_v234 : Ref sig .tc := ⟨.hbm, 357, rfl⟩
abbrev main_while0b_v235 : Ref sig .tc := ⟨.hbm, 358, rfl⟩
abbrev main_while0b_v236 : Ref sig .tc := ⟨.hbm, 359, rfl⟩
abbrev main_while0b_v237 : Ref sig .tc := ⟨.hbm, 360, rfl⟩
abbrev main_while0b_cst_77 : Ref sig .tc := ⟨.hbm, 361, rfl⟩
abbrev main_while0b_v238 : Ref sig .tc := ⟨.hbm, 362, rfl⟩
abbrev main_while0b_v239 : Ref sig .tc := ⟨.hbm, 363, rfl⟩
abbrev main_while0b_v240 : Ref sig .tc := ⟨.hbm, 364, rfl⟩
abbrev main_while0b_v241 : Ref sig .tc := ⟨.hbm, 365, rfl⟩
abbrev main_while0b_v242 : Ref sig .tc := ⟨.hbm, 366, rfl⟩
abbrev main_while0b_v243 : Ref sig .tc := ⟨.hbm, 367, rfl⟩
abbrev main_while0b_v244 : Ref sig .tc := ⟨.hbm, 368, rfl⟩
abbrev main_while0b_v245 : Ref sig .tc := ⟨.hbm, 369, rfl⟩
abbrev main_while0b_v246 : Ref sig .tc := ⟨.hbm, 370, rfl⟩
abbrev main_while0b_v247 : Ref sig .tc := ⟨.hbm, 371, rfl⟩
abbrev main_while0b_v248 : Ref sig .tc := ⟨.hbm, 372, rfl⟩
abbrev main_while0b_v249 : Ref sig .tc := ⟨.hbm, 373, rfl⟩
abbrev main_while0b_v250 : Ref sig .tc := ⟨.hbm, 374, rfl⟩
abbrev main_while0b_cst_78 : Ref sig .tc := ⟨.hbm, 375, rfl⟩
abbrev main_while0b_v251 : Ref sig .tc := ⟨.hbm, 376, rfl⟩
abbrev main_while0b_v252 : Ref sig .tc := ⟨.hbm, 377, rfl⟩
abbrev main_while0b_v253 : Ref sig .tc := ⟨.hbm, 378, rfl⟩
abbrev main_while0b_v254 : Ref sig .tc := ⟨.hbm, 379, rfl⟩
abbrev main_while0b_cst_79 : Ref sig .tc := ⟨.hbm, 380, rfl⟩
abbrev main_while0b_v255 : Ref sig .tc := ⟨.hbm, 381, rfl⟩
abbrev main_while0b_v256 : Ref sig .tc := ⟨.hbm, 382, rfl⟩
abbrev main_while0b_v257 : Ref sig .tc := ⟨.hbm, 383, rfl⟩
abbrev main_while0b_v258 : Ref sig .tc := ⟨.hbm, 384, rfl⟩
abbrev main_while0b_v259 : Ref sig .tc := ⟨.hbm, 385, rfl⟩
abbrev main_while0b_v260 : Ref sig .tc := ⟨.hbm, 386, rfl⟩
abbrev main_while0b_v261 : Ref sig .tc := ⟨.hbm, 387, rfl⟩
abbrev main_while0b_v262 : Ref sig .tc := ⟨.hbm, 388, rfl⟩
abbrev main_while0b_cst_80 : Ref sig .tc := ⟨.hbm, 389, rfl⟩
abbrev main_while0b_v263 : Ref sig .tc := ⟨.hbm, 390, rfl⟩
abbrev main_while0b_v264 : Ref sig .tc := ⟨.hbm, 391, rfl⟩
abbrev main_while0b_v265 : Ref sig .tc := ⟨.hbm, 392, rfl⟩
abbrev main_while0b_v266 : Ref sig .tc := ⟨.hbm, 393, rfl⟩
abbrev main_while0b_cst_81 : Ref sig .tc := ⟨.hbm, 394, rfl⟩
abbrev main_while0b_v267 : Ref sig .tc := ⟨.hbm, 395, rfl⟩
abbrev main_while0b_v268 : Ref sig .tc := ⟨.hbm, 396, rfl⟩
abbrev main_while0b_v269 : Ref sig .tc := ⟨.hbm, 397, rfl⟩
abbrev main_while0b_v270 : Ref sig .tc := ⟨.hbm, 398, rfl⟩
abbrev main_while0b_cst_82 : Ref sig .tc := ⟨.hbm, 399, rfl⟩
abbrev main_while0b_v271 : Ref sig .tc := ⟨.hbm, 400, rfl⟩
abbrev main_while0b_call7_cst : Ref sig .tc := ⟨.hbm, 401, rfl⟩
abbrev main_while0b_call7_v0 : Ref sig .tc := ⟨.hbm, 402, rfl⟩
abbrev main_while0b_v272 : Ref sig .tc := ⟨.hbm, 403, rfl⟩
abbrev main_while0b_v273 : Ref sig .tc := ⟨.hbm, 404, rfl⟩
abbrev main_while0b_v274 : Ref sig .tc := ⟨.hbm, 405, rfl⟩
abbrev main_while0b_v275 : Ref sig .tc := ⟨.hbm, 406, rfl⟩
abbrev main_while0b_v276 : Ref sig .tc := ⟨.hbm, 407, rfl⟩
abbrev main_while0b_v277 : Ref sig .tc := ⟨.hbm, 408, rfl⟩
abbrev main_while0b_v278 : Ref sig .tc := ⟨.hbm, 409, rfl⟩
abbrev main_while0b_v279 : Ref sig .tc := ⟨.hbm, 410, rfl⟩
abbrev main_while0b_v280 : Ref sig .tc := ⟨.hbm, 411, rfl⟩
abbrev main_while0b_cst_83 : Ref sig .tc := ⟨.hbm, 412, rfl⟩
abbrev main_while0b_v281 : Ref sig .tc := ⟨.hbm, 413, rfl⟩
abbrev main_while0b_v282 : Ref sig .tc := ⟨.hbm, 414, rfl⟩
abbrev main_while0b_v283 : Ref sig .tc := ⟨.hbm, 415, rfl⟩
abbrev main_while0b_v284 : Ref sig .tc := ⟨.hbm, 416, rfl⟩
abbrev main_while0b_v285 : Ref sig .tc := ⟨.hbm, 417, rfl⟩
abbrev main_while0b_cst_84 : Ref sig .tc := ⟨.hbm, 418, rfl⟩
abbrev main_while0b_v286 : Ref sig .tc := ⟨.hbm, 419, rfl⟩
abbrev main_while0b_v287 : Ref sig .tc := ⟨.hbm, 420, rfl⟩
abbrev main_while0b_v288 : Ref sig .tc := ⟨.hbm, 421, rfl⟩
abbrev main_while0b_call8_cst : Ref sig .tc := ⟨.hbm, 422, rfl⟩
abbrev main_while0b_call8_v0 : Ref sig .tc := ⟨.hbm, 423, rfl⟩
abbrev main_while0b_v289 : Ref sig .tc := ⟨.hbm, 424, rfl⟩
abbrev main_while0b_cst_85 : Ref sig .tc := ⟨.hbm, 425, rfl⟩
abbrev main_while0b_v290 : Ref sig .tc := ⟨.hbm, 426, rfl⟩
abbrev main_while0b_v291 : Ref sig .tc := ⟨.hbm, 427, rfl⟩
abbrev main_while0b_v292 : Ref sig .tc := ⟨.hbm, 428, rfl⟩
abbrev main_while0b_cst_86 : Ref sig .tc := ⟨.hbm, 429, rfl⟩
abbrev main_while0b_v293 : Ref sig .tc := ⟨.hbm, 430, rfl⟩
abbrev main_while0b_v294 : Ref sig .tc := ⟨.hbm, 431, rfl⟩
abbrev main_while0b_cst_87 : Ref sig .tc := ⟨.hbm, 432, rfl⟩
abbrev main_while0b_v295 : Ref sig .tc := ⟨.hbm, 433, rfl⟩
abbrev main_while0b_v296 : Ref sig .tc := ⟨.hbm, 434, rfl⟩
abbrev main_while0b_cst_88 : Ref sig .tc := ⟨.hbm, 435, rfl⟩
abbrev main_while0b_v297 : Ref sig .tc := ⟨.hbm, 436, rfl⟩
abbrev main_while0b_v298 : Ref sig .tc := ⟨.hbm, 437, rfl⟩
abbrev main_while0b_call9_call0_cst : Ref sig .tc := ⟨.hbm, 438, rfl⟩
abbrev main_while0b_call9_call0_v0 : Ref sig .tc := ⟨.hbm, 439, rfl⟩
abbrev main_while0b_v299 : Ref sig .tc := ⟨.hbm, 440, rfl⟩
abbrev main_while0b_cst_89 : Ref sig .tc := ⟨.hbm, 441, rfl⟩
abbrev main_while0b_v300 : Ref sig .tc := ⟨.hbm, 442, rfl⟩
abbrev main_while0b_v301 : Ref sig .tc := ⟨.hbm, 443, rfl⟩
abbrev main_while0b_v302 : Ref sig .tc := ⟨.hbm, 444, rfl⟩
abbrev main_while0b_v303 : Ref sig .tc := ⟨.hbm, 445, rfl⟩
abbrev main_while0b_v304 : Ref sig .tc := ⟨.hbm, 446, rfl⟩
abbrev main_while0b_v305 : Ref sig .tc := ⟨.hbm, 447, rfl⟩
abbrev main_while0b_v306 : Ref sig .tc := ⟨.hbm, 448, rfl⟩
abbrev main_while0b_cst_90 : Ref sig .tc := ⟨.hbm, 449, rfl⟩
abbrev main_while0b_v307 : Ref sig .tc := ⟨.hbm, 450, rfl⟩
abbrev main_while0b_cst_91 : Ref sig .tc := ⟨.hbm, 451, rfl⟩
abbrev main_while0b_v308 : Ref sig .tc := ⟨.hbm, 452, rfl⟩
abbrev main_while0b_v309 : Ref sig .tc := ⟨.hbm, 453, rfl⟩
abbrev main_while0b_v310 : Ref sig .tc := ⟨.hbm, 454, rfl⟩
abbrev main_while0b_v311 : Ref sig .tc := ⟨.hbm, 455, rfl⟩
abbrev main_while0b_cst_92 : Ref sig .tc := ⟨.hbm, 456, rfl⟩
abbrev main_while0b_v312 : Ref sig .tc := ⟨.hbm, 457, rfl⟩
abbrev main_while0b_v313 : Ref sig .tc := ⟨.hbm, 458, rfl⟩
abbrev main_while0b_v314 : Ref sig .tc := ⟨.hbm, 459, rfl⟩
abbrev main_while0b_v315 : Ref sig .tc := ⟨.hbm, 460, rfl⟩
abbrev main_while0b_v316 : Ref sig .tc := ⟨.hbm, 461, rfl⟩
abbrev main_while0b_cst_93 : Ref sig .tc := ⟨.hbm, 462, rfl⟩
abbrev main_while0b_v317 : Ref sig .tc := ⟨.hbm, 463, rfl⟩
abbrev main_while0b_v318 : Ref sig .tc := ⟨.hbm, 464, rfl⟩
abbrev main_while0b_v319 : Ref sig .tc := ⟨.hbm, 465, rfl⟩
abbrev main_while0b_v320 : Ref sig .tc := ⟨.hbm, 466, rfl⟩
abbrev main_while0b_v321 : Ref sig .tc := ⟨.hbm, 467, rfl⟩
abbrev main_while0b_v322 : Ref sig .tc := ⟨.hbm, 468, rfl⟩
abbrev main_while0b_v323 : Ref sig .tc := ⟨.hbm, 469, rfl⟩
abbrev main_while0b_v324 : Ref sig .tc := ⟨.hbm, 470, rfl⟩
abbrev main_while0b_cst_94 : Ref sig .tc := ⟨.hbm, 471, rfl⟩
abbrev main_while0b_v325 : Ref sig .tc := ⟨.hbm, 472, rfl⟩
abbrev main_while0b_v326 : Ref sig .tc := ⟨.hbm, 473, rfl⟩
abbrev main_while0b_v327 : Ref sig .tc := ⟨.hbm, 474, rfl⟩
abbrev main_while0b_v328 : Ref sig .tc := ⟨.hbm, 475, rfl⟩
abbrev main_while0b_v329 : Ref sig .tc := ⟨.hbm, 476, rfl⟩
abbrev main_while0b_cst_95 : Ref sig .tc := ⟨.hbm, 477, rfl⟩
abbrev main_while0b_v330 : Ref sig .tc := ⟨.hbm, 478, rfl⟩
abbrev main_while0b_v331 : Ref sig .tc := ⟨.hbm, 479, rfl⟩
abbrev main_while0b_v332 : Ref sig .tc := ⟨.hbm, 480, rfl⟩
abbrev main_while0b_v333 : Ref sig .tc := ⟨.hbm, 481, rfl⟩
abbrev main_while0b_v334 : Ref sig .tc := ⟨.hbm, 482, rfl⟩
abbrev main_while0b_v335 : Ref sig .tc := ⟨.hbm, 483, rfl⟩
abbrev main_while0b_v336 : Ref sig .tc := ⟨.hbm, 484, rfl⟩
abbrev main_while0b_v337 : Ref sig .tc := ⟨.hbm, 485, rfl⟩
abbrev main_while0b_v338 : Ref sig .tc := ⟨.hbm, 486, rfl⟩
abbrev main_while0b_v339 : Ref sig .tc := ⟨.hbm, 487, rfl⟩
abbrev main_while0b_v340 : Ref sig .tc := ⟨.hbm, 488, rfl⟩
abbrev main_while0b_v341 : Ref sig .tc := ⟨.hbm, 489, rfl⟩
abbrev main_while0b_v342 : Ref sig .tc := ⟨.hbm, 490, rfl⟩
abbrev main_while0b_cst_96 : Ref sig .tc := ⟨.hbm, 491, rfl⟩
abbrev main_while0b_call10_v0 : Ref sig .tc := ⟨.hbm, 492, rfl⟩
abbrev main_while0b_call10_v1 : Ref sig .tc := ⟨.hbm, 493, rfl⟩
abbrev main_while0b_call10_v2 : Ref sig .tc := ⟨.hbm, 494, rfl⟩
abbrev main_while0b_call10_v3 : Ref sig .tc := ⟨.hbm, 495, rfl⟩
abbrev main_while0b_v343 : Ref sig .tc := ⟨.hbm, 496, rfl⟩
abbrev main_while0b_v344 : Ref sig .tc := ⟨.hbm, 497, rfl⟩
abbrev main_while0b_v345 : Ref sig .tc := ⟨.hbm, 498, rfl⟩
abbrev main_while0b_v346 : Ref sig .tc := ⟨.hbm, 499, rfl⟩
abbrev main_while0b_v347 : Ref sig .tc := ⟨.hbm, 500, rfl⟩
abbrev main_while0b_v348 : Ref sig .tc := ⟨.hbm, 501, rfl⟩
abbrev main_while0b_v349 : Ref sig .tc := ⟨.hbm, 502, rfl⟩
abbrev main_while0b_cst_97 : Ref sig .tc := ⟨.hbm, 503, rfl⟩
abbrev main_while0b_call11_v0 : Ref sig .tc := ⟨.hbm, 504, rfl⟩
abbrev main_while0b_call11_v1 : Ref sig .tc := ⟨.hbm, 505, rfl⟩
abbrev main_while0b_call11_v2 : Ref sig .tc := ⟨.hbm, 506, rfl⟩
abbrev main_while0b_call11_v3 : Ref sig .tc := ⟨.hbm, 507, rfl⟩
abbrev main_while0b_v350 : Ref sig .tc := ⟨.hbm, 508, rfl⟩
abbrev main_while0b_v351 : Ref sig .tc := ⟨.hbm, 509, rfl⟩
abbrev main_while0b_v352 : Ref sig .tc := ⟨.hbm, 510, rfl⟩
abbrev main_while0b_v353 : Ref sig .tc := ⟨.hbm, 511, rfl⟩
abbrev main_while0b_v354 : Ref sig .tc := ⟨.hbm, 512, rfl⟩
abbrev main_while0b_v355 : Ref sig .tc := ⟨.hbm, 513, rfl⟩
abbrev main_while0b_v356 : Ref sig .tc := ⟨.hbm, 514, rfl⟩
abbrev main_while0b_cst_98 : Ref sig .tc := ⟨.hbm, 515, rfl⟩
abbrev main_while0b_call12_v0 : Ref sig .tc := ⟨.hbm, 516, rfl⟩
abbrev main_while0b_call12_v1 : Ref sig .tc := ⟨.hbm, 517, rfl⟩
abbrev main_while0b_call12_v2 : Ref sig .tc := ⟨.hbm, 518, rfl⟩
abbrev main_while0b_call12_v3 : Ref sig .tc := ⟨.hbm, 519, rfl⟩
abbrev main_while0b_v357 : Ref sig .tc := ⟨.hbm, 520, rfl⟩
abbrev main_while0b_v358 : Ref sig .tc := ⟨.hbm, 521, rfl⟩
abbrev main_while0b_v359 : Ref sig .tc := ⟨.hbm, 522, rfl⟩
abbrev main_while0b_v360 : Ref sig .tc := ⟨.hbm, 523, rfl⟩
abbrev main_while0b_v361 : Ref sig .tc := ⟨.hbm, 524, rfl⟩
abbrev main_while0b_v362 : Ref sig .tc := ⟨.hbm, 525, rfl⟩
abbrev main_while0b_v363 : Ref sig .tc := ⟨.hbm, 526, rfl⟩
abbrev main_while0b_cst_99 : Ref sig .tc := ⟨.hbm, 527, rfl⟩
abbrev main_while0b_call13_v0 : Ref sig .tc := ⟨.hbm, 528, rfl⟩
abbrev main_while0b_call13_v1 : Ref sig .tc := ⟨.hbm, 529, rfl⟩
abbrev main_while0b_call13_v2 : Ref sig .tc := ⟨.hbm, 530, rfl⟩
abbrev main_while0b_call13_v3 : Ref sig .tc := ⟨.hbm, 531, rfl⟩
abbrev main_while0b_v364 : Ref sig .tc := ⟨.hbm, 532, rfl⟩
abbrev main_while0b_v365 : Ref sig .tc := ⟨.hbm, 533, rfl⟩
abbrev main_while0b_v366 : Ref sig .tc := ⟨.hbm, 534, rfl⟩
abbrev main_while0b_v367 : Ref sig .tc := ⟨.hbm, 535, rfl⟩
abbrev main_while0b_v368 : Ref sig .tc := ⟨.hbm, 536, rfl⟩
abbrev main_while0b_v369 : Ref sig .tc := ⟨.hbm, 537, rfl⟩
abbrev main_while0b_v370 : Ref sig .tc := ⟨.hbm, 538, rfl⟩
abbrev main_while0b_cst_100 : Ref sig .tc := ⟨.hbm, 539, rfl⟩
abbrev main_while0b_call14_v0 : Ref sig .tc := ⟨.hbm, 540, rfl⟩
abbrev main_while0b_call14_v1 : Ref sig .tc := ⟨.hbm, 541, rfl⟩
abbrev main_while0b_call14_v2 : Ref sig .tc := ⟨.hbm, 542, rfl⟩
abbrev main_while0b_call14_v3 : Ref sig .tc := ⟨.hbm, 543, rfl⟩
abbrev main_while0b_v371 : Ref sig .tc := ⟨.hbm, 544, rfl⟩
abbrev main_while0b_v372 : Ref sig .tc := ⟨.hbm, 545, rfl⟩
abbrev main_while0b_c_101 : Ref sig .tc := ⟨.hbm, 546, rfl⟩
abbrev main_while0b_v373 : Ref sig .tc := ⟨.hbm, 547, rfl⟩
abbrev main_v10 : Ref sig .tc := ⟨.hbm, 548, rfl⟩
abbrev main_v11 : Ref sig .tc := ⟨.hbm, 549, rfl⟩
abbrev main_v12 : Ref sig .tc := ⟨.hbm, 550, rfl⟩
abbrev main_v13 : Ref sig .tc := ⟨.hbm, 551, rfl⟩
abbrev main_c_4 : Ref sig .tc := ⟨.hbm, 552, rfl⟩
abbrev main_call15_v0 : Ref sig .tc := ⟨.hbm, 553, rfl⟩
abbrev main_v14 : Ref sig .tc := ⟨.hbm, 554, rfl⟩
abbrev main_v15 : Ref sig .tc := ⟨.hbm, 555, rfl⟩
abbrev main_v16 : Ref sig .tc := ⟨.hbm, 556, rfl⟩

abbrev nD : Nat := 1
abbrev τ : Topo := Topo.v7x

variable {F : FTy → Type} [FloatOps F]

abbrev main_while0_count : Scf.Loop 32 := ⟨0#32, 32#32, 1#32⟩
-- ==== Kernel2.lean ====
abbrev S2048x1024 : Shape := ⟨2, ![2048, 1024]⟩
abbrev S4096x1024 : Shape := ⟨2, ![4096, 1024]⟩
abbrev S2048x4096 : Shape := ⟨2, ![2048, 4096]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S2048x1024, .bf16⟩
  | .hbm, ⟨1, _⟩ => ⟨S4096x1024, .bf16⟩
  | .hbm, ⟨2, _⟩ => ⟨S2048x4096, .bf16⟩
  | .hbm, ⟨3, _⟩ => ⟨S2048x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference2Ideal.lean ====
abbrev S2048x1024 : Shape := ⟨2, ![2048, 1024]⟩
abbrev S4096x1024 : Shape := ⟨2, ![4096, 1024]⟩
abbrev S2048x4096 : Shape := ⟨2, ![2048, 4096]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S4096x1024, .bf16⟩
  | .hbm, ⟨2, _⟩ => ⟨S2048x4096, .bf16⟩
  | .hbm, ⟨3, _⟩ => ⟨S2048x1024, .f32⟩
  | .hbm, ⟨4, _⟩ => ⟨S4096x1024, .f32⟩
  | .hbm, ⟨5, _⟩ => ⟨S2048x4096, .f32⟩
  | .hbm, ⟨6, _⟩ => ⟨S_, .f32⟩
  | .hbm, ⟨7, _⟩ => ⟨S2048x4096, .f32⟩
  | .hbm, ⟨8, _⟩ => ⟨S2048x4096, .f32⟩
  | .hbm, ⟨9, _⟩ => ⟨S_, .f32⟩
  | .hbm, ⟨10, _⟩ => ⟨S2048x4096, .f32⟩
  | .hbm, ⟨11, _⟩ => ⟨S2048x4096, .i1⟩
  | .hbm, ⟨12, _⟩ => ⟨S_, .f32⟩
  | .hbm, ⟨13, _⟩ => ⟨S2048x4096, .f32⟩
  | .hbm, ⟨14, _⟩ => ⟨S2048x4096, .f32⟩
  | .hbm, ⟨15, _⟩ => ⟨S_, .f32⟩
  | .hbm, ⟨16, _⟩ => ⟨S2048x4096, .f32⟩
  | .hbm, ⟨17, _⟩ => ⟨S2048x4096, .f32⟩
  | .hbm, ⟨18, _⟩ => ⟨S2048x1024, .f32⟩
  | .hbm, ⟨19, _⟩ => ⟨S2048x4096, .f32⟩
  | .hbm, ⟨20, _⟩ => ⟨S2048x4096, .f32⟩
  | .hbm, ⟨21, _⟩ => ⟨S_, .f32⟩
  | .hbm, ⟨22, _⟩ => ⟨S2048x4096, .f32⟩
  | .hbm, ⟨23, _⟩ => ⟨S2048x4096, .f32⟩
  | .hbm, ⟨24, _⟩ => ⟨S2048x4096, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_cst : Ref sig .tc := ⟨.hbm, 6, rfl⟩
abbrev main_call0_v0 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩

abbrev nD : Nat := 1
abbrev τ : Topo := Topo.v7x

variable {F : FTy → Type} [FloatOps F]
-- ==== Kernel3.lean ====
abbrev S2048x4096 : Shape := ⟨2, ![2048, 4096]⟩
abbrev S2048x1024 : Shape := ⟨2, ![2048, 1024]⟩
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x4096, .bf16⟩
  | .hbm, ⟨1, _⟩ => ⟨S2048x1024, .bf16⟩
  | .hbm, ⟨2, _⟩ => ⟨S4096x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S1024x1024, .bf16⟩
  | .local _ .vmem, ⟨4, _⟩ => ⟨S1024x1024, .bf16⟩
  | _, _ => ⟨S2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S2048x4096 : Shape := ⟨2, ![2048, 4096]⟩
abbrev S2048x1024 : Shape := ⟨2, ![2048, 1024]⟩
abbrev S_ : Shape := ⟨0, ![]⟩
abbrev S4096x1024 : Shape := ⟨2, ![4096, 1024]⟩
abbrev S1024x4096 : Shape := ⟨2, ![1024, 4096]⟩

abbrev nBuf : Space → Nat
  | .hbm => 10
  | .vmem => 0
  | .smem => 0
  | _ => 0

abbrev bufTy : (tb : Table) → Fin (tcTables nBuf tb) → BufTy
  | .hbm, ⟨0, _⟩ => ⟨S2048x4096, .bf16⟩
  | .hbm, ⟨1, _⟩ => ⟨S2048x1024, .bf16⟩
  | .hbm, ⟨2, _⟩ => ⟨S2048x4096, .f32⟩
  | .hbm, ⟨3, _⟩ => ⟨S2048x1024, .f32⟩
  | .hbm, ⟨4, _⟩ => ⟨S_, .f32⟩
  | .hbm, ⟨5, _⟩ => ⟨S4096x1024, .f32⟩
  | .hbm, ⟨6, _⟩ => ⟨S2048x1024, .f32⟩
  | .hbm, ⟨7, _⟩ => ⟨S1024x4096, .f32⟩
  | .hbm, ⟨8, _⟩ => ⟨S4096x1024, .f32⟩
  | .hbm, ⟨9, _⟩ => ⟨S4096x1024, .bf16⟩
  | _, _ => ⟨S2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel4.lean ====
abbrev S2048x1024 : Shape := ⟨2, ![2048, 1024]⟩
abbrev S2048x4096 : Shape := ⟨2, ![2048, 4096]⟩
abbrev S1024x4096 : Shape := ⟨2, ![1024, 4096]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S2048x4096, .bf16⟩
  | .hbm, ⟨2, _⟩ => ⟨S1024x4096, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S1024x1024, .bf16⟩
  | .local _ .vmem, ⟨4, _⟩ => ⟨S1024x1024, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S2048x1024 : Shape := ⟨2, ![2048, 1024]⟩
abbrev S2048x4096 : Shape := ⟨2, ![2048, 4096]⟩
abbrev S_ : Shape := ⟨0, ![]⟩
abbrev S1024x4096 : Shape := ⟨2, ![1024, 4096]⟩
abbrev S4096x1024 : Shape := ⟨2, ![4096, 1024]⟩

abbrev nBuf : Space → Nat
  | .hbm => 10
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x4096, .bf16⟩
  | .hbm, ⟨2, _⟩ => ⟨S2048x1024, .f32⟩
  | .hbm, ⟨3, _⟩ => ⟨S2048x4096, .f32⟩
  | .hbm, ⟨4, _⟩ => ⟨S_, .f32⟩
  | .hbm, ⟨5, _⟩ => ⟨S1024x4096, .f32⟩
  | .hbm, ⟨6, _⟩ => ⟨S2048x4096, .f32⟩
  | .hbm, ⟨7, _⟩ => ⟨S4096x1024, .f32⟩
  | .hbm, ⟨8, _⟩ => ⟨S1024x4096, .f32⟩
  | .hbm, ⟨9, _⟩ => ⟨S1024x4096, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel5.lean ====
abbrev S2048x4096 : Shape := ⟨2, ![2048, 4096]⟩
abbrev S1024x4096 : Shape := ⟨2, ![1024, 4096]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x4096, .bf16⟩
  | .hbm, ⟨1, _⟩ => ⟨S1024x4096, .bf16⟩
  | .hbm, ⟨2, _⟩ => ⟨S2048x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32 : BitVec 32 := 3#32
  let v6 : BitVec 1 := Scalar.cmpi .eq arg2 c3_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S2048x4096 : Shape := ⟨2, ![2048, 4096]⟩
abbrev S1024x4096 : Shape := ⟨2, ![1024, 4096]⟩
abbrev S_ : Shape := ⟨0, ![]⟩
abbrev S2048x1024 : Shape := ⟨2, ![2048, 1024]⟩

abbrev nBuf : Space → Nat
  | .hbm => 8
  | .vmem => 0
  | .smem => 0
  | _ => 0

abbrev bufTy : (tb : Table) → Fin (tcTables nBuf tb) → BufTy
  | .hbm, ⟨0, _⟩ => ⟨S2048x4096, .bf16⟩
  | .hbm, ⟨1, _⟩ => ⟨S1024x4096, .bf16⟩
  | .hbm, ⟨2, _⟩ => ⟨S2048x4096, .f32⟩
  | .hbm, ⟨3, _⟩ => ⟨S1024x4096, .f32⟩
  | .hbm, ⟨4, _⟩ => ⟨S_, .f32⟩
  | .hbm, ⟨5, _⟩ => ⟨S2048x1024, .f32⟩
  | .hbm, ⟨6, _⟩ => ⟨S2048x4096, .f32⟩
  | .hbm, ⟨7, _⟩ => ⟨S2048x1024, .f32⟩
  | _, _ => ⟨S2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel6.lean ====
abbrev S2048x1024 : Shape := ⟨2, ![2048, 1024]⟩
abbrev S1024x4096 : Shape := ⟨2, ![1024, 4096]⟩
abbrev S2048x4096 : Shape := ⟨2, ![2048, 4096]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S2048x1024, .bf16⟩
  | .hbm, ⟨1, _⟩ => ⟨S1024x4096, .bf16⟩
  | .hbm, ⟨2, _⟩ => ⟨S2048x4096, .bf16⟩
  | .hbm, ⟨3, _⟩ => ⟨S2048x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference6Ideal.lean ====
abbrev S2048x1024 : Shape := ⟨2, ![2048, 1024]⟩
abbrev S1024x4096 : Shape := ⟨2, ![1024, 4096]⟩
abbrev S2048x4096 : Shape := ⟨2, ![2048, 4096]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x4096, .bf16⟩
  | .hbm, ⟨2, _⟩ => ⟨S2048x1024, .f32⟩
  | .hbm, ⟨3, _⟩ => ⟨S1024x4096, .f32⟩
  | .hbm, ⟨4, _⟩ => ⟨S2048x4096, .f32⟩
  | .hbm, ⟨5, _⟩ => ⟨S2048x4096, .bf16⟩
  | .hbm, ⟨6, _⟩ => ⟨S_, .f32⟩
  | .hbm, ⟨7, _⟩ => ⟨S2048x4096, .f32⟩
  | .hbm, ⟨8, _⟩ => ⟨S2048x4096, .f32⟩
  | .hbm, ⟨9, _⟩ => ⟨S2048x4096, .f32⟩
  | .hbm, ⟨10, _⟩ => ⟨S2048x4096, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_call0_cst : Ref sig .tc := ⟨.hbm, 6, rfl⟩
abbrev main_call0_v0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Kernel7.lean ====
abbrev S2048x4096 : Shape := ⟨2, ![2048, 4096]⟩
abbrev S4096x1024 : Shape := ⟨2, ![4096, 1024]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x4096, .bf16⟩
  | .hbm, ⟨1, _⟩ => ⟨S4096x1024, .bf16⟩
  | .hbm, ⟨2, _⟩ => ⟨S2048x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32 : BitVec 32 := 3#32
  let v6 : BitVec 1 := Scalar.cmpi .eq arg2 c3_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S2048x4096 : Shape := ⟨2, ![2048, 4096]⟩
abbrev S4096x1024 : Shape := ⟨2, ![4096, 1024]⟩
abbrev S2048x1024 : Shape := ⟨2, ![2048, 1024]⟩

abbrev nBuf : Space → Nat
  | .hbm => 5
  | .vmem => 0
  | .smem => 0
  | _ => 0

abbrev bufTy : (tb : Table) → Fin (tcTables nBuf tb) → BufTy
  | .hbm, ⟨0, _⟩ => ⟨S2048x4096, .bf16⟩
  | .hbm, ⟨1, _⟩ => ⟨S4096x1024, .bf16⟩
  | .hbm, ⟨2, _⟩ => ⟨S2048x4096, .f32⟩
  | .hbm, ⟨3, _⟩ => ⟨S4096x1024, .f32⟩
  | .hbm, ⟨4, _⟩ => ⟨S2048x1024, .f32⟩
  | _, _ => ⟨S2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel8.lean ====
abbrev S2048x1024 : Shape := ⟨2, ![2048, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S2048x1024 : Shape := ⟨2, ![2048, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x1024, .f32⟩
  | .hbm, ⟨3, _⟩ => ⟨S1024x1024, .f32⟩
  | .hbm, ⟨4, _⟩ => ⟨S_, .f32⟩
  | .hbm, ⟨5, _⟩ => ⟨S2048x1024, .f32⟩
  | .hbm, ⟨6, _⟩ => ⟨S2048x1024, .f32⟩
  | .hbm, ⟨7, _⟩ => ⟨S2048x1024, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel9.lean ====
abbrev S2048x1024 : Shape := ⟨2, ![2048, 1024]⟩
abbrev S1024x1024 : Shape := ⟨2, ![1024, 1024]⟩

abbrev nBuf : Space → Nat
  | .hbm => 3
  | .vmem => 3
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference9Ideal.lean ====
abbrev S2048x1024 : Shape := ⟨2, ![2048, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S2048x1024, .f32⟩
  | .hbm, ⟨3, _⟩ => ⟨S2048x1024, .f32⟩
  | .hbm, ⟨4, _⟩ => ⟨S_, .f32⟩
  | .hbm, ⟨5, _⟩ => ⟨S1024x1024, .f32⟩
  | .hbm, ⟨6, _⟩ => ⟨S2048x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel10.lean ====
abbrev S2048x1024 : Shape := ⟨2, ![2048, 1024]⟩
abbrev S2048x4096 : Shape := ⟨2, ![2048, 4096]⟩
abbrev S1024x4096 : Shape := ⟨2, ![1024, 4096]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x1024, .bf16⟩
  | .hbm, ⟨1, _⟩ => ⟨S2048x4096, .f32⟩
  | .hbm, ⟨2, _⟩ => ⟨S1024x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 2], ![false, false, false]⟩

def k0_cond3 (i : grid0.Coords) : BitVec 1 :=
  let arg2 : BitVec 32 := BitVec.ofNat 32 (i 2).val
  let c1_i32 : BitVec 32 := 1#32
  let v6 : BitVec 1 := Scalar.cmpi .eq arg2 c1_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S2048x1024 : Shape := ⟨2, ![2048, 1024]⟩
abbrev S2048x4096 : Shape := ⟨2, ![2048, 4096]⟩
abbrev S_ : Shape := ⟨0, ![]⟩
abbrev S1024x4096 : Shape := ⟨2, ![1024, 4096]⟩
abbrev S4096x1024 : Shape := ⟨2, ![4096, 1024]⟩

abbrev nBuf : Space → Nat
  | .hbm => 9
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x4096, .f32⟩
  | .hbm, ⟨2, _⟩ => ⟨S_, .f32⟩
  | .hbm, ⟨3, _⟩ => ⟨S1024x4096, .f32⟩
  | .hbm, ⟨4, _⟩ => ⟨S2048x1024, .f32⟩
  | .hbm, ⟨5, _⟩ => ⟨S2048x4096, .f32⟩
  | .hbm, ⟨6, _⟩ => ⟨S4096x1024, .f32⟩
  | .hbm, ⟨7, _⟩ => ⟨S1024x4096, .f32⟩
  | .hbm, ⟨8, _⟩ => ⟨S1024x4096, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel11.lean ====
abbrev S2048x4096 : Shape := ⟨2, ![2048, 4096]⟩
abbrev S1024x4096 : Shape := ⟨2, ![1024, 4096]⟩
abbrev S2048x1024 : Shape := ⟨2, ![2048, 1024]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S2048x4096, .f32⟩
  | .hbm, ⟨1, _⟩ => ⟨S1024x4096, .bf16⟩
  | .hbm, ⟨2, _⟩ => ⟨S2048x1024, .f32⟩
  | .hbm, ⟨3, _⟩ => ⟨S2048x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32 : BitVec 32 := 3#32
  let v6 : BitVec 1 := Scalar.cmpi .eq arg2 c3_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference11Ideal.lean ====
abbrev S2048x4096 : Shape := ⟨2, ![2048, 4096]⟩
abbrev S1024x4096 : Shape := ⟨2, ![1024, 4096]⟩
abbrev S2048x1024 : Shape := ⟨2, ![2048, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S2048x4096, .f32⟩
  | .hbm, ⟨1, _⟩ => ⟨S1024x4096, .bf16⟩
  | .hbm, ⟨2, _⟩ => ⟨S2048x1024, .f32⟩
  | .hbm, ⟨3, _⟩ => ⟨S_, .f32⟩
  | .hbm, ⟨4, _⟩ => ⟨S2048x1024, .f32⟩
  | .hbm, ⟨5, _⟩ => ⟨S1024x4096, .f32⟩
  | .hbm, ⟨6, _⟩ => ⟨S2048x4096, .f32⟩
  | .hbm, ⟨7, _⟩ => ⟨S2048x1024, .f32⟩
  | .hbm, ⟨8, _⟩ => ⟨S2048x1024, .f32⟩
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Kernel12.lean ====
abbrev S2048x1024 : Shape := ⟨2, ![2048, 1024]⟩
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S2048x2048, .f32⟩
  | .hbm, ⟨2, _⟩ => ⟨S1024x2048, .bf16⟩
  | .local _ .vmem, ⟨0, _⟩ => ⟨S2048x1024, .bf16⟩
  | .local _ .vmem, ⟨1, _⟩ => ⟨S2048x1024, .f32⟩
  | .local _ .vmem, ⟨2, _⟩ => ⟨S2048x1024, .f32⟩
  | .local _ .vmem, ⟨3, _⟩ => ⟨S1024x1024, .bf16⟩
  | .local _ .vmem, ⟨4, _⟩ => ⟨S1024x1024, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S2048x1024 : Shape := ⟨2, ![2048, 1024]⟩
abbrev S2048x2048 : Shape := ⟨2, ![2048, 2048]⟩
abbrev S_ : Shape := ⟨0, ![]⟩
abbrev S1024x2048 : Shape := ⟨2, ![1024, 2048]⟩

abbrev nBuf : Space → Nat
  | .hbm => 9
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x2048, .f32⟩
  | .hbm, ⟨2, _⟩ => ⟨S_, .f32⟩
  | .hbm, ⟨3, _⟩ => ⟨S1024x2048, .f32⟩
  | .hbm, ⟨4, _⟩ => ⟨S2048x1024, .f32⟩
  | .hbm, ⟨5, _⟩ => ⟨S2048x2048, .f32⟩
  | .hbm, ⟨6, _⟩ => ⟨S2048x1024, .f32⟩
  | .hbm, ⟨7, _⟩ => ⟨S1024x2048, .f32⟩
  | .hbm, ⟨8, _⟩ => ⟨S1024x2048, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel13.lean ====
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x2048, .f32⟩
  | .hbm, ⟨1, _⟩ => ⟨S1024x2048, .bf16⟩
  | .hbm, ⟨2, _⟩ => ⟨S2048x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond3 (i : grid0.Coords) : BitVec 1 :=
  let arg2 : BitVec 32 := BitVec.ofNat 32 (i 2).val
  let c1_i32 : BitVec 32 := 1#32
  let v6 : BitVec 1 := Scalar.cmpi .eq arg2 c1_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S2048x2048 : Shape := ⟨2, ![2048, 2048]⟩
abbrev S1024x2048 : Shape := ⟨2, ![1024, 2048]⟩
abbrev S_ : Shape := ⟨0, ![]⟩
abbrev S2048x1024 : Shape := ⟨2, ![2048, 1024]⟩

abbrev nBuf : Space → Nat
  | .hbm => 7
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S1024x2048, .bf16⟩
  | .hbm, ⟨2, _⟩ => ⟨S_, .f32⟩
  | .hbm, ⟨3, _⟩ => ⟨S2048x1024, .f32⟩
  | .hbm, ⟨4, _⟩ => ⟨S1024x2048, .f32⟩
  | .hbm, ⟨5, _⟩ => ⟨S2048x2048, .f32⟩
  | .hbm, ⟨6, _⟩ => ⟨S2048x1024, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel14.lean ====
abbrev S2048x1024 : Shape := ⟨2, ![2048, 1024]⟩
abbrev S2048x128 : Shape := ⟨2, ![2048, 128]⟩
abbrev S1024x128 : Shape := ⟨2, ![1024, 128]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x1024, .bf16⟩
  | .hbm, ⟨1, _⟩ => ⟨S2048x128, .f32⟩
  | .hbm, ⟨2, _⟩ => ⟨S1024x128, .bf16⟩
  | .local _ .vmem, ⟨0, _⟩ => ⟨S1024x1024, .bf16⟩
  | .local _ .vmem, ⟨1, _⟩ => ⟨S1024x1024, .bf16⟩
  | .local _ .vmem, ⟨2, _⟩ => ⟨S1024x128, .f32⟩
  | .local _ .vmem, ⟨3, _⟩ => ⟨S1024x128, .f32⟩
  | .local _ .vmem, ⟨4, _⟩ => ⟨S1024x128, .bf16⟩
  | .local _ .vmem, ⟨5, _⟩ => ⟨S1024x128, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond3 (i : grid0.Coords) : BitVec 1 :=
  let arg2 : BitVec 32 := BitVec.ofNat 32 (i 2).val
  let c1_i32 : BitVec 32 := 1#32
  let v6 : BitVec 1 := Scalar.cmpi .eq arg2 c1_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference14Ideal.lean ====
abbrev S2048x1024 : Shape := ⟨2, ![2048, 1024]⟩
abbrev S2048x128 : Shape := ⟨2, ![2048, 128]⟩
abbrev S_ : Shape := ⟨0, ![]⟩
abbrev S1024x128 : Shape := ⟨2, ![1024, 128]⟩
abbrev S128x1024 : Shape := ⟨2, ![128, 1024]⟩

abbrev nBuf : Space → Nat
  | .hbm => 9
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x128, .f32⟩
  | .hbm, ⟨2, _⟩ => ⟨S_, .f32⟩
  | .hbm, ⟨3, _⟩ => ⟨S1024x128, .f32⟩
  | .hbm, ⟨4, _⟩ => ⟨S2048x1024, .f32⟩
  | .hbm, ⟨5, _⟩ => ⟨S2048x128, .f32⟩
  | .hbm, ⟨6, _⟩ => ⟨S128x1024, .f32⟩
  | .hbm, ⟨7, _⟩ => ⟨S1024x128, .f32⟩
  | .hbm, ⟨8, _⟩ => ⟨S1024x128, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel15.lean ====
abbrev S2048x128 : Shape := ⟨2, ![2048, 128]⟩
abbrev S1024x128 : Shape := ⟨2, ![1024, 128]⟩
abbrev S2048x1024 : Shape := ⟨2, ![2048, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x128, .f32⟩
  | .hbm, ⟨1, _⟩ => ⟨S1024x128, .bf16⟩
  | .hbm, ⟨2, _⟩ => ⟨S2048x1024, .f32⟩
  | .local _ .vmem, ⟨0, _⟩ => ⟨S1024x128, .f32⟩
  | .local _ .vmem, ⟨1, _⟩ => ⟨S1024x128, .f32⟩
  | .local _ .vmem, ⟨2, _⟩ => ⟨S1024x128, .bf16⟩
  | .local _ .vmem, ⟨3, _⟩ => ⟨S1024x1024, .f32⟩
  | .local _ .vmem, ⟨4, _⟩ => ⟨S1024x1024, .f32⟩
  | _, _ => ⟨S2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference15Ideal.lean ====
abbrev S2048x128 : Shape := ⟨2, ![2048, 128]⟩
abbrev S1024x128 : Shape := ⟨2, ![1024, 128]⟩
abbrev S_ : Shape := ⟨0, ![]⟩
abbrev S2048x1024 : Shape := ⟨2, ![2048, 1024]⟩

abbrev nBuf : Space → Nat
  | .hbm => 7
  | .vmem => 0
  | .smem => 0
  | _ => 0

abbrev bufTy : (tb : Table) → Fin (tcTables nBuf tb) → BufTy
  | .hbm, ⟨0, _⟩ => ⟨S2048x128, .f32⟩
  | .hbm, ⟨1, _⟩ => ⟨S1024x128, .bf16⟩
  | .hbm, ⟨2, _⟩ => ⟨S_, .f32⟩
  | .hbm, ⟨3, _⟩ => ⟨S2048x1024, .f32⟩
  | .hbm, ⟨4, _⟩ => ⟨S1024x128, .f32⟩
  | .hbm, ⟨5, _⟩ => ⟨S2048x128, .f32⟩
  | .hbm, ⟨6, _⟩ => ⟨S2048x1024, .f32⟩
  | _, _ => ⟨S2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel16.lean ====
abbrev S2048x1024 : Shape := ⟨2, ![2048, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference16Ideal.lean ====
abbrev S2048x1024 : Shape := ⟨2, ![2048, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x1024, .f32⟩
  | .hbm, ⟨3, _⟩ => ⟨S1024x1024, .f32⟩
  | .hbm, ⟨4, _⟩ => ⟨S2048x1024, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel17.lean ====
abbrev S2048x1024 : Shape := ⟨2, ![2048, 1024]⟩
abbrev S1024x4096 : Shape := ⟨2, ![1024, 4096]⟩
abbrev S2048x4096 : Shape := ⟨2, ![2048, 4096]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x1024, .bf16⟩
  | .hbm, ⟨1, _⟩ => ⟨S1024x4096, .bf16⟩
  | .hbm, ⟨2, _⟩ => ⟨S2048x4096, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference17Ideal.lean ====
abbrev S2048x1024 : Shape := ⟨2, ![2048, 1024]⟩
abbrev S1024x4096 : Shape := ⟨2, ![1024, 4096]⟩
abbrev S2048x4096 : Shape := ⟨2, ![2048, 4096]⟩

abbrev nBuf : Space → Nat
  | .hbm => 5
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x4096, .bf16⟩
  | .hbm, ⟨2, _⟩ => ⟨S2048x1024, .f32⟩
  | .hbm, ⟨3, _⟩ => ⟨S1024x4096, .f32⟩
  | .hbm, ⟨4, _⟩ => ⟨S2048x4096, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel18.lean ====
abbrev S2048x1024 : Shape := ⟨2, ![2048, 1024]⟩
abbrev S1024x2048 : Shape := ⟨2, ![1024, 2048]⟩
abbrev S2048x2048 : Shape := ⟨2, ![2048, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x1024, .bf16⟩
  | .hbm, ⟨1, _⟩ => ⟨S1024x2048, .bf16⟩
  | .hbm, ⟨2, _⟩ => ⟨S2048x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference18Ideal.lean ====
abbrev S2048x1024 : Shape := ⟨2, ![2048, 1024]⟩
abbrev S1024x2048 : Shape := ⟨2, ![1024, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x2048, .bf16⟩
  | .hbm, ⟨2, _⟩ => ⟨S2048x1024, .f32⟩
  | .hbm, ⟨3, _⟩ => ⟨S1024x2048, .f32⟩
  | .hbm, ⟨4, _⟩ => ⟨S2048x2048, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel19.lean ====
abbrev S2048x1024 : Shape := ⟨2, ![2048, 1024]⟩
abbrev S1024x128 : Shape := ⟨2, ![1024, 128]⟩
abbrev S2048x128 : Shape := ⟨2, ![2048, 128]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S1024x128, .bf16⟩
  | .hbm, ⟨2, _⟩ => ⟨S2048x128, .f32⟩
  | .local _ .vmem, ⟨0, _⟩ => ⟨S1024x1024, .bf16⟩
  | .local _ .vmem, ⟨1, _⟩ => ⟨S1024x1024, .bf16⟩
  | .local _ .vmem, ⟨2, _⟩ => ⟨S1024x128, .bf16⟩
  | .local _ .vmem, ⟨3, _⟩ => ⟨S1024x128, .f32⟩
  | .local _ .vmem, ⟨4, _⟩ => ⟨S1024x128, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference19Ideal.lean ====
abbrev S2048x1024 : Shape := ⟨2, ![2048, 1024]⟩
abbrev S1024x128 : Shape := ⟨2, ![1024, 128]⟩
abbrev S2048x128 : Shape := ⟨2, ![2048, 128]⟩

abbrev nBuf : Space → Nat
  | .hbm => 5
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x128, .bf16⟩
  | .hbm, ⟨2, _⟩ => ⟨S2048x1024, .f32⟩
  | .hbm, ⟨3, _⟩ => ⟨S1024x128, .f32⟩
  | .hbm, ⟨4, _⟩ => ⟨S2048x128, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel20.lean ====
abbrev S2048x4096 : Shape := ⟨2, ![2048, 4096]⟩
abbrev S4x3072 : Shape := ⟨2, ![4, 3072]⟩
abbrev S2048x1024 : Shape := ⟨2, ![2048, 1024]⟩
abbrev S4x1024 : Shape := ⟨2, ![4, 1024]⟩
abbrev S2048x128 : Shape := ⟨2, ![2048, 128]⟩
abbrev S4x128 : Shape := ⟨2, ![4, 128]⟩
abbrev S32x128 : Shape := ⟨2, ![32, 128]⟩
abbrev S2080x128 : Shape := ⟨2, ![2080, 128]⟩
abbrev S1x128 : Shape := ⟨2, ![1, 128]⟩
abbrev S128 : Shape := ⟨1, ![128]⟩

abbrev nBuf : Space → Nat
  | .hbm => 6
  | .vmem => 10
  | .smem => 0
  | _ => 0

abbrev bufTy : (tb : Table) → Fin (tcTables nBuf tb) → BufTy
  | .hbm, ⟨0, _⟩ => ⟨S2048x4096, .f32⟩
  | .hbm, ⟨1, _⟩ => ⟨S4x3072, .f32⟩
  | .hbm, ⟨2, _⟩ => ⟨S2048x1024, .f32⟩
  | .hbm, ⟨3, _⟩ => ⟨S2048x4096, .f32⟩
  | .hbm, ⟨4, _⟩ => ⟨S2048x4096, .f32⟩
  | .hbm, ⟨5, _⟩ => ⟨S4x1024, .f32⟩
  | .local _ .vmem, ⟨0, _⟩ => ⟨S2048x128, .f32⟩
  | .local _ .vmem, ⟨1, _⟩ => ⟨S2048x128, .f32⟩
  | .local _ .vmem, ⟨2, _⟩ => ⟨S4x128, .f32⟩
  | .local _ .vmem, ⟨3, _⟩ => ⟨S4x128, .f32⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | .local _ .vmem, ⟨7, _⟩ => ⟨S2048x128, .f32⟩
  | .local _ .vmem, ⟨8, _⟩ => ⟨S4x128, .f32⟩
  | .local _ .vmem, ⟨9, _⟩ => ⟨S4x128, .f32⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_4 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference20Ideal.lean ====
abbrev S2048x4096 : Shape := ⟨2, ![2048, 4096]⟩
abbrev S4x3072 : Shape := ⟨2, ![4, 3072]⟩
abbrev S2048x1024 : Shape := ⟨2, ![2048, 1024]⟩
abbrev S4x1024 : Shape := ⟨2, ![4, 1024]⟩
abbrev S_ : Shape := ⟨0, ![]⟩
abbrev S3x1024 : Shape := ⟨2, ![3, 1024]⟩
abbrev S2051x1024 : Shape := ⟨2, ![2051, 1024]⟩
abbrev S1x1024 : Shape := ⟨2, ![1, 1024]⟩
abbrev S1024 : Shape := ⟨1, ![1024]⟩
abbrev S2048x3072 : Shape := ⟨2, ![2048, 3072]⟩

abbrev nBuf : Space → Nat
  | .hbm => 120
  | .vmem => 0
  | .smem => 0
  | _ => 0

abbrev bufTy : (tb : Table) → Fin (tcTables nBuf tb) → BufTy
  | .hbm, ⟨0, _⟩ => ⟨S2048x4096, .f32⟩
  | .hbm, ⟨1, _⟩ => ⟨S4x3072, .f32⟩
  | .hbm, ⟨2, _⟩ => ⟨S2048x1024, .f32⟩
  | .hbm, ⟨3, _⟩ => ⟨S2048x4096, .f32⟩
  | .hbm, ⟨4, _⟩ => ⟨S2048x1024, .f32⟩
  | .hbm, ⟨5, _⟩ => ⟨S4x1024, .f32⟩
  | .hbm, ⟨6, _⟩ => ⟨S_, .f32⟩
  | .hbm, ⟨7, _⟩ => ⟨S3x1024, .f32⟩
  | .hbm, ⟨8, _⟩ => ⟨S2051x1024, .f32⟩
  | .hbm, ⟨9, _⟩ => ⟨S_, .f32⟩
  | .hbm, ⟨10, _⟩ => ⟨S3x1024, .f32⟩
  | .hbm, ⟨11, _⟩ => ⟨S1x1024, .f32⟩
  | .hbm, ⟨12, _⟩ => ⟨S1024, .f32⟩
  | .hbm, ⟨13, _⟩ => ⟨S2048x1024, .f32⟩
  | .hbm, ⟨14, _⟩ => ⟨S1x1024, .f32⟩
  | .hbm, ⟨15, _⟩ => ⟨S2048x1024, .f32⟩
  | .hbm, ⟨16, _⟩ => ⟨S2048x1024, .f32⟩
  | .hbm, ⟨17, _⟩ => ⟨S_, .f32⟩
  | .hbm, ⟨18, _⟩ => ⟨S2048x1024, .f32⟩
  | .hbm, ⟨19, _⟩ => ⟨S2048x1024, .f32⟩
  | .hbm, ⟨20, _⟩ => ⟨S1x1024, .f32⟩
  | .hbm, ⟨21, _⟩ => ⟨S1024, .f32⟩
  | .hbm, ⟨22, _⟩ => ⟨S2048x1024, .f32⟩
  | .hbm, ⟨23, _⟩ => ⟨S1x1024, .f32⟩
  | .hbm, ⟨24, _⟩ => ⟨S2048x1024, .f32⟩
  | .hbm, ⟨25, _⟩ => ⟨S2048x1024, .f32⟩
  | .hbm, ⟨26, _⟩ => ⟨S2048x1024, .f32⟩
  | .hbm, ⟨27, _⟩ => ⟨S1x1024, .f32⟩
  | .hbm, ⟨28, _⟩ => ⟨S1024, .f32⟩
  | .hbm, ⟨29, _⟩ => ⟨S2048x1024, .f32⟩
  | .hbm, ⟨30, _⟩ => ⟨S1x1024, .f32⟩
  | .hbm, ⟨31, _⟩ => ⟨S2048x1024, .f32⟩
  | .hbm, ⟨32, _⟩ => ⟨S2048x1024, .f32⟩
  | .hbm, ⟨33, _⟩ => ⟨S2048x1024, .f32⟩
  | .hbm, ⟨34, _⟩ => ⟨S1x1024, .f32⟩
  | .hbm, ⟨35, _⟩ => ⟨S1024, .f32⟩
  | .hbm, ⟨36, _⟩ => ⟨S2048x1024, .f32⟩
  | .hbm, ⟨37, _⟩ => ⟨S1x1024, .f32⟩
  | .hbm, ⟨38, _⟩ => ⟨S2048x1024, .f32⟩
  | .hbm, ⟨39, _⟩ => ⟨S2048x1024, .f32⟩
  | .hbm, ⟨40, _⟩ => ⟨S2048x1024, .f32⟩
  | .hbm, ⟨41, _⟩ => ⟨S2048x1024, .f32⟩
  | .hbm, ⟨42, _⟩ => ⟨S2048x1024, .f32⟩
  | .hbm, ⟨43, _⟩ => ⟨S_, .f32⟩
  | .hbm, ⟨44, _⟩ => ⟨S2048x1024, .f32⟩
  | .hbm, ⟨45, _⟩ => ⟨S2048x1024, .f32⟩
  | .hbm, ⟨46, _⟩ => ⟨S_, .f32⟩
  | .hbm, ⟨47, _⟩ => ⟨S2048x1024, .f32⟩
  | .hbm, ⟨48, _⟩ => ⟨S2048x1024, .f32⟩
  | .hbm, ⟨49, _⟩ => ⟨S_, .f32⟩
  | .hbm, ⟨50, _⟩ => ⟨S2048x1024, .f32⟩
  | .hbm, ⟨51, _⟩ => ⟨S2048x1024, .f32⟩
  | .hbm, ⟨52, _⟩ => ⟨S2048x1024, .f32⟩
  | .hbm, ⟨53, _⟩ => ⟨S2048x1024, .f32⟩
  | .hbm, ⟨54, _⟩ => ⟨S2048x1024, .f32⟩
  | .hbm, ⟨55, _⟩ => ⟨S2048x1024, .f32⟩
  | .hbm, ⟨56, _⟩ => ⟨S2048x1024, .f32⟩
  | .hbm, ⟨57, _⟩ => ⟨S2048x1024, .f32⟩
  | .hbm, ⟨58, _⟩ => ⟨S2048x1024, .f32⟩
  | .hbm, ⟨59, _⟩ => ⟨S2048x1024, .f32⟩
  | .hbm, ⟨60, _⟩ => ⟨S2048x1024, .f32⟩
  | .hbm, ⟨61, _⟩ => ⟨S_, .f32⟩
  | .hbm, ⟨62, _⟩ => ⟨S1024, .f32⟩
  | .hbm, ⟨63, _⟩ => ⟨S1x1024, .f32⟩
  | .hbm, ⟨64, _⟩ => ⟨S_, .f32⟩
  | .hbm, ⟨65, _⟩ => ⟨S1024, .f32⟩
  | .hbm, ⟨66, _⟩ => ⟨S_, .f32⟩
  | .hbm, ⟨67, _⟩ => ⟨S2051x1024, .f32⟩
  | .hbm, ⟨68, _⟩ => ⟨S1x1024, .f32⟩
  | .hbm, ⟨69, _⟩ => ⟨S_, .f32⟩
  | .hbm, ⟨70, _⟩ => ⟨S4x1024, .f32⟩
  | .hbm, ⟨71, _⟩ => ⟨S2048x1024, .f32⟩
  | .hbm, ⟨72, _⟩ => ⟨S2048x1024, .f32⟩
  | .hbm, ⟨73, _⟩ => ⟨S2048x1024, .f32⟩
  | .hbm, ⟨74, _⟩ => ⟨S_, .f32⟩
  | .hbm, ⟨75, _⟩ => ⟨S1024, .f32⟩
  | .hbm, ⟨76, _⟩ => ⟨S1x1024, .f32⟩
  | .hbm, ⟨77, _⟩ => ⟨S_, .f32⟩
  | .hbm, ⟨78, _⟩ => ⟨S1024, .f32⟩
  | .hbm, ⟨79, _⟩ => ⟨S_, .f32⟩
  | .hbm, ⟨80, _⟩ => ⟨S2051x1024, .f32⟩
  | .hbm, ⟨81, _⟩ => ⟨S2051x1024, .f32⟩
  | .hbm, ⟨82, _⟩ => ⟨S1x1024, .f32⟩
  | .hbm, ⟨83, _⟩ => ⟨S_, .f32⟩
  | .hbm, ⟨84, _⟩ => ⟨S4x1024, .f32⟩
  | .hbm, ⟨85, _⟩ => ⟨S4x1024, .f32⟩
  | .hbm, ⟨86, _⟩ => ⟨S2048x1024, .f32⟩
  | .hbm, ⟨87, _⟩ => ⟨S2048x1024, .f32⟩
  | .hbm, ⟨88, _⟩ => ⟨S2048x1024, .f32⟩
  | .hbm, ⟨89, _⟩ => ⟨S_, .f32⟩
  | .hbm, ⟨90, _⟩ => ⟨S1024, .f32⟩
  | .hbm, ⟨91, _⟩ => ⟨S1x1024, .f32⟩
  | .hbm, ⟨92, _⟩ => ⟨S_, .f32⟩
  | .hbm, ⟨93, _⟩ => ⟨S1024, .f32⟩
  | .hbm, ⟨94, _⟩ => ⟨S_, .f32⟩
  | .hbm, ⟨95, _⟩ => ⟨S2051x1024, .f32⟩
  | .hbm, ⟨96, _⟩ => ⟨S2051x1024, .f32⟩
  | .hbm, ⟨97, _⟩ => ⟨S1x1024, .f32⟩
  | .hbm, ⟨98, _⟩ => ⟨S_, .f32⟩
  | .hbm, ⟨99, _⟩ => ⟨S4x1024, .f32⟩
  | .hbm, ⟨100, _⟩ => ⟨S4x1024, .f32⟩
  | .hbm, ⟨101, _⟩ => ⟨S2048x1024, .f32⟩
  | .hbm, ⟨102, _⟩ => ⟨S2048x1024, .f32⟩
  | .hbm, ⟨103, _⟩ => ⟨S2048x1024, .f32⟩
  | .hbm, ⟨104, _⟩ => ⟨S_, .f32⟩
  | .hbm, ⟨105, _⟩ => ⟨S1024, .f32⟩
  | .hbm, ⟨106, _⟩ => ⟨S1x1024, .f32⟩
  | .hbm, ⟨107, _⟩ => ⟨S_, .f32⟩
  | .hbm, ⟨108, _⟩ => ⟨S1024, .f32⟩
  | .hbm, ⟨109, _⟩ => ⟨S_, .f32⟩
  | .hbm, ⟨110, _⟩ => ⟨S2051x1024, .f32⟩
  | .hbm, ⟨111, _⟩ => ⟨S2051x1024, .f32⟩
  | .hbm, ⟨112, _⟩ => ⟨S1x1024, .f32⟩
  | .hbm, ⟨113, _⟩ => ⟨S_, .f32⟩
  | .hbm, ⟨114, _⟩ => ⟨S4x1024, .f32⟩
  | .hbm, ⟨115, _⟩ => ⟨S4x1024, .f32⟩
  | .hbm, ⟨116, _⟩ => ⟨S3x1024, .f32⟩
  | .hbm, ⟨117, _⟩ => ⟨S2048x1024, .f32⟩
  | .hbm, ⟨118, _⟩ => ⟨S2048x3072, .f32⟩
  | .hbm, ⟨119, _⟩ => ⟨S2048x4096, .f32⟩
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_call0_v0 : Ref sig .tc := ⟨.hbm, 41, rfl⟩
abbrev main_call0_v1 : Ref sig .tc := ⟨.hbm, 42, rfl⟩
abbrev main_call0_cst : Ref sig .tc := ⟨.hbm, 43, rfl⟩
abbrev main_call0_v2 : Ref sig .tc := ⟨.hbm, 44, rfl⟩
abbrev main_call0_v3 : Ref sig .tc := ⟨.hbm, 45, rfl⟩
abbrev main_call0_cst_0 : Ref sig .tc := ⟨.hbm, 46, rfl⟩
abbrev main_call0_v4 : Ref sig .tc := ⟨.hbm, 47, rfl⟩
abbrev main_v34_2 : Ref sig .tc := ⟨.hbm, 48, rfl⟩
abbrev main_call0_cst_1 : Ref sig .tc := ⟨.hbm, 49, rfl⟩
abbrev main_call0_v6 : Ref sig .tc := ⟨.hbm, 50, rfl⟩
abbrev main_call0_v7 : Ref sig .tc := ⟨.hbm, 51, rfl⟩
abbrev main_v34_1 : Ref sig .tc := ⟨.hbm, 52, rfl⟩
abbrev main_v34_0 : Ref sig .tc := ⟨.hbm, 53, rfl⟩
abbrev main_call1_v0 : Ref sig .tc := ⟨.hbm, 54, rfl⟩
abbrev main_call1_v1 : Ref sig .tc := ⟨.hbm, 55, rfl⟩
abbrev main_call1_v2 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_cst_2 : Ref sig .tc := ⟨.hbm, 61, rfl⟩
abbrev main_v39 : Ref sig .tc := ⟨.hbm, 62, rfl⟩
abbrev main_v40 : Ref sig .tc := ⟨.hbm, 63, rfl⟩
abbrev main_cst_3 : Ref sig .tc := ⟨.hbm, 64, rfl⟩
abbrev main_v41 : Ref sig .tc := ⟨.hbm, 65, rfl⟩
abbrev main_cst_4 : Ref sig .tc := ⟨.hbm, 66, rfl⟩
abbrev main_v42 : Ref sig .tc := ⟨.hbm, 67, rfl⟩
abbrev main_v43 : Ref sig .tc := ⟨.hbm, 68, rfl⟩
abbrev main_cst_5 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_cst_6 : Ref sig .tc := ⟨.hbm, 74, rfl⟩
abbrev main_v48 : Ref sig .tc := ⟨.hbm, 75, rfl⟩
abbrev main_v49 : Ref sig .tc := ⟨.hbm, 76, rfl⟩
abbrev main_cst_7 : Ref sig .tc := ⟨.hbm, 77, rfl⟩
abbrev main_v50 : Ref sig .tc := ⟨.hbm, 78, rfl⟩
abbrev main_cst_8 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_cst_9 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_cst_10 : Ref sig .tc := ⟨.hbm, 89, rfl⟩
abbrev main_v59 : Ref sig .tc := ⟨.hbm, 90, rfl⟩
abbrev main_v60 : Ref sig .tc := ⟨.hbm, 91, rfl⟩
abbrev main_cst_11 : Ref sig .tc := ⟨.hbm, 92, rfl⟩
abbrev main_v61 : Ref sig .tc := ⟨.hbm, 93, rfl⟩
abbrev main_cst_12 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_cst_13 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_cst_14 : Ref sig .tc := ⟨.hbm, 104, rfl⟩
abbrev main_v70 : Ref sig .tc := ⟨.hbm, 105, rfl⟩
abbrev main_v71 : Ref sig .tc := ⟨.hbm, 106, rfl⟩
abbrev main_cst_15 : Ref sig .tc := ⟨.hbm, 107, rfl⟩
abbrev main_v72 : Ref sig .tc := ⟨.hbm, 108, rfl⟩
abbrev main_cst_16 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_cst_17 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩

abbrev nD : Nat := 1
abbrev τ : Topo := Topo.v7x

variable {F : FTy → Type} [FloatOps F]
-- ==== Kernel21.lean ====
abbrev S2048x4096 : Shape := ⟨2, ![2048, 4096]⟩
abbrev S4x3072 : Shape := ⟨2, ![4, 3072]⟩
abbrev S2048x1024 : Shape := ⟨2, ![2048, 1024]⟩
abbrev S4x1024 : Shape := ⟨2, ![4, 1024]⟩
abbrev S2048x128 : Shape := ⟨2, ![2048, 128]⟩
abbrev S4x128 : Shape := ⟨2, ![4, 128]⟩
abbrev S32x128 : Shape := ⟨2, ![32, 128]⟩
abbrev S2080x128 : Shape := ⟨2, ![2080, 128]⟩
abbrev S1x128 : Shape := ⟨2, ![1, 128]⟩
abbrev S128 : Shape := ⟨1, ![128]⟩

abbrev nBuf : Space → Nat
  | .hbm => 6
  | .vmem => 10
  | .smem => 0
  | _ => 0

abbrev bufTy : (tb : Table) → Fin (tcTables nBuf tb) → BufTy
  | .hbm, ⟨0, _⟩ => ⟨S2048x4096, .f32⟩
  | .hbm, ⟨1, _⟩ => ⟨S4x3072, .f32⟩
  | .hbm, ⟨2, _⟩ => ⟨S2048x1024, .f32⟩
  | .hbm, ⟨3, _⟩ => ⟨S2048x4096, .f32⟩
  | .hbm, ⟨4, _⟩ => ⟨S2048x4096, .f32⟩
  | .hbm, ⟨5, _⟩ => ⟨S4x1024, .f32⟩
  | .local _ .vmem, ⟨0, _⟩ => ⟨S2048x128, .f32⟩
  | .local _ .vmem, ⟨1, _⟩ => ⟨S2048x128, .f32⟩
  | .local _ .vmem, ⟨2, _⟩ => ⟨S4x128, .f32⟩
  | .local _ .vmem, ⟨3, _⟩ => ⟨S4x128, .f32⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | .local _ .vmem, ⟨7, _⟩ => ⟨S2048x128, .f32⟩
  | .local _ .vmem, ⟨8, _⟩ => ⟨S4x128, .f32⟩
  | .local _ .vmem, ⟨9, _⟩ => ⟨S4x128, .f32⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c8_i32 : BitVec 32 := 8#32
  let v0 : BitVec 32 := Scalar.addi arg0 c8_i32
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c8_i32 : BitVec 32 := 8#32
  let v0 : BitVec 32 := Scalar.addi arg0 c8_i32
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_4 (i : grid0.Coords) : Fin 2 → Nat :=
  let arg0 : BitVec 32 := BitVec.ofNat 32 (i 0).val
  let c8_i32 : BitVec 32 := 8#32
  let v0 : BitVec 32 := Scalar.addi arg0 c8_i32
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference21Ideal.lean ====
abbrev S2048x4096 : Shape := ⟨2, ![2048, 4096]⟩
abbrev S4x3072 : Shape := ⟨2, ![4, 3072]⟩
abbrev S2048x1024 : Shape := ⟨2, ![2048, 1024]⟩
abbrev S4x1024 : Shape := ⟨2, ![4, 1024]⟩
abbrev S_ : Shape := ⟨0, ![]⟩
abbrev S3x1024 : Shape := ⟨2, ![3, 1024]⟩
abbrev S2051x1024 : Shape := ⟨2, ![2051, 1024]⟩
abbrev S1x1024 : Shape := ⟨2, ![1, 1024]⟩
abbrev S1024 : Shape := ⟨1, ![1024]⟩
abbrev S2048x2048 : Shape := ⟨2, ![2048, 2048]⟩

abbrev nBuf : Space → Nat
  | .hbm => 121
  | .vmem => 0
  | .smem => 0
  | _ => 0

abbrev bufTy : (tb : Table) → Fin (tcTables nBuf tb) → BufTy
  | .hbm, ⟨0, _⟩ => ⟨S2048x4096, .f32⟩
  | .hbm, ⟨1, _⟩ => ⟨S4x3072, .f32⟩
  | .hbm, ⟨2, _⟩ => ⟨S2048x1024, .f32⟩
  | .hbm, ⟨3, _⟩ => ⟨S2048x4096, .f32⟩
  | .hbm, ⟨4, _⟩ => ⟨S2048x1024, .f32⟩
  | .hbm, ⟨5, _⟩ => ⟨S4x1024, .f32⟩
  | .hbm, ⟨6, _⟩ => ⟨S_, .f32⟩
  | .hbm, ⟨7, _⟩ => ⟨S3x1024, .f32⟩
  | .hbm, ⟨8, _⟩ => ⟨S2051x1024, .f32⟩
  | .hbm, ⟨9, _⟩ => ⟨S_, .f32⟩
  | .hbm, ⟨10, _⟩ => ⟨S3x1024, .f32⟩
  | .hbm, ⟨11, _⟩ => ⟨S1x1024, .f32⟩
  | .hbm, ⟨12, _⟩ => ⟨S1024, .f32⟩
  | .hbm, ⟨13, _⟩ => ⟨S2048x1024, .f32⟩
  | .hbm, ⟨14, _⟩ => ⟨S1x1024, .f32⟩
  | .hbm, ⟨15, _⟩ => ⟨S2048x1024, .f32⟩
  | .hbm, ⟨16, _⟩ => ⟨S2048x1024, .f32⟩
  | .hbm, ⟨17, _⟩ => ⟨S_, .f32⟩
  | .hbm, ⟨18, _⟩ => ⟨S2048x1024, .f32⟩
  | .hbm, ⟨19, _⟩ => ⟨S2048x1024, .f32⟩
  | .hbm, ⟨20, _⟩ => ⟨S1x1024, .f32⟩
  | .hbm, ⟨21, _⟩ => ⟨S1024, .f32⟩
  | .hbm, ⟨22, _⟩ => ⟨S2048x1024, .f32⟩
  | .hbm, ⟨23, _⟩ => ⟨S1x1024, .f32⟩
  | .hbm, ⟨24, _⟩ => ⟨S2048x1024, .f32⟩
  | .hbm, ⟨25, _⟩ => ⟨S2048x1024, .f32⟩
  | .hbm, ⟨26, _⟩ => ⟨S2048x1024, .f32⟩
  | .hbm, ⟨27, _⟩ => ⟨S1x1024, .f32⟩
  | .hbm, ⟨28, _⟩ => ⟨S1024, .f32⟩
  | .hbm, ⟨29, _⟩ => ⟨S2048x1024, .f32⟩
  | .hbm, ⟨30, _⟩ => ⟨S1x1024, .f32⟩
  | .hbm, ⟨31, _⟩ => ⟨S2048x1024, .f32⟩
  | .hbm, ⟨32, _⟩ => ⟨S2048x1024, .f32⟩
  | .hbm, ⟨33, _⟩ => ⟨S2048x1024, .f32⟩
  | .hbm, ⟨34, _⟩ => ⟨S1x1024, .f32⟩
  | .hbm, ⟨35, _⟩ => ⟨S1024, .f32⟩
  | .hbm, ⟨36, _⟩ => ⟨S2048x1024, .f32⟩
  | .hbm, ⟨37, _⟩ => ⟨S1x1024, .f32⟩
  | .hbm, ⟨38, _⟩ => ⟨S2048x1024, .f32⟩
  | .hbm, ⟨39, _⟩ => ⟨S2048x1024, .f32⟩
  | .hbm, ⟨40, _⟩ => ⟨S2048x1024, .f32⟩
  | .hbm, ⟨41, _⟩ => ⟨S2048x1024, .f32⟩
  | .hbm, ⟨42, _⟩ => ⟨S2048x1024, .f32⟩
  | .hbm, ⟨43, _⟩ => ⟨S_, .f32⟩
  | .hbm, ⟨44, _⟩ => ⟨S2048x1024, .f32⟩
  | .hbm, ⟨45, _⟩ => ⟨S2048x1024, .f32⟩
  | .hbm, ⟨46, _⟩ => ⟨S_, .f32⟩
  | .hbm, ⟨47, _⟩ => ⟨S2048x1024, .f32⟩
  | .hbm, ⟨48, _⟩ => ⟨S2048x1024, .f32⟩
  | .hbm, ⟨49, _⟩ => ⟨S_, .f32⟩
  | .hbm, ⟨50, _⟩ => ⟨S2048x1024, .f32⟩
  | .hbm, ⟨51, _⟩ => ⟨S2048x1024, .f32⟩
  | .hbm, ⟨52, _⟩ => ⟨S2048x1024, .f32⟩
  | .hbm, ⟨53, _⟩ => ⟨S2048x1024, .f32⟩
  | .hbm, ⟨54, _⟩ => ⟨S2048x1024, .f32⟩
  | .hbm, ⟨55, _⟩ => ⟨S2048x1024, .f32⟩
  | .hbm, ⟨56, _⟩ => ⟨S2048x1024, .f32⟩
  | .hbm, ⟨57, _⟩ => ⟨S2048x1024, .f32⟩
  | .hbm, ⟨58, _⟩ => ⟨S2048x1024, .f32⟩
  | .hbm, ⟨59, _⟩ => ⟨S2048x1024, .f32⟩
  | .hbm, ⟨60, _⟩ => ⟨S2048x1024, .f32⟩
  | .hbm, ⟨61, _⟩ => ⟨S_, .f32⟩
  | .hbm, ⟨62, _⟩ => ⟨S1024, .f32⟩
  | .hbm, ⟨63, _⟩ => ⟨S1x1024, .f32⟩
  | .hbm, ⟨64, _⟩ => ⟨S_, .f32⟩
  | .hbm, ⟨65, _⟩ => ⟨S1024, .f32⟩
  | .hbm, ⟨66, _⟩ => ⟨S_, .f32⟩
  | .hbm, ⟨67, _⟩ => ⟨S2051x1024, .f32⟩
  | .hbm, ⟨68, _⟩ => ⟨S1x1024, .f32⟩
  | .hbm, ⟨69, _⟩ => ⟨S_, .f32⟩
  | .hbm, ⟨70, _⟩ => ⟨S4x1024, .f32⟩
  | .hbm, ⟨71, _⟩ => ⟨S2048x1024, .f32⟩
  | .hbm, ⟨72, _⟩ => ⟨S2048x1024, .f32⟩
  | .hbm, ⟨73, _⟩ => ⟨S2048x1024, .f32⟩
  | .hbm, ⟨74, _⟩ => ⟨S_, .f32⟩
  | .hbm, ⟨75, _⟩ => ⟨S1024, .f32⟩
  | .hbm, ⟨76, _⟩ => ⟨S1x1024, .f32⟩
  | .hbm, ⟨77, _⟩ => ⟨S_, .f32⟩
  | .hbm, ⟨78, _⟩ => ⟨S1024, .f32⟩
  | .hbm, ⟨79, _⟩ => ⟨S_, .f32⟩
  | .hbm, ⟨80, _⟩ => ⟨S2051x1024, .f32⟩
  | .hbm, ⟨81, _⟩ => ⟨S2051x1024, .f32⟩
  | .hbm, ⟨82, _⟩ => ⟨S1x1024, .f32⟩
  | .hbm, ⟨83, _⟩ => ⟨S_, .f32⟩
  | .hbm, ⟨84, _⟩ => ⟨S4x1024, .f32⟩
  | .hbm, ⟨85, _⟩ => ⟨S4x1024, .f32⟩
  | .hbm, ⟨86, _⟩ => ⟨S2048x1024, .f32⟩
  | .hbm, ⟨87, _⟩ => ⟨S2048x1024, .f32⟩
  | .hbm, ⟨88, _⟩ => ⟨S2048x1024, .f32⟩
  | .hbm, ⟨89, _⟩ => ⟨S_, .f32⟩
  | .hbm, ⟨90, _⟩ => ⟨S1024, .f32⟩
  | .hbm, ⟨91, _⟩ => ⟨S1x1024, .f32⟩
  | .hbm, ⟨92, _⟩ => ⟨S_, .f32⟩
  | .hbm, ⟨93, _⟩ => ⟨S1024, .f32⟩
  | .hbm, ⟨94, _⟩ => ⟨S_, .f32⟩
  | .hbm, ⟨95, _⟩ => ⟨S2051x1024, .f32⟩
  | .hbm, ⟨96, _⟩ => ⟨S2051x1024, .f32⟩
  | .hbm, ⟨97, _⟩ => ⟨S1x1024, .f32⟩
  | .hbm, ⟨98, _⟩ => ⟨S_, .f32⟩
  | .hbm, ⟨99, _⟩ => ⟨S4x1024, .f32⟩
  | .hbm, ⟨100, _⟩ => ⟨S4x1024, .f32⟩
  | .hbm, ⟨101, _⟩ => ⟨S2048x1024, .f32⟩
  | .hbm, ⟨102, _⟩ => ⟨S2048x1024, .f32⟩
  | .hbm, ⟨103, _⟩ => ⟨S2048x1024, .f32⟩
  | .hbm, ⟨104, _⟩ => ⟨S_, .f32⟩
  | .hbm, ⟨105, _⟩ => ⟨S1024, .f32⟩
  | .hbm, ⟨106, _⟩ => ⟨S1x1024, .f32⟩
  | .hbm, ⟨107, _⟩ => ⟨S_, .f32⟩
  | .hbm, ⟨108, _⟩ => ⟨S1024, .f32⟩
  | .hbm, ⟨109, _⟩ => ⟨S_, .f32⟩
  | .hbm, ⟨110, _⟩ => ⟨S2051x1024, .f32⟩
  | .hbm, ⟨111, _⟩ => ⟨S2051x1024, .f32⟩
  | .hbm, ⟨112, _⟩ => ⟨S1x1024, .f32⟩
  | .hbm, ⟨113, _⟩ => ⟨S_, .f32⟩
  | .hbm, ⟨114, _⟩ => ⟨S4x1024, .f32⟩
  | .hbm, ⟨115, _⟩ => ⟨S4x1024, .f32⟩
  | .hbm, ⟨116, _⟩ => ⟨S3x1024, .f32⟩
  | .hbm, ⟨117, _⟩ => ⟨S2048x1024, .f32⟩
  | .hbm, ⟨118, _⟩ => ⟨S2048x1024, .f32⟩
  | .hbm, ⟨119, _⟩ => ⟨S2048x2048, .f32⟩
  | .hbm, ⟨120, _⟩ => ⟨S2048x4096, .f32⟩
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_call0_v0 : Ref sig .tc := ⟨.hbm, 41, rfl⟩
abbrev main_call0_v1 : Ref sig .tc := ⟨.hbm, 42, rfl⟩
abbrev main_call0_cst : Ref sig .tc := ⟨.hbm, 43, rfl⟩
abbrev main_call0_v2 : Ref sig .tc := ⟨.hbm, 44, rfl⟩
abbrev main_call0_v3 : Ref sig .tc := ⟨.hbm, 45, rfl⟩
abbrev main_call0_cst_0 : Ref sig .tc := ⟨.hbm, 46, rfl⟩
abbrev main_call0_v4 : Ref sig .tc := ⟨.hbm, 47, rfl⟩
abbrev main_v34_2 : Ref sig .tc := ⟨.hbm, 48, rfl⟩
abbrev main_call0_cst_1 : Ref sig .tc := ⟨.hbm, 49, rfl⟩
abbrev main_call0_v6 : Ref sig .tc := ⟨.hbm, 50, rfl⟩
abbrev main_call0_v7 : Ref sig .tc := ⟨.hbm, 51, rfl⟩
abbrev main_v34_1 : Ref sig .tc := ⟨.hbm, 52, rfl⟩
abbrev main_v34_0 : Ref sig .tc := ⟨.hbm, 53, rfl⟩
abbrev main_call1_v0 : Ref sig .tc := ⟨.hbm, 54, rfl⟩
abbrev main_call1_v1 : Ref sig .tc := ⟨.hbm, 55, rfl⟩
abbrev main_call1_v2 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_cst_2 : Ref sig .tc := ⟨.hbm, 61, rfl⟩
abbrev main_v39 : Ref sig .tc := ⟨.hbm, 62, rfl⟩
abbrev main_v40 : Ref sig .tc := ⟨.hbm, 63, rfl⟩
abbrev main_cst_3 : Ref sig .tc := ⟨.hbm, 64, rfl⟩
abbrev main_v41 : Ref sig .tc := ⟨.hbm, 65, rfl⟩
abbrev main_cst_4 : Ref sig .tc := ⟨.hbm, 66, rfl⟩
abbrev main_v42 : Ref sig .tc := ⟨.hbm, 67, rfl⟩
abbrev main_v43 : Ref sig .tc := ⟨.hbm, 68, rfl⟩
abbrev main_cst_5 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_cst_6 : Ref sig .tc := ⟨.hbm, 74, rfl⟩
abbrev main_v48 : Ref sig .tc := ⟨.hbm, 75, rfl⟩
abbrev main_v49 : Ref sig .tc := ⟨.hbm, 76, rfl⟩
abbrev main_cst_7 : Ref sig .tc := ⟨.hbm, 77, rfl⟩
abbrev main_v50 : Ref sig .tc := ⟨.hbm, 78, rfl⟩
abbrev main_cst_8 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_cst_9 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_cst_10 : Ref sig .tc := ⟨.hbm, 89, rfl⟩
abbrev main_v59 : Ref sig .tc := ⟨.hbm, 90, rfl⟩
abbrev main_v60 : Ref sig .tc := ⟨.hbm, 91, rfl⟩
abbrev main_cst_11 : Ref sig .tc := ⟨.hbm, 92, rfl⟩
abbrev main_v61 : Ref sig .tc := ⟨.hbm, 93, rfl⟩
abbrev main_cst_12 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_cst_13 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_cst_14 : Ref sig .tc := ⟨.hbm, 104, rfl⟩
abbrev main_v70 : Ref sig .tc := ⟨.hbm, 105, rfl⟩
abbrev main_v71 : Ref sig .tc := ⟨.hbm, 106, rfl⟩
abbrev main_cst_15 : Ref sig .tc := ⟨.hbm, 107, rfl⟩
abbrev main_v72 : Ref sig .tc := ⟨.hbm, 108, rfl⟩
abbrev main_cst_16 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_cst_17 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩

abbrev nD : Nat := 1
abbrev τ : Topo := Topo.v7x

variable {F : FTy → Type} [FloatOps F]
-- ==== Kernel22.lean ====
abbrev S2048x4096 : Shape := ⟨2, ![2048, 4096]⟩
abbrev S4x3072 : Shape := ⟨2, ![4, 3072]⟩
abbrev S2048x1024 : Shape := ⟨2, ![2048, 1024]⟩
abbrev S4x1024 : Shape := ⟨2, ![4, 1024]⟩
abbrev S2048x128 : Shape := ⟨2, ![2048, 128]⟩
abbrev S4x128 : Shape := ⟨2, ![4, 128]⟩
abbrev S32x128 : Shape := ⟨2, ![32, 128]⟩
abbrev S2080x128 : Shape := ⟨2, ![2080, 128]⟩
abbrev S1x128 : Shape := ⟨2, ![1, 128]⟩
abbrev S128 : Shape := ⟨1, ![128]⟩

abbrev nBuf : Space → Nat
  | .hbm => 6
  | .vmem => 10
  | .smem => 0
  | _ => 0

abbrev bufTy : (tb : Table) → Fin (tcTables nBuf tb) → BufTy
  | .hbm, ⟨0, _⟩ => ⟨S2048x4096, .f32⟩
  | .hbm, ⟨1, _⟩ => ⟨S4x3072, .f32⟩
  | .hbm, ⟨2, _⟩ => ⟨S2048x1024, .f32⟩
  | .hbm, ⟨3, _⟩ => ⟨S2048x4096, .f32⟩
  | .hbm, ⟨4, _⟩ => ⟨S2048x4096, .f32⟩
  | .hbm, ⟨5, _⟩ => ⟨S4x1024, .f32⟩
  | .local _ .vmem, ⟨0, _⟩ => ⟨S2048x128, .f32⟩
  | .local _ .vmem, ⟨1, _⟩ => ⟨S2048x128, .f32⟩
  | .local _ .vmem, ⟨2, _⟩ => ⟨S4x128, .f32⟩
  | .local _ .vmem, ⟨3, _⟩ => ⟨S4x128, .f32⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | .local _ .vmem, ⟨7, _⟩ => ⟨S2048x128, .f32⟩
  | .local _ .vmem, ⟨8, _⟩ => ⟨S4x128, .f32⟩
  | .local _ .vmem, ⟨9, _⟩ => ⟨S4x128, .f32⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c16_i32 : BitVec 32 := 16#32
  let v0 : BitVec 32 := Scalar.addi arg0 c16_i32
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c16_i32 : BitVec 32 := 16#32
  let v0 : BitVec 32 := Scalar.addi arg0 c16_i32
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_4 (i : grid0.Coords) : Fin 2 → Nat :=
  let arg0 : BitVec 32 := BitVec.ofNat 32 (i 0).val
  let c16_i32 : BitVec 32 := 16#32
  let v0 : BitVec 32 := Scalar.addi arg0 c16_i32
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference22Ideal.lean ====
abbrev S2048x4096 : Shape := ⟨2, ![2048, 4096]⟩
abbrev S4x3072 : Shape := ⟨2, ![4, 3072]⟩
abbrev S2048x1024 : Shape := ⟨2, ![2048, 1024]⟩
abbrev S4x1024 : Shape := ⟨2, ![4, 1024]⟩
abbrev S_ : Shape := ⟨0, ![]⟩
abbrev S3x1024 : Shape := ⟨2, ![3, 1024]⟩
abbrev S2051x1024 : Shape := ⟨2, ![2051, 1024]⟩
abbrev S1x1024 : Shape := ⟨2, ![1, 1024]⟩
abbrev S1024 : Shape := ⟨1, ![1024]⟩
abbrev S2048x2048 : Shape := ⟨2, ![2048, 2048]⟩

abbrev nBuf : Space → Nat
  | .hbm => 121
  | .vmem => 0
  | .smem => 0
  | _ => 0

abbrev bufTy : (tb : Table) → Fin (tcTables nBuf tb) → BufTy
  | .hbm, ⟨0, _⟩ => ⟨S2048x4096, .f32⟩
  | .hbm, ⟨1, _⟩ => ⟨S4x3072, .f32⟩
  | .hbm, ⟨2, _⟩ => ⟨S2048x1024, .f32⟩
  | .hbm, ⟨3, _⟩ => ⟨S2048x4096, .f32⟩
  | .hbm, ⟨4, _⟩ => ⟨S2048x1024, .f32⟩
  | .hbm, ⟨5, _⟩ => ⟨S4x1024, .f32⟩
  | .hbm, ⟨6, _⟩ => ⟨S_, .f32⟩
  | .hbm, ⟨7, _⟩ => ⟨S3x1024, .f32⟩
  | .hbm, ⟨8, _⟩ => ⟨S2051x1024, .f32⟩
  | .hbm, ⟨9, _⟩ => ⟨S_, .f32⟩
  | .hbm, ⟨10, _⟩ => ⟨S3x1024, .f32⟩
  | .hbm, ⟨11, _⟩ => ⟨S1x1024, .f32⟩
  | .hbm, ⟨12, _⟩ => ⟨S1024, .f32⟩
  | .hbm, ⟨13, _⟩ => ⟨S2048x1024, .f32⟩
  | .hbm, ⟨14, _⟩ => ⟨S1x1024, .f32⟩
  | .hbm, ⟨15, _⟩ => ⟨S2048x1024, .f32⟩
  | .hbm, ⟨16, _⟩ => ⟨S2048x1024, .f32⟩
  | .hbm, ⟨17, _⟩ => ⟨S_, .f32⟩
  | .hbm, ⟨18, _⟩ => ⟨S2048x1024, .f32⟩
  | .hbm, ⟨19, _⟩ => ⟨S2048x1024, .f32⟩
  | .hbm, ⟨20, _⟩ => ⟨S1x1024, .f32⟩
  | .hbm, ⟨21, _⟩ => ⟨S1024, .f32⟩
  | .hbm, ⟨22, _⟩ => ⟨S2048x1024, .f32⟩
  | .hbm, ⟨23, _⟩ => ⟨S1x1024, .f32⟩
  | .hbm, ⟨24, _⟩ => ⟨S2048x1024, .f32⟩
  | .hbm, ⟨25, _⟩ => ⟨S2048x1024, .f32⟩
  | .hbm, ⟨26, _⟩ => ⟨S2048x1024, .f32⟩
  | .hbm, ⟨27, _⟩ => ⟨S1x1024, .f32⟩
  | .hbm, ⟨28, _⟩ => ⟨S1024, .f32⟩
  | .hbm, ⟨29, _⟩ => ⟨S2048x1024, .f32⟩
  | .hbm, ⟨30, _⟩ => ⟨S1x1024, .f32⟩
  | .hbm, ⟨31, _⟩ => ⟨S2048x1024, .f32⟩
  | .hbm, ⟨32, _⟩ => ⟨S2048x1024, .f32⟩
  | .hbm, ⟨33, _⟩ => ⟨S2048x1024, .f32⟩
  | .hbm, ⟨34, _⟩ => ⟨S1x1024, .f32⟩
  | .hbm, ⟨35, _⟩ => ⟨S1024, .f32⟩
  | .hbm, ⟨36, _⟩ => ⟨S2048x1024, .f32⟩
  | .hbm, ⟨37, _⟩ => ⟨S1x1024, .f32⟩
  | .hbm, ⟨38, _⟩ => ⟨S2048x1024, .f32⟩
  | .hbm, ⟨39, _⟩ => ⟨S2048x1024, .f32⟩
  | .hbm, ⟨40, _⟩ => ⟨S2048x1024, .f32⟩
  | .hbm, ⟨41, _⟩ => ⟨S2048x1024, .f32⟩
  | .hbm, ⟨42, _⟩ => ⟨S2048x1024, .f32⟩
  | .hbm, ⟨43, _⟩ => ⟨S_, .f32⟩
  | .hbm, ⟨44, _⟩ => ⟨S2048x1024, .f32⟩
  | .hbm, ⟨45, _⟩ => ⟨S2048x1024, .f32⟩
  | .hbm, ⟨46, _⟩ => ⟨S_, .f32⟩
  | .hbm, ⟨47, _⟩ => ⟨S2048x1024, .f32⟩
  | .hbm, ⟨48, _⟩ => ⟨S2048x1024, .f32⟩
  | .hbm, ⟨49, _⟩ => ⟨S_, .f32⟩
  | .hbm, ⟨50, _⟩ => ⟨S2048x1024, .f32⟩
  | .hbm, ⟨51, _⟩ => ⟨S2048x1024, .f32⟩
  | .hbm, ⟨52, _⟩ => ⟨S2048x1024, .f32⟩
  | .hbm, ⟨53, _⟩ => ⟨S2048x1024, .f32⟩
  | .hbm, ⟨54, _⟩ => ⟨S2048x1024, .f32⟩
  | .hbm, ⟨55, _⟩ => ⟨S2048x1024, .f32⟩
  | .hbm, ⟨56, _⟩ => ⟨S2048x1024, .f32⟩
  | .hbm, ⟨57, _⟩ => ⟨S2048x1024, .f32⟩
  | .hbm, ⟨58, _⟩ => ⟨S2048x1024, .f32⟩
  | .hbm, ⟨59, _⟩ => ⟨S2048x1024, .f32⟩
  | .hbm, ⟨60, _⟩ => ⟨S2048x1024, .f32⟩
  | .hbm, ⟨61, _⟩ => ⟨S_, .f32⟩
  | .hbm, ⟨62, _⟩ => ⟨S1024, .f32⟩
  | .hbm, ⟨63, _⟩ => ⟨S1x1024, .f32⟩
  | .hbm, ⟨64, _⟩ => ⟨S_, .f32⟩
  | .hbm, ⟨65, _⟩ => ⟨S1024, .f32⟩
  | .hbm, ⟨66, _⟩ => ⟨S_, .f32⟩
  | .hbm, ⟨67, _⟩ => ⟨S2051x1024, .f32⟩
  | .hbm, ⟨68, _⟩ => ⟨S1x1024, .f32⟩
  | .hbm, ⟨69, _⟩ => ⟨S_, .f32⟩
  | .hbm, ⟨70, _⟩ => ⟨S4x1024, .f32⟩
  | .hbm, ⟨71, _⟩ => ⟨S2048x1024, .f32⟩
  | .hbm, ⟨72, _⟩ => ⟨S2048x1024, .f32⟩
  | .hbm, ⟨73, _⟩ => ⟨S2048x1024, .f32⟩
  | .hbm, ⟨74, _⟩ => ⟨S_, .f32⟩
  | .hbm, ⟨75, _⟩ => ⟨S1024, .f32⟩
  | .hbm, ⟨76, _⟩ => ⟨S1x1024, .f32⟩
  | .hbm, ⟨77, _⟩ => ⟨S_, .f32⟩
  | .hbm, ⟨78, _⟩ => ⟨S1024, .f32⟩
  | .hbm, ⟨79, _⟩ => ⟨S_, .f32⟩
  | .hbm, ⟨80, _⟩ => ⟨S2051x1024, .f32⟩
  | .hbm, ⟨81, _⟩ => ⟨S2051x1024, .f32⟩
  | .hbm, ⟨82, _⟩ => ⟨S1x1024, .f32⟩
  | .hbm, ⟨83, _⟩ => ⟨S_, .f32⟩
  | .hbm, ⟨84, _⟩ => ⟨S4x1024, .f32⟩
  | .hbm, ⟨85, _⟩ => ⟨S4x1024, .f32⟩
  | .hbm, ⟨86, _⟩ => ⟨S2048x1024, .f32⟩
  | .hbm, ⟨87, _⟩ => ⟨S2048x1024, .f32⟩
  | .hbm, ⟨88, _⟩ => ⟨S2048x1024, .f32⟩
  | .hbm, ⟨89, _⟩ => ⟨S_, .f32⟩
  | .hbm, ⟨90, _⟩ => ⟨S1024, .f32⟩
  | .hbm, ⟨91, _⟩ => ⟨S1x1024, .f32⟩
  | .hbm, ⟨92, _⟩ => ⟨S_, .f32⟩
  | .hbm, ⟨93, _⟩ => ⟨S1024, .f32⟩
  | .hbm, ⟨94, _⟩ => ⟨S_, .f32⟩
  | .hbm, ⟨95, _⟩ => ⟨S2051x1024, .f32⟩
  | .hbm, ⟨96, _⟩ => ⟨S2051x1024, .f32⟩
  | .hbm, ⟨97, _⟩ => ⟨S1x1024, .f32⟩
  | .hbm, ⟨98, _⟩ => ⟨S_, .f32⟩
  | .hbm, ⟨99, _⟩ => ⟨S4x1024, .f32⟩
  | .hbm, ⟨100, _⟩ => ⟨S4x1024, .f32⟩
  | .hbm, ⟨101, _⟩ => ⟨S2048x1024, .f32⟩
  | .hbm, ⟨102, _⟩ => ⟨S2048x1024, .f32⟩
  | .hbm, ⟨103, _⟩ => ⟨S2048x1024, .f32⟩
  | .hbm, ⟨104, _⟩ => ⟨S_, .f32⟩
  | .hbm, ⟨105, _⟩ => ⟨S1024, .f32⟩
  | .hbm, ⟨106, _⟩ => ⟨S1x1024, .f32⟩
  | .hbm, ⟨107, _⟩ => ⟨S_, .f32⟩
  | .hbm, ⟨108, _⟩ => ⟨S1024, .f32⟩
  | .hbm, ⟨109, _⟩ => ⟨S_, .f32⟩
  | .hbm, ⟨110, _⟩ => ⟨S2051x1024, .f32⟩
  | .hbm, ⟨111, _⟩ => ⟨S2051x1024, .f32⟩
  | .hbm, ⟨112, _⟩ => ⟨S1x1024, .f32⟩
  | .hbm, ⟨113, _⟩ => ⟨S_, .f32⟩
  | .hbm, ⟨114, _⟩ => ⟨S4x1024, .f32⟩
  | .hbm, ⟨115, _⟩ => ⟨S4x1024, .f32⟩
  | .hbm, ⟨116, _⟩ => ⟨S3x1024, .f32⟩
  | .hbm, ⟨117, _⟩ => ⟨S2048x1024, .f32⟩
  | .hbm, ⟨118, _⟩ => ⟨S2048x2048, .f32⟩
  | .hbm, ⟨119, _⟩ => ⟨S2048x1024, .f32⟩
  | .hbm, ⟨120, _⟩ => ⟨S2048x4096, .f32⟩
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_call0_v0 : Ref sig .tc := ⟨.hbm, 41, rfl⟩
abbrev main_call0_v1 : Ref sig .tc := ⟨.hbm, 42, rfl⟩
abbrev main_call0_cst : Ref sig .tc := ⟨.hbm, 43, rfl⟩
abbrev main_call0_v2 : Ref sig .tc := ⟨.hbm, 44, rfl⟩
abbrev main_call0_v3 : Ref sig .tc := ⟨.hbm, 45, rfl⟩
abbrev main_call0_cst_0 : Ref sig .tc := ⟨.hbm, 46, rfl⟩
abbrev main_call0_v4 : Ref sig .tc := ⟨.hbm, 47, rfl⟩
abbrev main_v34_2 : Ref sig .tc := ⟨.hbm, 48, rfl⟩
abbrev main_call0_cst_1 : Ref sig .tc := ⟨.hbm, 49, rfl⟩
abbrev main_call0_v6 : Ref sig .tc := ⟨.hbm, 50, rfl⟩
abbrev main_call0_v7 : Ref sig .tc := ⟨.hbm, 51, rfl⟩
abbrev main_v34_1 : Ref sig .tc := ⟨.hbm, 52, rfl⟩
abbrev main_v34_0 : Ref sig .tc := ⟨.hbm, 53, rfl⟩
abbrev main_call1_v0 : Ref sig .tc := ⟨.hbm, 54, rfl⟩
abbrev main_call1_v1 : Ref sig .tc := ⟨.hbm, 55, rfl⟩
abbrev main_call1_v2 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_cst_2 : Ref sig .tc := ⟨.hbm, 61, rfl⟩
abbrev main_v39 : Ref sig .tc := ⟨.hbm, 62, rfl⟩
abbrev main_v40 : Ref sig .tc := ⟨.hbm, 63, rfl⟩
abbrev main_cst_3 : Ref sig .tc := ⟨.hbm, 64, rfl⟩
abbrev main_v41 : Ref sig .tc := ⟨.hbm, 65, rfl⟩
abbrev main_cst_4 : Ref sig .tc := ⟨.hbm, 66, rfl⟩
abbrev main_v42 : Ref sig .tc := ⟨.hbm, 67, rfl⟩
abbrev main_v43 : Ref sig .tc := ⟨.hbm, 68, rfl⟩
abbrev main_cst_5 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_cst_6 : Ref sig .tc := ⟨.hbm, 74, rfl⟩
abbrev main_v48 : Ref sig .tc := ⟨.hbm, 75, rfl⟩
abbrev main_v49 : Ref sig .tc := ⟨.hbm, 76, rfl⟩
abbrev main_cst_7 : Ref sig .tc := ⟨.hbm, 77, rfl⟩
abbrev main_v50 : Ref sig .tc := ⟨.hbm, 78, rfl⟩
abbrev main_cst_8 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_cst_9 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_cst_10 : Ref sig .tc := ⟨.hbm, 89, rfl⟩
abbrev main_v59 : Ref sig .tc := ⟨.hbm, 90, rfl⟩
abbrev main_v60 : Ref sig .tc := ⟨.hbm, 91, rfl⟩
abbrev main_cst_11 : Ref sig .tc := ⟨.hbm, 92, rfl⟩
abbrev main_v61 : Ref sig .tc := ⟨.hbm, 93, rfl⟩
abbrev main_cst_12 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_cst_13 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_cst_14 : Ref sig .tc := ⟨.hbm, 104, rfl⟩
abbrev main_v70 : Ref sig .tc := ⟨.hbm, 105, rfl⟩
abbrev main_v71 : Ref sig .tc := ⟨.hbm, 106, rfl⟩
abbrev main_cst_15 : Ref sig .tc := ⟨.hbm, 107, rfl⟩
abbrev main_v72 : Ref sig .tc := ⟨.hbm, 108, rfl⟩
abbrev main_cst_16 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_cst_17 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩

abbrev nD : Nat := 1
abbrev τ : Topo := Topo.v7x

variable {F : FTy → Type} [FloatOps F]
-- ==== Kernel23.lean ====
abbrev S2048x4096 : Shape := ⟨2, ![2048, 4096]⟩
abbrev S4x3072 : Shape := ⟨2, ![4, 3072]⟩
abbrev S2048x3072 : Shape := ⟨2, ![2048, 3072]⟩
abbrev S2048x128 : Shape := ⟨2, ![2048, 128]⟩
abbrev S4x128 : Shape := ⟨2, ![4, 128]⟩
abbrev S32x128 : Shape := ⟨2, ![32, 128]⟩
abbrev S2080x128 : Shape := ⟨2, ![2080, 128]⟩
abbrev S1x128 : Shape := ⟨2, ![1, 128]⟩

abbrev nBuf : Space → Nat
  | .hbm => 3
  | .vmem => 6
  | .smem => 0
  | _ => 0

abbrev bufTy : (tb : Table) → Fin (tcTables nBuf tb) → BufTy
  | .hbm, ⟨0, _⟩ => ⟨S2048x4096, .f32⟩
  | .hbm, ⟨1, _⟩ => ⟨S4x3072, .f32⟩
  | .hbm, ⟨2, _⟩ => ⟨S2048x3072, .f32⟩
  | .local _ .vmem, ⟨0, _⟩ => ⟨S2048x128, .f32⟩
  | .local _ .vmem, ⟨1, _⟩ => ⟨S2048x128, .f32⟩
  | .local _ .vmem, ⟨2, _⟩ => ⟨S4x128, .f32⟩
  | .local _ .vmem, ⟨3, _⟩ => ⟨S4x128, .f32⟩
  | .local _ .vmem, ⟨4, _⟩ => ⟨S2048x128, .f32⟩
  | .local _ .vmem, ⟨5, _⟩ => ⟨S2048x128, .f32⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![24], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference23Ideal.lean ====
abbrev S2048x4096 : Shape := ⟨2, ![2048, 4096]⟩
abbrev S4x3072 : Shape := ⟨2, ![4, 3072]⟩
abbrev S2048x3072 : Shape := ⟨2, ![2048, 3072]⟩
abbrev S_ : Shape := ⟨0, ![]⟩
abbrev S3x3072 : Shape := ⟨2, ![3, 3072]⟩
abbrev S2051x3072 : Shape := ⟨2, ![2051, 3072]⟩
abbrev S1x3072 : Shape := ⟨2, ![1, 3072]⟩
abbrev S3072 : Shape := ⟨1, ![3072]⟩

abbrev nBuf : Space → Nat
  | .hbm => 45
  | .vmem => 0
  | .smem => 0
  | _ => 0

abbrev bufTy : (tb : Table) → Fin (tcTables nBuf tb) → BufTy
  | .hbm, ⟨0, _⟩ => ⟨S2048x4096, .f32⟩
  | .hbm, ⟨1, _⟩ => ⟨S4x3072, .f32⟩
  | .hbm, ⟨2, _⟩ => ⟨S2048x3072, .f32⟩
  | .hbm, ⟨3, _⟩ => ⟨S_, .f32⟩
  | .hbm, ⟨4, _⟩ => ⟨S3x3072, .f32⟩
  | .hbm, ⟨5, _⟩ => ⟨S2051x3072, .f32⟩
  | .hbm, ⟨6, _⟩ => ⟨S1x3072, .f32⟩
  | .hbm, ⟨7, _⟩ => ⟨S3072, .f32⟩
  | .hbm, ⟨8, _⟩ => ⟨S2048x3072, .f32⟩
  | .hbm, ⟨9, _⟩ => ⟨S1x3072, .f32⟩
  | .hbm, ⟨10, _⟩ => ⟨S2048x3072, .f32⟩
  | .hbm, ⟨11, _⟩ => ⟨S2048x3072, .f32⟩
  | .hbm, ⟨12, _⟩ => ⟨S_, .f32⟩
  | .hbm, ⟨13, _⟩ => ⟨S2048x3072, .f32⟩
  | .hbm, ⟨14, _⟩ => ⟨S2048x3072, .f32⟩
  | .hbm, ⟨15, _⟩ => ⟨S1x3072, .f32⟩
  | .hbm, ⟨16, _⟩ => ⟨S3072, .f32⟩
  | .hbm, ⟨17, _⟩ => ⟨S2048x3072, .f32⟩
  | .hbm, ⟨18, _⟩ => ⟨S1x3072, .f32⟩
  | .hbm, ⟨19, _⟩ => ⟨S2048x3072, .f32⟩
  | .hbm, ⟨20, _⟩ => ⟨S2048x3072, .f32⟩
  | .hbm, ⟨21, _⟩ => ⟨S2048x3072, .f32⟩
  | .hbm, ⟨22, _⟩ => ⟨S1x3072, .f32⟩
  | .hbm, ⟨23, _⟩ => ⟨S3072, .f32⟩
  | .hbm, ⟨24, _⟩ => ⟨S2048x3072, .f32⟩
  | .hbm, ⟨25, _⟩ => ⟨S1x3072, .f32⟩
  | .hbm, ⟨26, _⟩ => ⟨S2048x3072, .f32⟩
  | .hbm, ⟨27, _⟩ => ⟨S2048x3072, .f32⟩
  | .hbm, ⟨28, _⟩ => ⟨S2048x3072, .f32⟩
  | .hbm, ⟨29, _⟩ => ⟨S1x3072, .f32⟩
  | .hbm, ⟨30, _⟩ => ⟨S3072, .f32⟩
  | .hbm, ⟨31, _⟩ => ⟨S2048x3072, .f32⟩
  | .hbm, ⟨32, _⟩ => ⟨S1x3072, .f32⟩
  | .hbm, ⟨33, _⟩ => ⟨S2048x3072, .f32⟩
  | .hbm, ⟨34, _⟩ => ⟨S2048x3072, .f32⟩
  | .hbm, ⟨35, _⟩ => ⟨S2048x3072, .f32⟩
  | .hbm, ⟨36, _⟩ => ⟨S2048x3072, .f32⟩
  | .hbm, ⟨37, _⟩ => ⟨S2048x3072, .f32⟩
  | .hbm, ⟨38, _⟩ => ⟨S_, .f32⟩
  | .hbm, ⟨39, _⟩ => ⟨S2048x3072, .f32⟩
  | .hbm, ⟨40, _⟩ => ⟨S2048x3072, .f32⟩
  | .hbm, ⟨41, _⟩ => ⟨S_, .f32⟩
  | .hbm, ⟨42, _⟩ => ⟨S2048x3072, .f32⟩
  | .hbm, ⟨43, _⟩ => ⟨S2048x3072, .f32⟩
  | .hbm, ⟨44, _⟩ => ⟨S2048x3072, .f32⟩
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_call0_v0 : Ref sig .tc := ⟨.hbm, 36, rfl⟩
abbrev main_call0_v1 : Ref sig .tc := ⟨.hbm, 37, rfl⟩
abbrev main_call0_cst : Ref sig .tc := ⟨.hbm, 38, rfl⟩
abbrev main_call0_v2 : Ref sig .tc := ⟨.hbm, 39, rfl⟩
abbrev main_call0_v3 : Ref sig .tc := ⟨.hbm, 40, rfl⟩
abbrev main_call0_cst_0 : Ref sig .tc := ⟨.hbm, 41, rfl⟩
abbrev main_call0_v4 : Ref sig .tc := ⟨.hbm, 42, rfl⟩
abbrev main_call0_v5 : Ref sig .tc := ⟨.hbm, 43, rfl⟩
abbrev main_v32 : Ref sig .tc := ⟨.hbm, 44, rfl⟩

abbrev nD : Nat := 1
abbrev τ : Topo := Topo.v7x

variable {F : FTy → Type} [FloatOps F]
-- ==== Kernel24.lean ====
abbrev S16x1024 : Shape := ⟨2, ![16, 1024]⟩
abbrev S16x1536 : Shape := ⟨2, ![16, 1536]⟩
abbrev S4x1024x1536 : Shape := ⟨3, ![4, 1024, 1536]⟩
abbrev S16x768 : Shape := ⟨2, ![16, 768]⟩
abbrev S1x1024x768 : Shape := ⟨3, ![1, 1024, 768]⟩
abbrev S1024x768 : Shape := ⟨2, ![1024, 768]⟩

abbrev nBuf : Space → Nat
  | .hbm => 4
  | .vmem => 5
  | .smem => 0
  | _ => 0

abbrev bufTy : (tb : Table) → Fin (tcTables nBuf tb) → BufTy
  | .hbm, ⟨0, _⟩ => ⟨S16x1024, .f32⟩
  | .hbm, ⟨1, _⟩ => ⟨S16x1536, .f32⟩
  | .hbm, ⟨2, _⟩ => ⟨S4x1024x1536, .f32⟩
  | .hbm, ⟨3, _⟩ => ⟨S4x1024x1536, .f32⟩
  | .local _ .vmem, ⟨0, _⟩ => ⟨S16x1024, .f32⟩
  | .local _ .vmem, ⟨1, _⟩ => ⟨S16x768, .f32⟩
  | .local _ .vmem, ⟨2, _⟩ => ⟨S16x768, .f32⟩
  | .local _ .vmem, ⟨3, _⟩ => ⟨S1x1024x768, .f32⟩
  | .local _ .vmem, ⟨4, _⟩ => ⟨S1x1024x768, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![c1_i32.toNat, arg0.toNat, arg1.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S16x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference24Ideal.lean ====
abbrev S16x1024 : Shape := ⟨2, ![16, 1024]⟩
abbrev S16x1536 : Shape := ⟨2, ![16, 1536]⟩
abbrev S4x1024x1536 : Shape := ⟨3, ![4, 1024, 1536]⟩
abbrev S1x1024x1536 : Shape := ⟨3, ![1, 1024, 1536]⟩
abbrev S1024x1536 : Shape := ⟨2, ![1024, 1536]⟩
abbrev S_ : Shape := ⟨0, ![]⟩
abbrev S1536x1024 : Shape := ⟨2, ![1536, 1024]⟩
abbrev S2x1024x1536 : Shape := ⟨3, ![2, 1024, 1536]⟩

abbrev nBuf : Space → Nat
  | .hbm => 21
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S16x1536, .f32⟩
  | .hbm, ⟨2, _⟩ => ⟨S4x1024x1536, .f32⟩
  | .hbm, ⟨3, _⟩ => ⟨S1x1024x1536, .f32⟩
  | .hbm, ⟨4, _⟩ => ⟨S1024x1536, .f32⟩
  | .hbm, ⟨5, _⟩ => ⟨S16x1024, .f32⟩
  | .hbm, ⟨6, _⟩ => ⟨S16x1024, .f32⟩
  | .hbm, ⟨7, _⟩ => ⟨S_, .f32⟩
  | .hbm, ⟨8, _⟩ => ⟨S16x1024, .f32⟩
  | .hbm, ⟨9, _⟩ => ⟨S16x1024, .f32⟩
  | .hbm, ⟨10, _⟩ => ⟨S_, .f32⟩
  | .hbm, ⟨11, _⟩ => ⟨S16x1024, .f32⟩
  | .hbm, ⟨12, _⟩ => ⟨S16x1024, .f32⟩
  | .hbm, ⟨13, _⟩ => ⟨S16x1024, .f32⟩
  | .hbm, ⟨14, _⟩ => ⟨S16x1536, .f32⟩
  | .hbm, ⟨15, _⟩ => ⟨S1536x1024, .f32⟩
  | .hbm, ⟨16, _⟩ => ⟨S1024x1536, .f32⟩
  | .hbm, ⟨17, _⟩ => ⟨S1x1024x1536, .f32⟩
  | .hbm, ⟨18, _⟩ => ⟨S1x1024x1536, .f32⟩
  | .hbm, ⟨19, _⟩ => ⟨S2x1024x1536, .f32⟩
  | .hbm, ⟨20, _⟩ => ⟨S4x1024x1536, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩

abbrev nD : Nat := 1
abbrev τ : Topo := Topo.v7x

variable {F : FTy → Type} [FloatOps F]
-- ==== Kernel25.lean ====
abbrev S16x1024 : Shape := ⟨2, ![16, 1024]⟩
abbrev S4x1024x1536 : Shape := ⟨3, ![4, 1024, 1536]⟩
abbrev S16x1536 : Shape := ⟨2, ![16, 1536]⟩
abbrev S1x1024x768 : Shape := ⟨3, ![1, 1024, 768]⟩
abbrev S16x768 : Shape := ⟨2, ![16, 768]⟩
abbrev S1024x768 : Shape := ⟨2, ![1024, 768]⟩

abbrev nBuf : Space → Nat
  | .hbm => 3
  | .vmem => 5
  | .smem => 0
  | _ => 0

abbrev bufTy : (tb : Table) → Fin (tcTables nBuf tb) → BufTy
  | .hbm, ⟨0, _⟩ => ⟨S16x1024, .f32⟩
  | .hbm, ⟨1, _⟩ => ⟨S4x1024x1536, .f32⟩
  | .hbm, ⟨2, _⟩ => ⟨S16x1536, .f32⟩
  | .local _ .vmem, ⟨0, _⟩ => ⟨S16x1024, .f32⟩
  | .local _ .vmem, ⟨1, _⟩ => ⟨S1x1024x768, .f32⟩
  | .local _ .vmem, ⟨2, _⟩ => ⟨S1x1024x768, .f32⟩
  | .local _ .vmem, ⟨3, _⟩ => ⟨S16x768, .f32⟩
  | .local _ .vmem, ⟨4, _⟩ => ⟨S16x768, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![c1_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1x1024x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S16x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference25Ideal.lean ====
abbrev S16x1024 : Shape := ⟨2, ![16, 1024]⟩
abbrev S4x1024x1536 : Shape := ⟨3, ![4, 1024, 1536]⟩
abbrev S_ : Shape := ⟨0, ![]⟩
abbrev S1x1024x1536 : Shape := ⟨3, ![1, 1024, 1536]⟩
abbrev S1024x1536 : Shape := ⟨2, ![1024, 1536]⟩
abbrev S16x1536 : Shape := ⟨2, ![16, 1536]⟩

abbrev nBuf : Space → Nat
  | .hbm => 14
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S4x1024x1536, .f32⟩
  | .hbm, ⟨2, _⟩ => ⟨S16x1024, .f32⟩
  | .hbm, ⟨3, _⟩ => ⟨S16x1024, .f32⟩
  | .hbm, ⟨4, _⟩ => ⟨S_, .f32⟩
  | .hbm, ⟨5, _⟩ => ⟨S16x1024, .f32⟩
  | .hbm, ⟨6, _⟩ => ⟨S16x1024, .f32⟩
  | .hbm, ⟨7, _⟩ => ⟨S_, .f32⟩
  | .hbm, ⟨8, _⟩ => ⟨S16x1024, .f32⟩
  | .hbm, ⟨9, _⟩ => ⟨S16x1024, .f32⟩
  | .hbm, ⟨10, _⟩ => ⟨S16x1024, .f32⟩
  | .hbm, ⟨11, _⟩ => ⟨S1x1024x1536, .f32⟩
  | .hbm, ⟨12, _⟩ => ⟨S1024x1536, .f32⟩
  | .hbm, ⟨13, _⟩ => ⟨S16x1536, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_cst : Ref sig .tc := ⟨.hbm, 4, rfl⟩
abbrev main_call0_v2 : Ref sig .tc := ⟨.hbm, 5, rfl⟩
abbrev main_call0_v3 : Ref sig .tc := ⟨.hbm, 6, rfl⟩
abbrev main_call0_cst_0 : Ref sig .tc := ⟨.hbm, 7, rfl⟩
abbrev main_call0_v4 : Ref sig .tc := ⟨.hbm, 8, rfl⟩
abbrev main_call0_v5 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩

abbrev nD : Nat := 1
abbrev τ : Topo := Topo.v7x

variable {F : FTy → Type} [FloatOps F]
-- ==== Proof.Kst.lean ====
/-
  The values one point of the gradient's kernel computes, each named after the printed body's own name for it:
  `k205 X` is what the body calls `%205` when the ten buffers it reads hold `X`. A load of one head's columns is a
  name too (`k5` … `k12` of the queries). Every name is one payload of the body at the names before it, so a piece
  that the body stores is, by unfolding these names, the payload term of the run.
-/
module

public import proofs.«01_k».proof.Proof.Gen.KernelIdeal.Skeleton
public import Idealize.ShloMosaic.PureOps.Ideal
public import Idealize.ShloMosaic.Lib.Pipeline.FrameBody

@[expose] public section

noncomputable section

namespace Cert.Delta

open Idealize.ShloMosaic Cert.KernelIdeal Cert.KernelIdeal.Gen

/-- What the ten buffers that a point reads hold: the chunk's queries, keys, values, gate inputs, the two gates of each
    head, the norm's weight, the state before the chunk, the saved inverse, the gradient of the chunk's output, and the
    gradient of the state after the chunk. -/
structure KIn where
  q : Vec Ideal S64x1024 .f32
  k : Vec Ideal S64x1024 .f32
  v : Vec Ideal S64x1024 .f32
  z : Vec Ideal S64x1024 .f32
  gates : Vec Ideal S64x128 .f32
  nw : Vec Ideal S1x128 .f32
  st : Vec Ideal S1x8x128x128 .f32
  ti : Vec Ideal S1x8x64x64 .f32
  dog : Vec Ideal S64x1024 .f32
  ds : Vec Ideal S8x128x128 .f32

def k3 (X : KIn) : Vec Ideal S1x8x64x64 .f32 := X.ti
def k5 (X : KIn) : Vec Ideal S64x128 .f32 := View.ld X.q (Rect.unit (s := S64x1024) ![0, 0] S64x128.size inb_S64x1024_S64x128_0_0)
def k6 (X : KIn) : Vec Ideal S64x128 .f32 := View.ld X.q (Rect.unit (s := S64x1024) ![0, 128] S64x128.size inb_S64x1024_S64x128_0_128)
def k7 (X : KIn) : Vec Ideal S64x128 .f32 := View.ld X.q (Rect.unit (s := S64x1024) ![0, 256] S64x128.size inb_S64x1024_S64x128_0_256)
def k8 (X : KIn) : Vec Ideal S64x128 .f32 := View.ld X.q (Rect.unit (s := S64x1024) ![0, 384] S64x128.size inb_S64x1024_S64x128_0_384)
def k9 (X : KIn) : Vec Ideal S64x128 .f32 := View.ld X.q (Rect.unit (s := S64x1024) ![0, 512] S64x128.size inb_S64x1024_S64x128_0_512)
def k10 (X : KIn) : Vec Ideal S64x128 .f32 := View.ld X.q (Rect.unit (s := S64x1024) ![0, 640] S64x128.size inb_S64x1024_S64x128_0_640)
def k11 (X : KIn) : Vec Ideal S64x128 .f32 := View.ld X.q (Rect.unit (s := S64x1024) ![0, 768] S64x128.size inb_S64x1024_S64x128_0_768)
def k12 (X : KIn) : Vec Ideal S64x128 .f32 := View.ld X.q (Rect.unit (s := S64x1024) ![0, 896] S64x128.size inb_S64x1024_S64x128_0_896)
def k22 (X : KIn) : Vec Ideal S64x128 .f32 := View.ld X.k (Rect.unit (s := S64x1024) ![0, 0] S64x128.size inb_S64x1024_S64x128_0_0)
def k23 (X : KIn) : Vec Ideal S64x128 .f32 := View.ld X.k (Rect.unit (s := S64x1024) ![0, 128] S64x128.size inb_S64x1024_S64x128_0_128)
def k24 (X : KIn) : Vec Ideal S64x128 .f32 := View.ld X.k (Rect.unit (s := S64x1024) ![0, 256] S64x128.size inb_S64x1024_S64x128_0_256)
def k25 (X : KIn) : Vec Ideal S64x128 .f32 := View.ld X.k (Rect.unit (s := S64x1024) ![0, 384] S64x128.size inb_S64x1024_S64x128_0_384)
def k26 (X : KIn) : Vec Ideal S64x128 .f32 := View.ld X.k (Rect.unit (s := S64x1024) ![0, 512] S64x128.size inb_S64x1024_S64x128_0_512)
def k27 (X : KIn) : Vec Ideal S64x128 .f32 := View.ld X.k (Rect.unit (s := S64x1024) ![0, 640] S64x128.size inb_S64x1024_S64x128_0_640)
def k28 (X : KIn) : Vec Ideal S64x128 .f32 := View.ld X.k (Rect.unit (s := S64x1024) ![0, 768] S64x128.size inb_S64x1024_S64x128_0_768)
def k29 (X : KIn) : Vec Ideal S64x128 .f32 := View.ld X.k (Rect.unit (s := S64x1024) ![0, 896] S64x128.size inb_S64x1024_S64x128_0_896)
def k39 (X : KIn) : Vec Ideal S64x128 .f32 := View.ld X.v (Rect.unit (s := S64x1024) ![0, 0] S64x128.size inb_S64x1024_S64x128_0_0)
def k40 (X : KIn) : Vec Ideal S64x128 .f32 := View.ld X.v (Rect.unit (s := S64x1024) ![0, 128] S64x128.size inb_S64x1024_S64x128_0_128)
def k41 (X : KIn) : Vec Ideal S64x128 .f32 := View.ld X.v (Rect.unit (s := S64x1024) ![0, 256] S64x128.size inb_S64x1024_S64x128_0_256)
def k42 (X : KIn) : Vec Ideal S64x128 .f32 := View.ld X.v (Rect.unit (s := S64x1024) ![0, 384] S64x128.size inb_S64x1024_S64x128_0_384)
def k43 (X : KIn) : Vec Ideal S64x128 .f32 := View.ld X.v (Rect.unit (s := S64x1024) ![0, 512] S64x128.size inb_S64x1024_S64x128_0_512)
def k44 (X : KIn) : Vec Ideal S64x128 .f32 := View.ld X.v (Rect.unit (s := S64x1024) ![0, 640] S64x128.size inb_S64x1024_S64x128_0_640)
def k45 (X : KIn) : Vec Ideal S64x128 .f32 := View.ld X.v (Rect.unit (s := S64x1024) ![0, 768] S64x128.size inb_S64x1024_S64x128_0_768)
def k46 (X : KIn) : Vec Ideal S64x128 .f32 := View.ld X.v (Rect.unit (s := S64x1024) ![0, 896] S64x128.size inb_S64x1024_S64x128_0_896)
def k56 (X : KIn) : Vec Ideal S64x128 .f32 := View.ld X.z (Rect.unit (s := S64x1024) ![0, 0] S64x128.size inb_S64x1024_S64x128_0_0)
def k57 (X : KIn) : Vec Ideal S64x128 .f32 := View.ld X.z (Rect.unit (s := S64x1024) ![0, 128] S64x128.size inb_S64x1024_S64x128_0_128)
def k58 (X : KIn) : Vec Ideal S64x128 .f32 := View.ld X.z (Rect.unit (s := S64x1024) ![0, 256] S64x128.size inb_S64x1024_S64x128_0_256)
def k59 (X : KIn) : Vec Ideal S64x128 .f32 := View.ld X.z (Rect.unit (s := S64x1024) ![0, 384] S64x128.size inb_S64x1024_S64x128_0_384)
def k60 (X : KIn) : Vec Ideal S64x128 .f32 := View.ld X.z (Rect.unit (s := S64x1024) ![0, 512] S64x128.size inb_S64x1024_S64x128_0_512)
def k61 (X : KIn) : Vec Ideal S64x128 .f32 := View.ld X.z (Rect.unit (s := S64x1024) ![0, 640] S64x128.size inb_S64x1024_S64x128_0_640)
def k62 (X : KIn) : Vec Ideal S64x128 .f32 := View.ld X.z (Rect.unit (s := S64x1024) ![0, 768] S64x128.size inb_S64x1024_S64x128_0_768)
def k63 (X : KIn) : Vec Ideal S64x128 .f32 := View.ld X.z (Rect.unit (s := S64x1024) ![0, 896] S64x128.size inb_S64x1024_S64x128_0_896)
def k73 (X : KIn) : Vec Ideal S64x128 .f32 := X.gates
def k74 (X : KIn) : Vec Ideal S1x128 .f32 := X.nw
def k75 (X : KIn) : Vec Ideal S1x8x128x128 .f32 := X.st
def k321 (X : KIn) : Vec Ideal S64x128 .f32 := View.ld X.dog (Rect.unit (s := S64x1024) ![0, 0] S64x128.size inb_S64x1024_S64x128_0_0)
def k322 (X : KIn) : Vec Ideal S64x128 .f32 := View.ld X.dog (Rect.unit (s := S64x1024) ![0, 128] S64x128.size inb_S64x1024_S64x128_0_128)
def k323 (X : KIn) : Vec Ideal S64x128 .f32 := View.ld X.dog (Rect.unit (s := S64x1024) ![0, 256] S64x128.size inb_S64x1024_S64x128_0_256)
def k324 (X : KIn) : Vec Ideal S64x128 .f32 := View.ld X.dog (Rect.unit (s := S64x1024) ![0, 384] S64x128.size inb_S64x1024_S64x128_0_384)
def k325 (X : KIn) : Vec Ideal S64x128 .f32 := View.ld X.dog (Rect.unit (s := S64x1024) ![0, 512] S64x128.size inb_S64x1024_S64x128_0_512)
def k326 (X : KIn) : Vec Ideal S64x128 .f32 := View.ld X.dog (Rect.unit (s := S64x1024) ![0, 640] S64x128.size inb_S64x1024_S64x128_0_640)
def k327 (X : KIn) : Vec Ideal S64x128 .f32 := View.ld X.dog (Rect.unit (s := S64x1024) ![0, 768] S64x128.size inb_S64x1024_S64x128_0_768)
def k328 (X : KIn) : Vec Ideal S64x128 .f32 := View.ld X.dog (Rect.unit (s := S64x1024) ![0, 896] S64x128.size inb_S64x1024_S64x128_0_896)
def k338 (X : KIn) : Vec Ideal S8x128x128 .f32 := X.ds
def k77 (X : KIn) : IVec S64x128 32 := iota .tc S64x128 32 [1] iota_S64x128_d1_w32
def k135 (X : KIn) : IVec S64x128 32 := iota .tc S64x128 32 [1] iota_S64x128_d1_w32
def k4 (X : KIn) : FVec Ideal S8x64x64 .f32 := k0_pay3 (k3 X)
def k21 (X : KIn) : FVec Ideal S8x64x128 .f32 := k0_pay4 (k5 X) (k6 X) (k7 X) (k8 X) (k9 X) (k10 X) (k11 X) (k12 X)
def k38 (X : KIn) : FVec Ideal S8x64x128 .f32 := k0_pay5 (k22 X) (k23 X) (k24 X) (k25 X) (k26 X) (k27 X) (k28 X) (k29 X)
def k55 (X : KIn) : FVec Ideal S8x64x128 .f32 := k0_pay6 (k39 X) (k40 X) (k41 X) (k42 X) (k43 X) (k44 X) (k45 X) (k46 X)
def k72 (X : KIn) : FVec Ideal S8x64x128 .f32 := k0_pay7 (k56 X) (k57 X) (k58 X) (k59 X) (k60 X) (k61 X) (k62 X) (k63 X)
def k76 (X : KIn) : FVec Ideal S8x128x128 .f32 := k0_pay8 (k75 X)
def k79 (X : KIn) : IVec S64x128 1 := k0_pay9
def k83 (X : KIn) : FVec Ideal S64x1 .f32 := k0_pay10 (k73 X)
def k85 (X : KIn) : IVec S64x128 1 := k0_pay11
def k89 (X : KIn) : FVec Ideal S64x1 .f32 := k0_pay12 (k73 X)
def k91 (X : KIn) : IVec S64x128 1 := k0_pay13
def k97 (X : KIn) : IVec S64x128 1 := k0_pay14 (k77 X)
def k103 (X : KIn) : IVec S64x128 1 := k0_pay15 (k77 X)
def k109 (X : KIn) : IVec S64x128 1 := k0_pay16 (k77 X)
def k115 (X : KIn) : IVec S64x128 1 := k0_pay17 (k77 X)
def k121 (X : KIn) : IVec S64x128 1 := k0_pay18 (k77 X)
def k134 (X : KIn) : FVec Ideal S8x64x1 .f32 := k0_pay19 (k73 X) (k77 X) (k83 X) (k89 X) (k91 X) (Scalar.ofBits .f32 0x00000000#32)
def k137 (X : KIn) : IVec S64x128 1 := k0_pay20 (k135 X)
def k141 (X : KIn) : FVec Ideal S64x1 .f32 := k0_pay21 (k73 X) (k135 X)
def k143 (X : KIn) : IVec S64x128 1 := k0_pay22 (k135 X)
def k147 (X : KIn) : FVec Ideal S64x1 .f32 := k0_pay23 (k73 X) (k135 X)
def k149 (X : KIn) : IVec S64x128 1 := k0_pay24 (k135 X)
def k153 (X : KIn) : FVec Ideal S64x1 .f32 := k0_pay25 (k73 X) (k135 X)
def k155 (X : KIn) : IVec S64x128 1 := k0_pay26 (k135 X)
def k159 (X : KIn) : FVec Ideal S64x1 .f32 := k0_pay27 (k73 X) (k135 X)
def k161 (X : KIn) : IVec S64x128 1 := k0_pay28 (k135 X)
def k165 (X : KIn) : FVec Ideal S64x1 .f32 := k0_pay29 (k73 X) (k135 X)
def k167 (X : KIn) : IVec S64x128 1 := k0_pay30 (k135 X)
def k171 (X : KIn) : FVec Ideal S64x1 .f32 := k0_pay31 (k73 X) (k135 X)
def k173 (X : KIn) : IVec S64x128 1 := k0_pay32 (k135 X)
def k175 (X : KIn) : Vec Ideal S64x128 .f32 := k0_pay33 (k73 X) (k135 X)
def k179 (X : KIn) : IVec S64x128 1 := k0_pay34 (k135 X)
def k192 (X : KIn) : FVec Ideal S8x64x1 .f32 := k0_pay35 (k73 X) (k135 X) (k141 X) (k147 X) (k153 X) (k159 X) (k165 X) (k171 X) (k175 X)
def k198 (X : KIn) : FVec Ideal S8x64x1 .f32 := k0_pay37 (k21 X)
def k201 (X : KIn) : FVec Ideal S8x64x1 .f32 := k0_pay38 (k21 X)
def k205 (X : KIn) : FVec Ideal S8x64x128 .f32 := k0_pay39 (k21 X)
def k211 (X : KIn) : FVec Ideal S8x64x1 .f32 := k0_pay41 (k38 X)
def k214 (X : KIn) : FVec Ideal S8x64x1 .f32 := k0_pay42 (k38 X)
def k216 (X : KIn) : FVec Ideal S8x64x128 .f32 := k0_pay43 (k38 X)
def k219 (X : KIn) : IVec S1x64x64 1 := k0_pay44
def k220 (X : KIn) : IVec S1x64x64 1 := k0_pay45
def k221 (X : KIn) : IVec S1x64x64 1 := k0_pay46
def k223 (X : KIn) : IVec S1x64x64 1 := k0_pay47
def k224 (X : KIn) : IVec S8x64x64 1 := k0_pay48 (k223 X)
def k232 (X : KIn) : IVec S8x64x64 1 := k0_pay50 (k221 X)
def k238 (X : KIn) : FVec Ideal S8x64x1 .f32 := k0_pay51 (k192 X) (k221 X) (Scalar.ofBits .f32 0x00000000#32) (k223 X)
def k240 (X : KIn) : FVec Ideal S8x1x1 .f32 := k0_pay52 (k192 X)
def k245 (X : KIn) : IVec S8x64x64 1 := k0_pay53 (k219 X)
def k248 (X : KIn) : FVec Ideal S8x64x64 .f32 := k0_pay54 (k192 X) (k219 X) (k221 X) (Scalar.ofBits .f32 0x00000000#32) (k223 X)
def k250 (X : KIn) : IVec S8x64x64 1 := k0_pay55 (k219 X)
def k252 (X : KIn) : FVec Ideal S8x64x64 .f32 := k0_pay56 (k192 X) (k219 X) (k221 X) (Scalar.ofBits .f32 0x00000000#32) (k223 X)
def k254 (X : KIn) : FVec Ideal S8x64x128 .f32 := k0_pay57 (k134 X) (k216 X)
def k257 (X : KIn) : FVec Ideal S8x64x64 .f32 := k0_pay58 (k134 X) (k216 X)
def k259 (X : KIn) : IVec S8x64x64 1 := k0_pay59 (k220 X)
def k260 (X : KIn) : FVec Ideal S8x64x1 .f32 := k0_pay60 (k192 X) (k221 X) (Scalar.ofBits .f32 0x00000000#32) (k223 X)
def k262 (X : KIn) : FVec Ideal S8x64x128 .f32 := k0_pay61 (k55 X) (k134 X)
def k265 (X : KIn) : FVec Ideal S8x64x128 .f32 := k0_pay62 (k4 X) (k55 X) (k134 X)
def k267 (X : KIn) : FVec Ideal S8x64x128 .f32 := k0_pay63 (k134 X) (k192 X) (k216 X) (k221 X) (Scalar.ofBits .f32 0x00000000#32) (k223 X)
def k270 (X : KIn) : FVec Ideal S8x64x128 .f32 := k0_pay64 (k4 X) (k134 X) (k192 X) (k216 X) (k221 X) (Scalar.ofBits .f32 0x00000000#32) (k223 X)
def k273 (X : KIn) : FVec Ideal S8x64x64 .f32 := k0_pay65 (k205 X) (k216 X)
def k274 (X : KIn) : FVec Ideal S8x64x64 .f32 := k0_pay66 (k252 X) (k273 X)
def k278 (X : KIn) : FVec Ideal S8x64x128 .f32 := k0_pay67 (k76 X) (k265 X) (k270 X)
def k280 (X : KIn) : FVec Ideal S8x64x128 .f32 := k0_pay68 (k205 X) (k260 X)
def k287 (X : KIn) : FVec Ideal S8x64x128 .f32 := k0_pay69 (k76 X) (k205 X) (k252 X) (k260 X) (k265 X) (k270 X) (k273 X)
def k288 (X : KIn) : FVec Ideal S8x1x1 .f32 := k0_pay70 (k240 X)
def k291 (X : KIn) : FVec Ideal S8x64x1 .f32 := k0_pay71 (k238 X) (k240 X)
def k293 (X : KIn) : FVec Ideal S8x64x128 .f32 := k0_pay72 (k216 X) (k238 X) (k240 X)
def k301 (X : KIn) : FVec Ideal S8x64x1 .f32 := k0_pay74 (k76 X) (k205 X) (k252 X) (k260 X) (k265 X) (k270 X) (k273 X)
def k304 (X : KIn) : FVec Ideal S8x64x1 .f32 := k0_pay75 (k76 X) (k205 X) (k252 X) (k260 X) (k265 X) (k270 X) (k273 X)
def k306 (X : KIn) : FVec Ideal S8x64x128 .f32 := k0_pay76 (k76 X) (k205 X) (k252 X) (k260 X) (k265 X) (k270 X) (k273 X)
def k307 (X : KIn) : FVec Ideal S1x1x128 .f32 := k0_pay77 (k74 X)
def k309 (X : KIn) : FVec Ideal S8x64x128 .f32 := k0_pay78 (k74 X) (k76 X) (k205 X) (k252 X) (k260 X) (k265 X) (k270 X) (k273 X)
def k312 (X : KIn) : FVec Ideal S8x64x128 .f32 := k0_pay79 (k72 X)
def k316 (X : KIn) : FVec Ideal S8x64x128 .f32 := k0_pay81 (k72 X)
def k319 (X : KIn) : FVec Ideal S8x64x128 .f32 := k0_pay82 (k72 X)
def k320 (X : KIn) : FVec Ideal S8x64x128 .f32 := k0_pay83 (k72 X)
def k339 (X : KIn) : FVec Ideal S8x64x64 .f32 := k0_pay85 (F := Ideal)
def k352 (X : KIn) : FVec Ideal S8x64x128 .f32 := k0_pay87 (k72 X) (k309 X) (k312 X) (k316 X) (k319 X) (k321 X) (k322 X) (k323 X) (k324 X) (k325 X) (k326 X) (k327 X) (k328 X)
def k355 (X : KIn) : FVec Ideal S1x1x128 .f32 := k0_pay88 (k306 X) (k320 X) (k321 X) (k322 X) (k323 X) (k324 X) (k325 X) (k326 X) (k327 X) (k328 X)
def k357 (X : KIn) : FVec Ideal S8x64x128 .f32 := k0_pay89 (k307 X) (k320 X) (k321 X) (k322 X) (k323 X) (k324 X) (k325 X) (k326 X) (k327 X) (k328 X)
def k359 (X : KIn) : FVec Ideal S1x128 .f32 := k0_pay90 (k355 X)
def k374 (X : KIn) : FVec Ideal S8x64x128 .f32 := k0_pay91 (k287 X) (k301 X) (k304 X) (k357 X)
def k387 (X : KIn) : FVec Ideal S8x64x128 .f32 := k0_pay95 (k278 X) (k291 X) (k338 X)
def k392 (X : KIn) : FVec Ideal S8x64x1 .f32 := k0_pay97 (k216 X) (k278 X) (k291 X) (k338 X)
def k397 (X : KIn) : FVec Ideal S8x128x128 .f32 := k0_pay98 (k288 X) (k338 X)
def k399 (X : KIn) : FVec Ideal S8x1x1 .f32 := k0_pay99 (k76 X) (k216 X) (k278 X) (k288 X) (k291 X) (k338 X)
def k402 (X : KIn) : FVec Ideal S8x64x64 .f32 := k0_pay100 (k278 X) (k287 X) (k301 X) (k304 X) (k357 X)
def k406 (X : KIn) : FVec Ideal S8x64x128 .f32 := k0_pay101 (k274 X) (k287 X) (k293 X) (k301 X) (k304 X) (k338 X) (k357 X)
def k427 (X : KIn) : FVec Ideal S8x128x128 .f32 := k0_pay105 (k270 X) (k280 X) (k374 X) (k397 X) (k406 X)
def k428 (X : KIn) : FVec Ideal S8x64x64 .f32 := k0_pay106 (k273 X) (k402 X)
def k436 (X : KIn) : FVec Ideal S8x64x128 .f32 := k0_pay108 (k76 X) (k216 X) (k252 X) (k260 X) (k374 X) (k402 X)
def k437 (X : KIn) : FVec Ideal S8x64x128 .f32 := k0_pay109 (k205 X) (k252 X) (k387 X) (k402 X)
def k444 (X : KIn) : FVec Ideal S8x64x64 .f32 := k0_pay111 (k76 X) (k267 X) (k339 X) (k406 X)
def k448 (X : KIn) : FVec Ideal S8x64x1 .f32 := k0_pay112 (k4 X) (k76 X) (k205 X) (k254 X) (k374 X) (k406 X)
def k450 (X : KIn) : FVec Ideal S8x64x128 .f32 := k0_pay113 (k4 X) (k76 X) (k260 X) (k406 X)
def k453 (X : KIn) : FVec Ideal S8x64x64 .f32 := k0_pay114 (k262 X) (k406 X)
def k454 (X : KIn) : FVec Ideal S8x64x64 .bf16 := k0_pay115 (k4 X)
def k460 (X : KIn) : FVec Ideal S8x64x1 .f32 := k0_pay117 (k55 X) (k406 X) (k454 X)
def k462 (X : KIn) : FVec Ideal S8x64x128 .f32 := k0_pay118 (k134 X) (k406 X) (k454 X)
def k464 (X : KIn) : FVec Ideal S8x64x1 .f32 := k0_pay119 (k260 X) (k392 X) (k448 X)
def k496 (X : KIn) : FVec Ideal S8x64x64 .f32 := k0_pay121 (k4 X) (k257 X) (k259 X) (k428 X) (k444 X) (k453 X)
def k500 (X : KIn) : FVec Ideal S8x64x128 .f32 := k0_pay123 (k4 X) (k216 X) (k252 X) (k259 X) (k444 X) (k453 X)
def k501 (X : KIn) : FVec Ideal S8x64x64 .bf16 := k0_pay124 (k4 X) (k252 X) (k259 X) (k444 X) (k453 X)
def k502 (X : KIn) : FVec Ideal S8x64x128 .bf16 := k0_pay125 (k254 X)
def k509 (X : KIn) : FVec Ideal S8x64x1 .f32 := k0_pay127 (k216 X) (k450 X) (k460 X) (k500 X)
def k512 (X : KIn) : FVec Ideal S8x64x128 .f32 := k0_pay128 (k134 X) (k437 X) (k450 X) (k500 X) (k501 X) (k502 X) (constant S8x64x128 .f32 0x00000000#32)
def k544 (X : KIn) : FVec Ideal S8x64x1 .f32 := k0_pay129 (k224 X) (k232 X) (k245 X) (k248 X) (k250 X) (k399 X) (k464 X) (k496 X)
def k547 (X : KIn) : FVec Ideal S8x64x1 .f32 := k0_pay130 (k38 X) (k134 X) (k437 X) (k450 X) (k500 X) (k501 X) (k502 X) (constant S8x64x128 .f32 0x00000000#32)
def k548 (X : KIn) : FVec Ideal S8x64x128 .f32 := k0_pay131 (k211 X)
def k557 (X : KIn) : FVec Ideal S8x64x128 .f32 := k0_pay132 (k38 X) (k214 X) (k512 X) (k547 X) (k548 X)
def k572 (X : KIn) : FVec Ideal S8x64x128 .f32 := k0_pay133 (k21 X) (k198 X) (k201 X) (k436 X)
def k582 (X : KIn) : FVec Ideal S64x1 .f32 := k0_pay134 (k544 X)
def k584 (X : KIn) : FVec Ideal S64x1 .f32 := k0_pay135 (k544 X)
def k586 (X : KIn) : FVec Ideal S64x1 .f32 := k0_pay136 (k544 X)
def k588 (X : KIn) : FVec Ideal S64x1 .f32 := k0_pay137 (k544 X)
def k590 (X : KIn) : FVec Ideal S64x1 .f32 := k0_pay138 (k544 X)
def k592 (X : KIn) : FVec Ideal S64x1 .f32 := k0_pay139 (k544 X)
def k594 (X : KIn) : FVec Ideal S64x1 .f32 := k0_pay140 (k544 X)
def k596 (X : KIn) : FVec Ideal S64x1 .f32 := k0_pay141 (k544 X)
def k637 (X : KIn) : FVec Ideal S64x128 .f32 := k0_pay142 (k143 X) (k149 X) (k155 X) (k161 X) (k167 X) (k173 X) (k179 X) (k582 X) (k584 X) (k586 X) (k588 X) (k590 X) (k592 X) (k594 X)
def k640 (X : KIn) : FVec Ideal S64x128 .f32 := k0_pay143 (k596 X)
def k659 (X : KIn) : FVec Ideal S64x1 .f32 := k0_pay144 (k509 X)
def k661 (X : KIn) : FVec Ideal S64x1 .f32 := k0_pay145 (k509 X)
def k663 (X : KIn) : FVec Ideal S64x1 .f32 := k0_pay146 (k509 X)
def k665 (X : KIn) : FVec Ideal S64x1 .f32 := k0_pay147 (k509 X)
def k667 (X : KIn) : FVec Ideal S64x1 .f32 := k0_pay148 (k509 X)
def k685 (X : KIn) : FVec Ideal S64x128 .f32 := k0_pay149 (k109 X) (k115 X) (k121 X) (k137 X) (k509 X) (k637 X) (k640 X) (Scalar.ofBits .f32 0x00000000#32)
def k715 (X : KIn) : FVec Ideal S64x128 .f32 := k0_pay150 (k79 X) (k85 X) (k91 X) (k97 X) (k103 X) (k659 X) (k661 X) (k663 X) (k665 X) (k667 X) (k685 X)

end Cert.Delta

end
-- ==== Proof.Heads.lean ====
/-
  The eight heads of a chunk, stored side by side.
-/
module

public import proofs.«01_k».proof.Proof.Kst
public import Idealize.ShloMosaic.Lib.Pointwise
public import proofs.«01_k».proof.Proof.Gen.KernelIdeal.Value

@[expose] public section

noncomputable section

namespace Cert.Delta

open Idealize.ShloMosaic Cert.KernelIdeal Cert.KernelIdeal.Gen

set_option maxRecDepth 16384

theorem hz2 : (![0, 0] : Fin 2 → ℕ) = fun _ => 0 := by decide
theorem hz3 : (![0, 0, 0] : Fin 3 → ℕ) = fun _ => 0 := by decide
theorem hz4 : (![0, 0, 0, 0] : Fin 4 → ℕ) = fun _ => 0 := by decide

/-- A result of the eight heads, [8, 64, 128], laid side by side in the columns of a chunk. -/
def rows (v : FVec Ideal S8x64x128 .f32) : Vec Ideal S64x1024 .f32 := fun y =>
  v (ix3 (⟨(y 1).val / 128, by have := (y 1).isLt; change (y 1).val < 1024 at this; omega⟩ : Fin 8) (y 0)
    (⟨(y 1).val % 128, Nat.mod_lt _ (by norm_num)⟩ : Fin 128))

/-- One head's store is the columns of its head. -/
theorem head_piece (v : FVec Ideal S8x64x128 .f32) (h : Fin 8) (o : ℕ) (ho : o = 128 * h.val)
    (inb : ∀ a, (![0, o] : Fin 2 → ℕ) a + S64x128.size a ≤ S64x1024.size a) (p : Vec Ideal S64x128 .f32)
    (hp : ∀ (i : Fin 64) (d : Fin 128), p (ix2 i d) = v (ix3 h i d)) (x : S64x128.Idx) :
    p x = rows v ((Rect.unit (s := S64x1024) ![0, o] S64x128.size inb).emb x) := by
  obtain ⟨i, d, rfl⟩ : ∃ (i : Fin 64) (d : Fin 128), x = ix2 i d := ⟨x 0, x 1, by
    funext a; fin_cases a <;> rfl⟩
  rw [hp]
  unfold rows
  congr 1
  funext a
  subst ho
  have hd := d.isLt
  have e1 : ((Rect.unit (s := S64x1024) ![0, 128 * h.val] S64x128.size inb).emb (ix2 i d) 1).val
      = 128 * h.val + d.val := by
    rw [Rect.emb_apply]; show 128 * h.val + 1 * d.val = _; omega
  have e0 : ((Rect.unit (s := S64x1024) ![0, 128 * h.val] S64x128.size inb).emb (ix2 i d) 0).val
      = i.val := by
    rw [Rect.emb_apply]; show 0 + 1 * i.val = _; omega
  fin_cases a
  · apply Fin.ext; show h.val = _ / 128; rw [e1]; omega
  · apply Fin.ext; exact e0.symm
  · apply Fin.ext; show d.val = _ % 128; rw [e1]; omega

/-- The eight stores of a chunk are the heads side by side. -/
theorem canon_heads (v : FVec Ideal S8x64x128 .f32) (p0 p1 p2 p3 p4 p5 p6 p7 : Vec Ideal S64x128 .f32)
    (h0 : ∀ (i : Fin 64) (d : Fin 128), p0 (ix2 i d) = v (ix3 0 i d))
    (h1 : ∀ (i : Fin 64) (d : Fin 128), p1 (ix2 i d) = v (ix3 1 i d))
    (h2 : ∀ (i : Fin 64) (d : Fin 128), p2 (ix2 i d) = v (ix3 2 i d))
    (h3 : ∀ (i : Fin 64) (d : Fin 128), p3 (ix2 i d) = v (ix3 3 i d))
    (h4 : ∀ (i : Fin 64) (d : Fin 128), p4 (ix2 i d) = v (ix3 4 i d))
    (h5 : ∀ (i : Fin 64) (d : Fin 128), p5 (ix2 i d) = v (ix3 5 i d))
    (h6 : ∀ (i : Fin 64) (d : Fin 128), p6 (ix2 i d) = v (ix3 6 i d))
    (h7 : ∀ (i : Fin 64) (d : Fin 128), p7 (ix2 i d) = v (ix3 7 i d)) :
    (View.canon [⟨Rect.unit (s := S64x1024) ![0, 896] S64x128.size inb_S64x1024_S64x128_0_896, p7⟩,
      ⟨Rect.unit (s := S64x1024) ![0, 768] S64x128.size inb_S64x1024_S64x128_0_768, p6⟩,
      ⟨Rect.unit (s := S64x1024) ![0, 640] S64x128.size inb_S64x1024_S64x128_0_640, p5⟩,
      ⟨Rect.unit (s := S64x1024) ![0, 512] S64x128.size inb_S64x1024_S64x128_0_512, p4⟩,
      ⟨Rect.unit (s := S64x1024) ![0, 384] S64x128.size inb_S64x1024_S64x128_0_384, p3⟩,
      ⟨Rect.unit (s := S64x1024) ![0, 256] S64x128.size inb_S64x1024_S64x128_0_256, p2⟩,
      ⟨Rect.unit (s := S64x1024) ![0, 128] S64x128.size inb_S64x1024_S64x128_0_128, p1⟩,
      ⟨Rect.unit (s := S64x1024) ![0, 0] S64x128.size inb_S64x1024_S64x128_0_0, p0⟩] : Vec Ideal S64x1024 .f32) = rows v := by
  funext y
  refine View.canon_apply_of_pieces (rows v) _ ?_ y ?_; rotate_left
  · exact View.cover_of_tiledL (s := S64x1024) _ S64x128.size (by sl_kernel_rfl) y
  intro p hp
  simp only [List.mem_cons, List.not_mem_nil, or_false] at hp
  rcases hp with rfl | rfl | rfl | rfl | rfl | rfl | rfl | rfl
  · exact head_piece v 7 _ rfl inb_S64x1024_S64x128_0_896 p7 h7
  · exact head_piece v 6 _ rfl inb_S64x1024_S64x128_0_768 p6 h6
  · exact head_piece v 5 _ rfl inb_S64x1024_S64x128_0_640 p5 h5
  · exact head_piece v 4 _ rfl inb_S64x1024_S64x128_0_512 p4 h4
  · exact head_piece v 3 _ rfl inb_S64x1024_S64x128_0_384 p3 h3
  · exact head_piece v 2 _ rfl inb_S64x1024_S64x128_0_256 p2 h2
  · exact head_piece v 1 _ rfl inb_S64x1024_S64x128_0_128 p1 h1
  · exact head_piece v 0 _ rfl inb_S64x1024_S64x128_0_0 p0 h0

theorem heads_q (v : FVec Ideal S8x64x128 .f32) :
    (View.canon [⟨Rect.unit (s := S64x1024) ![0, 896] S64x128.size inb_S64x1024_S64x128_0_896, k0_pay158 v⟩,
      ⟨Rect.unit (s := S64x1024) ![0, 768] S64x128.size inb_S64x1024_S64x128_0_768, k0_pay157 v⟩,
      ⟨Rect.unit (s := S64x1024) ![0, 640] S64x128.size inb_S64x1024_S64x128_0_640, k0_pay156 v⟩,
      ⟨Rect.unit (s := S64x1024) ![0, 512] S64x128.size inb_S64x1024_S64x128_0_512, k0_pay155 v⟩,
      ⟨Rect.unit (s := S64x1024) ![0, 384] S64x128.size inb_S64x1024_S64x128_0_384, k0_pay154 v⟩,
      ⟨Rect.unit (s := S64x1024) ![0, 256] S64x128.size inb_S64x1024_S64x128_0_256, k0_pay153 v⟩,
      ⟨Rect.unit (s := S64x1024) ![0, 128] S64x128.size inb_S64x1024_S64x128_0_128, k0_pay152 v⟩,
      ⟨Rect.unit (s := S64x1024) ![0, 0] S64x128.size inb_S64x1024_S64x128_0_0, k0_pay151 v⟩] : Vec Ideal S64x1024 .f32) = rows v := by
  apply canon_heads <;> intro i d
  · pointwise [k0_pay151]
  · pointwise [k0_pay152]
  · pointwise [k0_pay153]
  · pointwise [k0_pay154]
  · pointwise [k0_pay155]
  · pointwise [k0_pay156]
  · pointwise [k0_pay157]
  · pointwise [k0_pay158]

theorem heads_k (v : FVec Ideal S8x64x128 .f32) :
    (View.canon [⟨Rect.unit (s := S64x1024) ![0, 896] S64x128.size inb_S64x1024_S64x128_0_896, k0_pay166 v⟩,
      ⟨Rect.unit (s := S64x1024) ![0, 768] S64x128.size inb_S64x1024_S64x128_0_768, k0_pay165 v⟩,
      ⟨Rect.unit (s := S64x1024) ![0, 640] S64x128.size inb_S64x1024_S64x128_0_640, k0_pay164 v⟩,
      ⟨Rect.unit (s := S64x1024) ![0, 512] S64x128.size inb_S64x1024_S64x128_0_512, k0_pay163 v⟩,
      ⟨Rect.unit (s := S64x1024) ![0, 384] S64x128.size inb_S64x1024_S64x128_0_384, k0_pay162 v⟩,
      ⟨Rect.unit (s := S64x1024) ![0, 256] S64x128.size inb_S64x1024_S64x128_0_256, k0_pay161 v⟩,
      ⟨Rect.unit (s := S64x1024) ![0, 128] S64x128.size inb_S64x1024_S64x128_0_128, k0_pay160 v⟩,
      ⟨Rect.unit (s := S64x1024) ![0, 0] S64x128.size inb_S64x1024_S64x128_0_0, k0_pay159 v⟩] : Vec Ideal S64x1024 .f32) = rows v := by
  apply canon_heads <;> intro i d
  · pointwise [k0_pay159]
  · pointwise [k0_pay160]
  · pointwise [k0_pay161]
  · pointwise [k0_pay162]
  · pointwise [k0_pay163]
  · pointwise [k0_pay164]
  · pointwise [k0_pay165]
  · pointwise [k0_pay166]

theorem heads_v (v : FVec Ideal S8x64x128 .f32) :
    (View.canon [⟨Rect.unit (s := S64x1024) ![0, 896] S64x128.size inb_S64x1024_S64x128_0_896, k0_pay174 v⟩,
      ⟨Rect.unit (s := S64x1024) ![0, 768] S64x128.size inb_S64x1024_S64x128_0_768, k0_pay173 v⟩,
      ⟨Rect.unit (s := S64x1024) ![0, 640] S64x128.size inb_S64x1024_S64x128_0_640, k0_pay172 v⟩,
      ⟨Rect.unit (s := S64x1024) ![0, 512] S64x128.size inb_S64x1024_S64x128_0_512, k0_pay171 v⟩,
      ⟨Rect.unit (s := S64x1024) ![0, 384] S64x128.size inb_S64x1024_S64x128_0_384, k0_pay170 v⟩,
      ⟨Rect.unit (s := S64x1024) ![0, 256] S64x128.size inb_S64x1024_S64x128_0_256, k0_pay169 v⟩,
      ⟨Rect.unit (s := S64x1024) ![0, 128] S64x128.size inb_S64x1024_S64x128_0_128, k0_pay168 v⟩,
      ⟨Rect.unit (s := S64x1024) ![0, 0] S64x128.size inb_S64x1024_S64x128_0_0, k0_pay167 v⟩] : Vec Ideal S64x1024 .f32) = rows v := by
  apply canon_heads <;> intro i d
  · pointwise [k0_pay167]
  · pointwise [k0_pay168]
  · pointwise [k0_pay169]
  · pointwise [k0_pay170]
  · pointwise [k0_pay171]
  · pointwise [k0_pay172]
  · pointwise [k0_pay173]
  · pointwise [k0_pay174]

theorem heads_z (v : FVec Ideal S8x64x128 .f32) :
    (View.canon [⟨Rect.unit (s := S64x1024) ![0, 896] S64x128.size inb_S64x1024_S64x128_0_896, k0_pay182 v⟩,
      ⟨Rect.unit (s := S64x1024) ![0, 768] S64x128.size inb_S64x1024_S64x128_0_768, k0_pay181 v⟩,
      ⟨Rect.unit (s := S64x1024) ![0, 640] S64x128.size inb_S64x1024_S64x128_0_640, k0_pay180 v⟩,
      ⟨Rect.unit (s := S64x1024) ![0, 512] S64x128.size inb_S64x1024_S64x128_0_512, k0_pay179 v⟩,
      ⟨Rect.unit (s := S64x1024) ![0, 384] S64x128.size inb_S64x1024_S64x128_0_384, k0_pay178 v⟩,
      ⟨Rect.unit (s := S64x1024) ![0, 256] S64x128.size inb_S64x1024_S64x128_0_256, k0_pay177 v⟩,
      ⟨Rect.unit (s := S64x1024) ![0, 128] S64x128.size inb_S64x1024_S64x128_0_128, k0_pay176 v⟩,
      ⟨Rect.unit (s := S64x1024) ![0, 0] S64x128.size inb_S64x1024_S64x128_0_0, k0_pay175 v⟩] : Vec Ideal S64x1024 .f32) = rows v := by
  apply canon_heads <;> intro i d
  · pointwise [k0_pay175]
  · pointwise [k0_pay176]
  · pointwise [k0_pay177]
  · pointwise [k0_pay178]
  · pointwise [k0_pay179]
  · pointwise [k0_pay180]
  · pointwise [k0_pay181]
  · pointwise [k0_pay182]

end Cert.Delta
-- ==== Proof.OpenA.lean ====
/-
  What the first point of the gradient's kernel leaves in its outputs, in the body's own names: the carried
  state's gradient is cleared before it is read.
-/
module

public import proofs.«01_k».proof.Proof.Heads
public import proofs.«01_k».proof.Proof.Gen.KernelIdeal.Value

@[expose] public section

noncomputable section

namespace Cert.Delta

open Idealize.ShloMosaic Cert.KernelIdeal Cert.KernelIdeal.Gen

set_option maxRecDepth 16384

variable (c : Dev nD) (i : grid0.Coords) (arg1 : Memref sig .tc .vmem S64x1024 .f32) (harg1 : arg1.IsWhole) (arg2 : Memref sig .tc .vmem S64x1024 .f32) (harg2 : arg2.IsWhole) (arg3 : Memref sig .tc .vmem S64x1024 .f32) (harg3 : arg3.IsWhole) (arg4 : Memref sig .tc .vmem S64x1024 .f32) (harg4 : arg4.IsWhole) (arg5 : Memref sig .tc .vmem S64x128 .f32) (harg5 : arg5.IsWhole) (arg6 : Memref sig .tc .vmem S1x128 .f32) (harg6 : arg6.IsWhole) (arg7 : Memref sig .tc .vmem S1x8x128x128 .f32) (harg7 : arg7.IsWhole) (arg8 : Memref sig .tc .vmem S1x8x64x64 .f32) (harg8 : arg8.IsWhole) (arg9 : Memref sig .tc .vmem S64x1024 .f32) (harg9 : arg9.IsWhole) (arg10 : Memref sig .tc .vmem S64x1024 .f32) (harg10 : arg10.IsWhole) (arg11 : Memref sig .tc .vmem S64x1024 .f32) (harg11 : arg11.IsWhole) (arg12 : Memref sig .tc .vmem S64x1024 .f32) (harg12 : arg12.IsWhole) (arg13 : Memref sig .tc .vmem S64x1024 .f32) (harg13 : arg13.IsWhole) (arg14 : Memref sig .tc .vmem S64x128 .f32) (harg14 : arg14.IsWhole) (arg15 : Memref sig .tc .vmem S1x128 .f32) (harg15 : arg15.IsWhole) (arg16 : Memref sig .tc .vmem S8x128x128 .f32) (harg16 : arg16.IsWhole)
variable (x0 : Vec Ideal S64x1024 .f32) (x1 : Vec Ideal S64x1024 .f32) (x2 : Vec Ideal S64x1024 .f32) (x3 : Vec Ideal S64x1024 .f32) (x4 : Vec Ideal S64x128 .f32) (x5 : Vec Ideal S1x128 .f32) (x6 : Vec Ideal S1x8x128x128 .f32) (x7 : Vec Ideal S1x8x64x64 .f32) (x8 : Vec Ideal S64x1024 .f32)

/-- The queries' gradient of a chunk. -/
theorem out0_A_9_eq (hc0 : cond0_0 i) (hc1 : cond0_1 i) (hc2 : ¬cond0_2 i) :
    out0_A_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8
      = rows (k572 ⟨x0, x1, x2, x3, x4, x5, x6, x7, x8, k0_pay2 (F := Ideal)⟩) := by
  unfold out0_A_9
  rw [View.read_writes_eq_canon _ _ _ (fun _ => cover0_A_9 ..)]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S64x128) hz2, View.ld_unit_zero (S := S1x128) hz2, View.ld_unit_zero (S := S8x128x128) hz3, View.ld_unit_zero (S := S1x8x128x128) hz4, View.ld_unit_zero (S := S1x8x64x64) hz4, View.readCov_unit_zero (S := S8x128x128) _ hz3]
  exact heads_q _

/-- The keys' gradient of a chunk. -/
theorem out0_A_10_eq (hc0 : cond0_0 i) (hc1 : cond0_1 i) (hc2 : ¬cond0_2 i) :
    out0_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8
      = rows (k557 ⟨x0, x1, x2, x3, x4, x5, x6, x7, x8, k0_pay2 (F := Ideal)⟩) := by
  unfold out0_A_10
  rw [View.read_writes_eq_canon _ _ _ (fun _ => cover0_A_10 ..)]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S64x128) hz2, View.ld_unit_zero (S := S1x128) hz2, View.ld_unit_zero (S := S8x128x128) hz3, View.ld_unit_zero (S := S1x8x128x128) hz4, View.ld_unit_zero (S := S1x8x64x64) hz4, View.readCov_unit_zero (S := S8x128x128) _ hz3]
  exact heads_k _

/-- The values' gradient of a chunk. -/
theorem out0_A_11_eq (hc0 : cond0_0 i) (hc1 : cond0_1 i) (hc2 : ¬cond0_2 i) :
    out0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8
      = rows (k462 ⟨x0, x1, x2, x3, x4, x5, x6, x7, x8, k0_pay2 (F := Ideal)⟩) := by
  unfold out0_A_11
  rw [View.read_writes_eq_canon _ _ _ (fun _ => cover0_A_11 ..)]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S64x128) hz2, View.ld_unit_zero (S := S1x128) hz2, View.ld_unit_zero (S := S8x128x128) hz3, View.ld_unit_zero (S := S1x8x128x128) hz4, View.ld_unit_zero (S := S1x8x64x64) hz4, View.readCov_unit_zero (S := S8x128x128) _ hz3]
  exact heads_v _

/-- The output gate's gradient of a chunk. -/
theorem out0_A_12_eq (hc0 : cond0_0 i) (hc1 : cond0_1 i) (hc2 : ¬cond0_2 i) :
    out0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8
      = rows (k352 ⟨x0, x1, x2, x3, x4, x5, x6, x7, x8, k0_pay2 (F := Ideal)⟩) := by
  unfold out0_A_12
  rw [View.read_writes_eq_canon _ _ _ (fun _ => cover0_A_12 ..)]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S64x128) hz2, View.ld_unit_zero (S := S1x128) hz2, View.ld_unit_zero (S := S8x128x128) hz3, View.ld_unit_zero (S := S1x8x128x128) hz4, View.ld_unit_zero (S := S1x8x64x64) hz4, View.readCov_unit_zero (S := S8x128x128) _ hz3]
  exact heads_z _

/-- The gates' gradient of a chunk. -/
theorem out0_A_13_eq (hc0 : cond0_0 i) (hc1 : cond0_1 i) (hc2 : ¬cond0_2 i) :
    out0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8
      = k715 ⟨x0, x1, x2, x3, x4, x5, x6, x7, x8, k0_pay2 (F := Ideal)⟩ := by
  unfold out0_A_13
  rw [View.read_writes_eq_canon _ _ _ (fun _ => cover0_A_13 ..)]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S64x128) hz2, View.ld_unit_zero (S := S1x128) hz2, View.ld_unit_zero (S := S8x128x128) hz3, View.ld_unit_zero (S := S1x8x128x128) hz4, View.ld_unit_zero (S := S1x8x64x64) hz4, View.readCov_unit_zero (S := S8x128x128) _ hz3]
  exact View.canon_unit_zero (S := S64x128) hz2 _ _

/-- The norm weight's gradient, as far as the sweep has come. -/
theorem out0_A_14_eq (hc0 : cond0_0 i) (hc1 : cond0_1 i) (hc2 : ¬cond0_2 i) :
    out0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8
      = k359 ⟨x0, x1, x2, x3, x4, x5, x6, x7, x8, k0_pay2 (F := Ideal)⟩ := by
  unfold out0_A_14
  rw [View.read_writes_eq_canon _ _ _ (fun _ => cover0_A_14 ..)]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S64x128) hz2, View.ld_unit_zero (S := S1x128) hz2, View.ld_unit_zero (S := S8x128x128) hz3, View.ld_unit_zero (S := S1x8x128x128) hz4, View.ld_unit_zero (S := S1x8x64x64) hz4, View.readCov_unit_zero (S := S8x128x128) _ hz3]
  exact View.canon_unit_zero (S := S1x128) hz2 _ _

/-- The state's gradient passed on to the chunk before. -/
theorem sout0_A_0_eq (hc0 : cond0_0 i) (hc1 : cond0_1 i) (hc2 : ¬cond0_2 i) :
    sout0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8
      = k0_pay183 (k427 ⟨x0, x1, x2, x3, x4, x5, x6, x7, x8, k0_pay2 (F := Ideal)⟩) := by
  unfold sout0_A_0
  rw [View.read_writes_eq_canon _ _ _ (fun _ => scover0_A_0 ..)]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S64x128) hz2, View.ld_unit_zero (S := S1x128) hz2, View.ld_unit_zero (S := S8x128x128) hz3, View.ld_unit_zero (S := S1x8x128x128) hz4, View.ld_unit_zero (S := S1x8x64x64) hz4, View.readCov_unit_zero (S := S8x128x128) _ hz3]
  exact View.canon_cons_unit_zero (S := S8x128x128) hz3 _ _ _

end Cert.Delta
-- ==== Proof.OpenB.lean ====
/-
  What a later point of the gradient's kernel leaves in its outputs, in the body's own names: the carried
  state's gradient and the weight's sum are what the point before left.
-/
module

public import proofs.«01_k».proof.Proof.Heads
public import proofs.«01_k».proof.Proof.Gen.KernelIdeal.Value

@[expose] public section

noncomputable section

namespace Cert.Delta

open Idealize.ShloMosaic Cert.KernelIdeal Cert.KernelIdeal.Gen

set_option maxRecDepth 16384

variable (c : Dev nD) (i : grid0.Coords) (arg1 : Memref sig .tc .vmem S64x1024 .f32) (harg1 : arg1.IsWhole) (arg2 : Memref sig .tc .vmem S64x1024 .f32) (harg2 : arg2.IsWhole) (arg3 : Memref sig .tc .vmem S64x1024 .f32) (harg3 : arg3.IsWhole) (arg4 : Memref sig .tc .vmem S64x1024 .f32) (harg4 : arg4.IsWhole) (arg5 : Memref sig .tc .vmem S64x128 .f32) (harg5 : arg5.IsWhole) (arg6 : Memref sig .tc .vmem S1x128 .f32) (harg6 : arg6.IsWhole) (arg7 : Memref sig .tc .vmem S1x8x128x128 .f32) (harg7 : arg7.IsWhole) (arg8 : Memref sig .tc .vmem S1x8x64x64 .f32) (harg8 : arg8.IsWhole) (arg9 : Memref sig .tc .vmem S64x1024 .f32) (harg9 : arg9.IsWhole) (arg10 : Memref sig .tc .vmem S64x1024 .f32) (harg10 : arg10.IsWhole) (arg11 : Memref sig .tc .vmem S64x1024 .f32) (harg11 : arg11.IsWhole) (arg12 : Memref sig .tc .vmem S64x1024 .f32) (harg12 : arg12.IsWhole) (arg13 : Memref sig .tc .vmem S64x1024 .f32) (harg13 : arg13.IsWhole) (arg14 : Memref sig .tc .vmem S64x128 .f32) (harg14 : arg14.IsWhole) (arg15 : Memref sig .tc .vmem S1x128 .f32) (harg15 : arg15.IsWhole) (arg16 : Memref sig .tc .vmem S8x128x128 .f32) (harg16 : arg16.IsWhole)
variable (x0 : Vec Ideal S64x1024 .f32) (x1 : Vec Ideal S64x1024 .f32) (x2 : Vec Ideal S64x1024 .f32) (x3 : Vec Ideal S64x1024 .f32) (x4 : Vec Ideal S64x128 .f32) (x5 : Vec Ideal S1x128 .f32) (x6 : Vec Ideal S1x8x128x128 .f32) (x7 : Vec Ideal S1x8x64x64 .f32) (x8 : Vec Ideal S64x1024 .f32)

/-- The queries' gradient of a chunk. -/
theorem out0_B_9_eq (hc0 : ¬cond0_0 i) (hc1 : ¬cond0_1 i) (hc2 : cond0_2 i) (xo14 : Vec Ideal S1x128 .f32) (xs0 : Vec Ideal S8x128x128 .f32) :
    out0_B_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8 xo14 xs0
      = rows (k572 ⟨x0, x1, x2, x3, x4, x5, x6, x7, x8, xs0⟩) := by
  unfold out0_B_9
  rw [View.read_writes_eq_canon _ _ _ (fun _ => cover0_B_9 ..)]
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S64x128) hz2, View.ld_unit_zero (S := S1x128) hz2, View.ld_unit_zero (S := S8x128x128) hz3, View.ld_unit_zero (S := S1x8x128x128) hz4, View.ld_unit_zero (S := S1x8x64x64) hz4]
  exact heads_q _

/-- The keys' gradient of a chunk. -/
theorem out0_B_10_eq (hc0 : ¬cond0_0 i) (hc1 : ¬cond0_1 i) (hc2 : cond0_2 i) (xo14 : Vec Ideal S1x128 .f32) (xs0 : Vec Ideal S8x128x128 .f32) :
    out0_B_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8 xo14 xs0
      = rows (k557 ⟨x0, x1, x2, x3, x4, x5, x6, x7, x8, xs0⟩) := by
  unfold out0_B_10
  rw [View.read_writes_eq_canon _ _ _ (fun _ => cover0_B_10 ..)]
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S64x128) hz2, View.ld_unit_zero (S := S1x128) hz2, View.ld_unit_zero (S := S8x128x128) hz3, View.ld_unit_zero (S := S1x8x128x128) hz4, View.ld_unit_zero (S := S1x8x64x64) hz4]
  exact heads_k _

/-- The values' gradient of a chunk. -/
theorem out0_B_11_eq (hc0 : ¬cond0_0 i) (hc1 : ¬cond0_1 i) (hc2 : cond0_2 i) (xo14 : Vec Ideal S1x128 .f32) (xs0 : Vec Ideal S8x128x128 .f32) :
    out0_B_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8 xo14 xs0
      = rows (k462 ⟨x0, x1, x2, x3, x4, x5, x6, x7, x8, xs0⟩) := by
  unfold out0_B_11
  rw [View.read_writes_eq_canon _ _ _ (fun _ => cover0_B_11 ..)]
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S64x128) hz2, View.ld_unit_zero (S := S1x128) hz2, View.ld_unit_zero (S := S8x128x128) hz3, View.ld_unit_zero (S := S1x8x128x128) hz4, View.ld_unit_zero (S := S1x8x64x64) hz4]
  exact heads_v _

/-- The output gate's gradient of a chunk. -/
theorem out0_B_12_eq (hc0 : ¬cond0_0 i) (hc1 : ¬cond0_1 i) (hc2 : cond0_2 i) (xo14 : Vec Ideal S1x128 .f32) (xs0 : Vec Ideal S8x128x128 .f32) :
    out0_B_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8 xo14 xs0
      = rows (k352 ⟨x0, x1, x2, x3, x4, x5, x6, x7, x8, xs0⟩) := by
  unfold out0_B_12
  rw [View.read_writes_eq_canon _ _ _ (fun _ => cover0_B_12 ..)]
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S64x128) hz2, View.ld_unit_zero (S := S1x128) hz2, View.ld_unit_zero (S := S8x128x128) hz3, View.ld_unit_zero (S := S1x8x128x128) hz4, View.ld_unit_zero (S := S1x8x64x64) hz4]
  exact heads_z _

/-- The gates' gradient of a chunk. -/
theorem out0_B_13_eq (hc0 : ¬cond0_0 i) (hc1 : ¬cond0_1 i) (hc2 : cond0_2 i) (xo14 : Vec Ideal S1x128 .f32) (xs0 : Vec Ideal S8x128x128 .f32) :
    out0_B_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8 xo14 xs0
      = k715 ⟨x0, x1, x2, x3, x4, x5, x6, x7, x8, xs0⟩ := by
  unfold out0_B_13
  rw [View.read_writes_eq_canon _ _ _ (fun _ => cover0_B_13 ..)]
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S64x128) hz2, View.ld_unit_zero (S := S1x128) hz2, View.ld_unit_zero (S := S8x128x128) hz3, View.ld_unit_zero (S := S1x8x128x128) hz4, View.ld_unit_zero (S := S1x8x64x64) hz4]
  exact View.canon_unit_zero (S := S64x128) hz2 _ _

/-- The norm weight's gradient, as far as the sweep has come. -/
theorem out0_B_14_eq (hc0 : ¬cond0_0 i) (hc1 : ¬cond0_1 i) (hc2 : cond0_2 i) (xo14 : Vec Ideal S1x128 .f32) (xs0 : Vec Ideal S8x128x128 .f32) :
    out0_B_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8 xo14 xs0
      = k0_pay1 (k359 ⟨x0, x1, x2, x3, x4, x5, x6, x7, x8, xs0⟩) xo14 := by
  unfold out0_B_14
  rw [View.read_writes_eq_canon _ _ _ (fun _ => cover0_B_14 ..)]
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S64x128) hz2, View.ld_unit_zero (S := S1x128) hz2, View.ld_unit_zero (S := S8x128x128) hz3, View.ld_unit_zero (S := S1x8x128x128) hz4, View.ld_unit_zero (S := S1x8x64x64) hz4]
  exact View.canon_unit_zero (S := S1x128) hz2 _ _

/-- The state's gradient passed on to the chunk before. -/
theorem sout0_B_0_eq (hc0 : ¬cond0_0 i) (hc1 : ¬cond0_1 i) (hc2 : cond0_2 i) (xo14 : Vec Ideal S1x128 .f32) (xs0 : Vec Ideal S8x128x128 .f32) :
    sout0_B_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8 xo14 xs0
      = k0_pay183 (k427 ⟨x0, x1, x2, x3, x4, x5, x6, x7, x8, xs0⟩) := by
  unfold sout0_B_0
  rw [View.read_writes_eq_canon _ _ _ (fun _ => scover0_B_0 ..)]
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S64x128) hz2, View.ld_unit_zero (S := S1x128) hz2, View.ld_unit_zero (S := S8x128x128) hz3, View.ld_unit_zero (S := S1x8x128x128) hz4, View.ld_unit_zero (S := S1x8x64x64) hz4]
  exact View.canon_unit_zero (S := S8x128x128) hz3 _ _

end Cert.Delta
-- ==== Proof.Points.lean ====
/-
  What each point of the kernel's grid leaves in its outputs: the body's values of the point's blocks and of the
  state's gradient that the point before passed on.
-/
module

public import proofs.«01_k».proof.Proof.OpenA
public import proofs.«01_k».proof.Proof.OpenB

@[expose] public section

noncomputable section

namespace Cert.Delta

open Idealize.ShloMosaic Cert.KernelIdeal Cert.KernelIdeal.Gen

set_option maxRecDepth 16384

variable (m : (ℓ : Loc nD τ sig) → Buf (Elt Ideal) ℓ) (c : Dev nD)

/-- The state's gradient that point `t` begins with. -/
def dsAt : ℕ → Vec Ideal S8x128x128 .f32
  | 0 => k0_pay2 (F := Ideal)
  | n + 1 => if h : n < cfg0.N then (outsAt0 m c n h).2.2.2.2.2.2 else k0_pay2 (F := Ideal)

/-- What point `t` reads. -/
def inAt (t : Fin cfg0.N) : KIn :=
  ⟨iblk m c 0 t, iblk m c 1 t, iblk m c 2 t, iblk m c 3 t, iblk m c 4 t, iblk m c 5 t, iblk m c 6 t, iblk m c 7 t,
    iblk m c 8 t, dsAt m c t.val⟩

theorem dsAt_succ (n : ℕ) (h : n < cfg0.N) : dsAt m c (n + 1) = (outsAt0 m c n h).2.2.2.2.2.2 := dif_pos h

theorem lt32 (t : Fin cfg0.N) : t.val < 32 := lt_of_lt_of_eq t.isLt (show cfg0.N = 32 from N_0)

theorem outs_first (t : Fin cfg0.N) (h : t.val = 0) : outsAt0 m c t.val t.isLt =
    (rows (k572 (inAt m c t)), rows (k557 (inAt m c t)), rows (k462 (inAt m c t)), rows (k352 (inAt m c t)),
      k715 (inAt m c t), k359 (inAt m c t), k0_pay183 (k427 (inAt m c t))) := by
  have e : inAt m c t = ⟨iblk m c 0 t, iblk m c 1 t, iblk m c 2 t, iblk m c 3 t, iblk m c 4 t, iblk m c 5 t,
      iblk m c 6 t, iblk m c 7 t, iblk m c 8 t, k0_pay2 (F := Ideal)⟩ := by
    unfold inAt; rw [h]; rfl
  rw [outsAt0_A m c t (by omega) (by omega) (by omega), e, out0_A_9_eq, out0_A_10_eq, out0_A_11_eq, out0_A_12_eq,
    out0_A_13_eq, out0_A_14_eq, sout0_A_0_eq]

theorem outs_later (n : ℕ) (h : n + 1 < cfg0.N) : outsAt0 m c (n + 1) h =
    (rows (k572 (inAt m c ⟨n + 1, h⟩)), rows (k557 (inAt m c ⟨n + 1, h⟩)), rows (k462 (inAt m c ⟨n + 1, h⟩)),
      rows (k352 (inAt m c ⟨n + 1, h⟩)), k715 (inAt m c ⟨n + 1, h⟩),
      k0_pay1 (k359 (inAt m c ⟨n + 1, h⟩)) (outsAt0 m c n (by omega)).2.2.2.2.2.1,
      k0_pay183 (k427 (inAt m c ⟨n + 1, h⟩))) := by
  have h32 := lt32 ⟨n + 1, h⟩
  have e : inAt m c ⟨n + 1, h⟩ = ⟨iblk m c 0 ⟨n + 1, h⟩, iblk m c 1 ⟨n + 1, h⟩, iblk m c 2 ⟨n + 1, h⟩,
      iblk m c 3 ⟨n + 1, h⟩, iblk m c 4 ⟨n + 1, h⟩, iblk m c 5 ⟨n + 1, h⟩, iblk m c 6 ⟨n + 1, h⟩,
      iblk m c 7 ⟨n + 1, h⟩, iblk m c 8 ⟨n + 1, h⟩, (outsAt0 m c n (by omega)).2.2.2.2.2.2⟩ := by
    exact congrArg (KIn.mk _ _ _ _ _ _ _ _ _) (dsAt_succ m c n (by omega))
  have hm : ¬(n + 1) % 32 = 0 := by
    change n + 1 < 32 at h32; omega
  have o := outsAt0_B m c ⟨n + 1, h⟩ hm hm (Nat.succ_pos n)
  rw [out0_B_9_eq, out0_B_10_eq, out0_B_11_eq, out0_B_12_eq, out0_B_13_eq, out0_B_14_eq, sout0_B_0_eq] at o
  rw [e]
  exact o

end Cert.Delta
-- ==== Proof.Masks.lean ====
/-
  Sums under a mask, sums over two axes and sums over a window, at an index: what the body's column masks, its triangle
  masks and the reference's running sums come to.
-/
module

public import Idealize.ShloMosaic.PureOps.Ideal
public import Idealize.ShloMosaic.Lib.Pointwise

@[expose] public section

noncomputable section

namespace Cert.Delta

open Idealize.ShloMosaic

/-! ### Comparisons of positions -/

theorem sel_eq {n m : Nat} (hn : n < 2 ^ 31) (hm : m < 2 ^ 31) (x y : EReal) :
    Scalar.select (IntOp.cmpi .eq (BitVec.ofNat 32 n) (BitVec.ofNat 32 m)) x y = if n = m then x else y := by
  have e : (BitVec.ofNat 32 n = BitVec.ofNat 32 m) ↔ n = m := by
    constructor
    · intro h
      have := congrArg BitVec.toNat h
      simp only [BitVec.toNat_ofNat] at this
      omega
    · rintro rfl; rfl
  by_cases h : n = m
  · subst h; simp [Scalar.select, IntOp.cmpi]
  · have h' : ¬ BitVec.ofNat 32 n = BitVec.ofNat 32 m := fun k => h (e.1 k)
    simp [Scalar.select, IntOp.cmpi, h, beq_eq_false_iff_ne.2 h']

theorem toInt_small {n : Nat} (hn : n < 2 ^ 31) : (BitVec.ofNat 32 n).toInt = n := by
  rw [BitVec.toInt_eq_toNat_cond, BitVec.toNat_ofNat, Nat.mod_eq_of_lt (by omega)]
  split
  · rfl
  · omega

theorem sel_sge {n m : Nat} (hn : n < 2 ^ 31) (hm : m < 2 ^ 31) (x y : EReal) :
    Scalar.select (IntOp.cmpi .sge (BitVec.ofNat 32 n) (BitVec.ofNat 32 m)) x y = if m ≤ n then x else y := by
  by_cases h : m ≤ n <;> simp [Scalar.select, IntOp.cmpi, BitVec.sle, toInt_small hn, toInt_small hm, h]

theorem sel_sgt {n m : Nat} (hn : n < 2 ^ 31) (hm : m < 2 ^ 31) (x y : EReal) :
    Scalar.select (IntOp.cmpi .sgt (BitVec.ofNat 32 n) (BitVec.ofNat 32 m)) x y = if m < n then x else y := by
  by_cases h : m < n <;> simp [Scalar.select, IntOp.cmpi, BitVec.slt, toInt_small hn, toInt_small hm, h]

theorem sel_sle {n m : Nat} (hn : n < 2 ^ 31) (hm : m < 2 ^ 31) (x y : EReal) :
    Scalar.select (IntOp.cmpi .sle (BitVec.ofNat 32 n) (BitVec.ofNat 32 m)) x y = if n ≤ m then x else y := by
  by_cases h : n ≤ m <;> simp [Scalar.select, IntOp.cmpi, BitVec.sle, toInt_small hn, toInt_small hm, h]

/-- A sum over the lanes of what a mask keeps at one lane. -/
theorem sum_pick {n : Nat} (c : Nat) (hc : c < n) (f : Fin n → EReal) :
    (∑ l : Fin n, if l.val = c then f l else 0) = f ⟨c, hc⟩ := by
  rw [Finset.sum_eq_single (⟨c, hc⟩ : Fin n)]
  · simp
  · intro b _ hb
    exact if_neg fun h => hb (Fin.ext h)
  · intro h; exact absurd (Finset.mem_univ _) h

/-- The sum over the lanes of what the mask of one lane keeps. -/
theorem mask_lane {n c : Nat} (hc : c < n) (hn : n < 2 ^ 31) (f : Fin n → EReal) :
    (∑ l : Fin n, Scalar.select (IntOp.cmpi .eq (BitVec.ofNat 32 l.val) (BitVec.ofNat 32 c)) (f l) 0) = f ⟨c, hc⟩ := by
  rw [← sum_pick c hc f]
  exact Finset.sum_congr rfl fun l _ => sel_eq (by have := l.isLt; omega) (by omega) _ _

/-- A position less one, signed. -/
theorem toInt_pred {n : Nat} (hn : n < 2 ^ 31) : (IntOp.addi (BitVec.ofNat 32 n) (4294967295#32)).toInt = (n : Int) - 1 := by
  simp only [IntOp.addi, BitVec.toInt_add, toInt_small hn]
  have : (4294967295#32 : BitVec 32).toInt = -1 := by decide
  rw [this, Int.bmod_def]
  omega

/-- The reference's lower triangle. -/
theorem sel_tril {n m : Nat} (hn : n < 2 ^ 31) (hm : m < 2 ^ 31) (x y : EReal) :
    Scalar.select (Scalar.select (IntOp.cmpi .sge (IntOp.addi (BitVec.ofNat 32 n) 0#32) (BitVec.ofNat 32 m)) 1#1 0#1) x y
      = if m ≤ n then x else y := by
  have : IntOp.addi (BitVec.ofNat 32 n) 0#32 = BitVec.ofNat 32 n := by simp [IntOp.addi]
  rw [this]
  by_cases h : m ≤ n <;> simp [Scalar.select, IntOp.cmpi, BitVec.sle, toInt_small hn, toInt_small hm, h]

/-- The reference's strict lower triangle. -/
theorem sel_tril_strict {n m : Nat} (hn : n < 2 ^ 31) (hm : m < 2 ^ 31) (x y : EReal) :
    Scalar.select (Scalar.select (IntOp.cmpi .sge (IntOp.addi (BitVec.ofNat 32 n) 4294967295#32) (BitVec.ofNat 32 m)) 1#1 0#1) x y
      = if m < n then x else y := by
  by_cases h : m < n
  · have h' : (m : Int) ≤ n - 1 := by omega
    simp [Scalar.select, IntOp.cmpi, BitVec.sle, toInt_pred hn, toInt_small hm, h, h']
  · have h' : ¬ (m : Int) ≤ n - 1 := by omega
    simp [Scalar.select, IntOp.cmpi, BitVec.sle, toInt_pred hn, toInt_small hm, h, h']

/-- The sum over a row of what the diagonal keeps. -/
theorem mask_diag {n : Nat} (hn : n < 2 ^ 31) (i : Fin n) (f : Fin n → EReal) :
    (∑ l : Fin n, Scalar.select (IntOp.cmpi .eq (BitVec.ofNat 32 i.val) (BitVec.ofNat 32 l.val)) (f l) 0) = f i := by
  rw [← sum_pick i.val i.isLt f]
  refine Finset.sum_congr rfl fun l _ => ?_
  rw [sel_eq (by have := i.isLt; omega) (by have := l.isLt; omega)]
  exact if_congr eq_comm rfl rfl

/-- The sum down a column of what the diagonal keeps. -/
theorem mask_diag' {n : Nat} (hn : n < 2 ^ 31) (i : Fin n) (f : Fin n → EReal) :
    (∑ l : Fin n, Scalar.select (IntOp.cmpi .eq (BitVec.ofNat 32 l.val) (BitVec.ofNat 32 i.val)) (f l) 0) = f i :=
  mask_lane i.isLt hn f

theorem ofBits_neg_inf : Ideal.ofBits .f32 4286578688#32 = (⊥ : EReal) := by simp [Ideal.ofBits, Ideal.ieee]

/-! ### Sums over two axes -/

theorem sum_filter_of_fiber {ι κ : Type*} [Fintype ι] [Fintype κ] (p : ι → Prop) [DecidablePred p] (g : κ → ι)
    (hg : Function.Injective g) (hp : ∀ i, p i ↔ ∃ k, g k = i) (x : ι → EReal) :
    ∑ i ∈ Finset.univ.filter p, x i = ∑ k, x (g k) := by
  classical
  have : Finset.univ.filter p = Finset.univ.map ⟨g, hg⟩ := by
    ext i; simp [hp]
  rw [this, Finset.sum_map]; rfl

section axes01
variable {n0 n1 n2 : Nat}

theorem drop01 (h : (⟨3, ![n0, n1, n2]⟩ : Shape).Reduces [0, 1] ⟨1, ![n2]⟩) (j : Fin n2) (i : (⟨3, ![n0, n1, n2]⟩ : Shape).Idx) :
    h.drop i = ix1 j ↔ ∃ k : Fin n0 × Fin n1, ix3 k.1 k.2 j = i := by
  constructor
  · intro e
    have e0 : (i 2).val = j.val := congrArg Fin.val (congrFun e 0)
    refine ⟨(i 0, i 1), ?_⟩
    funext a; apply Fin.ext
    match a with
    | ⟨0, _⟩ => rfl
    | ⟨1, _⟩ => rfl
    | ⟨2, _⟩ => exact e0.symm
  · rintro ⟨k, rfl⟩
    funext a; apply Fin.ext
    match a with
    | ⟨0, _⟩ => rfl

theorem dropTo01 (h : (⟨3, ![n0, n1, n2]⟩ : Shape).ReducesTo [0, 1] ⟨1, ![n2]⟩) (j : Fin n2) (i : (⟨3, ![n0, n1, n2]⟩ : Shape).Idx) :
    h.drop i = ix1 j ↔ ∃ k : Fin n0 × Fin n1, ix3 k.1 k.2 j = i := by
  constructor
  · intro e
    have e0 : (i 2).val = j.val := congrArg Fin.val (congrFun e 0)
    refine ⟨(i 0, i 1), ?_⟩
    funext a; apply Fin.ext
    match a with
    | ⟨0, _⟩ => rfl
    | ⟨1, _⟩ => rfl
    | ⟨2, _⟩ => exact e0.symm
  · rintro ⟨k, rfl⟩
    funext a; apply Fin.ext
    match a with
    | ⟨0, _⟩ => rfl

theorem inj01 (j : Fin n2) : Function.Injective fun k : Fin n0 × Fin n1 => ix3 k.1 k.2 j :=
  fun _ _ e => Prod.ext (congrFun e 0) (congrFun e 1)

/-- The body's sum over the two leading axes. -/
theorem reduceAdd01 (h : (⟨3, ![n0, n1, n2]⟩ : Shape).Reduces [0, 1] ⟨1, ![n2]⟩) (v : (⟨3, ![n0, n1, n2]⟩ : Shape).Idx → EReal) (j : Fin n2) :
    Ideal.reduceAdd h v (ix1 j) = ∑ a : Fin n0, ∑ b : Fin n1, v (ix3 a b j) := by
  rw [← Fintype.sum_prod_type fun k : Fin n0 × Fin n1 => v (ix3 k.1 k.2 j)]
  exact sum_filter_of_fiber _ _ (inj01 j) (drop01 h j) v

/-- The reference's sum over the two leading axes. -/
theorem hostReduceAdd01 (h : (⟨3, ![n0, n1, n2]⟩ : Shape).ReducesTo [0, 1] ⟨1, ![n2]⟩) (v : (⟨3, ![n0, n1, n2]⟩ : Shape).Idx → EReal)
    (init : EReal) (j : Fin n2) :
    Ideal.hostReduceAdd h v init (ix1 j) = init + ∑ a : Fin n0, ∑ b : Fin n1, v (ix3 a b j) := by
  rw [← Fintype.sum_prod_type fun k : Fin n0 × Fin n1 => v (ix3 k.1 k.2 j)]
  exact congrArg (init + ·) (sum_filter_of_fiber _ _ (inj01 j) (dropTo01 h j) v)

theorem drop02 (h : (⟨3, ![n0, n1, n2]⟩ : Shape).Reduces [0, 2] ⟨1, ![n1]⟩) (j : Fin n1) (i : (⟨3, ![n0, n1, n2]⟩ : Shape).Idx) :
    h.drop i = ix1 j ↔ ∃ k : Fin n0 × Fin n2, ix3 k.1 j k.2 = i := by
  constructor
  · intro e
    have e0 : (i 1).val = j.val := congrArg Fin.val (congrFun e 0)
    refine ⟨(i 0, i 2), ?_⟩
    funext a; apply Fin.ext
    match a with
    | ⟨0, _⟩ => rfl
    | ⟨1, _⟩ => exact e0.symm
    | ⟨2, _⟩ => rfl
  · rintro ⟨k, rfl⟩
    funext a; apply Fin.ext
    match a with
    | ⟨0, _⟩ => rfl

/-- The body's sum over the first axis and the last. -/
theorem reduceAdd02 (h : (⟨3, ![n0, n1, n2]⟩ : Shape).Reduces [0, 2] ⟨1, ![n1]⟩) (v : (⟨3, ![n0, n1, n2]⟩ : Shape).Idx → EReal) (j : Fin n1) :
    Ideal.reduceAdd h v (ix1 j) = ∑ a : Fin n0, ∑ b : Fin n2, v (ix3 a j b) := by
  rw [← Fintype.sum_prod_type fun k : Fin n0 × Fin n2 => v (ix3 k.1 j k.2)]
  exact sum_filter_of_fiber _ _ (fun _ _ e => Prod.ext (congrFun e 0) (congrFun e 2)) (drop02 h j) v

end axes01

/-! ### Running sums -/

theorem foldl_add_list {ι : Type*} (g : ι → EReal) : ∀ (l : List ι) (v : EReal), l.foldl (fun r k => r + g k) v = v + (l.map g).sum
  | [], v => by simp
  | a :: l, v => by
    rw [List.foldl_cons, foldl_add_list g l, List.map_cons, List.sum_cons, add_assoc]

theorem foldl_add_fin {n : Nat} (g : Fin n → EReal) (v : EReal) : (List.finRange n).foldl (fun r k => r + g k) v = v + ∑ k, g k := by
  rw [foldl_add_list, Fin.sum_univ_def]

/-- The position in a window of one row. -/
theorem row_symm {N : Nat} (n : Fin (⟨2, ![1, N]⟩ : Shape).numel) :
    ∃ k : Fin N, n.val = k.val ∧ (⟨2, ![1, N]⟩ : Shape).rowMajor.symm n = ix2 (0 : Fin 1) k := by
  have hn : (⟨2, ![1, N]⟩ : Shape).numel = N := by simp [Shape.numel]
  refine ⟨n.cast hn, rfl, ((⟨2, ![1, N]⟩ : Shape).rowMajor.symm_apply_eq).2 (Fin.ext ?_)⟩
  rw [Shape.rowMajor_val_two]
  show n.val = 0 * _ + n.val
  omega

/-- A sum over a window as long as the row, at each position: the entries the window covers. -/
theorem windowSum {H N lo hi : Nat} (x : Vec Ideal (⟨2, ![H, N]⟩ : Shape) .f32) (init : Vec Ideal (⟨0, ![]⟩ : Shape) .f32)
    (hw : (⟨2, ![H, N]⟩ : Shape).ReduceWindows ![1, N] ![1, 1] ![0, lo] ![0, hi] ⟨2, ![H, N]⟩)
    (hu : 0 < (⟨0, ![]⟩ : Shape).numel) (h0 : init (Shape.Idx.first hu) = (0 : EReal)) (h : Fin H) (i : Fin N) :
    (Host.reduceWindowAdd (F := Ideal) (φ := .f32) ![1, N] ![1, 1] ![0, lo] ![0, hi] x init hw hu (ix2 h i) : EReal)
      = ∑ n : Fin N, ∑ k : Fin N, if i.val + n.val = lo + k.val then (x (ix2 h k) : EReal) else 0 := by
  have hn : (⟨2, ![1, N]⟩ : Shape).numel = N := by simp [Shape.numel]
  show (Host.reduceWindow (s := ⟨2, ![H, N]⟩) (fun a b : EReal => a + b) ![1, N] ![1, 1] ![0, lo] ![0, hi] x init hw hu (ix2 h i) : EReal) = _
  unfold Host.reduceWindow
  dsimp only
  rw [foldl_add_fin, h0, zero_add]
  refine (Fintype.sum_equiv (finCongr hn) _ _ fun n => ?_)
  obtain ⟨k, hk, e⟩ := row_symm (N := N) n
  have hk' : (finCongr hn n) = k := Fin.ext hk
  rw [hk']
  have p0 : ((⟨2, ![1, N]⟩ : Shape).rowMajor.symm n 0).val = 0 := by rw [e]; rfl
  have p1 : ((⟨2, ![1, N]⟩ : Shape).rowMajor.symm n 1).val = k.val := by rw [e]; rfl
  split
  · next hin =>
    have h1 := hin 1
    change lo ≤ i.val * 1 + ((⟨2, ![1, N]⟩ : Shape).rowMajor.symm n 1).val ∧ i.val * 1 + ((⟨2, ![1, N]⟩ : Shape).rowMajor.symm n 1).val - lo < N at h1
    rw [p1] at h1
    rw [Finset.sum_eq_single (⟨i.val + k.val - lo, by omega⟩ : Fin N)]
    · rw [if_pos (by simp only; omega)]
      refine congrArg x (funext fun a => Fin.ext ?_)
      match a with
      | ⟨0, _⟩ =>
        show h.val * 1 + ((⟨2, ![1, N]⟩ : Shape).rowMajor.symm n 0).val - 0 = h.val
        rw [p0]; omega
      | ⟨1, _⟩ =>
        show i.val * 1 + ((⟨2, ![1, N]⟩ : Shape).rowMajor.symm n 1).val - lo = i.val + k.val - lo
        rw [p1]; omega
    · intro b _ hb
      refine if_neg fun hc => hb (Fin.ext ?_)
      show b.val = i.val + k.val - lo
      omega
    · intro hc; exact absurd (Finset.mem_univ _) hc
  · next hin =>
    refine (Finset.sum_eq_zero fun b _ => if_neg fun hc => hin fun a => ?_).symm
    match a with
    | ⟨0, _⟩ =>
      show 0 ≤ h.val * 1 + ((⟨2, ![1, N]⟩ : Shape).rowMajor.symm n 0).val ∧ h.val * 1 + ((⟨2, ![1, N]⟩ : Shape).rowMajor.symm n 0).val - 0 < H
      rw [p0]; have := h.isLt; omega
    | ⟨1, _⟩ =>
      show lo ≤ i.val * 1 + ((⟨2, ![1, N]⟩ : Shape).rowMajor.symm n 1).val ∧ i.val * 1 + ((⟨2, ![1, N]⟩ : Shape).rowMajor.symm n 1).val - lo < N
      rw [p1]; have := b.isLt; omega

/-- What a window that reaches back sums: the entries up to the position. -/
theorem window_back (f : Fin 64 → EReal) (i : Fin 64) :
    (∑ n : Fin 64, ∑ k : Fin 64, if i.val + n.val = 63 + k.val then f k else 0) = ∑ k : Fin 64, if k.val ≤ i.val then f k else 0 := by
  rw [Finset.sum_comm]
  refine Finset.sum_congr rfl fun k _ => ?_
  by_cases hk : k.val ≤ i.val
  · rw [if_pos hk]
    refine Eq.trans ?_ (sum_pick (63 + k.val - i.val) (by omega) fun _ : Fin 64 => f k)
    refine Finset.sum_congr rfl fun n _ => ?_
    by_cases hn : n.val = 63 + k.val - i.val
    · rw [if_pos hn, if_pos (by omega)]
    · rw [if_neg hn, if_neg (by omega)]
  · rw [if_neg hk]
    exact Finset.sum_eq_zero fun n _ => if_neg (by have := n.isLt; omega)

/-- What a window that reaches forward sums: the entries from the position on. -/
theorem window_on (f : Fin 64 → EReal) (i : Fin 64) :
    (∑ n : Fin 64, ∑ k : Fin 64, if i.val + n.val = 0 + k.val then f k else 0) = ∑ k : Fin 64, if i.val ≤ k.val then f k else 0 := by
  rw [Finset.sum_comm]
  refine Finset.sum_congr rfl fun k _ => ?_
  by_cases hk : i.val ≤ k.val
  · rw [if_pos hk]
    refine Eq.trans ?_ (sum_pick (k.val - i.val) (by omega) fun _ : Fin 64 => f k)
    refine Finset.sum_congr rfl fun n _ => ?_
    by_cases hn : n.val = k.val - i.val
    · rw [if_pos hn, if_pos (by omega)]
    · rw [if_neg hn, if_neg (by omega)]
  · rw [if_neg hk]
    exact Finset.sum_eq_zero fun n _ => if_neg (by omega)

end Cert.Delta
-- ==== Proof.Link.lean ====
/-
  When a point of the kernel and a trip of the reference look at the same chunk: the buffers the point reads hold what
  the trip has sliced out.
-/
module

public import proofs.«01_k».proof.Proof.Gen.ReferenceIdeal.Step
public import proofs.«01_k».proof.Proof.Kst
public import proofs.«01_k».proof.Proof.Masks

@[expose] public section

noncomputable section

namespace Cert.Delta

open Idealize.ShloMosaic Cert.KernelIdeal.Gen Cert.ReferenceIdeal.Step

/-- The point's buffers `X` hold the inputs of the trip `j` from the state `s`. -/
structure Link (X : KIn) (j : ℕ) (s : State Ideal) : Prop where
  q : ∀ i l, X.q (ix2 i l) = b68 j s (ix2 i l)
  k : ∀ i l, X.k (ix2 i l) = b69 j s (ix2 i l)
  v : ∀ i l, X.v (ix2 i l) = b70 j s (ix2 i l)
  z : ∀ i l, X.z (ix2 i l) = b25 j s (ix2 i l)
  gates : ∀ i l, X.gates (ix2 i l) = b35 j s (ix2 i l)
  nw : ∀ d, X.nw (ix2 0 d) = s.main_v9_6 (ix2 0 d)
  st : ∀ h a b, X.st (ix4 0 h a b) = b46 j s (ix3 h a b)
  ti : ∀ h a b, X.ti (ix4 0 h a b) = b57 j s (ix3 h a b)
  dog : ∀ i l, X.dog (ix2 i l) = b67 j s (ix2 i l)
  ds : ∀ h a b, X.ds (ix3 h a b) = s.main_v9_9 (ix3 h a b)

end Cert.Delta
-- ==== Proof.Chunks.lean ====
/-
  Which chunk a trip of the reference reads, and where it adds its gradients: the last chunk first.
-/
module

public import proofs.«01_k».proof.Proof.Link
public import Idealize.ShloMosaic.Lib.DynamicIndex

@[expose] public section

noncomputable section

namespace Cert.Delta

open Idealize.ShloMosaic Cert.ReferenceIdeal Cert.ReferenceIdeal.Gen Cert.ReferenceIdeal.Step

set_option maxRecDepth 16384

/-- The chunk of trip `j`. -/
def chunkOf (j : ℕ) : Fin 32 := ⟨31 - j, by omega⟩

theorem start_word : ∀ j : Fin 32, BitVec.toInt
      (Scalar.select (IntOp.cmpi CmpIPredicate.slt (IntOp.subi (IntOp.subi (32#32) (BitVec.ofNat 32 j.val)) 1#32) 0#32)
        (IntOp.addi (IntOp.subi (IntOp.subi (32#32) (BitVec.ofNat 32 j.val)) 1#32) 32#32)
        (IntOp.subi (IntOp.subi (32#32) (BitVec.ofNat 32 j.val)) 1#32)) = ((31 - j.val : ℕ) : ℤ) := by
  decide

theorem chunk_word : ∀ (c j : Fin 32), IntOp.cmpi CmpIPredicate.eq (BitVec.ofNat 32 c.val)
      (IntOp.subi (IntOp.subi (32#32) (BitVec.ofNat 32 j.val)) 1#32) = if c = chunkOf j.val then 1#1 else 0#1 := by
  decide

variable {j : ℕ} {s : State Ideal}

theorem b11_toInt (hj : j < 32) (x : S_.Idx) : (b11 j s x).toInt = ((31 - j : ℕ) : ℤ) := by
  have h := start_word ⟨j, hj⟩
  pointwise [b11, b10, b9, b8, b7, b6, b5, b4, b3, b2]
  exact h

theorem slices3 {n : ℕ} (j : ℕ) : (⟨3, ![32, 64, n]⟩ : Shape).Slices ![31 - j, 0, 0] ⟨3, ![1, 64, n]⟩ :=
  ⟨rfl, fun a => by
    fin_cases a
    · show 31 - j + 1 ≤ 32; omega
    · show 0 + 64 ≤ 64; omega
    · show 0 + n ≤ n; omega⟩

theorem slices4 {m n : ℕ} (j : ℕ) : (⟨4, ![32, 8, m, n]⟩ : Shape).Slices ![31 - j, 0, 0, 0] ⟨4, ![1, 8, m, n]⟩ :=
  ⟨rfl, fun a => by
    fin_cases a
    · show 31 - j + 1 ≤ 32; omega
    · show 0 + 8 ≤ 8; omega
    · show 0 + m ≤ m; omega
    · show 0 + n ≤ n; omega⟩

theorem b14_eq (hj : j < 32) (i : Fin 64) (l : Fin 3072) : b14 j s (ix3 0 i l) = s.main_v9_0 (ix3 (chunkOf j) i l) := by
  unfold b14
  rw [Host.dynamicSlice_eq_extractStridedSlice _ _ _ ![31 - j, 0, 0] _ (slices3 j) (fun a => by
    fin_cases a
    · exact b11_toInt hj _
    · rfl
    · rfl)]
  pointwise [chunkOf]

theorem b24_eq (hj : j < 32) (i : Fin 64) (l : Fin 1024) : b24 j s (ix3 0 i l) = s.main_v9_1 (ix3 (chunkOf j) i l) := by
  unfold b24
  rw [Host.dynamicSlice_eq_extractStridedSlice _ _ _ ![31 - j, 0, 0] _ (slices3 j) (fun a => by
    fin_cases a
    · exact b11_toInt hj _
    · rfl
    · rfl)]
  pointwise [chunkOf]

theorem b34_eq (hj : j < 32) (i : Fin 64) (l : Fin 128) : b34 j s (ix3 0 i l) = s.main_v9_2 (ix3 (chunkOf j) i l) := by
  unfold b34
  rw [Host.dynamicSlice_eq_extractStridedSlice _ _ _ ![31 - j, 0, 0] _ (slices3 j) (fun a => by
    fin_cases a
    · exact b11_toInt hj _
    · rfl
    · rfl)]
  pointwise [chunkOf]

theorem b66_eq (hj : j < 32) (i : Fin 64) (l : Fin 1024) : b66 j s (ix3 0 i l) = s.main_v9_5 (ix3 (chunkOf j) i l) := by
  unfold b66
  rw [Host.dynamicSlice_eq_extractStridedSlice _ _ _ ![31 - j, 0, 0] _ (slices3 j) (fun a => by
    fin_cases a
    · exact b11_toInt hj _
    · rfl
    · rfl)]
  pointwise [chunkOf]

theorem b45_eq (hj : j < 32) (h : Fin 8) (a b : Fin 128) : b45 j s (ix4 0 h a b) = s.main_v9_3 (ix4 (chunkOf j) h a b) := by
  unfold b45
  rw [Host.dynamicSlice_eq_extractStridedSlice _ _ _ ![31 - j, 0, 0, 0] _ (slices4 j) (fun a => by
    fin_cases a
    · exact b11_toInt hj _
    · rfl
    · rfl
    · rfl)]
  pointwise [chunkOf]

theorem b56_eq (hj : j < 32) (h : Fin 8) (a b : Fin 64) : b56 j s (ix4 0 h a b) = s.main_v9_4 (ix4 (chunkOf j) h a b) := by
  unfold b56
  rw [Host.dynamicSlice_eq_extractStridedSlice _ _ _ ![31 - j, 0, 0, 0] _ (slices4 j) (fun a => by
    fin_cases a
    · exact b11_toInt hj _
    · rfl
    · rfl
    · rfl)]
  pointwise [chunkOf]

theorem b68_eq (hj : j < 32) (i : Fin 64) (l : Fin 1024) :
    b68 j s (ix2 i l) = s.main_v9_0 (ix3 (chunkOf j) i ⟨l.val, by omega⟩) := by
  pointwise [b68, b15]; exact b14_eq hj _ _

theorem b69_eq (hj : j < 32) (i : Fin 64) (l : Fin 1024) :
    b69 j s (ix2 i l) = s.main_v9_0 (ix3 (chunkOf j) i ⟨1024 + l.val, by omega⟩) := by
  pointwise [b69, b15]; exact b14_eq hj _ _

theorem b70_eq (hj : j < 32) (i : Fin 64) (l : Fin 1024) :
    b70 j s (ix2 i l) = s.main_v9_0 (ix3 (chunkOf j) i ⟨2048 + l.val, by omega⟩) := by
  pointwise [b70, b15]; exact b14_eq hj _ _

theorem b25_eq (hj : j < 32) (i : Fin 64) (l : Fin 1024) : b25 j s (ix2 i l) = s.main_v9_1 (ix3 (chunkOf j) i l) := by
  pointwise [b25]; exact b24_eq hj _ _

theorem b35_eq (hj : j < 32) (i : Fin 64) (l : Fin 128) : b35 j s (ix2 i l) = s.main_v9_2 (ix3 (chunkOf j) i l) := by
  pointwise [b35]; exact b34_eq hj _ _

theorem b67_eq (hj : j < 32) (i : Fin 64) (l : Fin 1024) : b67 j s (ix2 i l) = s.main_v9_5 (ix3 (chunkOf j) i l) := by
  pointwise [b67]; exact b66_eq hj _ _

theorem b46_eq (hj : j < 32) (h : Fin 8) (a b : Fin 128) : b46 j s (ix3 h a b) = s.main_v9_3 (ix4 (chunkOf j) h a b) := by
  pointwise [b46]; exact b45_eq hj _ _ _

theorem b57_eq (hj : j < 32) (h : Fin 8) (a b : Fin 64) : b57 j s (ix3 h a b) = s.main_v9_4 (ix4 (chunkOf j) h a b) := by
  pointwise [b57]; exact b56_eq hj _ _ _

theorem pick_word (hj : j < 32) (c : Fin 32) (a : EReal) : Scalar.select
      (IntOp.cmpi CmpIPredicate.eq (BitVec.ofNat 32 c.val) (IntOp.subi (IntOp.subi (32#32) (BitVec.ofNat 32 j)) 1#32)) a (0 : EReal)
    = if c = chunkOf j then a else 0 := by
  rw [chunk_word c ⟨j, hj⟩]
  by_cases h : c = chunkOf j
  · simp only [h, if_true]; rfl
  · simp only [h, if_false]; rfl

/-- A trip adds its queries' gradient at its own chunk. -/
theorem b457_eq (hj : j < 32) (c : Fin 32) (i : Fin 64) (l : Fin 1024) :
    b457 j s (ix3 c i l) = s.main_v9_11 (ix3 c i l) + if c = chunkOf j then b444 j s (ix2 i l) else 0 := by
  rw [← pick_word hj c]
  pointwise [b457, b456, b455, b454, b453, b452, b451, b450, b449, b448, b447, b446, b5, b4, b3, b2]

/-- A trip adds its keys' gradient at its own chunk. -/
theorem b469_eq (hj : j < 32) (c : Fin 32) (i : Fin 64) (l : Fin 1024) :
    b469 j s (ix3 c i l) = s.main_v9_12 (ix3 c i l) + if c = chunkOf j then b429 j s (ix2 i l) else 0 := by
  rw [← pick_word hj c]
  pointwise [b469, b468, b467, b466, b465, b464, b463, b462, b461, b460, b459, b458, b5, b4, b3, b2]

/-- A trip adds its values' gradient at its own chunk. -/
theorem b481_eq (hj : j < 32) (c : Fin 32) (i : Fin 64) (l : Fin 1024) :
    b481 j s (ix3 c i l) = s.main_v9_13 (ix3 c i l) + if c = chunkOf j then b414 j s (ix2 i l) else 0 := by
  rw [← pick_word hj c]
  pointwise [b481, b480, b479, b478, b477, b476, b475, b474, b473, b472, b471, b470, b5, b4, b3, b2]

/-- A trip adds its output gate's gradient at its own chunk. -/
theorem b493_eq (hj : j < 32) (c : Fin 32) (i : Fin 64) (l : Fin 1024) :
    b493 j s (ix3 c i l) = s.main_v9_14 (ix3 c i l) + if c = chunkOf j then b242 j s (ix2 i l) else 0 := by
  rw [← pick_word hj c]
  pointwise [b493, b492, b491, b490, b489, b488, b487, b486, b485, b484, b483, b482, b5, b4, b3, b2]

/-- A trip adds its gates' gradient at its own chunk. -/
theorem b505_eq (hj : j < 32) (c : Fin 32) (i : Fin 64) (l : Fin 128) :
    b505 j s (ix3 c i l) = s.main_v9_15 (ix3 c i l) + if c = chunkOf j then b413 j s (ix2 i l) else 0 := by
  rw [← pick_word hj c]
  pointwise [b505, b504, b503, b502, b501, b500, b499, b498, b497, b496, b495, b494, b5, b4, b3, b2]

/-- A sequence that one trip alone adds to, and that begins at zero, ends at what that trip added. -/
theorem once (f x : ℕ → EReal) (c : Fin 32) (h0 : f 0 = 0)
    (hs : ∀ n, n < 32 → f (n + 1) = f n + if c = chunkOf n then x n else 0) : f 32 = x (31 - c.val) := by
  have key : ∀ n, n ≤ 32 → f n = if 31 - c.val < n then x (31 - c.val) else 0 := by
    intro n
    induction n with
    | zero => intro _; simpa using h0
    | succ n ih =>
      intro hn
      rw [hs n (by omega), ih (by omega)]
      have hc := c.isLt
      by_cases e : c = chunkOf n
      · have hv : c.val = 31 - n := congrArg Fin.val e
        have e1 : 31 - c.val = n := by omega
        rw [if_neg (by omega), if_pos e, if_pos (by omega), zero_add, e1]
      · have hv : c.val ≠ 31 - n := fun h => e (Fin.ext h)
        rw [if_neg e, add_zero]
        by_cases h1 : 31 - c.val < n
        · rw [if_pos h1, if_pos (by omega)]
        · rw [if_neg h1, if_neg (by omega)]
  rw [key 32 le_rfl, if_pos (by omega)]

/-- The states of the reference's loop from `s`, in turn. -/
def seq (s : State Ideal) : ℕ → State Ideal
  | 0 => s
  | n + 1 => step n (seq s n)

theorem seq_fixed (s : State Ideal) (n : ℕ) : (seq s n).main_v9_0 = s.main_v9_0 ∧ (seq s n).main_v9_1 = s.main_v9_1
    ∧ (seq s n).main_v9_2 = s.main_v9_2 ∧ (seq s n).main_v9_3 = s.main_v9_3 ∧ (seq s n).main_v9_4 = s.main_v9_4
    ∧ (seq s n).main_v9_5 = s.main_v9_5 ∧ (seq s n).main_v9_6 = s.main_v9_6 := by
  induction n with
  | zero => exact ⟨rfl, rfl, rfl, rfl, rfl, rfl, rfl⟩
  | succ n ih => exact ih

theorem seq_11 (s : State Ideal) (c : Fin 32) (i : Fin 64) (l : Fin 1024) (h0 : s.main_v9_11 (ix3 c i l) = 0) :
    (seq s 32).main_v9_11 (ix3 c i l) = b444 (31 - c.val) (seq s (31 - c.val)) (ix2 i l) :=
  once (fun n => (seq s n).main_v9_11 (ix3 c i l)) (fun n => b444 n (seq s n) (ix2 i l)) c h0 fun n hn =>
    (congrFun (step_main_v9_11 n (seq s n)) _).trans (b457_eq hn c i l)

theorem seq_12 (s : State Ideal) (c : Fin 32) (i : Fin 64) (l : Fin 1024) (h0 : s.main_v9_12 (ix3 c i l) = 0) :
    (seq s 32).main_v9_12 (ix3 c i l) = b429 (31 - c.val) (seq s (31 - c.val)) (ix2 i l) :=
  once (fun n => (seq s n).main_v9_12 (ix3 c i l)) (fun n => b429 n (seq s n) (ix2 i l)) c h0 fun n hn =>
    (congrFun (step_main_v9_12 n (seq s n)) _).trans (b469_eq hn c i l)

theorem seq_13 (s : State Ideal) (c : Fin 32) (i : Fin 64) (l : Fin 1024) (h0 : s.main_v9_13 (ix3 c i l) = 0) :
    (seq s 32).main_v9_13 (ix3 c i l) = b414 (31 - c.val) (seq s (31 - c.val)) (ix2 i l) :=
  once (fun n => (seq s n).main_v9_13 (ix3 c i l)) (fun n => b414 n (seq s n) (ix2 i l)) c h0 fun n hn =>
    (congrFun (step_main_v9_13 n (seq s n)) _).trans (b481_eq hn c i l)

theorem seq_14 (s : State Ideal) (c : Fin 32) (i : Fin 64) (l : Fin 1024) (h0 : s.main_v9_14 (ix3 c i l) = 0) :
    (seq s 32).main_v9_14 (ix3 c i l) = b242 (31 - c.val) (seq s (31 - c.val)) (ix2 i l) :=
  once (fun n => (seq s n).main_v9_14 (ix3 c i l)) (fun n => b242 n (seq s n) (ix2 i l)) c h0 fun n hn =>
    (congrFun (step_main_v9_14 n (seq s n)) _).trans (b493_eq hn c i l)

theorem seq_15 (s : State Ideal) (c : Fin 32) (i : Fin 64) (l : Fin 128) (h0 : s.main_v9_15 (ix3 c i l) = 0) :
    (seq s 32).main_v9_15 (ix3 c i l) = b413 (31 - c.val) (seq s (31 - c.val)) (ix2 i l) :=
  once (fun n => (seq s n).main_v9_15 (ix3 c i l)) (fun n => b413 n (seq s n) (ix2 i l)) c h0 fun n hn =>
    (congrFun (step_main_v9_15 n (seq s n)) _).trans (b505_eq hn c i l)

end Cert.Delta
-- ==== Proof.Blocks.lean ====
/-
  The blocks of the kernel's arguments that a point of its grid reads: point `t` takes chunk `31 - t`.
-/
module

public import proofs.«01_k».proof.Proof.Points
public import proofs.«01_k».proof.Proof.Chunks
public import Idealize.ShloMosaic.Lib.Pipeline.ValueKit

@[expose] public section

noncomputable section

namespace Cert.Delta

open Idealize.ShloMosaic Cert.KernelIdeal Cert.KernelIdeal.Gen

set_option maxRecDepth 16384

theorem index0 : ∀ t : Fin cfg0.N, (win0_0.index t 0 = 31 - t.val ∧ win0_0.index t 1 = 0)
    ∧ (win0_1.index t 0 = 31 - t.val ∧ win0_1.index t 1 = 1)
    ∧ (win0_2.index t 0 = 31 - t.val ∧ win0_2.index t 1 = 2)
    ∧ (win0_3.index t 0 = 31 - t.val ∧ win0_3.index t 1 = 3)
    ∧ (win0_4.index t 0 = 31 - t.val ∧ win0_4.index t 1 = 0)
    ∧ (win0_5.index t 0 = 0 ∧ win0_5.index t 1 = 0)
    ∧ (win0_6.index t 0 = 31 - t.val ∧ win0_6.index t 1 = 0 ∧ win0_6.index t 2 = 0 ∧ win0_6.index t 3 = 0)
    ∧ (win0_7.index t 0 = 31 - t.val ∧ win0_7.index t 1 = 0 ∧ win0_7.index t 2 = 0 ∧ win0_7.index t 3 = 0)
    ∧ (win0_8.index t 0 = 31 - t.val ∧ win0_8.index t 1 = 0) := by
  decide +kernel

variable (m : (ℓ : Loc nD τ sig) → Buf (Elt Ideal) ℓ) (c : Dev nD)

theorem blk_q (t : Fin cfg0.N) (i : Fin 64) (l : Fin 1024) : iblk m c 0 t (ix2 i l)
    = m ((c.tc : Thread nD τ).loc main_arg0) (ix2 (⟨(31 - t.val) * 64 + i.val, by omega⟩ : Fin 2048) (⟨l.val, by omega⟩ : Fin 3072)) := by
  have h := (index0 t).1
  blk_ext [iblk, V, h.1, h.2]

theorem blk_k (t : Fin cfg0.N) (i : Fin 64) (l : Fin 1024) : iblk m c 1 t (ix2 i l)
    = m ((c.tc : Thread nD τ).loc main_arg0) (ix2 (⟨(31 - t.val) * 64 + i.val, by omega⟩ : Fin 2048) (⟨1024 + l.val, by omega⟩ : Fin 3072)) := by
  have h := (index0 t).2.1
  blk_ext [iblk, V, h.1, h.2]

theorem blk_v (t : Fin cfg0.N) (i : Fin 64) (l : Fin 1024) : iblk m c 2 t (ix2 i l)
    = m ((c.tc : Thread nD τ).loc main_arg0) (ix2 (⟨(31 - t.val) * 64 + i.val, by omega⟩ : Fin 2048) (⟨2048 + l.val, by omega⟩ : Fin 3072)) := by
  have h := (index0 t).2.2.1
  blk_ext [iblk, V, h.1, h.2]

theorem blk_z (t : Fin cfg0.N) (i : Fin 64) (l : Fin 1024) : iblk m c 3 t (ix2 i l)
    = m ((c.tc : Thread nD τ).loc main_arg1) (ix2 (⟨(31 - t.val) * 64 + i.val, by omega⟩ : Fin 2048) (⟨3072 + l.val, by omega⟩ : Fin 4096)) := by
  have h := (index0 t).2.2.2.1
  blk_ext [iblk, V, h.1, h.2]

theorem blk_gates (t : Fin cfg0.N) (i : Fin 64) (l : Fin 128) : iblk m c 4 t (ix2 i l)
    = m ((c.tc : Thread nD τ).loc main_arg2) (ix2 (⟨(31 - t.val) * 64 + i.val, by omega⟩ : Fin 2048) l) := by
  have h := (index0 t).2.2.2.2.1
  blk_ext [iblk, V, h.1, h.2]

theorem blk_dog (t : Fin cfg0.N) (i : Fin 64) (l : Fin 1024) : iblk m c 8 t (ix2 i l)
    = m ((c.tc : Thread nD τ).loc main_arg6) (ix2 (⟨(31 - t.val) * 64 + i.val, by omega⟩ : Fin 2048) l) := by
  have h := (index0 t).2.2.2.2.2.2.2.2
  blk_ext [iblk, V, h.1, h.2]

theorem blk_nw (t : Fin cfg0.N) (d : Fin 128) : iblk m c 5 t (ix2 0 d)
    = m ((c.tc : Thread nD τ).loc main_arg3) (ix2 (0 : Fin 1) d) := by
  have h := (index0 t).2.2.2.2.2.1
  blk_ext [iblk, V, h.1, h.2]

theorem blk_st (t : Fin cfg0.N) (h : Fin 8) (a b : Fin 128) : iblk m c 6 t (ix4 0 h a b)
    = m ((c.tc : Thread nD τ).loc main_arg4) (ix4 (chunkOf t.val) h a b) := by
  have e := (index0 t).2.2.2.2.2.2.1
  blk_ext [iblk, V, chunkOf, e.1, e.2.1, e.2.2.1, e.2.2.2]

theorem blk_ti (t : Fin cfg0.N) (h : Fin 8) (a b : Fin 64) : iblk m c 7 t (ix4 0 h a b)
    = m ((c.tc : Thread nD τ).loc main_arg5) (ix4 (chunkOf t.val) h a b) := by
  have e := (index0 t).2.2.2.2.2.2.2.1
  blk_ext [iblk, V, chunkOf, e.1, e.2.1, e.2.2.1, e.2.2.2]

/-- The state that the reference's loop begins with, of the kernel's arguments. -/
def start : Cert.ReferenceIdeal.Step.State Ideal :=
  Cert.ReferenceIdeal.Step.init (m ((c.tc : Thread nD τ).loc main_arg4)) (m ((c.tc : Thread nD τ).loc main_arg5))
    (m ((c.tc : Thread nD τ).loc main_arg3)) (m ((c.tc : Thread nD τ).loc main_arg0)) (m ((c.tc : Thread nD τ).loc main_arg1))
    (m ((c.tc : Thread nD τ).loc main_arg2)) (m ((c.tc : Thread nD τ).loc main_arg6))

theorem start_0 (k : Fin 32) (i : Fin 64) (l : Fin 3072) : (start m c).main_v9_0 (ix3 k i l)
    = m ((c.tc : Thread nD τ).loc main_arg0) (ix2 (⟨k.val * 64 + i.val, by omega⟩ : Fin 2048) l) := by
  pointwise [start, Cert.ReferenceIdeal.Step.init, Cert.ReferenceIdeal.Step.A_main_v0]

theorem start_1 (k : Fin 32) (i : Fin 64) (l : Fin 1024) : (start m c).main_v9_1 (ix3 k i l)
    = m ((c.tc : Thread nD τ).loc main_arg1) (ix2 (⟨k.val * 64 + i.val, by omega⟩ : Fin 2048) (⟨3072 + l.val, by omega⟩ : Fin 4096)) := by
  pointwise [start, Cert.ReferenceIdeal.Step.init, Cert.ReferenceIdeal.Step.A_main_v1, Cert.ReferenceIdeal.Step.A_main_v2]

theorem start_2 (k : Fin 32) (i : Fin 64) (l : Fin 128) : (start m c).main_v9_2 (ix3 k i l)
    = m ((c.tc : Thread nD τ).loc main_arg2) (ix2 (⟨k.val * 64 + i.val, by omega⟩ : Fin 2048) l) := by
  pointwise [start, Cert.ReferenceIdeal.Step.init, Cert.ReferenceIdeal.Step.A_main_v3]

theorem start_5 (k : Fin 32) (i : Fin 64) (l : Fin 1024) : (start m c).main_v9_5 (ix3 k i l)
    = m ((c.tc : Thread nD τ).loc main_arg6) (ix2 (⟨k.val * 64 + i.val, by omega⟩ : Fin 2048) l) := by
  pointwise [start, Cert.ReferenceIdeal.Step.init, Cert.ReferenceIdeal.Step.A_main_v4]

end Cert.Delta
-- ==== Proof.St1.lean ====
/-
  The inputs of a chunk, head by head: what the body cuts out of its blocks by columns is what the reference reshapes.
-/
module

public import proofs.«01_k».proof.Proof.Link

@[expose] public section

noncomputable section

namespace Cert.Delta

open Idealize.ShloMosaic Cert.KernelIdeal.Gen Cert.ReferenceIdeal.Step

set_option maxRecDepth 16384

variable {X : KIn} {j : ℕ} {s : State Ideal}

theorem k21_eq (L : Link X j s) (h : Fin 8) (i : Fin 64) (d : Fin 128) :
    k21 X (ix3 h i d) = b72 j s (ix3 i h d) := by
  pointwise [k21, k0_pay4]
  fin_vals h with hk
  all_goals simp only [hk]
  all_goals pointwise [b72, k5, k6, k7, k8, k9, k10, k11, k12]
  all_goals rw [L.q]
  all_goals exact congrArg (b68 j s) (congrArg (ix2 i) (Fin.ext (by simp only; omega)))

theorem k38_eq (L : Link X j s) (h : Fin 8) (i : Fin 64) (d : Fin 128) :
    k38 X (ix3 h i d) = b87 j s (ix3 i h d) := by
  pointwise [k38, k0_pay5]
  fin_vals h with hk
  all_goals simp only [hk]
  all_goals pointwise [b87, k22, k23, k24, k25, k26, k27, k28, k29]
  all_goals rw [L.k]
  all_goals exact congrArg (b69 j s) (congrArg (ix2 i) (Fin.ext (by simp only; omega)))

theorem k55_eq (L : Link X j s) (h : Fin 8) (i : Fin 64) (d : Fin 128) :
    k55 X (ix3 h i d) = b102 j s (ix3 i h d) := by
  pointwise [k55, k0_pay6]
  fin_vals h with hk
  all_goals simp only [hk]
  all_goals pointwise [b102, k39, k40, k41, k42, k43, k44, k45, k46]
  all_goals rw [L.v]
  all_goals exact congrArg (b70 j s) (congrArg (ix2 i) (Fin.ext (by simp only; omega)))

theorem k72_eq (L : Link X j s) (h : Fin 8) (i : Fin 64) (d : Fin 128) :
    k72 X (ix3 h i d) = b219 j s (ix3 i h d) := by
  pointwise [k72, k0_pay7]
  fin_vals h with hk
  all_goals simp only [hk]
  all_goals pointwise [b219, k56, k57, k58, k59, k60, k61, k62, k63]
  all_goals rw [L.z]
  all_goals exact congrArg (b25 j s) (congrArg (ix2 i) (Fin.ext (by simp only; omega)))

theorem k337_eq (L : Link X j s) (h : Fin 8) (i : Fin 64) (d : Fin 128) :
    k0_pay84 (k321 X) (k322 X) (k323 X) (k324 X) (k325 X) (k326 X) (k327 X) (k328 X) (ix3 h i d) = b235 j s (ix3 i h d) := by
  pointwise [k0_pay84]
  fin_vals h with hk
  all_goals simp only [hk]
  all_goals pointwise [b235, k321, k322, k323, k324, k325, k326, k327, k328]
  all_goals rw [L.dog]
  all_goals exact congrArg (b67 j s) (congrArg (ix2 i) (Fin.ext (by simp only; omega)))

theorem k4_eq (L : Link X j s) (h : Fin 8) (a b : Fin 64) : k4 X (ix3 h a b) = b57 j s (ix3 h a b) := by
  pointwise [k4, k0_pay3, k3]
  exact L.ti h a b

theorem k76_eq (L : Link X j s) (h : Fin 8) (a b : Fin 128) : k76 X (ix3 h a b) = b46 j s (ix3 h a b) := by
  pointwise [k76, k0_pay8, k75]
  exact L.st h a b

theorem k338_eq (L : Link X j s) (h : Fin 8) (a b : Fin 128) : k338 X (ix3 h a b) = s.main_v9_9 (ix3 h a b) :=
  L.ds h a b

theorem k74_eq (L : Link X j s) (d : Fin 128) : k74 X (ix2 0 d) = b71 j s (ix1 d) := by
  pointwise [k74, b71]
  exact L.nw d

end Cert.Delta
-- ==== Proof.St2.lean ====
/-
  The gates of each head and what the norms of queries and keys come to, and the running sum of the log-decays.
-/
module

public import proofs.«01_k».proof.Proof.St1

@[expose] public section

noncomputable section

namespace Cert.Delta

open Idealize.ShloMosaic Cert.KernelIdeal.Gen Cert.ReferenceIdeal.Step

set_option maxRecDepth 16384

variable {X : KIn} {j : ℕ} {s : State Ideal}

theorem k134_eq (L : Link X j s) (h : Fin 8) (i : Fin 64) : k134 X (ix3 h i 0) = b109 j s (ix2 h i) := by
  pointwise [k134, k0_pay19]
  fin_vals h with hk
  all_goals simp only [hk]
  all_goals pointwise [b109, b103, k83, k0_pay10, k0_pay9, k89, k0_pay12, k0_pay11, k91, k0_pay13, k0_pay14, k0_pay15, k0_pay16, k0_pay17, k0_pay18, k77]
  all_goals refine (mask_lane (by omega) (by omega) _).trans ((L.gates i _).trans (congrArg (b35 j s) (congrArg (ix2 i) (Fin.ext ?_))))
  all_goals simp only; omega

theorem k192_eq (L : Link X j s) (h : Fin 8) (i : Fin 64) : k192 X (ix3 h i 0) = b108 j s (ix2 h i) := by
  pointwise [k192, k0_pay35]
  fin_vals h with hk
  all_goals simp only [hk]
  all_goals pointwise [b108, b104, k141, k147, k153, k159, k165, k171, k175, k0_pay21, k0_pay23, k0_pay25, k0_pay27, k0_pay29, k0_pay31, k0_pay33, k0_pay34, k0_pay20, k0_pay22, k0_pay24, k0_pay26, k0_pay28, k0_pay30, k0_pay32, k135]
  all_goals refine (mask_lane (by omega) (by omega) _).trans ((L.gates i _).trans (congrArg (b35 j s) (congrArg (ix2 i) (Fin.ext ?_))))
  all_goals simp only; omega

theorem pay36_eq (L : Link X j s) (h : Fin 8) (i : Fin 64) : k0_pay36 (k21 X) (ix3 h i 0) = b79 j s (ix3 i h 0) := by
  pointwise [k0_pay36, b79, b78, b77, b76, b75, b74, b73]
  simp only [k21_eq L]

theorem k198_eq (L : Link X j s) (h : Fin 8) (i : Fin 64) : k198 X (ix3 h i 0) = b80 j s (ix3 i h 0) := by
  pointwise [k198, k0_pay37, b80]
  rw [pay36_eq L]

theorem k201_eq (L : Link X j s) (h : Fin 8) (i : Fin 64) : k201 X (ix3 h i 0) = b84 j s (ix3 i h 0) := by
  pointwise [k201, k0_pay38, k0_pay37, b84, b83, b82, b81, b80]
  rw [pay36_eq L]

theorem k205_eq (L : Link X j s) (h : Fin 8) (i : Fin 64) (d : Fin 128) : k205 X (ix3 h i d) = b112 j s (ix3 h i d) := by
  pointwise [k205, k0_pay39, k0_pay37, b112, b111, b110, b105, b86, b85, b80]
  rw [pay36_eq L, k21_eq L]

theorem pay40_eq (L : Link X j s) (h : Fin 8) (i : Fin 64) : k0_pay40 (k38 X) (ix3 h i 0) = b94 j s (ix3 i h 0) := by
  pointwise [k0_pay40, b94, b93, b92, b91, b90, b89, b88]
  simp only [k38_eq L]

theorem k211_eq (L : Link X j s) (h : Fin 8) (i : Fin 64) : k211 X (ix3 h i 0) = b95 j s (ix3 i h 0) := by
  pointwise [k211, k0_pay41, b95]
  rw [pay40_eq L]

theorem k214_eq (L : Link X j s) (h : Fin 8) (i : Fin 64) : k214 X (ix3 h i 0) = b99 j s (ix3 i h 0) := by
  pointwise [k214, k0_pay42, k0_pay41, b99, b98, b97, b96, b95]
  rw [pay40_eq L]

theorem k216_eq (L : Link X j s) (h : Fin 8) (i : Fin 64) (d : Fin 128) : k216 X (ix3 h i d) = b106 j s (ix3 h i d) := by
  pointwise [k216, k0_pay43, k0_pay41, b106, b101, b100, b95]
  rw [pay40_eq L, k38_eq L]

/-- The reference's running sum: what the decays up to a position add up to. -/
theorem b115_eq (h : Fin 8) (i : Fin 64) : b115 j s (ix2 h i) = ∑ k : Fin 64, if k.val ≤ i.val then b108 j s (ix2 h k) else 0 := by
  rw [b115, windowSum _ _ _ _ (by pointwise [b114, b113])]
  exact window_back (fun k => b108 j s (ix2 h k)) i

theorem pay49_eq (L : Link X j s) (h : Fin 8) (i : Fin 64) :
    k0_pay49 (k192 X) (0 : EReal) (k223 X) (ix3 h 0 i) = b115 j s (ix2 h i) := by
  rw [b115_eq]
  pointwise [k0_pay49, k0_pay48, k223, k0_pay47]
  simp only [k192_eq L]
  exact Finset.sum_congr rfl fun k _ => sel_sle (by omega) (by omega) _ _

theorem pay51_eq (L : Link X j s) (h : Fin 8) (i : Fin 64) :
    k0_pay51 (k192 X) (k221 X) (0 : EReal) (k223 X) (ix3 h i 0) = b115 j s (ix2 h i) := by
  pointwise [k0_pay51, k0_pay50, k221, k0_pay46]
  simp only [pay49_eq L]
  exact mask_diag (by omega) i _

theorem k238_eq (L : Link X j s) (h : Fin 8) (i : Fin 64) : k238 X (ix3 h i 0) = b115 j s (ix2 h i) := by
  pointwise [k238]
  exact pay51_eq L h i

theorem k240_eq (L : Link X j s) (h : Fin 8) : k240 X (ix3 h 0 0) = b115 j s (ix2 h 63) := by
  rw [b115_eq]
  pointwise [k240, k0_pay52]
  simp only [k192_eq L]
  exact Finset.sum_congr rfl fun k _ => (if_pos (by show k.val ≤ 63; omega)).symm

/-- The decay between two positions: zero above the diagonal. -/
theorem b150_eq (h : Fin 8) (i k : Fin 64) :
    b150 j s (ix3 h i k) = if k.val ≤ i.val then Ideal.exp (b115 j s (ix2 h i) - b115 j s (ix2 h k)) else 0 := by
  pointwise [b150, b147, b146, b144, b143, b145, b142, b141, b140, b139, b138, b126, b125, b124, b123, b122, b121, b120, b119, b118, b117, b116]
  rw [sel_tril (by omega) (by omega), ofBits_neg_inf]
  split
  · rfl
  · rfl

theorem k252_eq (L : Link X j s) (h : Fin 8) (i k : Fin 64) : k252 X (ix3 h i k) = b150 j s (ix3 h i k) := by
  rw [b150_eq]
  pointwise [k252, k0_pay56,k0_pay55,k0_pay54,k0_pay53,k219, k0_pay44]
  rw [pay49_eq L, pay51_eq L, sel_sge (by omega) (by omega), sel_sge (by omega) (by omega)]
  split <;> rfl

/-- What the body keeps of the decay before its mask, on and below the diagonal. -/
theorem k248_eq (L : Link X j s) (h : Fin 8) (i k : Fin 64) (hik : k.val ≤ i.val) : k248 X (ix3 h i k) = b150 j s (ix3 h i k) := by
  rw [b150_eq, if_pos hik]
  pointwise [k248, k0_pay54,k0_pay53,k219, k0_pay44]
  rw [pay49_eq L, pay51_eq L, sel_sge (by omega) (by omega), if_pos hik]

end Cert.Delta
-- ==== Proof.St3.lean ====
/-
  The chunk's forward values: the decayed keys and values, the two products with the saved inverse, the attention
  inside the chunk, and the output with its norm and gate.
-/
module

public import proofs.«01_k».proof.Proof.St2

@[expose] public section

noncomputable section

namespace Cert.Delta

open Idealize.ShloMosaic Cert.KernelIdeal.Gen Cert.ReferenceIdeal.Step

set_option maxRecDepth 16384

variable {X : KIn} {j : ℕ} {s : State Ideal}

theorem k254_eq (L : Link X j s) (h : Fin 8) (i : Fin 64) (d : Fin 128) : k254 X (ix3 h i d) = b153 j s (ix3 h i d) := by
  pointwise [k254, k0_pay57, b153, b152, b151]
  rw [k216_eq L, k134_eq L]

theorem k257_eq (L : Link X j s) (h : Fin 8) (i k : Fin 64) : k257 X (ix3 h i k) = b154 j s (ix3 h i k) := by
  pointwise [k257, k0_pay58, k0_pay57, b154, b153, b152, b151]
  simp only [k216_eq L, k134_eq L]

theorem k262_eq (L : Link X j s) (h : Fin 8) (i : Fin 64) (d : Fin 128) : k262 X (ix3 h i d) = b165 j s (ix3 h i d) := by
  pointwise [k262, k0_pay61, b165, b164, b163, b107]
  rw [k55_eq L, k134_eq L]

theorem k265_eq (L : Link X j s) (h : Fin 8) (i : Fin 64) (d : Fin 128) : k265 X (ix3 h i d) = b166 j s (ix3 h i d) := by
  pointwise [k265, k0_pay62, k0_pay61, b166, b165, b164, b163, b107]
  simp only [k4_eq L, k55_eq L, k134_eq L]

theorem pay60_eq (L : Link X j s) (h : Fin 8) (i : Fin 64) :
    k0_pay60 (k192 X) (k221 X) (0 : EReal) (k223 X) (ix3 h i 0) = Ideal.exp (b115 j s (ix2 h i)) := by
  pointwise [k0_pay60]
  rw [pay51_eq L]

theorem k260_eq (L : Link X j s) (h : Fin 8) (i : Fin 64) : k260 X (ix3 h i 0) = b174 j s (ix2 h i) := by
  pointwise [k260, b174]
  rw [pay60_eq L]

theorem k267_eq (L : Link X j s) (h : Fin 8) (i : Fin 64) (d : Fin 128) : k267 X (ix3 h i d) = b170 j s (ix3 h i d) := by
  pointwise [k267, k0_pay63, k0_pay57, b170, b169, b168, b167, b153, b152, b151]
  rw [pay60_eq L, k216_eq L, k134_eq L]

theorem k270_eq (L : Link X j s) (h : Fin 8) (i : Fin 64) (d : Fin 128) : k270 X (ix3 h i d) = b171 j s (ix3 h i d) := by
  pointwise [k270, k0_pay64, k0_pay63, k0_pay57, b171, b170, b169, b168, b167, b153, b152, b151]
  simp only [pay60_eq L, k4_eq L, k216_eq L, k134_eq L]

theorem k273_eq (L : Link X j s) (h : Fin 8) (i k : Fin 64) : k273 X (ix3 h i k) = b172 j s (ix3 h i k) := by
  pointwise [k273, k0_pay65, b172]
  simp only [k205_eq L, k216_eq L]

theorem k274_eq (L : Link X j s) (h : Fin 8) (i k : Fin 64) : k274 X (ix3 h i k) = b173 j s (ix3 h i k) := by
  pointwise [k274, k0_pay66, b173]
  rw [k273_eq L, k252_eq L]

theorem k278_eq (L : Link X j s) (h : Fin 8) (i : Fin 64) (d : Fin 128) : k278 X (ix3 h i d) = b189 j s (ix3 h i d) := by
  pointwise [k278, k0_pay67, b189, b188]
  simp only [k265_eq L, k270_eq L, k76_eq L]

theorem k280_eq (L : Link X j s) (h : Fin 8) (i : Fin 64) (d : Fin 128) : k280 X (ix3 h i d) = b177 j s (ix3 h i d) := by
  pointwise [k280, k0_pay68, b177, b176, b175]
  rw [k205_eq L, k260_eq L]

theorem pay69_eq (L : Link X j s) (h : Fin 8) (i : Fin 64) (d : Fin 128) :
    k0_pay69 (k76 X) (k205 X) (k252 X) (k260 X) (k265 X) (k270 X) (k273 X) (ix3 h i d) = b198 j s (ix3 i h d) := by
  pointwise [k0_pay69, k0_pay68, k0_pay66, k0_pay67, b198, b192, b191, b190, b189, b188, b177, b176, b175, b173]
  simp only [k205_eq L, k260_eq L, k76_eq L, k273_eq L, k252_eq L, k265_eq L, k270_eq L]

theorem k287_eq (L : Link X j s) (h : Fin 8) (i : Fin 64) (d : Fin 128) : k287 X (ix3 h i d) = b198 j s (ix3 i h d) :=
  pay69_eq L h i d

theorem k288_eq (L : Link X j s) (h : Fin 8) : k288 X (ix3 h 0 0) = b187 j s (ix1 h) := by
  pointwise [k288, k0_pay70, b187, b186, b185]
  rw [k240_eq L]

theorem k291_eq (L : Link X j s) (h : Fin 8) (i : Fin 64) : k291 X (ix3 h i 0) = b181 j s (ix2 h i) := by
  pointwise [k291, k0_pay71, b181, b180, b179, b178]
  rw [k240_eq L, k238_eq L]

theorem k293_eq (L : Link X j s) (h : Fin 8) (i : Fin 64) (d : Fin 128) : k293 X (ix3 h i d) = b184 j s (ix3 h i d) := by
  pointwise [k293, k0_pay72, k0_pay71, b184, b183, b182, b181, b180, b179, b178]
  rw [k216_eq L, k240_eq L, k238_eq L]

theorem pay73_eq (L : Link X j s) (h : Fin 8) (i : Fin 64) :
    k0_pay73 (k76 X) (k205 X) (k252 X) (k260 X) (k265 X) (k270 X) (k273 X) (ix3 h i 0) = b208 j s (ix3 i h 0) := by
  pointwise [k0_pay73, b208, b207, b206, b205, b204, b203, b202, b201, b200, b199]
  simp only [pay69_eq L]

theorem pay74_eq (L : Link X j s) (h : Fin 8) (i : Fin 64) :
    k0_pay74 (k76 X) (k205 X) (k252 X) (k260 X) (k265 X) (k270 X) (k273 X) (ix3 h i 0) = b209 j s (ix3 i h 0) := by
  pointwise [k0_pay74, b209]
  rw [pay73_eq L]

theorem k301_eq (L : Link X j s) (h : Fin 8) (i : Fin 64) : k301 X (ix3 h i 0) = b209 j s (ix3 i h 0) :=
  pay74_eq L h i

theorem k304_eq (L : Link X j s) (h : Fin 8) (i : Fin 64) : k304 X (ix3 h i 0) = b213 j s (ix3 i h 0) := by
  pointwise [k304, k0_pay75, b213, b212, b211, b210]
  rw [pay73_eq L, pay74_eq L]

theorem pay76_eq (L : Link X j s) (h : Fin 8) (i : Fin 64) (d : Fin 128) :
    k0_pay76 (k76 X) (k205 X) (k252 X) (k260 X) (k265 X) (k270 X) (k273 X) (ix3 h i d) = b215 j s (ix3 i h d) := by
  pointwise [k0_pay76, b215, b214]
  rw [pay69_eq L, pay74_eq L]

theorem k306_eq (L : Link X j s) (h : Fin 8) (i : Fin 64) (d : Fin 128) : k306 X (ix3 h i d) = b215 j s (ix3 i h d) :=
  pay76_eq L h i d

theorem k307_eq (L : Link X j s) (d : Fin 128) : k307 X (ix3 0 0 d) = b71 j s (ix1 d) := by
  pointwise [k307, k0_pay77]
  rw [k74_eq L]

theorem k309_eq (L : Link X j s) (h : Fin 8) (i : Fin 64) (d : Fin 128) : k309 X (ix3 h i d) = b218 j s (ix3 i h d) := by
  pointwise [k309, k0_pay78, k0_pay77, b218, b217, b216]
  rw [pay76_eq L, k74_eq L]

theorem k316_eq (L : Link X j s) (h : Fin 8) (i : Fin 64) (d : Fin 128) : k316 X (ix3 h i d) = b227 j s (ix3 i h d) := by
  pointwise [k316, k0_pay81, k0_pay80, k0_pay79, b227, b226, b225, b224, b223, b222, b221, b220]
  rw [k72_eq L]
  simp only [zero_sub]

theorem k320_eq (L : Link X j s) (h : Fin 8) (i : Fin 64) (d : Fin 128) : k320 X (ix3 h i d) = b232 j s (ix3 i h d) := by
  pointwise [k320, k0_pay83, k0_pay81, k0_pay80, k0_pay79, b232, b227, b226, b225, b224, b223, b222, b221, b220]
  rw [k72_eq L]
  simp only [zero_sub]

end Cert.Delta
-- ==== Proof.St4.lean ====
/-
  The gradients of the norm and the gate of the chunk's output, and of what made the output: the new values, the
  attention inside the chunk, the state before it.
-/
module

public import proofs.«01_k».proof.Proof.St3

@[expose] public section

noncomputable section

namespace Cert.Delta

open Idealize.ShloMosaic Cert.KernelIdeal.Gen Cert.ReferenceIdeal.Step

set_option maxRecDepth 16384

variable {X : KIn} {j : ℕ} {s : State Ideal}

theorem pay86_eq (L : Link X j s) (h : Fin 8) (i : Fin 64) (d : Fin 128) :
    k0_pay86 (k320 X) (k321 X) (k322 X) (k323 X) (k324 X) (k325 X) (k326 X) (k327 X) (k328 X) (ix3 h i d) = b237 j s (ix3 i h d) := by
  pointwise [k0_pay86, b237]
  rw [k337_eq L, k320_eq L]

theorem k355_eq (L : Link X j s) (d : Fin 128) : k355 X (ix3 0 0 d) = b245 j s (ix1 d) := by
  have e : k355 X (ix3 0 0 d) = ∑ h : Fin 8, ∑ i : Fin 64, k306 X (ix3 h i d) * k0_pay86 (k320 X) (k321 X) (k322 X) (k323 X) (k324 X) (k325 X) (k326 X) (k327 X) (k328 X) (ix3 h i d) := by
    pointwise [k355, k0_pay88]
    rw [reduceAdd01]
    rfl
  have e' : b245 j s (ix1 d) = ∑ i : Fin 64, ∑ h : Fin 8, b215 j s (ix3 i h d) * b237 j s (ix3 i h d) := by
    pointwise [b245, b244]
    rw [hostReduceAdd01]
    pointwise [b243]
  rw [e, e', Finset.sum_comm]
  simp only [pay86_eq L, k306_eq L]

theorem k357_eq (L : Link X j s) (h : Fin 8) (i : Fin 64) (d : Fin 128) : k357 X (ix3 h i d) = b248 j s (ix3 i h d) := by
  pointwise [k357, k0_pay89, b248, b247, b216]
  rw [pay86_eq L, k307_eq L]

theorem k359_eq (L : Link X j s) (d : Fin 128) : k359 X (ix2 0 d) = b250 j s (ix1 d) := by
  pointwise [k359, k0_pay90, b250, b249]
  rw [reduceAdd01, hostReduceAdd01]
  pointwise [b246]
  simp only [Fin.sum_univ_one]
  exact k355_eq L d

theorem pay91_eq (L : Link X j s) (h : Fin 8) (i : Fin 64) (d : Fin 128) :
    k0_pay91 (k287 X) (k301 X) (k304 X) (k357 X) (ix3 h i d) = b268 j s (ix3 h i d) := by
  pointwise [k0_pay91, b268, b267, b266, b265, b264, b263, b262, b261, b260, b259, b258, b257, b256, b255, b254, b253, b252, b251]
  simp only [Fin.sum_univ_one, k287_eq L, k301_eq L, k304_eq L, k357_eq L]

theorem k374_eq (L : Link X j s) (h : Fin 8) (i : Fin 64) (d : Fin 128) : k374 X (ix3 h i d) = b268 j s (ix3 h i d) :=
  pay91_eq L h i d

theorem pay94_eq (L : Link X j s) (h : Fin 8) (i : Fin 64) (d : Fin 128) :
    k0_pay94 (k278 X) (k338 X) (ix3 h i d) = b272 j s (ix3 h i d) := by
  pointwise [k0_pay94, k0_pay93, b272, b271]
  simp only [k278_eq L, k338_eq L, mul_comm]

theorem k387_eq (L : Link X j s) (h : Fin 8) (i : Fin 64) (d : Fin 128) : k387 X (ix3 h i d) = b303 j s (ix3 h i d) := by
  pointwise [k387, k0_pay95, b303, b302, b182]
  rw [pay94_eq L, k291_eq L]

theorem pay96_eq (L : Link X j s) (h : Fin 8) (i : Fin 64) :
    k0_pay96 (k216 X) (k278 X) (k291 X) (k338 X) (ix3 h i 0) = b306 j s (ix2 h i) := by
  pointwise [k0_pay96, b306, b305, b304, b301, b300, b299, b298]
  simp only [Fin.sum_univ_one, pay94_eq L, k216_eq L, k291_eq L]

theorem k392_eq (L : Link X j s) (h : Fin 8) (i : Fin 64) : k392 X (ix3 h i 0) = - b306 j s (ix2 h i) := by
  pointwise [k392, k0_pay97]
  rw [pay96_eq L]
  simp only [zero_sub]

theorem k397_eq (L : Link X j s) (h : Fin 8) (a b : Fin 128) : k397 X (ix3 h a b) = b278 j s (ix3 h a b) := by
  pointwise [k397, k0_pay98, k0_pay92, b278, b277, b193]
  rw [k338_eq L, k288_eq L]

theorem k399_eq (L : Link X j s) (h : Fin 8) : k399 X (ix3 h 0 0) = b308 j s (ix1 h) + b294 j s (ix1 h) := by
  pointwise [k399, k0_pay99, k0_pay92, b308, b307, b294, b280, b279, b276, b275, b274, b273]
  simp only [Fin.sum_univ_one, pay96_eq L, k76_eq L, k338_eq L, k288_eq L]

theorem k402_eq (L : Link X j s) (h : Fin 8) (i k : Fin 64) : k402 X (ix3 h i k) = b284 j s (ix3 h i k) := by
  pointwise [k402, k0_pay100, b284]
  simp only [pay91_eq L, k278_eq L]

theorem k406_eq (L : Link X j s) (h : Fin 8) (i : Fin 64) (d : Fin 128) : k406 X (ix3 h i d) = b283 j s (ix3 h i d) := by
  pointwise [k406, k0_pay101, k0_pay93, b283, b282, b281, b270, b269]
  simp only [k293_eq L, k338_eq L, k274_eq L, pay91_eq L, mul_comm]

theorem pay102_eq (L : Link X j s) (h : Fin 8) (i : Fin 64) (d : Fin 128) :
    k0_pay102 (k76 X) (k374 X) (ix3 h i d) = b288 j s (ix3 h i d) := by
  pointwise [k0_pay102, b288]
  simp only [k374_eq L, k76_eq L]

theorem pay103_eq (L : Link X j s) (h : Fin 8) (i : Fin 64) (d : Fin 128) : k0_pay103 (k406 X) (ix3 h i d) = b289 j s (ix3 h i d) := by
  pointwise [k0_pay103, b289]
  rw [k406_eq L]
  simp only [zero_sub]

theorem pay104_eq (L : Link X j s) (h : Fin 8) (i : Fin 64) (d : Fin 128) :
    k0_pay104 (k76 X) (k406 X) (ix3 h i d) = b293 j s (ix3 h i d) := by
  pointwise [k0_pay104, b293]
  simp only [pay103_eq L, k76_eq L]

theorem k427_eq (L : Link X j s) (h : Fin 8) (a b : Fin 128) : k427 X (ix3 h a b) = b292 j s (ix3 h a b) := by
  pointwise [k427, k0_pay105, b292, b291, b290, b287, b286, b285]
  simp only [k397_eq L, k280_eq L, k374_eq L, k270_eq L, pay103_eq L, mul_comm]

theorem k428_eq (L : Link X j s) (h : Fin 8) (i k : Fin 64) : k428 X (ix3 h i k) = b325 j s (ix3 h i k) := by
  pointwise [k428, k0_pay106, b325]
  rw [k273_eq L, k402_eq L]

theorem pay107_eq (L : Link X j s) (h : Fin 8) (i k : Fin 64) : k0_pay107 (k252 X) (k402 X) (ix3 h i k) = b326 j s (ix3 h i k) := by
  pointwise [k0_pay107, b326]
  rw [k252_eq L, k402_eq L]

theorem k436_eq (L : Link X j s) (h : Fin 8) (i : Fin 64) (d : Fin 128) : k436 X (ix3 h i d) = b330 j s (ix3 h i d) := by
  pointwise [k436, k0_pay108, b330, b329, b320, b319, b175]
  simp only [pay102_eq L, k260_eq L, pay107_eq L, k216_eq L]

theorem k437_eq (L : Link X j s) (h : Fin 8) (i : Fin 64) (d : Fin 128) : k437 X (ix3 h i d) = b328 j s (ix3 h i d) := by
  pointwise [k437, k0_pay109, b328, b327]
  simp only [k387_eq L, pay107_eq L, k205_eq L]

theorem pay110_eq (L : Link X j s) (h : Fin 8) (i : Fin 64) (d : Fin 128) :
    k0_pay110 (k4 X) (k76 X) (k406 X) (ix3 h i d) = b332 j s (ix3 h i d) := by
  pointwise [k0_pay110, b332, b331]
  simp only [k4_eq L, pay104_eq L, mul_comm]

theorem k444_eq (L : Link X j s) (h : Fin 8) (i k : Fin 64) : k444 X (ix3 h i k) = b333 j s (ix3 h i k) := by
  pointwise [k444, k0_pay111, k339, k0_pay85, b333]
  simp only [k267_eq L, pay104_eq L]

theorem k450_eq (L : Link X j s) (h : Fin 8) (i : Fin 64) (d : Fin 128) : k450 X (ix3 h i d) = b339 j s (ix3 h i d) := by
  pointwise [k450, k0_pay113, b339, b338, b168, b167]
  rw [pay110_eq L, k260_eq L]
  pointwise [b174]

theorem k453_eq (L : Link X j s) (h : Fin 8) (i k : Fin 64) : k453 X (ix3 h i k) = b346 j s (ix3 h i k) := by
  pointwise [k453, k0_pay114, b346]
  simp only [k406_eq L, k262_eq L]

theorem pay116_eq (L : Link X j s) (h : Fin 8) (i : Fin 64) (d : Fin 128) :
    k0_pay116 (k406 X) (k454 X) (ix3 h i d) = b345 j s (ix3 h i d) := by
  pointwise [k0_pay116, k454, k0_pay115, b345, b344]
  simp only [k4_eq L, k406_eq L, mul_comm]

theorem k460_eq (L : Link X j s) (h : Fin 8) (i : Fin 64) : k460 X (ix3 h i 0) = b355 j s (ix2 h i) := by
  pointwise [k460, k0_pay117, b355, b354, b351, b350, b349, b348, b107]
  simp only [Fin.sum_univ_one, k55_eq L, pay116_eq L]

theorem k462_eq (L : Link X j s) (h : Fin 8) (i : Fin 64) (d : Fin 128) : k462 X (ix3 h i d) = b353 j s (ix3 h i d) := by
  pointwise [k462, k0_pay118, b353, b352, b163]
  rw [pay116_eq L, k134_eq L]

end Cert.Delta
-- ==== Proof.Real.lean ====
/-
  Which of a trip's values are real numbers, not infinities, when what the trip reads is real. Only one place needs it:
  the body splits each factor of a product into a half and the rest, and the rest of a real number is zero.
-/
module

public import proofs.«01_k».proof.Proof.St2
public import Mathlib.Tactic.NormNum

@[expose] public section

noncomputable section

namespace Cert.Delta

open Idealize.ShloMosaic Cert.ReferenceIdeal.Step

set_option maxRecDepth 16384

/-- A value that is a real number. -/
def IsReal (x : EReal) : Prop := ∃ r : ℝ, x = r

/-- A value that is a positive real number. -/
def IsPos (x : EReal) : Prop := ∃ r : ℝ, 0 < r ∧ x = r

namespace IsReal

theorem zero : IsReal 0 := ⟨0, rfl⟩
theorem one : IsReal 1 := ⟨1, rfl⟩
theorem add {a b : EReal} : IsReal a → IsReal b → IsReal (a + b) := by
  rintro ⟨r, rfl⟩ ⟨t, rfl⟩; exact ⟨r + t, (EReal.coe_add r t).symm⟩
theorem sub {a b : EReal} : IsReal a → IsReal b → IsReal (a - b) := by
  rintro ⟨r, rfl⟩ ⟨t, rfl⟩; exact ⟨r - t, (EReal.coe_sub r t).symm⟩
theorem mul {a b : EReal} : IsReal a → IsReal b → IsReal (a * b) := by
  rintro ⟨r, rfl⟩ ⟨t, rfl⟩; exact ⟨r * t, (EReal.coe_mul r t).symm⟩
theorem neg {a : EReal} : IsReal a → IsReal (-a) := by
  rintro ⟨r, rfl⟩; exact ⟨-r, (EReal.coe_neg r).symm⟩
theorem exp {a : EReal} : IsReal a → IsReal (Ideal.exp a) := by
  rintro ⟨r, rfl⟩; exact ⟨Real.exp r, rfl⟩
theorem ite {p : Prop} [Decidable p] {a b : EReal} : IsReal a → IsReal b → IsReal (if p then a else b) := by
  intro ha hb; split
  · exact ha
  · exact hb

theorem sum {ι : Type*} (t : Finset ι) (f : ι → EReal) (h : ∀ i, IsReal (f i)) : IsReal (∑ i ∈ t, f i) := by
  classical
  induction t using Finset.induction_on with
  | empty => exact zero
  | insert a t ha ih => rw [Finset.sum_insert ha]; exact (h a).add ih

theorem sub_self {a : EReal} : IsReal a → a - a = 0 := by
  rintro ⟨r, rfl⟩; rw [← EReal.coe_sub, _root_.sub_self]; rfl

theorem div {a b : EReal} : IsReal a → IsPos b → IsReal (Ideal.div a b) := by
  rintro ⟨r, rfl⟩ ⟨t, ht, rfl⟩
  refine ⟨r * t⁻¹, ?_⟩
  have : ((t : ℝ) : EReal) ≠ 0 := by exact_mod_cast ht.ne'
  rw [Ideal.div, if_neg this, ← EReal.coe_inv, ← EReal.coe_mul]

end IsReal

namespace IsPos

theorem real {a : EReal} : IsPos a → IsReal a := by
  rintro ⟨r, _, e⟩; exact ⟨r, e⟩

theorem rsqrt {a : EReal} : IsPos a → IsReal (Ideal.rsqrt a) := by
  rintro ⟨r, h, rfl⟩
  refine ⟨(Real.sqrt r)⁻¹, ?_⟩
  show (if r < 0 then (⊥ : EReal) else if r = 0 then ⊤ else ((Real.sqrt r)⁻¹ : ℝ)) = _
  rw [if_neg (not_lt.2 h.le), if_neg h.ne']

theorem one_add_exp {a : EReal} : IsReal a → IsPos (1 + Ideal.exp a) := by
  rintro ⟨r, rfl⟩
  exact ⟨1 + Real.exp r, by positivity, (EReal.coe_add 1 (Real.exp r)).symm⟩

/-- A sum of squares is real and not negative. -/
theorem squares {n : ℕ} (f : Fin n → EReal) (h : ∀ i, IsReal (f i)) : ∃ r : ℝ, 0 ≤ r ∧ (∑ i, f i * f i) = (r : EReal) := by
  choose g hg using h
  refine ⟨∑ i, g i * g i, Finset.sum_nonneg fun i _ => mul_self_nonneg _, ?_⟩
  simp only [hg, ← EReal.coe_mul]
  have : ∀ t : Finset (Fin n), (∑ i ∈ t, ((g i * g i : ℝ) : EReal)) = ((∑ i ∈ t, g i * g i : ℝ) : EReal) := by
    classical
    intro t
    induction t using Finset.induction_on with
    | empty => rfl
    | insert a t ha ih => rw [Finset.sum_insert ha, Finset.sum_insert ha, EReal.coe_add, ih]
  exact this _

end IsPos

theorem eps_pos : IsPos (Ideal.ofBits .f32 0x358637BD#32) := by
  refine ⟨8796093 * 2 ^ (-43 : Int), by norm_num, ?_⟩
  simp [Ideal.ofBits, Ideal.ieee, -EReal.coe_mul]

theorem c128_pos : IsPos (Ideal.ofBits .f32 0x43000000#32) := by
  refine ⟨128, by norm_num, ?_⟩
  simp [Ideal.ofBits, Ideal.ieee, -EReal.coe_mul]
  norm_num

theorem scale_real : IsReal (Ideal.ofBits .f32 0x3DB504F3#32) := by
  simp only [Ideal.ofBits, Ideal.ieee]
  norm_num
  exact ⟨_, rfl⟩

theorem mhalf_real : IsReal (Ideal.ofBits .f32 0xBF000000#32) := by
  simp only [Ideal.ofBits, Ideal.ieee]
  norm_num
  exact ⟨_, rfl⟩

/-- Squares and a positive number, added. -/
theorem norm_pos {n : ℕ} (f : Fin n → EReal) (h : ∀ i, IsReal (f i)) : IsPos ((∑ i, f i * f i) + Ideal.ofBits .f32 0x358637BD#32) := by
  obtain ⟨r, hr, e⟩ := IsPos.squares f h
  obtain ⟨t, ht, e'⟩ := eps_pos
  exact ⟨r + t, by positivity, by rw [e, e', EReal.coe_add]⟩

/-- The mean of squares and a positive number, added. -/
theorem mean_pos {n : ℕ} (f : Fin n → EReal) (h : ∀ i, IsReal (f i)) :
    IsPos (Ideal.div (∑ i, f i * f i) (Ideal.ofBits .f32 0x43000000#32) + Ideal.ofBits .f32 0x358637BD#32) := by
  obtain ⟨r, hr, e⟩ := IsPos.squares f h
  obtain ⟨t, ht, e'⟩ := eps_pos
  obtain ⟨u, hu, e''⟩ := c128_pos
  refine ⟨r * u⁻¹ + t, by positivity, ?_⟩
  have : ((u : ℝ) : EReal) ≠ 0 := by exact_mod_cast hu.ne'
  rw [e, e', e'', Ideal.div, if_neg this, ← EReal.coe_inv, ← EReal.coe_mul, EReal.coe_add]

/-- What a trip reads is real. -/
structure Tame (j : ℕ) (s : State Ideal) : Prop where
  q : ∀ i l, IsReal (b68 j s (ix2 i l))
  k : ∀ i l, IsReal (b69 j s (ix2 i l))
  v : ∀ i l, IsReal (b70 j s (ix2 i l))
  z : ∀ i l, IsReal (b25 j s (ix2 i l))
  g : ∀ h i, IsReal (b108 j s (ix2 h i))
  beta : ∀ h i, IsReal (b109 j s (ix2 h i))
  nw : ∀ d, IsReal (b71 j s (ix1 d))
  st : ∀ h a b, IsReal (b46 j s (ix3 h a b))
  ti : ∀ h a b, IsReal (b57 j s (ix3 h a b))
  dog : ∀ i l, IsReal (b67 j s (ix2 i l))
  ds : ∀ h a b, IsReal (s.main_v9_9 (ix3 h a b))

variable {j : ℕ} {s : State Ideal}

theorem r72 (T : Tame j s) (i : Fin 64) (h : Fin 8) (d : Fin 128) : IsReal (b72 j s (ix3 i h d)) := by
  pointwise [b72]
  exact T.q _ _

theorem r87 (T : Tame j s) (i : Fin 64) (h : Fin 8) (d : Fin 128) : IsReal (b87 j s (ix3 i h d)) := by
  pointwise [b87]
  exact T.k _ _

theorem r102 (T : Tame j s) (i : Fin 64) (h : Fin 8) (d : Fin 128) : IsReal (b102 j s (ix3 i h d)) := by
  pointwise [b102]
  exact T.v _ _

theorem r219 (T : Tame j s) (i : Fin 64) (h : Fin 8) (d : Fin 128) : IsReal (b219 j s (ix3 i h d)) := by
  pointwise [b219]
  exact T.z _ _

theorem r235 (T : Tame j s) (i : Fin 64) (h : Fin 8) (d : Fin 128) : IsReal (b235 j s (ix3 i h d)) := by
  pointwise [b235]
  exact T.dog _ _

theorem r80 (T : Tame j s) (i : Fin 64) (h : Fin 8) : IsReal (b80 j s (ix3 i h 0)) := by
  pointwise [b80, b79, b78, b77, b76, b75, b74, b73]
  exact (norm_pos _ fun d => r72 T i h d).rsqrt

theorem r95 (T : Tame j s) (i : Fin 64) (h : Fin 8) : IsReal (b95 j s (ix3 i h 0)) := by
  pointwise [b95, b94, b93, b92, b91, b90, b89, b88]
  exact (norm_pos _ fun d => r87 T i h d).rsqrt

theorem r112 (T : Tame j s) (h : Fin 8) (i : Fin 64) (d : Fin 128) : IsReal (b112 j s (ix3 h i d)) := by
  pointwise [b112, b111, b110, b105, b86, b85]
  exact ((r72 T _ _ _).mul (r80 T _ _)).mul scale_real

theorem r106 (T : Tame j s) (h : Fin 8) (i : Fin 64) (d : Fin 128) : IsReal (b106 j s (ix3 h i d)) := by
  pointwise [b106, b101, b100]
  exact (r87 T _ _ _).mul (r95 T _ _)

theorem r115 (T : Tame j s) (h : Fin 8) (i : Fin 64) : IsReal (b115 j s (ix2 h i)) := by
  rw [b115_eq]
  exact .sum _ _ fun k => (T.g h k).ite .zero

theorem r150 (T : Tame j s) (h : Fin 8) (i k : Fin 64) : IsReal (b150 j s (ix3 h i k)) := by
  rw [b150_eq]
  exact ((r115 T _ _).sub (r115 T _ _)).exp.ite .zero

theorem r153 (T : Tame j s) (h : Fin 8) (i : Fin 64) (d : Fin 128) : IsReal (b153 j s (ix3 h i d)) := by
  pointwise [b153, b152, b151]
  exact (r106 T _ _ _).mul (T.beta _ _)

theorem r165 (T : Tame j s) (h : Fin 8) (i : Fin 64) (d : Fin 128) : IsReal (b165 j s (ix3 h i d)) := by
  pointwise [b165, b164, b163, b107]
  exact (r102 T _ _ _).mul (T.beta _ _)

theorem r166 (T : Tame j s) (h : Fin 8) (i : Fin 64) (d : Fin 128) : IsReal (b166 j s (ix3 h i d)) := by
  pointwise [b166]
  exact .sum _ _ fun k => (T.ti _ _ _).mul (r165 T _ _ _)

theorem r170 (T : Tame j s) (h : Fin 8) (i : Fin 64) (d : Fin 128) : IsReal (b170 j s (ix3 h i d)) := by
  pointwise [b170, b169, b168, b167]
  exact (r153 T _ _ _).mul (r115 T _ _).exp

theorem r171 (T : Tame j s) (h : Fin 8) (i : Fin 64) (d : Fin 128) : IsReal (b171 j s (ix3 h i d)) := by
  pointwise [b171]
  exact .sum _ _ fun k => (T.ti _ _ _).mul (r170 T _ _ _)

theorem r173 (T : Tame j s) (h : Fin 8) (i k : Fin 64) : IsReal (b173 j s (ix3 h i k)) := by
  pointwise [b173, b172]
  exact (IsReal.sum _ _ fun d => (r112 T _ _ _).mul (r106 T _ _ _)).mul (r150 T _ _ _)

theorem r177 (T : Tame j s) (h : Fin 8) (i : Fin 64) (d : Fin 128) : IsReal (b177 j s (ix3 h i d)) := by
  pointwise [b177, b176, b175, b174]
  exact (r112 T _ _ _).mul (r115 T _ _).exp

theorem r184 (T : Tame j s) (h : Fin 8) (i : Fin 64) (d : Fin 128) : IsReal (b184 j s (ix3 h i d)) := by
  pointwise [b184, b183, b182, b181, b180, b179, b178]
  exact (r106 T _ _ _).mul ((r115 T _ _).sub (r115 T _ _)).exp

theorem r187 (T : Tame j s) (h : Fin 8) : IsReal (b187 j s (ix1 h)) := by
  pointwise [b187, b186, b185]
  exact (r115 T _ _).exp

theorem r189 (T : Tame j s) (h : Fin 8) (i : Fin 64) (d : Fin 128) : IsReal (b189 j s (ix3 h i d)) := by
  pointwise [b189, b188]
  exact (r166 T _ _ _).sub (.sum _ _ fun k => (r171 T _ _ _).mul (T.st _ _ _))

theorem r198 (T : Tame j s) (i : Fin 64) (h : Fin 8) (d : Fin 128) : IsReal (b198 j s (ix3 i h d)) := by
  pointwise [b198, b192, b191, b190]
  exact (IsReal.sum _ _ fun k => (r177 T _ _ _).mul (T.st _ _ _)).add (.sum _ _ fun k => (r173 T _ _ _).mul (r189 T _ _ _))

theorem p208 (T : Tame j s) (i : Fin 64) (h : Fin 8) : IsPos (b208 j s (ix3 i h 0)) := by
  pointwise [b208, b207, b206, b205, b204, b203, b202, b201, b200, b199]
  exact mean_pos _ fun d => r198 T i h d

theorem r209 (T : Tame j s) (i : Fin 64) (h : Fin 8) : IsReal (b209 j s (ix3 i h 0)) := by
  pointwise [b209]
  exact (p208 T i h).rsqrt

theorem r213 (T : Tame j s) (i : Fin 64) (h : Fin 8) : IsReal (b213 j s (ix3 i h 0)) := by
  pointwise [b213, b212, b211, b210]
  exact mhalf_real.mul ((r209 T i h).div (p208 T i h))

theorem r232 (T : Tame j s) (i : Fin 64) (h : Fin 8) (d : Fin 128) : IsReal (b232 j s (ix3 i h d)) := by
  pointwise [b232, b227, b226, b225, b224, b223, b222, b221, b220]
  exact (r219 T _ _ _).mul (IsReal.one.div (IsPos.one_add_exp (r219 T _ _ _).neg))

theorem r248 (T : Tame j s) (i : Fin 64) (h : Fin 8) (d : Fin 128) : IsReal (b248 j s (ix3 i h d)) := by
  pointwise [b248, b247, b216, b237]
  exact ((r235 T _ _ _).mul (r232 T _ _ _)).mul (T.nw _)

theorem r268 (T : Tame j s) (h : Fin 8) (i : Fin 64) (d : Fin 128) : IsReal (b268 j s (ix3 h i d)) := by
  have r262 : IsReal (b262 j s (ix2 i h)) := by
    pointwise [b262, b261, b260, b259, b258, b257, b254, b253, b252, b251]
    simp only [Fin.sum_univ_one]
    exact ((IsReal.sum _ _ fun x => (r198 T _ _ _).mul (r248 T _ _ _)).mul (r213 T _ _)).div c128_pos
  pointwise [b268, b267, b266, b265, b264, b263, b256, b255]
  exact (((r248 T _ _ _).mul (r209 T _ _)).add ((r198 T _ _ _).mul r262)).add (r262.mul (r198 T _ _ _))

theorem r283 (T : Tame j s) (h : Fin 8) (i : Fin 64) (d : Fin 128) : IsReal (b283 j s (ix3 h i d)) := by
  pointwise [b283, b282, b281, b270, b269]
  exact (IsReal.sum _ _ fun x => (T.ds _ _ _).mul (r184 T _ _ _)).add (.sum _ _ fun x => (r268 T _ _ _).mul (r173 T _ _ _))

theorem r289 (T : Tame j s) (h : Fin 8) (i : Fin 64) (d : Fin 128) : IsReal (b289 j s (ix3 h i d)) := by
  pointwise [b289]
  exact (r283 T _ _ _).neg

/-- The gradient of the state before the chunk is real. -/
theorem r292 (T : Tame j s) (h : Fin 8) (a b : Fin 128) : IsReal (b292 j s (ix3 h a b)) := by
  pointwise [b292, b291, b290, b287, b286, b285, b278, b277, b193]
  exact (((T.ds _ _ _).mul (r187 T _)).add (.sum _ _ fun x => (r268 T _ _ _).mul (r177 T _ _ _))).add
    (.sum _ _ fun x => (r289 T _ _ _).mul (r171 T _ _ _))

theorem r347 (T : Tame j s) (h : Fin 8) (i k : Fin 64) : IsReal (b347 j s (ix3 h i k)) := by
  pointwise [b347, b346, b333, b293]
  exact (IsReal.sum _ _ fun d => (IsReal.sum _ _ fun x => (r289 T _ _ _).mul (T.st _ _ _)).mul (r170 T _ _ _)).add
    (.sum _ _ fun d => (r283 T _ _ _).mul (r165 T _ _ _))

end Cert.Delta
-- ==== Proof.St5.lean ====
/-
  Stages of one chunk, continued: what the triangular inverse's gradient gives, the keys' gradient, the gates' gradients.
-/
module

public import proofs.«01_k».proof.Proof.St4
public import proofs.«01_k».proof.Proof.Real
public import Mathlib.Tactic.FieldSimp
public import Mathlib.Tactic.Ring

@[expose] public section

noncomputable section

namespace Cert.Delta

open Idealize.ShloMosaic Cert.KernelIdeal.Gen Cert.ReferenceIdeal.Step

set_option maxRecDepth 16384

variable {X : KIn} {j : ℕ} {s : State Ideal}

theorem k448_eq (L : Link X j s) (h : Fin 8) (i : Fin 64) : k448 X (ix3 h i 0) = b322 j s (ix2 h i) + b341 j s (ix2 h i) := by
  pointwise [k448, k0_pay112, b322, b321, b318, b317, b316, b315, b341, b340, b337, b336, b335, b334]
  simp only [Fin.sum_univ_one, k205_eq L, pay102_eq L, k254_eq L, pay110_eq L]

theorem b174_nonneg (T : Tame j s) (h : Fin 8) (i : Fin 64) : ∃ r : ℝ, 0 ≤ r ∧ b174 j s (ix2 h i) = (r : EReal) := by
  obtain ⟨r, e⟩ := r115 T h i
  refine ⟨Real.exp r, (Real.exp_pos r).le, ?_⟩
  pointwise [b174]
  rw [e]; rfl

theorem k464_eq (L : Link X j s) (T : Tame j s) (h : Fin 8) (i : Fin 64) :
    k464 X (ix3 h i 0) = -b306 j s (ix2 h i) + (b323 j s (ix2 h i) + b342 j s (ix2 h i)) := by
  obtain ⟨r, hr, e⟩ := b174_nonneg T h i
  have e' : b167 j s (ix2 h i) = r := by rw [← e]; pointwise [b167, b174]
  pointwise [k464, k0_pay119, b323, b342]
  rw [k392_eq L, k448_eq L, k260_eq L, e, e', EReal.right_distrib_of_nonneg_of_ne_top (by exact_mod_cast hr) (EReal.coe_ne_top r)]

theorem sel_strict (h : Fin 8) (i k : Fin 64) (x y : EReal) :
    Scalar.select (b158 j s (ix3 h i k)) x y = if k.val < i.val then x else y := by
  pointwise [b158, b137, b136, b135, b134, b133, b132, b131, b130, b129, b128, b127]
  exact sel_tril_strict (by omega) (by omega) _ _

theorem pay120_eq (L : Link X j s) (T : Tame j s) (h : Fin 8) (i k : Fin 64) :
    k0_pay120 (k4 X) (k259 X) (k444 X) (k453 X) (ix3 h i k) = b363 j s (ix3 h i k) := by
  have r : ∀ a b, IsReal (b333 j s (ix3 h a b) + b346 j s (ix3 h a b)) := fun a b => by
    have := r347 T h a b
    pointwise [b347] at this
    exact this
  have r' : ∀ a b, IsReal (∑ c : Fin 64, b57 j s (ix3 h c a) * (b333 j s (ix3 h c b) + b346 j s (ix3 h c b))) :=
    fun a b => .sum _ _ fun c => (T.ti _ _ _).mul (r _ _)
  pointwise [k0_pay120, k259, k0_pay59, k220, k0_pay45, b363, b362, b361, b358, b357, b356, b347]
  simp only [k4_eq L, k444_eq L, k453_eq L, (T.ti _ _ _).sub_self, (r _ _).sub_self, (r' _ _).sub_self, mul_zero, zero_mul, Finset.sum_const_zero, add_zero, zero_sub]
  rw [sel_strict, sel_sgt (by omega) (by omega)]

theorem k496_eq (L : Link X j s) (T : Tame j s) (h : Fin 8) (i k : Fin 64) : k496 X (ix3 h i k) = b365 j s (ix3 h i k) := by
  pointwise [k496, k0_pay121, b365, b364]
  rw [k428_eq L, k257_eq L, pay120_eq L T]

theorem pay122_apply (a b d e : FVec Ideal Cert.KernelIdeal.S8x64x64 .f32) (c : IVec Cert.KernelIdeal.S8x64x64 1) (x : Cert.KernelIdeal.S8x64x64.Idx) :
    k0_pay122 a b c d e x = k0_pay120 a c d e x * b x := rfl

theorem mulf_at {S : Shape} (a b : FVec Ideal S .f32) (x : S.Idx) : (mulf a b : FVec Ideal S .f32) x = (a x * b x : EReal) := rfl

theorem b366_apply (h : Fin 8) (i k : Fin 64) : b366 j s (ix3 h i k) = b363 j s (ix3 h i k) * b150 j s (ix3 h i k) :=
  mulf_at (b363 j s) (b150 j s) (ix3 h i k)

theorem pay122_eq (L : Link X j s) (T : Tame j s) (h : Fin 8) (i k : Fin 64) :
    k0_pay122 (k4 X) (k252 X) (k259 X) (k444 X) (k453 X) (ix3 h i k) = b366 j s (ix3 h i k) :=
  (pay122_apply _ _ _ _ _ _).trans ((congrArg₂ (fun x y : EReal => x * y) (pay120_eq L T h i k) (k252_eq L h i k)).trans (b366_apply h i k).symm)

theorem k500_eq (L : Link X j s) (T : Tame j s) (h : Fin 8) (i : Fin 64) (d : Fin 128) : k500 X (ix3 h i d) = b369 j s (ix3 h i d) := by
  pointwise [k500, k0_pay123, b369]
  simp only [pay122_eq L T, k216_eq L]

theorem pay126_eq (L : Link X j s) (T : Tame j s) (h : Fin 8) (i : Fin 64) (d : Fin 128) :
    k0_pay126 (k450 X) (k500 X) (ix3 h i d) = b370 j s (ix3 h i d) := by
  pointwise [k0_pay126, b370]
  rw [k450_eq L, k500_eq L T]

theorem k509_eq (L : Link X j s) (T : Tame j s) (h : Fin 8) (i : Fin 64) : k509 X (ix3 h i 0) = b380 j s (ix2 h i) := by
  pointwise [k509, k0_pay127, b380, b379, b378, b374, b373, b372, b371]
  simp only [Fin.sum_univ_one, k460_eq L, k216_eq L, pay126_eq L T]

theorem pay128_eq (L : Link X j s) (T : Tame j s) (h : Fin 8) (i : Fin 64) (d : Fin 128) :
    k0_pay128 (k134 X) (k437 X) (k450 X) (k500 X) (k501 X) (k502 X) (constant (F := Ideal) Cert.KernelIdeal.S8x64x128 .f32 0x00000000#32) (ix3 h i d) = b377 j s (ix3 h i d) := by
  pointwise [k0_pay128, k501, k0_pay124, k502, k0_pay125, b377, b376, b375, b368, b367, b151]
  simp only [pay126_eq L T, pay122_eq L T, k254_eq L, k437_eq L, k134_eq L]

theorem k512_eq (L : Link X j s) (T : Tame j s) (h : Fin 8) (i : Fin 64) (d : Fin 128) : k512 X (ix3 h i d) = b377 j s (ix3 h i d) := by
  rw [k512, pay128_eq L T]

theorem k547_eq (L : Link X j s) (T : Tame j s) (h : Fin 8) (i : Fin 64) : k547 X (ix3 h i 0) = b418 j s (ix3 i h 0) := by
  pointwise [k547, k0_pay130, b418, b417, b416, b415, b407]
  simp only [pay128_eq L T, k38_eq L]

theorem k557_eq (L : Link X j s) (T : Tame j s) (h : Fin 8) (i : Fin 64) (d : Fin 128) : k557 X (ix3 h i d) = b428 j s (ix3 i h d) := by
  pointwise [k557, k0_pay132, k548, k0_pay131, b428, b427, b426, b425, b424, b423, b422, b421, b420, b419, b407]
  simp only [Fin.sum_univ_one, k512_eq L T, k547_eq L T, k38_eq L, k211_eq L, k214_eq L]

theorem k572_eq (L : Link X j s) (h : Fin 8) (i : Fin 64) (d : Fin 128) : k572 X (ix3 h i d) = b443 j s (ix3 i h d) := by
  pointwise [k572, k0_pay133, b443, b442, b441, b440, b439, b438, b437, b436, b435, b434, b433, b432, b431, b430, b408, b403, b402, b401]
  simp only [Fin.sum_univ_one, k436_eq L, k21_eq L, k198_eq L, k201_eq L]

theorem sel_on (h : Fin 8) (i k : Fin 64) (x y : EReal) :
    Scalar.select (b145 j s (ix3 h i k)) x y = if k.val ≤ i.val then x else y := by
  pointwise [b145, b126, b125, b124, b123, b122, b121, b120, b119, b118, b117, b116]
  exact sel_tril (by omega) (by omega) _ _

theorem v517_eq (L : Link X j s) (T : Tame j s) (h : Fin 8) (i k : Fin 64) :
    Scalar.select (k245 X (ix3 h i k)) (Scalar.select (k250 X (ix3 h i k)) (k496 X (ix3 h i k) * k248 X (ix3 h i k)) (0 : EReal)) (0 : EReal) = b384 j s (ix3 h i k) := by
  pointwise [k245, k250, k0_pay53, k0_pay55, k219, k0_pay44, b384, b383, b382, b381]
  rw [sel_on, sel_sge (by omega) (by omega), sel_sge (by omega) (by omega)]
  split
  · rename_i hk
    rw [k496_eq L T, k248_eq L h i k hk]
  · rfl

theorem b400_eq (h : Fin 8) (i : Fin 64) : b400 j s (ix2 h i) = ∑ k : Fin 64, if i.val ≤ k.val then b397 j s (ix2 h k) else 0 := by
  rw [b400, windowSum _ _ _ _ (by pointwise [b399, b398])]
  exact window_on (fun k => b397 j s (ix2 h k)) i

theorem b297_eq (h : Fin 8) (k : Fin 64) : b297 j s (ix2 h k) = if k.val = 63 then b294 j s (ix1 h) else 0 := by
  pointwise [b297, b296, b295]
  by_cases hk : k.val = 63
  · rw [if_pos hk, dif_pos (by omega)]
  · rw [if_neg hk, dif_neg (by omega)]

theorem b313_eq (h : Fin 8) (k : Fin 64) : b313 j s (ix2 h k) = if k.val = 63 then b308 j s (ix1 h) else 0 := by
  pointwise [b313, b312, b309]
  by_cases hk : k.val = 63
  · rw [if_pos hk, dif_pos (by omega)]
  · rw [if_neg hk, dif_neg (by omega)]

/-- Two terms at the last position, put outside a sum over the positions from one on. -/
theorem tail_sum (i : Fin 64) (A B : EReal) (n c d e f : Fin 64 → EReal) :
    B + A + (∑ x : Fin 64, if i.val ≤ x.val then e x + ((-n x + (c x + d x)) + f x) else 0) =
      ∑ x : Fin 64, if i.val ≤ x.val then (if x.val = 63 then A else 0) + -n x + (if x.val = 63 then B else 0) + c x + d x + e x + f x else 0 := by
  have h : B + A = ∑ x : Fin 64, if x.val = 63 then B + A else 0 := (sum_pick 63 (by omega) fun _ : Fin 64 => B + A).symm
  rw [h, ← Finset.sum_add_distrib]
  refine Finset.sum_congr rfl fun x _ => ?_
  by_cases hx : x.val = 63
  · have hi : i.val ≤ x.val := by omega
    simp only [if_pos hx, if_pos hi]
    ac_rfl
  · simp only [if_neg hx]
    by_cases hi : i.val ≤ x.val
    · simp only [if_pos hi, zero_add, add_zero]
      ac_rfl
    · simp only [if_neg hi, add_zero]

theorem k544_eq (L : Link X j s) (T : Tame j s) (h : Fin 8) (i : Fin 64) : k544 X (ix3 h i 0) = b400 j s (ix2 h i) := by
  rw [b400_eq]
  pointwise [k544, k0_pay129, k224, k0_pay48, k223, k0_pay47, k232, k0_pay50, k221, k0_pay46, b397, b396, b395, b387, b386, b385, b394, b393, b392, b391, b390, b389, b388, b343, b324, b314, b311, b310]
  simp only [Fin.sum_univ_one, k399_eq L, k464_eq L T, v517_eq L T, zero_sub, b297_eq, b313_eq]
  rw [← tail_sum]
  refine congrArg _ (Finset.sum_congr rfl fun x _ => ?_)
  rw [sel_sle (by omega) (by omega)]
  exact if_congr Iff.rfl (congrArg _ (mask_diag' (by omega) x _)) rfl

/-- The slope of the logistic function, written two ways. -/
theorem slope {z : EReal} (hz : IsReal z) :
    Ideal.div 1 ((1 + Ideal.exp (-z)) * (1 + Ideal.exp (-z))) * Ideal.exp (-z) =
      Ideal.div 1 (1 + Ideal.exp (-z)) * (1 - Ideal.div 1 (1 + Ideal.exp (-z))) := by
  obtain ⟨r, e⟩ := hz.neg
  have he : Ideal.exp (-z) = (Real.exp r : EReal) := by rw [e]; rfl
  have hp := Real.exp_pos r
  rw [he]
  generalize Real.exp r = t at hp
  have h1 : (1 + (t : EReal)) = ((1 + t : ℝ) : EReal) := (EReal.coe_add 1 t).symm
  have hn : ((1 + t : ℝ) : EReal) ≠ 0 := by
    have : (1 + t : ℝ) ≠ 0 := by positivity
    exact_mod_cast this
  have hn2 : (((1 + t) * (1 + t) : ℝ) : EReal) ≠ 0 := by
    have : ((1 + t) * (1 + t) : ℝ) ≠ 0 := by positivity
    exact_mod_cast this
  rw [h1, ← EReal.coe_mul, Ideal.div, Ideal.div, if_neg hn, if_neg hn2, ← EReal.coe_inv, ← EReal.coe_inv, one_mul, one_mul,
    ← EReal.coe_mul, ← EReal.coe_one, ← EReal.coe_sub, ← EReal.coe_mul]
  refine congrArg _ ?_
  have : (1 + t : ℝ) ≠ 0 := by positivity
  field_simp
  ring

theorem k352_eq (L : Link X j s) (T : Tame j s) (h : Fin 8) (i : Fin 64) (d : Fin 128) : k352 X (ix3 h i d) = b241 j s (ix3 i h d) := by
  pointwise [k352, k0_pay87, k312, k319, k0_pay82, k0_pay80, k0_pay79, b241, b240, b239, b238, b236, b231, b230, b229, b228, b227, b226, b225, b224, b223, b222, b221, b220]
  simp only [k309_eq L, k316_eq L, k72_eq L, k337_eq L, zero_sub, EReal.neg_mul, neg_neg]
  rw [mul_assoc (b219 j s (ix3 i h d) * _), slope (r219 T i h d)]
  pointwise [b227, b226, b225, b224, b223, b222, b221, b220]

end Cert.Delta
-- ==== Proof.St6.lean ====
/-
  The gates' gradients, laid side by side in the lanes.
-/
module

public import proofs.«01_k».proof.Proof.St5
public import Mathlib.Tactic.IntervalCases

@[expose] public section

noncomputable section

namespace Cert.Delta

open Idealize.ShloMosaic Cert.KernelIdeal.Gen Cert.ReferenceIdeal.Step

set_option maxRecDepth 16384

variable {X : KIn} {j : ℕ} {s : State Ideal}

theorem b413_eq (i : Fin 64) (l : Fin 128) :
    b413 j s (ix2 i l) = (if h : 8 ≤ l.val ∧ l.val - 8 < 8 then b400 j s (ix2 ⟨l.val - 8, h.2⟩ i) else 0) +
      (if h : l.val < 8 then b380 j s (ix2 ⟨l.val, h⟩ i) else 0) := by
  pointwise [b413, b412, b411, b410, b409, b405, b404]

theorem k715_eq (L : Link X j s) (T : Tame j s) (i : Fin 64) (l : Fin 128) : k715 X (ix2 i l) = b413 j s (ix2 i l) := by
  rw [b413_eq]
  pointwise [k715, k0_pay150, k0_pay149, k0_pay142, k685, k637, k640, k0_pay143, k596, k582, k584, k586, k588, k590, k592, k594, k0_pay134, k0_pay135, k0_pay136, k0_pay137, k0_pay138, k0_pay139, k0_pay140, k0_pay141, k659, k661, k663, k665, k667, k0_pay144, k0_pay145, k0_pay146, k0_pay147, k0_pay148,
    k79, k85, k91, k97, k103, k109, k115, k121, k137, k143, k149, k155, k161, k167, k173, k179, k77, k135, k0_pay9, k0_pay11, k0_pay13, k0_pay14, k0_pay15, k0_pay16, k0_pay17, k0_pay18, k0_pay20, k0_pay22, k0_pay24, k0_pay26, k0_pay28, k0_pay30, k0_pay32, k0_pay34]
  simp only [Fin.sum_univ_one, reduceAdd02]
  pointwise []
  simp only [k544_eq L T, k509_eq L T]
  obtain ⟨l, hl⟩ := l
  have e : ∀ (n : Nat) (_ : n < 128) (x : EReal), Scalar.select (IntOp.cmpi .eq (BitVec.ofNat 32 l) (BitVec.ofNat 32 n)) x 0 = if l = n then x else 0 :=
    fun n hn x => sel_eq (by omega) (by omega) x 0
  rw [e 15 (by omega), e 14 (by omega), e 13 (by omega), e 12 (by omega), e 11 (by omega), e 10 (by omega), e 9 (by omega), e 8 (by omega),
    e 7 (by omega), e 6 (by omega), e 5 (by omega), e 4 (by omega), e 3 (by omega), e 2 (by omega), e 1 (by omega), e 0 (by omega)]
  clear e
  by_cases h16 : l < 16
  · interval_cases l <;> simp <;> rfl
  · have h : ∀ n, n < 16 → ¬ l = n := fun n hn => by omega
    rw [dif_neg (by simp only; omega), dif_neg (by simp only; omega)]
    simp only [if_neg (h _ (by decide : 15 < 16)), if_neg (h _ (by decide : 14 < 16)), if_neg (h _ (by decide : 13 < 16)), if_neg (h _ (by decide : 12 < 16)),
      if_neg (h _ (by decide : 11 < 16)), if_neg (h _ (by decide : 10 < 16)), if_neg (h _ (by decide : 9 < 16)), if_neg (h _ (by decide : 8 < 16)),
      if_neg (h _ (by decide : 7 < 16)), if_neg (h _ (by decide : 6 < 16)), if_neg (h _ (by decide : 5 < 16)), if_neg (h _ (by decide : 4 < 16)),
      if_neg (h _ (by decide : 3 < 16)), if_neg (h _ (by decide : 2 < 16)), if_neg (h _ (by decide : 1 < 16)), if_neg (h _ (by decide : 0 < 16)), add_zero]

end Cert.Delta
-- ==== Proof.Inv.lean ====
/-
  The kernel's sweep and the reference's loop side by side: at point `t` the kernel reads what trip `t` reads, and
  every number read is real.
-/
module

public import proofs.«01_k».proof.Proof.Blocks
public import proofs.«01_k».proof.Proof.St6

@[expose] public section

noncomputable section

namespace Cert.Delta

open Idealize.ShloMosaic Cert.KernelIdeal Cert.KernelIdeal.Gen
open Cert.ReferenceIdeal.Step (State b68 b69 b70 b25 b35 b46 b57 b67 b71 b103 b104 b108 b109 b242 b250 b292 b406 b413 b414 b429 b444 b445 step_main_v9_9)

set_option maxRecDepth 16384

variable (m : (ℓ : Loc nD τ sig) → Buf (Elt Ideal) ℓ) (c : Dev nD)

/-- Every number that the gradient reads is real. -/
structure RealArgs : Prop where
  qkv : ∀ (r : Fin 2048) (l : Fin 3072), IsReal (m ((c.tc : Thread nD τ).loc main_arg0) (ix2 r l))
  z : ∀ (r : Fin 2048) (l : Fin 1024), IsReal (m ((c.tc : Thread nD τ).loc main_arg1) (ix2 r (⟨3072 + l.val, by omega⟩ : Fin 4096)))
  gates : ∀ (r : Fin 2048) (l : Fin 16), IsReal (m ((c.tc : Thread nD τ).loc main_arg2) (ix2 r (⟨l.val, by omega⟩ : Fin 128)))
  nw : ∀ d : Fin 128, IsReal (m ((c.tc : Thread nD τ).loc main_arg3) (ix2 (0 : Fin 1) d))
  st : ∀ (k : Fin 32) (h : Fin 8) (a b : Fin 128), IsReal (m ((c.tc : Thread nD τ).loc main_arg4) (ix4 k h a b))
  ti : ∀ (k : Fin 32) (h : Fin 8) (a b : Fin 64), IsReal (m ((c.tc : Thread nD τ).loc main_arg5) (ix4 k h a b))
  dog : ∀ (r : Fin 2048) (l : Fin 1024), IsReal (m ((c.tc : Thread nD τ).loc main_arg6) (ix2 r l))

/-- The reference's state before trip `n`. -/
abbrev sAt (n : ℕ) : State Ideal := seq (start m c) n

theorem link_of (t : Fin cfg0.N) (hds : ∀ h a b, dsAt m c t.val (ix3 h a b) = (sAt m c t.val).main_v9_9 (ix3 h a b)) :
    Link (inAt m c t) t.val (sAt m c t.val) := by
  have ht := lt32 t
  obtain ⟨f0, f1, f2, f3, f4, f5, f6⟩ := seq_fixed (start m c) t.val
  constructor
  · intro i l; rw [b68_eq ht, f0, start_0]; exact blk_q m c t i l
  · intro i l; rw [b69_eq ht, f0, start_0]; exact blk_k m c t i l
  · intro i l; rw [b70_eq ht, f0, start_0]; exact blk_v m c t i l
  · intro i l; rw [b25_eq ht, f1, start_1]; exact blk_z m c t i l
  · intro i l; rw [b35_eq ht, f2, start_2]; exact blk_gates m c t i l
  · intro d; rw [f6]; exact blk_nw m c t d
  · intro h a b; rw [b46_eq ht, f3]; exact blk_st m c t h a b
  · intro h a b; rw [b57_eq ht, f4]; exact blk_ti m c t h a b
  · intro i l; rw [b67_eq ht, f5, start_5]; exact blk_dog m c t i l
  · exact hds

theorem tame_of (R : RealArgs m c) (n : ℕ) (hn : n < 32) (hds : ∀ h a b, IsReal ((sAt m c n).main_v9_9 (ix3 h a b))) :
    Tame n (sAt m c n) := by
  obtain ⟨f0, f1, f2, f3, f4, f5, f6⟩ := seq_fixed (start m c) n
  constructor
  · intro i l; rw [b68_eq hn, f0, start_0]; exact R.qkv _ _
  · intro i l; rw [b69_eq hn, f0, start_0]; exact R.qkv _ _
  · intro i l; rw [b70_eq hn, f0, start_0]; exact R.qkv _ _
  · intro i l; rw [b25_eq hn, f1, start_1]; exact R.z _ _
  · intro h i
    pointwise [b108, b104]
    rw [b35_eq hn, f2, start_2]; exact R.gates _ ⟨8 + h.val, by omega⟩
  · intro h i
    pointwise [b109, b103]
    rw [b35_eq hn, f2, start_2]; exact R.gates _ ⟨h.val, by omega⟩
  · intro d
    pointwise [b71]
    rw [f6]; exact R.nw d
  · intro h a b; rw [b46_eq hn, f3]; exact R.st _ _ _ _
  · intro h a b; rw [b57_eq hn, f4]; exact R.ti _ _ _ _
  · intro i l; rw [b67_eq hn, f5, start_5]; exact R.dog _ _
  · exact hds

theorem pay183_eq (v : FVec Ideal S8x128x128 .f32) (h : Fin 8) (a b : Fin 128) : k0_pay183 v (ix3 h a b) = v (ix3 h a b) := by
  pointwise [k0_pay183]

theorem pay2_eq (h : Fin 8) (a b : Fin 128) : k0_pay2 (F := Ideal) (ix3 h a b) = 0 := by
  pointwise [k0_pay2]

theorem start_9 (h : Fin 8) (a b : Fin 128) : (start m c).main_v9_9 (ix3 h a b) = 0 := by
  pointwise [start, Cert.ReferenceIdeal.Step.init, Cert.ReferenceIdeal.Step.K_main_v7, Cert.ReferenceIdeal.Step.K_main_cst_1]

/-- What point `t` passes on. -/
theorem outs_ds (t : Fin cfg0.N) : (outsAt0 m c t.val t.isLt).2.2.2.2.2.2 = k0_pay183 (k427 (inAt m c t)) := by
  obtain ⟨n, hn⟩ := t
  cases n with
  | zero => rw [outs_first m c ⟨0, hn⟩ rfl]
  | succ n => exact congrArg (·.2.2.2.2.2.2) (outs_later m c n hn)

theorem together (R : RealArgs m c) : ∀ (n : ℕ) (hn : n < cfg0.N),
    Link (inAt m c ⟨n, hn⟩) n (sAt m c n) ∧ Tame n (sAt m c n) := by
  intro n
  induction n with
  | zero =>
    intro hn
    refine ⟨link_of m c ⟨0, hn⟩ fun h a b => ?_, tame_of m c R 0 (by omega) fun h a b => ?_⟩
    · exact (pay2_eq h a b).trans (start_9 m c h a b).symm
    · exact (start_9 m c h a b) ▸ IsReal.zero
  | succ n ih =>
    intro hn
    have h32 : n + 1 < 32 := lt32 ⟨n + 1, hn⟩
    obtain ⟨L, T⟩ := ih (by omega)
    refine ⟨link_of m c ⟨n + 1, hn⟩ fun h a b => ?_, tame_of m c R (n + 1) h32 fun h a b => ?_⟩
    · have e : (sAt m c (n + 1)).main_v9_9 = b292 n (sAt m c n) := step_main_v9_9 n (sAt m c n)
      rw [e]
      show dsAt m c (n + 1) (ix3 h a b) = _
      rw [dsAt_succ m c n (by omega), outs_ds m c ⟨n, by omega⟩, pay183_eq]
      exact k427_eq L h a b
    · have e : (sAt m c (n + 1)).main_v9_9 = b292 n (sAt m c n) := step_main_v9_9 n (sAt m c n)
      rw [e]
      exact r292 T h a b

/-! ## What a point writes, as what its trip adds -/

theorem rows_apply (v : FVec Ideal S8x64x128 .f32) (i : Fin 64) (l : Fin 1024) :
    rows v (ix2 i l) = v (ix3 (⟨l.val / 128, by omega⟩ : Fin 8) i (⟨l.val % 128, by omega⟩ : Fin 128)) := rfl

variable {j : ℕ} {s : State Ideal} {X : KIn}

theorem wrote_q (L : Link X j s) (i : Fin 64) (l : Fin 1024) : rows (k572 X) (ix2 i l) = b444 j s (ix2 i l) := by
  rw [rows_apply, k572_eq L]
  pointwise [b444]

theorem wrote_k (L : Link X j s) (T : Tame j s) (i : Fin 64) (l : Fin 1024) : rows (k557 X) (ix2 i l) = b429 j s (ix2 i l) := by
  rw [rows_apply, k557_eq L T]
  pointwise [b429]

theorem wrote_v (L : Link X j s) (i : Fin 64) (l : Fin 1024) : rows (k462 X) (ix2 i l) = b414 j s (ix2 i l) := by
  rw [rows_apply, k462_eq L]
  pointwise [b414, b406]

theorem wrote_z (L : Link X j s) (T : Tame j s) (i : Fin 64) (l : Fin 1024) : rows (k352 X) (ix2 i l) = b242 j s (ix2 i l) := by
  rw [rows_apply, k352_eq L T]
  pointwise [b242]

end Cert.Delta
-- ==== Proof.Given.lean ====
/-
  What the claim's precondition and its mask say, in plain words: every argument that the kernel reads is a real number, and
  of the fourth result only the last 1024 columns are spoken of.
-/
module

public import proofs.«01_k».proof.Defs
public import proofs.«01_k».proof.Proof.Gen.On_written
public import proofs.«01_k».proof.Proof.Gen.Pre_finite
public import proofs.«01_k».proof.Proof.Inv

@[expose] public section

noncomputable section

namespace Cert.Delta

open Idealize.ShloMosaic Idealize.SL.Sem Cert.KernelIdeal

/-- The word that compares `|x|` with infinity is set only when `x` is real. -/
theorem real_of_word {x : EReal}
    (h : BitVec.ofBool (decide (FloatOps.absf (F := Ideal) (φ := .f32) x < Ideal.ofBits .f32 2139095040#32)) = 1#1) : IsReal x := by
  have e : Ideal.ofBits .f32 2139095040#32 = (⊤ : EReal) := by simp [Ideal.ofBits, Ideal.ieee]
  have hlt : FloatOps.absf (F := Ideal) (φ := .f32) x < (⊤ : EReal) := by
    rw [e] at h
    by_contra hn
    rw [decide_eq_false hn] at h
    exact absurd h (by decide)
  induction x with
  | bot => exact absurd hlt (by simp [FloatOps.absf])
  | top => exact absurd hlt (by simp [FloatOps.absf])
  | coe r => exact ⟨r, rfl⟩

variable (m : (ℓ : Loc nD τ sig) → Buf (Elt Ideal) ℓ) (c : Dev nD)

/-- The precondition, of each argument that the kernel reads. -/
theorem args_of (h : Cert.Pre_KernelIdeal_finite m) : RealArgs m c := by
  obtain ⟨h0, h1, h2, h3, h4, h5, h6⟩ := h c
  constructor
  · intro r l
    have e := congrFun h0 (ix2 r l)
    pointwise [Cert.Pre_finite.fn, Cert.Pre_finite.fn_part1] at e
    exact real_of_word e
  · intro r l
    have e := congrFun h1 (ix2 r l)
    pointwise [Cert.Pre_finite.fn, Cert.Pre_finite.fn_part1] at e
    exact real_of_word e
  · intro r l
    have e := congrFun h2 (ix2 r l)
    pointwise [Cert.Pre_finite.fn, Cert.Pre_finite.fn_part1] at e
    exact real_of_word e
  · intro d
    have e := congrFun h3 (ix2 (0 : Fin 1) d)
    pointwise [Cert.Pre_finite.fn, Cert.Pre_finite.fn_part1] at e
    exact real_of_word e
  · intro k h a b
    have e := congrFun h4 (ix4 k h a b)
    pointwise [Cert.Pre_finite.fn, Cert.Pre_finite.fn_part1] at e
    exact real_of_word e
  · intro k h a b
    have e := congrFun h5 (ix4 k h a b)
    pointwise [Cert.Pre_finite.fn, Cert.Pre_finite.fn_part1] at e
    exact real_of_word e
  · intro r l
    have e := congrFun h6 (ix2 r l)
    pointwise [Cert.Pre_finite.fn, Cert.Pre_finite.fn_part1] at e
    exact real_of_word e

/-- Where the mask is set, the fourth result's column is one of the last 1024. -/
theorem gate_column (x0 x1 x2 x3 x4 x5 x6) (y : (⟨2, ![2048, 4096]⟩ : Shape).Idx)
    (h : (Cert.On_written.fn (F := Ideal) x0 x1 x2 x3 x4 x5 x6).2.2.2.1 y = 1#1) : 3072 ≤ (y 1).val := by
  obtain ⟨a, b, rfl⟩ : ∃ (a : Fin 2048) (b : Fin 4096), y = ix2 a b := ⟨y 0, y 1, by funext a; fin_cases a <;> rfl⟩
  pointwise [Cert.On_written.fn] at h
  show 3072 ≤ b.val
  have w : ∀ b : Fin 4096, IntOp.cmpi CmpIPredicate.sge (BitVec.ofNat 32 b.val) 3072#32 = 1#1 → 3072 ≤ b.val := by
    decide +kernel
  exact w b h

end Cert.Delta
-- ==== Proof.Products.lean ====
/-
  The three products of two matrices that the MLP's calls take, at an index, and a long sum block by block.
-/
module

public import Idealize.ShloMosaic.Lib.Pointwise
public import Mathlib.Logic.Equiv.Fin.Basic

@[expose] public section

noncomputable section

namespace Cert.Products

open Idealize.ShloMosaic

variable {M N K : ℕ}

/-- The first matrix by the second. -/
def nn (x : (⟨2, ![M, K]⟩ : Shape).Idx → EReal) (w : (⟨2, ![K, N]⟩ : Shape).Idx → EReal) (i : Fin M) (j : Fin N) : EReal :=
  ∑ k : Fin K, x (ix2 i k) * w (ix2 k j)

/-- The first matrix by the second's transpose. -/
def nt (x : (⟨2, ![M, K]⟩ : Shape).Idx → EReal) (w : (⟨2, ![N, K]⟩ : Shape).Idx → EReal) (i : Fin M) (j : Fin N) : EReal :=
  ∑ k : Fin K, x (ix2 i k) * w (ix2 j k)

/-- The first matrix's transpose by the second. -/
def tn (x : (⟨2, ![K, M]⟩ : Shape).Idx → EReal) (w : (⟨2, ![K, N]⟩ : Shape).Idx → EReal) (i : Fin M) (j : Fin N) : EReal :=
  ∑ k : Fin K, x (ix2 k i) * w (ix2 k j)

/-- One term of `nn`, of `nt` and of `tn`. -/
def nnTerm (x : (⟨2, ![M, K]⟩ : Shape).Idx → EReal) (w : (⟨2, ![K, N]⟩ : Shape).Idx → EReal) (i : Fin M) (j : Fin N) (k : Fin K) : EReal :=
  x (ix2 i k) * w (ix2 k j)

def ntTerm (x : (⟨2, ![M, K]⟩ : Shape).Idx → EReal) (w : (⟨2, ![N, K]⟩ : Shape).Idx → EReal) (i : Fin M) (j : Fin N) (k : Fin K) : EReal :=
  x (ix2 i k) * w (ix2 j k)

def tnTerm (x : (⟨2, ![K, M]⟩ : Shape).Idx → EReal) (w : (⟨2, ![K, N]⟩ : Shape).Idx → EReal) (i : Fin M) (j : Fin N) (k : Fin K) : EReal :=
  x (ix2 k i) * w (ix2 k j)

/-- Products of matrices that agree where they are read. -/
theorem nn_congr {M' N' : ℕ} {x : (⟨2, ![M, K]⟩ : Shape).Idx → EReal} {w : (⟨2, ![K, N]⟩ : Shape).Idx → EReal}
    {x' : (⟨2, ![M', K]⟩ : Shape).Idx → EReal} {w' : (⟨2, ![K, N']⟩ : Shape).Idx → EReal} {i : Fin M} {j : Fin N} {i' : Fin M'} {j' : Fin N'}
    (hx : ∀ k, x (ix2 i k) = x' (ix2 i' k)) (hw : ∀ k, w (ix2 k j) = w' (ix2 k j')) : nn x w i j = nn x' w' i' j' :=
  Finset.sum_congr rfl fun k _ => congrArg₂ (· * ·) (hx k) (hw k)

theorem nt_congr {M' N' : ℕ} {x : (⟨2, ![M, K]⟩ : Shape).Idx → EReal} {w : (⟨2, ![N, K]⟩ : Shape).Idx → EReal}
    {x' : (⟨2, ![M', K]⟩ : Shape).Idx → EReal} {w' : (⟨2, ![N', K]⟩ : Shape).Idx → EReal} {i : Fin M} {j : Fin N} {i' : Fin M'} {j' : Fin N'}
    (hx : ∀ k, x (ix2 i k) = x' (ix2 i' k)) (hw : ∀ k, w (ix2 j k) = w' (ix2 j' k)) : nt x w i j = nt x' w' i' j' :=
  Finset.sum_congr rfl fun k _ => congrArg₂ (· * ·) (hx k) (hw k)

theorem tn_congr {M' N' : ℕ} {x : (⟨2, ![K, M]⟩ : Shape).Idx → EReal} {w : (⟨2, ![K, N]⟩ : Shape).Idx → EReal}
    {x' : (⟨2, ![K, M']⟩ : Shape).Idx → EReal} {w' : (⟨2, ![K, N']⟩ : Shape).Idx → EReal} {i : Fin M} {j : Fin N} {i' : Fin M'} {j' : Fin N'}
    (hx : ∀ k, x (ix2 k i) = x' (ix2 k i')) (hw : ∀ k, w (ix2 k j) = w' (ix2 k j')) : tn x w i j = tn x' w' i' j' :=
  Finset.sum_congr rfl fun k _ => congrArg₂ (· * ·) (hx k) (hw k)

/-- Twice the positive part: the derivative of its square. -/
def steep (a : EReal) : EReal := Ideal.ofBits .f32 0x40000000#32 * max a 0

theorem steep_of_le {a : EReal} (h : a ≤ 0) : steep a = 0 := by
  unfold steep; rw [max_eq_right h, mul_zero]

/-- A function of two coordinates as an array. -/
def table (f : Fin M → Fin N → EReal) : (⟨2, ![M, N]⟩ : Shape).Idx → EReal := fun y => f (y 0) (y 1)

theorem table_apply (f : Fin M → Fin N → EReal) (i : Fin M) (j : Fin N) : table f (ix2 i j) = f i j := rfl

/-- Two arrays that agree at every pair of coordinates. -/
theorem ext_table {x : (⟨2, ![M, N]⟩ : Shape).Idx → EReal} {f : Fin M → Fin N → EReal} (h : ∀ i j, x (ix2 i j) = f i j) : x = table f := by
  funext y
  have e : y = ix2 (y 0) (y 1) := by funext a; fin_cases a <;> rfl
  rw [e]; exact h _ _

/-- The terms of a long axis, cut into `p` blocks of `n`. -/
theorem sum_blocks (p n N : ℕ) (h : N = p * n) (f : Fin N → EReal) :
    ∑ s : Fin p, ∑ k : Fin n, f ⟨s.val * n + k.val, by
      subst h; have := Nat.mul_le_mul_right n (Nat.succ_le_of_lt s.isLt); have := Nat.succ_mul s.val n; omega⟩ = ∑ k : Fin N, f k := by
  subst h
  rw [← Fintype.sum_prod_type']
  exact Fintype.sum_equiv finProdFinEquiv _ _ fun x => congrArg f (Fin.ext (by simp [finProdFinEquiv]; ring))

/-- A long sum that is taken in two blocks, and one that is taken in four. -/
theorem sum_two (n N : ℕ) (h : N = 2 * n) (f : Fin N → EReal) {u v : Fin n → EReal}
    (hu : ∀ k, u k = f ⟨0 * n + k.val, by omega⟩) (hv : ∀ k, v k = f ⟨1 * n + k.val, by omega⟩) :
    ∑ k, u k + ∑ k, v k = ∑ k, f k := by
  rw [← sum_blocks 2 n N h f, Fin.sum_univ_two]
  exact congrArg₂ (· + ·) (Finset.sum_congr rfl fun k _ => hu k) (Finset.sum_congr rfl fun k _ => hv k)

theorem sum_four (n N : ℕ) (h : N = 4 * n) (f : Fin N → EReal) {u v w x : Fin n → EReal}
    (hu : ∀ k, u k = f ⟨0 * n + k.val, by omega⟩) (hv : ∀ k, v k = f ⟨1 * n + k.val, by omega⟩)
    (hw : ∀ k, w k = f ⟨2 * n + k.val, by omega⟩) (hx : ∀ k, x k = f ⟨3 * n + k.val, by omega⟩) :
    ∑ k, u k + ∑ k, v k + ∑ k, w k + ∑ k, x k = ∑ k, f k := by
  rw [← sum_blocks 4 n N h f, Fin.sum_univ_four]
  exact congrArg₂ (· + ·) (congrArg₂ (· + ·) (congrArg₂ (· + ·) (Finset.sum_congr rfl fun k _ => hu k)
    (Finset.sum_congr rfl fun k _ => hv k)) (Finset.sum_congr rfl fun k _ => hw k)) (Finset.sum_congr rfl fun k _ => hx k)

/-- What a buffer holds to which four numbers are added one after another. -/
theorem add_four {o a b d p q r s : EReal} (h₃ : o = d + s) (h₂ : d = b + r) (h₁ : b = a + q) (h₀ : a = p) : o = p + q + r + s := by
  rw [h₃, h₂, h₁, h₀]

end Cert.Products

end
-- ==== Proof.Causal.lean ====
/-
  The causal convolution of a column by four taps, and its two gradients, in extended reals; and the slope of silu, which two
  programs write differently.
-/
module

public import proofs.«01_k».proof.Proof.Real
public import proofs.«01_k».proof.Proof.Products

@[expose] public section

noncomputable section

namespace Cert.Causal

open Idealize.ShloMosaic Cert.Delta Cert.Products

/-- A column `k` rows later, zeros above it; and `k` rows earlier, zeros below it. -/
def behind {n : ℕ} (k : ℕ) (u : Fin n → EReal) (t : Fin n) : EReal :=
  if h : t.val < k then 0 else u ⟨t.val - k, by omega⟩
def ahead {n : ℕ} (k : ℕ) (u : Fin n → EReal) (t : Fin n) : EReal :=
  if h : t.val + k < n then u ⟨t.val + k, h⟩ else 0

/-- The convolution, the gradient of its input, and the gradient of the tap that meets the column `k` rows later. -/
def conv {n : ℕ} (a b c d : EReal) (u : Fin n → EReal) (t : Fin n) : EReal :=
  a * behind 3 u t + b * behind 2 u t + c * behind 1 u t + d * u t
def back {n : ℕ} (a b c d : EReal) (g : Fin n → EReal) (t : Fin n) : EReal :=
  a * ahead 3 g t + b * ahead 2 g t + c * ahead 1 g t + d * g t
def tap {n : ℕ} (k : ℕ) (g u : Fin n → EReal) : EReal := ∑ t, g t * behind k u t

theorem behind_zero {n : ℕ} (u : Fin n → EReal) : behind 0 u = u := by
  funext t
  unfold behind
  rw [dif_neg (Nat.not_lt_zero _)]
  rfl

/-- The sigmoid, silu, and the gradient through silu as the kernel writes it. -/
def squash (x : EReal) : EReal := Ideal.div 1 (1 + Ideal.exp (-x))
def silu (x : EReal) : EReal := x * squash x
def through (d x : EReal) : EReal := d * (squash x * (1 + x * (1 - squash x)))

theorem squash_top : squash ⊤ = 1 := by
  show Ideal.div 1 (1 + Ideal.exp (-⊤)) = 1
  rw [EReal.neg_top, show Ideal.exp ⊥ = 0 from rfl]
  simp [Ideal.div]

theorem squash_bot : squash ⊥ = 0 := by
  show Ideal.div 1 (1 + Ideal.exp (-⊥)) = 0
  rw [EReal.neg_bot, show Ideal.exp ⊤ = ⊤ from rfl, show (1 : EReal) + ⊤ = ⊤ from rfl]
  simp [Ideal.div]

/-- The reference writes it as a sum; where the gradient from above is a real number the two are equal, though the
    convolution may be infinite. -/
theorem through_eq {d : EReal} (h : IsReal d) (x : EReal) :
    d * squash x + x * d * (squash x * (1 - squash x)) = through d x := by
  obtain ⟨d, rfl⟩ := h
  unfold through
  induction x with
  | bot => rw [squash_bot]; simp
  | top =>
    rw [squash_top]
    have e : (1 : EReal) - 1 = 0 := IsReal.one.sub_self
    rw [e]; simp
  | coe x =>
    obtain ⟨s, hs⟩ : IsReal (squash x) := IsReal.one.div (IsPos.one_add_exp (IsReal.neg ⟨x, rfl⟩))
    rw [hs]
    norm_cast
    ring

/-- The gradient of the convolution's values, down one column. -/
def chained {n : ℕ} (a b c d : EReal) (u g : Fin n → EReal) (t : Fin n) : EReal := through (g t) (conv a b c d u t)

/-- The same of 1024 columns. -/
def grad (u : Fin 2048 → Fin 1024 → EReal) (w : Fin 4 → Fin 1024 → EReal) (g : Fin 2048 → Fin 1024 → EReal) (j : Fin 1024) : Fin 2048 → EReal :=
  chained (w 0 j) (w 1 j) (w 2 j) (w 3 j) (fun t => u t j) fun t => g t j

/-- Silu of the convolution of the first 3072 columns. -/
def ofSilu (u : (⟨2, ![2048, 4096]⟩ : Shape).Idx → EReal) (w : (⟨2, ![4, 3072]⟩ : Shape).Idx → EReal) : (⟨2, ![2048, 3072]⟩ : Shape).Idx → EReal :=
  table fun i j => silu (conv (w (ix2 0 j)) (w (ix2 1 j)) (w (ix2 2 j)) (w (ix2 3 j)) (fun t => u (ix2 t (⟨j.val, by omega⟩ : Fin 4096))) i)

/-- The 1024 columns of an array from the `o`-th on. -/
def part {m n : ℕ} (o : ℕ) (ho : o + 1024 ≤ n) (x : (⟨2, ![m, n]⟩ : Shape).Idx → EReal) (i : Fin m) (j : Fin 1024) : EReal :=
  x (ix2 i ⟨j.val + o, by omega⟩)

variable (o : ℕ) (ho : o + 1024 ≤ 3072) (u : (⟨2, ![2048, 4096]⟩ : Shape).Idx → EReal) (w : (⟨2, ![4, 3072]⟩ : Shape).Idx → EReal)
  (g : (⟨2, ![2048, 1024]⟩ : Shape).Idx → EReal) (d : (⟨2, ![2048, 4096]⟩ : Shape).Idx → EReal)

/-- The gradient of the convolution's values in those columns of the input and of the taps. -/
def gradAt : Fin 1024 → Fin 2048 → EReal :=
  grad (part o (by omega) u) (part o ho w) fun i j => g (ix2 i j)

/-- The gradient of the input in those columns, among the columns of another array. -/
def ofInput : (⟨2, ![2048, 4096]⟩ : Shape).Idx → EReal :=
  table fun i j => if h : o ≤ j.val ∧ j.val < o + 1024 then
      back (part o ho w 0 ⟨j.val - o, by omega⟩) (part o ho w 1 ⟨j.val - o, by omega⟩) (part o ho w 2 ⟨j.val - o, by omega⟩)
        (part o ho w 3 ⟨j.val - o, by omega⟩) (gradAt o ho u w g ⟨j.val - o, by omega⟩) i
    else d (ix2 i j)

/-- The gradient of the taps. -/
def ofTaps : (⟨2, ![4, 1024]⟩ : Shape).Idx → EReal :=
  table fun k j => tap (3 - k.val) (gradAt o ho u w g j) fun t => part o (by omega) u t j

end Cert.Causal

end
-- ==== Proof.ConvBody.lean ====
/-
  The gradient of the short convolution and silu: the kernel pads a block of columns with 32 rows of zeros and rotates it, and
  what it makes of the block is the gradient of each of its columns.
-/
module

public import proofs.«01_k».proof.Proof.Causal
public import proofs.«01_k».proof.Proof.Gen.Kernel20Ideal.Value
public import Idealize.ShloMosaic.Lib.Pipeline.ValueKit

@[expose] public section

set_option maxRecDepth 16384

noncomputable section

namespace Cert.ConvBody

open Idealize.ShloMosaic Cert.Products Cert.Causal Cert.Kernel20Ideal Cert.Kernel20Ideal.Gen

/-- The padded block rotated by `k` rows, past the padding, is the block `k` rows later. -/
theorem rotated_behind (k : ℕ) (h1 : 1 ≤ k) (h2 : k ≤ 32) (f : Fin 2048 → EReal) (i : Fin 2048)
    (hlt : ∀ _ : ¬(32 + i.val + 2080 - k) % 2080 < 32, (32 + i.val + 2080 - k) % 2080 - 32 < 2048) :
    (if h : (32 + i.val + 2080 - k) % 2080 < 32 then (0 : EReal) else f ⟨(32 + i.val + 2080 - k) % 2080 - 32, hlt h⟩) = behind k f i := by
  have hi := i.isLt
  have e : (32 + i.val + 2080 - k) % 2080 = 32 + i.val - k := by omega
  unfold behind
  by_cases h : i.val < k
  · rw [dif_pos (by omega), dif_pos h]
  · rw [dif_neg (by omega), dif_neg h]
    congr 2
    omega

/-- … and rotated by `k` rows the other way, `k` rows earlier. -/
theorem rotated_ahead (k : ℕ) (h1 : 1 ≤ k) (h2 : k ≤ 32) (f : Fin 2048 → EReal) (i : Fin 2048) :
    (if h : (i.val + 2080 - (2080 - k)) % 2080 < 2048 then f ⟨(i.val + 2080 - (2080 - k)) % 2080, h⟩ else (0 : EReal)) = ahead k f i := by
  have hi := i.isLt
  have e : (i.val + 2080 - (2080 - k)) % 2080 = i.val + k := by omega
  unfold ahead
  by_cases h : i.val + k < 2048
  · rw [dif_pos (by omega), dif_pos h]
    congr 2
  · rw [dif_neg (by omega), dif_neg h]

section body
variable (u g : Vec Ideal S2048x128 .f32) (a b e f : Vec Ideal S1x128 .f32) (l : Fin 128)

/-- The block's convolution, and the gradient of its values. -/
theorem conv_apply (i : Fin 2048) : k0_pay4 u a b e f (ix2 i l)
    = conv (a (ix2 0 l)) (b (ix2 0 l)) (e (ix2 0 l)) (f (ix2 0 l)) (fun t => u (ix2 t l)) i := by
  pointwise [k0_pay4]
  unfold conv
  rw [← rotated_behind 3 (by decide) (by decide) (fun t => u (ix2 t l)) i fun _ => by omega,
    ← rotated_behind 2 (by decide) (by decide) (fun t => u (ix2 t l)) i fun _ => by omega,
    ← rotated_behind 1 (by decide) (by decide) (fun t => u (ix2 t l)) i fun _ => by omega]

def gblock : Vec Ideal S2048x128 .f32 := k0_pay7 (k0_pay5 u a b e f) g (k0_pay6 u a b e f)

theorem gblock_apply (i : Fin 2048) : gblock u g a b e f (ix2 i l)
    = chained (a (ix2 0 l)) (b (ix2 0 l)) (e (ix2 0 l)) (f (ix2 0 l)) (fun t => u (ix2 t l)) (fun t => g (ix2 t l)) i := by
  unfold gblock chained
  pointwise [k0_pay7, k0_pay6, k0_pay5]
  rw [conv_apply, show ∀ x : EReal, 0 - x = -x from fun x => by rw [sub_eq_add_neg, zero_add]]
  rfl

variable (x y z : Vec Ideal S2048x128 .f32)

/-- The gradient of the block. -/
theorem back_apply (i : Fin 2048) : k0_pay2 (k0_pay9 x y z) (k0_pay11 x y z a b) (k0_pay13 x y z) (k0_pay14 e) f (ix2 i l)
    = back (a (ix2 0 l)) (b (ix2 0 l)) (e (ix2 0 l)) (f (ix2 0 l)) (fun t => k0_pay7 x y z (ix2 t l)) i := by
  pointwise [k0_pay2, k0_pay9, k0_pay11, k0_pay13, k0_pay14]
  unfold back
  rw [← rotated_ahead 3 (by decide) (by decide) (fun t => k0_pay7 x y z (ix2 t l)) i,
    ← rotated_ahead 2 (by decide) (by decide) (fun t => k0_pay7 x y z (ix2 t l)) i,
    ← rotated_ahead 1 (by decide) (by decide) (fun t => k0_pay7 x y z (ix2 t l)) i]

/-- The gradients of its taps. -/
theorem tap_of (k : ℕ) (h1 : 1 ≤ k) (h2 : k ≤ 32) (p q : Fin 2048 → EReal)
    (hlt : ∀ i : Fin 2048, ∀ _ : ¬(32 + i.val + 2080 - k) % 2080 < 32, (32 + i.val + 2080 - k) % 2080 - 32 < 2048) :
    (∑ i, p i * if h : (32 + i.val + 2080 - k) % 2080 < 32 then (0 : EReal) else q ⟨(32 + i.val + 2080 - k) % 2080 - 32, hlt i h⟩) = tap k p q :=
  Finset.sum_congr rfl fun i _ => congrArg (p i * ·) (rotated_behind k h1 h2 q i (hlt i))

theorem tap3_apply (r : Fin 1) : k0_pay10 u x y z (ix2 r l) = tap 3 (fun t => k0_pay7 x y z (ix2 t l)) fun t => u (ix2 t l) := by
  pointwise [k0_pay10, k0_pay8]
  exact tap_of 3 (by decide) (by decide) (fun t => k0_pay7 x y z (ix2 t l)) (fun t => u (ix2 t l)) fun i _ => by omega

theorem tap2_apply (r : Fin 1) : k0_pay12 u x y z (ix2 r l) = tap 2 (fun t => k0_pay7 x y z (ix2 t l)) fun t => u (ix2 t l) := by
  pointwise [k0_pay12, k0_pay8]
  exact tap_of 2 (by decide) (by decide) (fun t => k0_pay7 x y z (ix2 t l)) (fun t => u (ix2 t l)) fun i _ => by omega

theorem tap1_apply (r : Fin 1) : k0_pay1 x (k0_pay8 u) (ix2 r l) = tap 1 (fun t => x (ix2 t l)) fun t => u (ix2 t l) := by
  pointwise [k0_pay1, k0_pay8]
  exact tap_of 1 (by decide) (by decide) (fun t => x (ix2 t l)) (fun t => u (ix2 t l)) fun i _ => by omega

theorem tap0_apply (r : Fin 1) : k0_pay3 x (k0_pay8 u) (ix2 r l) = tap 0 (fun t => x (ix2 t l)) fun t => u (ix2 t l) := by
  pointwise [k0_pay3, k0_pay8]
  unfold tap
  rw [behind_zero]

end body

/-- Four rows of 128 as a block. -/
def stacked (f : Fin 4 → Fin 128 → EReal) : Vec Ideal S4x128 .f32 := table f

/-- One of four stored rows is that row of the table. -/
theorem row_piece (f : Fin 4 → Fin 128 → EReal) (k : Fin 4) (o : ℕ) (ho : o = k.val)
    (inb : ∀ a, (![o, 0] : Fin 2 → ℕ) a + S1x128.size a ≤ S4x128.size a) (p : Vec Ideal S1x128 .f32)
    (hp : ∀ (r : Fin 1) (l : Fin 128), p (ix2 r l) = f k l) (x : S1x128.Idx) :
    p x = stacked f ((Rect.unit (s := S4x128) ![o, 0] S1x128.size inb).emb x) := by
  obtain ⟨r, l, rfl⟩ : ∃ (r : Fin 1) (l : Fin 128), x = ix2 r l := ⟨x 0, x 1, by funext a; fin_cases a <;> rfl⟩
  rw [hp]
  subst ho
  have e : (Rect.unit (s := S4x128) ![k.val, 0] S1x128.size inb).emb (ix2 r l) = (ix2 k l : S4x128.Idx) := by
    funext a
    fin_cases a
    · apply Fin.ext; rw [Rect.emb_apply]; show k.val + 1 * r.val = k.val; omega
    · apply Fin.ext; rw [Rect.emb_apply]; show 0 + 1 * l.val = l.val; omega
  rw [e]
  rfl

/-- The four stores are the table. -/
theorem canon_rows (f : Fin 4 → Fin 128 → EReal) (p0 p1 p2 p3 : Vec Ideal S1x128 .f32)
    (h0 : ∀ (r : Fin 1) (l : Fin 128), p0 (ix2 r l) = f 0 l) (h1 : ∀ (r : Fin 1) (l : Fin 128), p1 (ix2 r l) = f 1 l)
    (h2 : ∀ (r : Fin 1) (l : Fin 128), p2 (ix2 r l) = f 2 l) (h3 : ∀ (r : Fin 1) (l : Fin 128), p3 (ix2 r l) = f 3 l) :
    (View.canon [⟨Rect.unit (s := S4x128) ![3, 0] S1x128.size inb_S4x128_S1x128_3_0, p3⟩,
      ⟨Rect.unit (s := S4x128) ![2, 0] S1x128.size inb_S4x128_S1x128_2_0, p2⟩,
      ⟨Rect.unit (s := S4x128) ![1, 0] S1x128.size inb_S4x128_S1x128_1_0, p1⟩,
      ⟨Rect.unit (s := S4x128) ![0, 0] S1x128.size inb_S4x128_S1x128_0_0, p0⟩] : Vec Ideal S4x128 .f32) = stacked f := by
  funext y
  refine View.canon_apply_of_pieces (stacked f) _ ?_ y ?_; rotate_left
  · exact View.cover_of_tiledL (s := S4x128) _ S1x128.size (by sl_kernel_rfl) y
  intro p hp
  simp only [List.mem_cons, List.not_mem_nil, or_false] at hp
  rcases hp with rfl | rfl | rfl | rfl
  · exact row_piece f 3 _ rfl inb_S4x128_S1x128_3_0 p3 h3
  · exact row_piece f 2 _ rfl inb_S4x128_S1x128_2_0 p2 h2
  · exact row_piece f 1 _ rfl inb_S4x128_S1x128_1_0 p1 h1
  · exact row_piece f 0 _ rfl inb_S4x128_S1x128_0_0 p0 h0

section block
variable (u : Vec Ideal S2048x128 .f32) (w : Vec Ideal S4x128 .f32) (g : Vec Ideal S2048x128 .f32)

/-- The gradient of a block's values, column by column. -/
def col (l : Fin 128) : Fin 2048 → EReal :=
  chained (w (ix2 0 l)) (w (ix2 1 l)) (w (ix2 2 l)) (w (ix2 3 l)) (fun t => u (ix2 t l)) fun t => g (ix2 t l)

variable (a b e f : Vec Ideal S1x128 .f32) (ha : ∀ l, a (ix2 0 l) = w (ix2 0 l)) (hb : ∀ l, b (ix2 0 l) = w (ix2 1 l))
    (he : ∀ l, e (ix2 0 l) = w (ix2 2 l)) (hf : ∀ l, f (ix2 0 l) = w (ix2 3 l))
include ha hb he hf

theorem col_eq (l : Fin 128) : (fun t => k0_pay7 (k0_pay5 u a b e f) g (k0_pay6 u a b e f) (ix2 t l)) = col u w g l := by
  funext t
  refine (gblock_apply u g a b e f l t).trans ?_
  unfold col
  rw [ha, hb, he, hf]

/-- What the body stores of the input's gradient, and of the taps'. -/
theorem stored_input (r : Fin 2048) (l : Fin 128) : k0_pay2 (k0_pay9 (k0_pay5 u a b e f) g (k0_pay6 u a b e f)) (k0_pay11 (k0_pay5 u a b e f) g (k0_pay6 u a b e f) a b)
      (k0_pay13 (k0_pay5 u a b e f) g (k0_pay6 u a b e f)) (k0_pay14 e) f (ix2 r l)
    = back (w (ix2 0 l)) (w (ix2 1 l)) (w (ix2 2 l)) (w (ix2 3 l)) (col u w g l) r := by
  refine (back_apply ..).trans ?_
  rw [col_eq u w g a b e f ha hb he hf l, ha, hb, he, hf]

theorem stored_taps (k : Fin 4) (l : Fin 128) : (View.canon [⟨Rect.unit (s := S4x128) ![3, 0] S1x128.size inb_S4x128_S1x128_3_0, k0_pay3 (k0_pay7 (k0_pay5 u a b e f) g (k0_pay6 u a b e f)) (k0_pay8 u)⟩,
      ⟨Rect.unit (s := S4x128) ![2, 0] S1x128.size inb_S4x128_S1x128_2_0, k0_pay1 (k0_pay7 (k0_pay5 u a b e f) g (k0_pay6 u a b e f)) (k0_pay8 u)⟩,
      ⟨Rect.unit (s := S4x128) ![1, 0] S1x128.size inb_S4x128_S1x128_1_0, k0_pay12 u (k0_pay5 u a b e f) g (k0_pay6 u a b e f)⟩,
      ⟨Rect.unit (s := S4x128) ![0, 0] S1x128.size inb_S4x128_S1x128_0_0, k0_pay10 u (k0_pay5 u a b e f) g (k0_pay6 u a b e f)⟩] : Vec Ideal S4x128 .f32) (ix2 k l)
    = tap (3 - k.val) (col u w g l) fun t => u (ix2 t l) := by
  refine (congrFun (canon_rows (fun k l => tap (3 - k.val) (col u w g l) fun t => u (ix2 t l)) _ _ _ _ ?_ ?_ ?_ ?_) (ix2 k l)).trans rfl
  · intro r l
    refine (tap3_apply ..).trans ?_
    rw [col_eq u w g a b e f ha hb he hf]
    rfl
  · intro r l
    refine (tap2_apply ..).trans ?_
    rw [col_eq u w g a b e f ha hb he hf]
    rfl
  · intro r l
    refine (tap1_apply ..).trans ?_
    rw [col_eq u w g a b e f ha hb he hf]
    rfl
  · intro r l
    refine (tap0_apply ..).trans ?_
    rw [col_eq u w g a b e f ha hb he hf]
    rfl

end block

end Cert.ConvBody

end
-- ==== Proof.Conv20.lean ====
/-
  The gradient of the short convolution and silu in q's columns: where the blocks lie, and the arrays after the sweep.
-/
module

public import proofs.«01_k».proof.Proof.ConvBody
public import proofs.«01_k».proof.Proof.Gen.Kernel20Ideal.Value

@[expose] public section

set_option maxRecDepth 16384

noncomputable section

namespace Cert.Conv20

open Idealize.ShloMosaic Cert.Products Cert.Causal Cert.Kernel20Ideal Cert.Kernel20Ideal.Gen

variable (m : (ℓ : Loc nD τ sig) → Buf (Elt Ideal) ℓ) (c : Dev nD)

/-- What a grid point leaves. -/
theorem outs_input (t : Fin cfg0.N) (r : Fin 2048) (l : Fin 128) : (outsAt0 m c t).1 (ix2 r l)
    = back (iblk m c 1 t (ix2 0 l)) (iblk m c 1 t (ix2 1 l)) (iblk m c 1 t (ix2 2 l)) (iblk m c 1 t (ix2 3 l))
      (Cert.ConvBody.col (iblk m c 0 t) (iblk m c 1 t) (iblk m c 2 t) l) r := by
  unfold outsAt0
  dsimp only
  generalize (iblk m c 0 t : Vec Ideal S2048x128 .f32) = u
  generalize (iblk m c 1 t : Vec Ideal S4x128 .f32) = w
  generalize (iblk m c 2 t : Vec Ideal S2048x128 .f32) = g
  frame_out
  exact Cert.ConvBody.stored_input u w g _ _ _ _ (fun l => by pointwise) (fun l => by pointwise) (fun l => by pointwise) (fun l => by pointwise) r l

theorem outs_taps (t : Fin cfg0.N) (k : Fin 4) (l : Fin 128) : (outsAt0 m c t).2 (ix2 k l)
    = tap (3 - k.val) (Cert.ConvBody.col (iblk m c 0 t) (iblk m c 1 t) (iblk m c 2 t) l) fun i => iblk m c 0 t (ix2 i l) := by
  unfold outsAt0
  dsimp only
  generalize (iblk m c 0 t : Vec Ideal S2048x128 .f32) = u
  generalize (iblk m c 1 t : Vec Ideal S4x128 .f32) = w
  generalize (iblk m c 2 t : Vec Ideal S2048x128 .f32) = g
  frame_out
  exact Cert.ConvBody.stored_taps u w g _ _ _ _ (fun l => by pointwise) (fun l => by pointwise) (fun l => by pointwise) (fun l => by pointwise) k l

/-- Where each window's block of a grid point lies. -/
theorem index : ∀ t : Fin cfg0.N, (win0_0.index t 0 = 0 ∧ win0_0.index t 1 = t.val)
    ∧ (win0_1.index t 0 = 0 ∧ win0_1.index t 1 = t.val)
    ∧ (win0_2.index t 0 = 0 ∧ win0_2.index t 1 = t.val)
    ∧ (win0_3.index t 0 = 0 ∧ win0_3.index t 1 = t.val)
    ∧ (win0_4.index t 0 = 0 ∧ win0_4.index t 1 = t.val) := by
  decide +kernel

theorem lt_N (t : Fin cfg0.N) : t.val < 8 := t.isLt

theorem off : 0 + 1024 ≤ 3072 := by decide

/-- A block's columns are columns of the arrays. -/
theorem read_u (t : Fin cfg0.N) (r : Fin 2048) (l : Fin 128) : (iblk m c 0 t : Vec Ideal S2048x128 .f32) (ix2 r l)
    = part 0 (by decide) (V m c main_arg0) r (⟨t.val * 128 + l.val, by have := lt_N t; omega⟩ : Fin 1024) := by
  obtain ⟨h, -⟩ := index t
  unfold part
  blk_ext [iblk, V, h.1, h.2]

theorem read_w (t : Fin cfg0.N) (r : Fin 4) (l : Fin 128) : (iblk m c 1 t : Vec Ideal S4x128 .f32) (ix2 r l)
    = part 0 off (V m c main_arg1) r (⟨t.val * 128 + l.val, by have := lt_N t; omega⟩ : Fin 1024) := by
  obtain ⟨-, h, -⟩ := index t
  unfold part
  blk_ext [iblk, V, h.1, h.2]

theorem read_g (t : Fin cfg0.N) (r : Fin 2048) (l : Fin 128) : (iblk m c 2 t : Vec Ideal S2048x128 .f32) (ix2 r l)
    = V m c main_arg2 (ix2 r (⟨t.val * 128 + l.val, by have := lt_N t; omega⟩ : Fin 1024)) := by
  obtain ⟨-, -, h, -⟩ := index t
  blk_ext [iblk, V, h.1, h.2]

theorem read_col (t : Fin cfg0.N) (l : Fin 128) : Cert.ConvBody.col (iblk m c 0 t) (iblk m c 1 t) (iblk m c 2 t) l
    = gradAt 0 off (V m c main_arg0) (V m c main_arg1) (V m c main_arg2) (⟨t.val * 128 + l.val, by have := lt_N t; omega⟩ : Fin 1024) := by
  unfold Cert.ConvBody.col gradAt grad
  simp only [read_u, read_w, read_g]

/-- What the buffer of the first result holds before the sweep. -/
theorem kept : V m c main_v0_0 = V m c main_arg3 := by
  rfl

/-- One entry of the input's gradient, by the block that holds it. -/
theorem entry_input (t : Fin cfg0.N) (r : Fin 2048) (l : Fin 128) (k : Fin 1024) (hk : k.val = t.val * 128 + l.val) (j : Fin 4096) (hj : j.val = k.val + 0) :
    (dats m 0 c).arrAt 3 cfg0.N (ix2 r j : S2048x4096.Idx)
      = back (part 0 off (V m c main_arg1) 0 k) (part 0 off (V m c main_arg1) 1 k) (part 0 off (V m c main_arg1) 2 k) (part 0 off (V m c main_arg1) 3 k)
        (gradAt 0 off (V m c main_arg0) (V m c main_arg1) (V m c main_arg2) k) r := by
  have h := (index t).2.2.2.1
  have ht := lt_N t
  have hf : (cfg0.win 3).flush t = true := (by decide +kernel : ∀ t : Fin cfg0.N, (cfg0.win 3).flush t = true) t
  obtain ⟨k, hl⟩ := k
  change k = t.val * 128 + l.val at hk
  subst hk
  obtain ⟨j, hj'⟩ := j
  change j = t.val * 128 + l.val + 0 at hj
  subst hj
  have e : (win0_3.blk t).view.emb (ix2 r l) = (ix2 r (⟨t.val * 128 + l.val + 0, hj'⟩ : Fin 4096) : S2048x4096.Idx) := by
    blk_ext [h.1, h.2]
  have b := congrFun (Value.blocks3 m c t hf) (ix2 r l)
  blk_simp [h.1, h.2] at b
  rw [e, after0_3, outs_input, read_col, read_w, read_w, read_w, read_w] at b
  exact b

/-- The input's gradient after the sweep. -/
theorem final_input : (dats m 0 c).arrAt 3 cfg0.N = ofInput 0 off (V m c main_arg0) (V m c main_arg1) (V m c main_arg2) (V m c main_arg3) := by
  refine ext_table fun r j => ?_
  by_cases hj : 0 ≤ j.val ∧ j.val < 0 + 1024
  · rw [dif_pos hj]
    exact entry_input m c ⟨(j.val - 0) / 128, by rw [show cfg0.N = 8 from N_0]; omega⟩ r ⟨(j.val - 0) % 128, by omega⟩ ⟨j.val - 0, by omega⟩
      (by show j.val - 0 = (j.val - 0) / 128 * 128 + (j.val - 0) % 128; omega) j (by show j.val = j.val - 0 + 0; omega)
  · rw [dif_neg hj, Value.entry3 m c _ fun t hf hi => hj ?_]
    · exact congrFun (kept m c) _
    · have h := (index t).2.2.2.1
      have ht := lt_N t
      mem_blk [h.1, h.2] at hi
      have hi := hi.2
      simp only [ix2_1] at hi
      omega

/-- The taps' gradient after the sweep. -/
theorem final_taps : (dats m 0 c).arrAt 4 cfg0.N = ofTaps 0 off (V m c main_arg0) (V m c main_arg1) (V m c main_arg2) := by
  refine (dats m 0 c).arrAt_eq_of_covers 4 _ (by decide +kernel) fun t hf y => ?_
  have h := (index t).2.2.2.2
  have ht := lt_N t
  obtain ⟨k, l, rfl⟩ : ∃ (k : Fin 4) (l : Fin 128), y = ix2 k l := ⟨y 0, y 1, by funext a; fin_cases a <;> rfl⟩
  blk_simp [h.1, h.2]
  have e : (win0_4.blk t).view.emb (ix2 k l) = (ix2 k (⟨t.val * 128 + l.val, by omega⟩ : Fin 1024) : S4x1024.Idx) := by
    blk_ext [h.1, h.2]
  rw [e, after0_4, outs_taps, read_col]
  unfold ofTaps
  rw [table_apply]
  simp only [read_u]

end Cert.Conv20

end
-- ==== Proof.Conv21.lean ====
/-
  The gradient of the short convolution and silu in k's columns: where the blocks lie, and the arrays after the sweep.
-/
module

public import proofs.«01_k».proof.Proof.ConvBody
public import proofs.«01_k».proof.Proof.Gen.Kernel21Ideal.Value

@[expose] public section

set_option maxRecDepth 16384

noncomputable section

namespace Cert.Conv21

open Idealize.ShloMosaic Cert.Products Cert.Causal Cert.Kernel21Ideal Cert.Kernel21Ideal.Gen

variable (m : (ℓ : Loc nD τ sig) → Buf (Elt Ideal) ℓ) (c : Dev nD)

/-- What a grid point leaves. -/
theorem outs_input (t : Fin cfg0.N) (r : Fin 2048) (l : Fin 128) : (outsAt0 m c t).1 (ix2 r l)
    = back (iblk m c 1 t (ix2 0 l)) (iblk m c 1 t (ix2 1 l)) (iblk m c 1 t (ix2 2 l)) (iblk m c 1 t (ix2 3 l))
      (Cert.ConvBody.col (iblk m c 0 t) (iblk m c 1 t) (iblk m c 2 t) l) r := by
  unfold outsAt0
  dsimp only
  generalize (iblk m c 0 t : Vec Ideal S2048x128 .f32) = u
  generalize (iblk m c 1 t : Vec Ideal S4x128 .f32) = w
  generalize (iblk m c 2 t : Vec Ideal S2048x128 .f32) = g
  frame_out
  exact Cert.ConvBody.stored_input u w g _ _ _ _ (fun l => by pointwise) (fun l => by pointwise) (fun l => by pointwise) (fun l => by pointwise) r l

theorem outs_taps (t : Fin cfg0.N) (k : Fin 4) (l : Fin 128) : (outsAt0 m c t).2 (ix2 k l)
    = tap (3 - k.val) (Cert.ConvBody.col (iblk m c 0 t) (iblk m c 1 t) (iblk m c 2 t) l) fun i => iblk m c 0 t (ix2 i l) := by
  unfold outsAt0
  dsimp only
  generalize (iblk m c 0 t : Vec Ideal S2048x128 .f32) = u
  generalize (iblk m c 1 t : Vec Ideal S4x128 .f32) = w
  generalize (iblk m c 2 t : Vec Ideal S2048x128 .f32) = g
  frame_out
  exact Cert.ConvBody.stored_taps u w g _ _ _ _ (fun l => by pointwise) (fun l => by pointwise) (fun l => by pointwise) (fun l => by pointwise) k l

/-- Where each window's block of a grid point lies. -/
theorem index : ∀ t : Fin cfg0.N, (win0_0.index t 0 = 0 ∧ win0_0.index t 1 = t.val + 8)
    ∧ (win0_1.index t 0 = 0 ∧ win0_1.index t 1 = t.val + 8)
    ∧ (win0_2.index t 0 = 0 ∧ win0_2.index t 1 = t.val)
    ∧ (win0_3.index t 0 = 0 ∧ win0_3.index t 1 = t.val + 8)
    ∧ (win0_4.index t 0 = 0 ∧ win0_4.index t 1 = t.val) := by
  decide +kernel

theorem lt_N (t : Fin cfg0.N) : t.val < 8 := t.isLt

theorem off : 1024 + 1024 ≤ 3072 := by decide

/-- A block's columns are columns of the arrays. -/
theorem read_u (t : Fin cfg0.N) (r : Fin 2048) (l : Fin 128) : (iblk m c 0 t : Vec Ideal S2048x128 .f32) (ix2 r l)
    = part 1024 (by decide) (V m c main_arg0) r (⟨t.val * 128 + l.val, by have := lt_N t; omega⟩ : Fin 1024) := by
  obtain ⟨h, -⟩ := index t
  unfold part
  blk_ext [iblk, V, h.1, h.2]

theorem read_w (t : Fin cfg0.N) (r : Fin 4) (l : Fin 128) : (iblk m c 1 t : Vec Ideal S4x128 .f32) (ix2 r l)
    = part 1024 off (V m c main_arg1) r (⟨t.val * 128 + l.val, by have := lt_N t; omega⟩ : Fin 1024) := by
  obtain ⟨-, h, -⟩ := index t
  unfold part
  blk_ext [iblk, V, h.1, h.2]

theorem read_g (t : Fin cfg0.N) (r : Fin 2048) (l : Fin 128) : (iblk m c 2 t : Vec Ideal S2048x128 .f32) (ix2 r l)
    = V m c main_arg2 (ix2 r (⟨t.val * 128 + l.val, by have := lt_N t; omega⟩ : Fin 1024)) := by
  obtain ⟨-, -, h, -⟩ := index t
  blk_ext [iblk, V, h.1, h.2]

theorem read_col (t : Fin cfg0.N) (l : Fin 128) : Cert.ConvBody.col (iblk m c 0 t) (iblk m c 1 t) (iblk m c 2 t) l
    = gradAt 1024 off (V m c main_arg0) (V m c main_arg1) (V m c main_arg2) (⟨t.val * 128 + l.val, by have := lt_N t; omega⟩ : Fin 1024) := by
  unfold Cert.ConvBody.col gradAt grad
  simp only [read_u, read_w, read_g]

/-- What the buffer of the first result holds before the sweep. -/
theorem kept : V m c main_v0_0 = V m c main_arg3 := by
  rfl

/-- One entry of the input's gradient, by the block that holds it. -/
theorem entry_input (t : Fin cfg0.N) (r : Fin 2048) (l : Fin 128) (k : Fin 1024) (hk : k.val = t.val * 128 + l.val) (j : Fin 4096) (hj : j.val = k.val + 1024) :
    (dats m 0 c).arrAt 3 cfg0.N (ix2 r j : S2048x4096.Idx)
      = back (part 1024 off (V m c main_arg1) 0 k) (part 1024 off (V m c main_arg1) 1 k) (part 1024 off (V m c main_arg1) 2 k) (part 1024 off (V m c main_arg1) 3 k)
        (gradAt 1024 off (V m c main_arg0) (V m c main_arg1) (V m c main_arg2) k) r := by
  have h := (index t).2.2.2.1
  have ht := lt_N t
  have hf : (cfg0.win 3).flush t = true := (by decide +kernel : ∀ t : Fin cfg0.N, (cfg0.win 3).flush t = true) t
  obtain ⟨k, hl⟩ := k
  change k = t.val * 128 + l.val at hk
  subst hk
  obtain ⟨j, hj'⟩ := j
  change j = t.val * 128 + l.val + 1024 at hj
  subst hj
  have e : (win0_3.blk t).view.emb (ix2 r l) = (ix2 r (⟨t.val * 128 + l.val + 1024, hj'⟩ : Fin 4096) : S2048x4096.Idx) := by
    blk_ext [h.1, h.2]
  have b := congrFun (Value.blocks3 m c t hf) (ix2 r l)
  blk_simp [h.1, h.2] at b
  rw [e, after0_3, outs_input, read_col, read_w, read_w, read_w, read_w] at b
  exact b

/-- The input's gradient after the sweep. -/
theorem final_input : (dats m 0 c).arrAt 3 cfg0.N = ofInput 1024 off (V m c main_arg0) (V m c main_arg1) (V m c main_arg2) (V m c main_arg3) := by
  refine ext_table fun r j => ?_
  by_cases hj : 1024 ≤ j.val ∧ j.val < 1024 + 1024
  · rw [dif_pos hj]
    exact entry_input m c ⟨(j.val - 1024) / 128, by rw [show cfg0.N = 8 from N_0]; omega⟩ r ⟨(j.val - 1024) % 128, by omega⟩ ⟨j.val - 1024, by omega⟩
      (by show j.val - 1024 = (j.val - 1024) / 128 * 128 + (j.val - 1024) % 128; omega) j (by show j.val = j.val - 1024 + 1024; omega)
  · rw [dif_neg hj, Value.entry3 m c _ fun t hf hi => hj ?_]
    · exact congrFun (kept m c) _
    · have h := (index t).2.2.2.1
      have ht := lt_N t
      mem_blk [h.1, h.2] at hi
      have hi := hi.2
      simp only [ix2_1] at hi
      omega

/-- The taps' gradient after the sweep. -/
theorem final_taps : (dats m 0 c).arrAt 4 cfg0.N = ofTaps 1024 off (V m c main_arg0) (V m c main_arg1) (V m c main_arg2) := by
  refine (dats m 0 c).arrAt_eq_of_covers 4 _ (by decide +kernel) fun t hf y => ?_
  have h := (index t).2.2.2.2
  have ht := lt_N t
  obtain ⟨k, l, rfl⟩ : ∃ (k : Fin 4) (l : Fin 128), y = ix2 k l := ⟨y 0, y 1, by funext a; fin_cases a <;> rfl⟩
  blk_simp [h.1, h.2]
  have e : (win0_4.blk t).view.emb (ix2 k l) = (ix2 k (⟨t.val * 128 + l.val, by omega⟩ : Fin 1024) : S4x1024.Idx) := by
    blk_ext [h.1, h.2]
  rw [e, after0_4, outs_taps, read_col]
  unfold ofTaps
  rw [table_apply]
  simp only [read_u]

end Cert.Conv21

end
-- ==== Proof.Conv22.lean ====
/-
  The gradient of the short convolution and silu in v's columns: where the blocks lie, and the arrays after the sweep.
-/
module

public import proofs.«01_k».proof.Proof.ConvBody
public import proofs.«01_k».proof.Proof.Gen.Kernel22Ideal.Value

@[expose] public section

set_option maxRecDepth 16384

noncomputable section

namespace Cert.Conv22

open Idealize.ShloMosaic Cert.Products Cert.Causal Cert.Kernel22Ideal Cert.Kernel22Ideal.Gen

variable (m : (ℓ : Loc nD τ sig) → Buf (Elt Ideal) ℓ) (c : Dev nD)

/-- What a grid point leaves. -/
theorem outs_input (t : Fin cfg0.N) (r : Fin 2048) (l : Fin 128) : (outsAt0 m c t).1 (ix2 r l)
    = back (iblk m c 1 t (ix2 0 l)) (iblk m c 1 t (ix2 1 l)) (iblk m c 1 t (ix2 2 l)) (iblk m c 1 t (ix2 3 l))
      (Cert.ConvBody.col (iblk m c 0 t) (iblk m c 1 t) (iblk m c 2 t) l) r := by
  unfold outsAt0
  dsimp only
  generalize (iblk m c 0 t : Vec Ideal S2048x128 .f32) = u
  generalize (iblk m c 1 t : Vec Ideal S4x128 .f32) = w
  generalize (iblk m c 2 t : Vec Ideal S2048x128 .f32) = g
  frame_out
  exact Cert.ConvBody.stored_input u w g _ _ _ _ (fun l => by pointwise) (fun l => by pointwise) (fun l => by pointwise) (fun l => by pointwise) r l

theorem outs_taps (t : Fin cfg0.N) (k : Fin 4) (l : Fin 128) : (outsAt0 m c t).2 (ix2 k l)
    = tap (3 - k.val) (Cert.ConvBody.col (iblk m c 0 t) (iblk m c 1 t) (iblk m c 2 t) l) fun i => iblk m c 0 t (ix2 i l) := by
  unfold outsAt0
  dsimp only
  generalize (iblk m c 0 t : Vec Ideal S2048x128 .f32) = u
  generalize (iblk m c 1 t : Vec Ideal S4x128 .f32) = w
  generalize (iblk m c 2 t : Vec Ideal S2048x128 .f32) = g
  frame_out
  exact Cert.ConvBody.stored_taps u w g _ _ _ _ (fun l => by pointwise) (fun l => by pointwise) (fun l => by pointwise) (fun l => by pointwise) k l

/-- Where each window's block of a grid point lies. -/
theorem index : ∀ t : Fin cfg0.N, (win0_0.index t 0 = 0 ∧ win0_0.index t 1 = t.val + 16)
    ∧ (win0_1.index t 0 = 0 ∧ win0_1.index t 1 = t.val + 16)
    ∧ (win0_2.index t 0 = 0 ∧ win0_2.index t 1 = t.val)
    ∧ (win0_3.index t 0 = 0 ∧ win0_3.index t 1 = t.val + 16)
    ∧ (win0_4.index t 0 = 0 ∧ win0_4.index t 1 = t.val) := by
  decide +kernel

theorem lt_N (t : Fin cfg0.N) : t.val < 8 := t.isLt

theorem off : 2048 + 1024 ≤ 3072 := by decide

/-- A block's columns are columns of the arrays. -/
theorem read_u (t : Fin cfg0.N) (r : Fin 2048) (l : Fin 128) : (iblk m c 0 t : Vec Ideal S2048x128 .f32) (ix2 r l)
    = part 2048 (by decide) (V m c main_arg0) r (⟨t.val * 128 + l.val, by have := lt_N t; omega⟩ : Fin 1024) := by
  obtain ⟨h, -⟩ := index t
  unfold part
  blk_ext [iblk, V, h.1, h.2]

theorem read_w (t : Fin cfg0.N) (r : Fin 4) (l : Fin 128) : (iblk m c 1 t : Vec Ideal S4x128 .f32) (ix2 r l)
    = part 2048 off (V m c main_arg1) r (⟨t.val * 128 + l.val, by have := lt_N t; omega⟩ : Fin 1024) := by
  obtain ⟨-, h, -⟩ := index t
  unfold part
  blk_ext [iblk, V, h.1, h.2]

theorem read_g (t : Fin cfg0.N) (r : Fin 2048) (l : Fin 128) : (iblk m c 2 t : Vec Ideal S2048x128 .f32) (ix2 r l)
    = V m c main_arg2 (ix2 r (⟨t.val * 128 + l.val, by have := lt_N t; omega⟩ : Fin 1024)) := by
  obtain ⟨-, -, h, -⟩ := index t
  blk_ext [iblk, V, h.1, h.2]

theorem read_col (t : Fin cfg0.N) (l : Fin 128) : Cert.ConvBody.col (iblk m c 0 t) (iblk m c 1 t) (iblk m c 2 t) l
    = gradAt 2048 off (V m c main_arg0) (V m c main_arg1) (V m c main_arg2) (⟨t.val * 128 + l.val, by have := lt_N t; omega⟩ : Fin 1024) := by
  unfold Cert.ConvBody.col gradAt grad
  simp only [read_u, read_w, read_g]

/-- What the buffer of the first result holds before the sweep. -/
theorem kept : V m c main_v0_0 = V m c main_arg3 := by
  rfl

/-- One entry of the input's gradient, by the block that holds it. -/
theorem entry_input (t : Fin cfg0.N) (r : Fin 2048) (l : Fin 128) (k : Fin 1024) (hk : k.val = t.val * 128 + l.val) (j : Fin 4096) (hj : j.val = k.val + 2048) :
    (dats m 0 c).arrAt 3 cfg0.N (ix2 r j : S2048x4096.Idx)
      = back (part 2048 off (V m c main_arg1) 0 k) (part 2048 off (V m c main_arg1) 1 k) (part 2048 off (V m c main_arg1) 2 k) (part 2048 off (V m c main_arg1) 3 k)
        (gradAt 2048 off (V m c main_arg0) (V m c main_arg1) (V m c main_arg2) k) r := by
  have h := (index t).2.2.2.1
  have ht := lt_N t
  have hf : (cfg0.win 3).flush t = true := (by decide +kernel : ∀ t : Fin cfg0.N, (cfg0.win 3).flush t = true) t
  obtain ⟨k, hl⟩ := k
  change k = t.val * 128 + l.val at hk
  subst hk
  obtain ⟨j, hj'⟩ := j
  change j = t.val * 128 + l.val + 2048 at hj
  subst hj
  have e : (win0_3.blk t).view.emb (ix2 r l) = (ix2 r (⟨t.val * 128 + l.val + 2048, hj'⟩ : Fin 4096) : S2048x4096.Idx) := by
    blk_ext [h.1, h.2]
  have b := congrFun (Value.blocks3 m c t hf) (ix2 r l)
  blk_simp [h.1, h.2] at b
  rw [e, after0_3, outs_input, read_col, read_w, read_w, read_w, read_w] at b
  exact b

/-- The input's gradient after the sweep. -/
theorem final_input : (dats m 0 c).arrAt 3 cfg0.N = ofInput 2048 off (V m c main_arg0) (V m c main_arg1) (V m c main_arg2) (V m c main_arg3) := by
  refine ext_table fun r j => ?_
  by_cases hj : 2048 ≤ j.val ∧ j.val < 2048 + 1024
  · rw [dif_pos hj]
    exact entry_input m c ⟨(j.val - 2048) / 128, by rw [show cfg0.N = 8 from N_0]; omega⟩ r ⟨(j.val - 2048) % 128, by omega⟩ ⟨j.val - 2048, by omega⟩
      (by show j.val - 2048 = (j.val - 2048) / 128 * 128 + (j.val - 2048) % 128; omega) j (by show j.val = j.val - 2048 + 2048; omega)
  · rw [dif_neg hj, Value.entry3 m c _ fun t hf hi => hj ?_]
    · exact congrFun (kept m c) _
    · have h := (index t).2.2.2.1
      have ht := lt_N t
      mem_blk [h.1, h.2] at hi
      have hi := hi.2
      simp only [ix2_1] at hi
      omega

/-- The taps' gradient after the sweep. -/
theorem final_taps : (dats m 0 c).arrAt 4 cfg0.N = ofTaps 2048 off (V m c main_arg0) (V m c main_arg1) (V m c main_arg2) := by
  refine (dats m 0 c).arrAt_eq_of_covers 4 _ (by decide +kernel) fun t hf y => ?_
  have h := (index t).2.2.2.2
  have ht := lt_N t
  obtain ⟨k, l, rfl⟩ : ∃ (k : Fin 4) (l : Fin 128), y = ix2 k l := ⟨y 0, y 1, by funext a; fin_cases a <;> rfl⟩
  blk_simp [h.1, h.2]
  have e : (win0_4.blk t).view.emb (ix2 k l) = (ix2 k (⟨t.val * 128 + l.val, by omega⟩ : Fin 1024) : S4x1024.Idx) := by
    blk_ext [h.1, h.2]
  rw [e, after0_4, outs_taps, read_col]
  unfold ofTaps
  rw [table_apply]
  simp only [read_u]

end Cert.Conv22

end
-- ==== Proof.ConvRef.lean ====
/-
  The reference for the gradient of the short convolution and silu, an array at a time and then at an index.
-/
module

public import proofs.«01_k».proof.Proof.Causal
public import proofs.«01_k».proof.Proof.Gen.Reference20Ideal.Run
public import Idealize.ShloMosaic.Lib.Pointwise

@[expose] public section

set_option maxRecDepth 16384

noncomputable section

namespace Cert.ConvRef

open Idealize.ShloMosaic Cert.Delta Cert.Products Cert.Causal Cert.Reference20Ideal Cert.Reference20Ideal.Gen

abbrev Rows := FVec Ideal S2048x1024 .f32

/-- The columns under three rows of zeros. -/
def padded (u : Rows) : FVec Ideal S2051x1024 .f32 :=
  concatenate S2051x1024 0 [⟨S3x1024, (broadcastInDim S3x1024 ![] bcast_S_S3x1024 (constant S_ .f32 0x00000000#32))⟩, ⟨S2048x1024, u⟩] concatenates_S3x1024_S2048x1024_S2051x1024_d0

/-- Its 2048 rows from the first, the second, the third and the fourth on. -/
def rows0 (u : Rows) : Rows := extractStridedSlice S2048x1024 ![0, 0] (padded u) slices_S2051x1024_S2048x1024_0_0
def rows1 (u : Rows) : Rows := extractStridedSlice S2048x1024 ![1, 0] (padded u) slices_S2051x1024_S2048x1024_1_0
def rows2 (u : Rows) : Rows := extractStridedSlice S2048x1024 ![2, 0] (padded u) slices_S2051x1024_S2048x1024_2_0
def rows3 (u : Rows) : Rows := extractStridedSlice S2048x1024 ![3, 0] (padded u) slices_S2051x1024_S2048x1024_3_0

/-- Each tap in every row. -/
def tap0 (w : FVec Ideal S4x1024 .f32) : Rows := broadcastInDim S2048x1024 ![0, 1] bcast_S1x1024_S2048x1024_0_1 (broadcastInDim S1x1024 ![1] bcast_S1024_S1x1024_1 (shapeCast _ (extractStridedSlice S1x1024 ![0, 0] w slices_S4x1024_S1x1024_0_0) shapeCasts_S1x1024_S1024))
def tap1 (w : FVec Ideal S4x1024 .f32) : Rows := broadcastInDim S2048x1024 ![0, 1] bcast_S1x1024_S2048x1024_0_1 (broadcastInDim S1x1024 ![1] bcast_S1024_S1x1024_1 (shapeCast _ (extractStridedSlice S1x1024 ![1, 0] w slices_S4x1024_S1x1024_1_0) shapeCasts_S1x1024_S1024))
def tap2 (w : FVec Ideal S4x1024 .f32) : Rows := broadcastInDim S2048x1024 ![0, 1] bcast_S1x1024_S2048x1024_0_1 (broadcastInDim S1x1024 ![1] bcast_S1024_S1x1024_1 (shapeCast _ (extractStridedSlice S1x1024 ![2, 0] w slices_S4x1024_S1x1024_2_0) shapeCasts_S1x1024_S1024))
def tap3 (w : FVec Ideal S4x1024 .f32) : Rows := broadcastInDim S2048x1024 ![0, 1] bcast_S1x1024_S2048x1024_0_1 (broadcastInDim S1x1024 ![1] bcast_S1024_S1x1024_1 (shapeCast _ (extractStridedSlice S1x1024 ![3, 0] w slices_S4x1024_S1x1024_3_0) shapeCasts_S1x1024_S1024))

def ones : Rows := broadcastInDim S2048x1024 ![] bcast_S_S2048x1024 (constant S_ .f32 0x3F800000#32)

/-- The convolution, its sigmoid, and the gradient of what silu takes. -/
def convolved (u : Rows) (w : FVec Ideal S4x1024 .f32) : Rows :=
  addf (addf (addf (addf (broadcastInDim S2048x1024 ![] bcast_S_S2048x1024 (constant S_ .f32 0x00000000#32)) (mulf (tap0 w) (rows0 u))) (mulf (tap1 w) (rows1 u))) (mulf (tap2 w) (rows2 u))) (mulf (tap3 w) (rows3 u))
def squashed (x : Rows) : Rows := Host.divf ones (addf ones (Host.exp (Host.negf x)))
def inner (u : Rows) (w : FVec Ideal S4x1024 .f32) (d : Rows) : Rows :=
  addf (mulf d (squashed (convolved u w))) (mulf (mulf (convolved u w) d) (mulf (squashed (convolved u w)) (subf ones (squashed (convolved u w)))))

/-- The gradient of the convolution's input. -/
def input (w : FVec Ideal S4x1024 .f32) (d : Rows) : Rows :=
  extractStridedSlice S2048x1024 ![3, 0] (addf (addf (addf
    (pad S2051x1024 ![3, 0] ![0, 0] ![0, 0] (mulf (tap3 w) d) (constant S_ .f32 0x00000000#32) pads_S2048x1024_S2051x1024_300_000 h_S_)
    (pad S2051x1024 ![2, 0] ![1, 0] ![0, 0] (mulf (tap2 w) d) (constant S_ .f32 0x00000000#32) pads_S2048x1024_S2051x1024_210_000 h_S_))
    (pad S2051x1024 ![1, 0] ![2, 0] ![0, 0] (mulf (tap1 w) d) (constant S_ .f32 0x00000000#32) pads_S2048x1024_S2051x1024_120_000 h_S_))
    (pad S2051x1024 ![0, 0] ![3, 0] ![0, 0] (mulf (tap0 w) d) (constant S_ .f32 0x00000000#32) pads_S2048x1024_S2051x1024_030_000 h_S_)) slices_S2051x1024_S2048x1024_3_0

/-- The gradient of one tap. -/
def column (d u : Rows) : FVec Ideal S1x1024 .f32 :=
  broadcastInDim S1x1024 ![1] bcast_S1024_S1x1024_1 (Host.reduceAdd (shapeCast _ (Host.reduceAdd (mulf d u) (constant S_ .f32 0x00000000#32) reducesTo_S2048x1024_S1024_d0 h_S_) shapeCasts_S1024_S1x1024) (constant S_ .f32 0x00000000#32) reducesTo_S1x1024_S1024_d0 h_S_)

/-- The four taps' gradients, one under another. -/
def weight (u : Rows) (d : Rows) : FVec Ideal S4x1024 .f32 :=
  addf (addf (addf (pad S4x1024 ![3, 0] ![0, 0] ![0, 0] (column d (rows3 u)) (constant S_ .f32 0x00000000#32) pads_S1x1024_S4x1024_300_000 h_S_)
    (pad S4x1024 ![2, 0] ![1, 0] ![0, 0] (column d (rows2 u)) (constant S_ .f32 0x00000000#32) pads_S1x1024_S4x1024_210_000 h_S_))
    (pad S4x1024 ![1, 0] ![2, 0] ![0, 0] (column d (rows1 u)) (constant S_ .f32 0x00000000#32) pads_S1x1024_S4x1024_120_000 h_S_))
    (pad S4x1024 ![0, 0] ![3, 0] ![0, 0] (column d (rows0 u)) (constant S_ .f32 0x00000000#32) pads_S1x1024_S4x1024_030_000 h_S_)

/-- The rows from the `a`-th on of a column under three zeros. -/
theorem shifted (a k : ℕ) (hk : a + k = 3) (f : Fin 2048 → EReal) (i : Fin 2048) (hlt : ∀ _ : ¬a + i.val < 3, a + i.val - 3 < 2048) :
    (if h : a + i.val < 3 then (0 : EReal) else f ⟨a + i.val - 3, hlt h⟩) = behind k f i := by
  unfold behind
  by_cases h : a + i.val < 3
  · rw [dif_pos h, dif_pos (by omega)]
  · rw [dif_neg h, dif_neg (by omega)]
    exact congrArg f (Fin.ext (by show a + i.val - 3 = i.val - k; omega))

/-- The columns that meet a tap, at an entry. -/
theorem rows0_apply (u : Rows) (i : Fin 2048) (j : Fin 1024) : rows0 u (ix2 i j) = behind 3 (fun t => u (ix2 t j)) i := by
  pointwise [rows0, padded]
  rfl

theorem rows1_apply (u : Rows) (i : Fin 2048) (j : Fin 1024) : rows1 u (ix2 i j) = behind 2 (fun t => u (ix2 t j)) i := by
  pointwise [rows1, padded]
  exact shifted 1 2 rfl (fun t => u (ix2 t j)) i fun _ => by omega

theorem rows2_apply (u : Rows) (i : Fin 2048) (j : Fin 1024) : rows2 u (ix2 i j) = behind 1 (fun t => u (ix2 t j)) i := by
  pointwise [rows2, padded]
  exact shifted 2 1 rfl (fun t => u (ix2 t j)) i fun _ => by omega

theorem rows3_apply (u : Rows) (i : Fin 2048) (j : Fin 1024) : rows3 u (ix2 i j) = u (ix2 i j) := by
  pointwise [rows3, padded]

/-- The convolution at an entry. -/
theorem convolved_apply (u : Rows) (w : FVec Ideal S4x1024 .f32) (i : Fin 2048) (j : Fin 1024) :
    convolved u w (ix2 i j) = conv (w (ix2 0 j)) (w (ix2 1 j)) (w (ix2 2 j))
      (w (ix2 3 j)) (fun t => u (ix2 t j)) i := by
  pointwise [convolved, tap0, tap1, tap2, tap3]
  rw [rows0_apply, rows1_apply, rows2_apply, rows3_apply]
  rfl

/-- The gradient of the convolution's values at an entry, where the gradient from above is real. -/
theorem inner_apply (u : Rows) (w : FVec Ideal S4x1024 .f32) (d : Rows)
    (hd : ∀ (i : Fin 2048) (j : Fin 1024), IsReal (d (ix2 i j))) (i : Fin 2048) (j : Fin 1024) :
    inner u w d (ix2 i j) = grad (fun i j => u (ix2 i j)) (fun i j => w (ix2 i j)) (fun i j => d (ix2 i j)) j i := by
  pointwise [inner, squashed, ones]
  rw [convolved_apply]
  exact through_eq (hd i j) _

/-- A product under a condition on its row is the product with the column brought forward. -/
theorem forward (k : ℕ) (p : Prop) [Decidable p] (a : EReal) (f : Fin 2048 → EReal) (i : Fin 2048) (n : p → Fin 2048)
    (hp : p ↔ i.val + k < 2048) (hn : ∀ h, (n h).val = i.val + k) : (if h : p then a * f (n h) else 0) = a * ahead k f i := by
  unfold ahead
  by_cases h : p
  · rw [dif_pos h, dif_pos (hp.mp h)]
    exact congrArg (a * f ·) (Fin.ext (hn h))
  · rw [dif_neg h, dif_neg (mt hp.mpr h), mul_zero]

/-- The gradient of the input at an entry. -/
theorem input_apply (w : FVec Ideal S4x1024 .f32) (d : Rows) (i : Fin 2048) (j : Fin 1024) :
    input w d (ix2 i j) = back (w (ix2 0 j)) (w (ix2 1 j)) (w (ix2 2 j)) (w (ix2 3 j)) (fun t => d (ix2 t j)) i := by
  pointwise [input, tap0, tap1, tap2, tap3]
  have e2 := forward 1 (2 ≤ 3 + i.val ∧ 3 + i.val - 2 < 2048) (w (ix2 2 j)) (fun t => d (ix2 t j)) i
    (fun h => ⟨3 + i.val - 2, h.2⟩) (by omega) (fun _ => by show 3 + i.val - 2 = i.val + 1; omega)
  have e1 := forward 2 (1 ≤ 3 + i.val ∧ 3 + i.val - 1 < 2048) (w (ix2 1 j)) (fun t => d (ix2 t j)) i
    (fun h => ⟨3 + i.val - 1, h.2⟩) (by omega) (fun _ => by show 3 + i.val - 1 = i.val + 2; omega)
  have e0 := forward 3 (3 + i.val < 2048) (w (ix2 0 j)) (fun t => d (ix2 t j)) i
    (fun h => ⟨3 + i.val, h⟩) (by omega) (fun _ => by show 3 + i.val = i.val + 3; omega)
  refine (congrArg₂ (fun a b : EReal => a + b) (congrArg₂ (fun a b : EReal => a + b) (congrArg₂ (fun a b : EReal => a + b) rfl e2) e1) e0).trans ?_
  unfold back
  ac_rfl

/-- The gradient of one tap at an entry. -/
theorem column_apply (d u : Rows) (r : Fin 1) (j : Fin 1024) : column d u (ix2 r j) = ∑ t, d (ix2 t j) * u (ix2 t j) := by
  pointwise [column]
  exact Fin.sum_univ_one _

/-- The gradient of the taps at an entry. -/
theorem weight_apply (u : Rows) (d : Rows) (i : Fin 4) (j : Fin 1024) :
    weight u d (ix2 i j) = tap (3 - i.val) (fun t => d (ix2 t j)) fun t => u (ix2 t j) := by
  pointwise [weight]
  fin_cases i <;> simp [column_apply, rows0_apply, rows1_apply, rows2_apply, rows3_apply, tap, behind_zero]

end Cert.ConvRef

end
-- ==== Proof.Conv23.lean ====
/-
  The short convolution and silu, of all its columns: the kernel's blocks of 128 columns, and the reference.
-/
module

public import proofs.«01_k».proof.Proof.ConvBody
public import proofs.«01_k».proof.Proof.ConvRef
public import proofs.«01_k».proof.Proof.Gen.Kernel23Ideal.Value
public import proofs.«01_k».proof.Proof.Gen.Reference23Ideal.Run
public import Idealize.ShloMosaic.Lib.Pipeline.ValueKit

@[expose] public section

set_option maxRecDepth 16384

noncomputable section

namespace Cert.Conv23

open Idealize.ShloMosaic Cert.Products Cert.Causal

section kernel
open Cert.Kernel23Ideal Cert.Kernel23Ideal.Gen

variable (m : (ℓ : Loc nD τ sig) → Buf (Elt Ideal) ℓ) (c : Dev nD)

/-- A grid point takes 128 columns. -/
theorem index : ∀ t : Fin cfg0.N, (win0_0.index t 0 = 0 ∧ win0_0.index t 1 = t.val)
    ∧ (win0_1.index t 0 = 0 ∧ win0_1.index t 1 = t.val) ∧ (win0_2.index t 0 = 0 ∧ win0_2.index t 1 = t.val) := by
  decide +kernel

theorem body_apply (u : Vec Ideal S2048x128 .f32) (a b e f : Vec Ideal S1x128 .f32) (i : Fin 2048) (l : Fin 128) :
    k0_pay1 u a b e f (ix2 i l) = silu (conv (a (ix2 0 l)) (b (ix2 0 l)) (e (ix2 0 l)) (f (ix2 0 l)) (fun t => u (ix2 t l)) i) := by
  pointwise [k0_pay1]
  unfold silu squash conv
  rw [← Cert.ConvBody.rotated_behind 3 (by decide) (by decide) (fun t => u (ix2 t l)) i fun _ => by omega,
    ← Cert.ConvBody.rotated_behind 2 (by decide) (by decide) (fun t => u (ix2 t l)) i fun _ => by omega,
    ← Cert.ConvBody.rotated_behind 1 (by decide) (by decide) (fun t => u (ix2 t l)) i fun _ => by omega]
  rw [show ∀ x : EReal, 0 - x = -x from fun x => by rw [sub_eq_add_neg, zero_add]]

/-- The array after the sweep. -/
theorem final : (dats m 0 c).arrAt 2 cfg0.N = ofSilu (V m c main_arg0) (V m c main_arg1) := by
  refine (dats m 0 c).arrAt_eq_of_covers 2 _ (by decide +kernel) fun t hf y => ?_
  obtain ⟨h0, h1, h2⟩ := index t
  have ht : t.val < 24 := t.isLt
  obtain ⟨i, l, rfl⟩ : ∃ (i : Fin 2048) (l : Fin 128), y = ix2 i l := ⟨y 0, y 1, by funext a; fin_cases a <;> rfl⟩
  blk_simp [h2.1, h2.2]
  rw [after0_2]
  have e : (win0_2.blk t).view.emb (ix2 i l) = (ix2 i (⟨t.val * 128 + l.val, by omega⟩ : Fin 3072) : S2048x3072.Idx) := by
    blk_ext [h2.1, h2.2]
  rw [e]
  unfold ofSilu
  rw [table_apply]
  have eu : ∀ (r : Fin 2048), (iblk m c 0 t : Vec Ideal S2048x128 .f32) (ix2 r l) = V m c main_arg0 (ix2 r (⟨t.val * 128 + l.val, by omega⟩ : Fin 4096)) := by
    intro r
    blk_ext [iblk, V, h0.1, h0.2]
  have ew : ∀ (r : Fin 4), (iblk m c 1 t : Vec Ideal S4x128 .f32) (ix2 r l) = V m c main_arg1 (ix2 r (⟨t.val * 128 + l.val, by omega⟩ : Fin 3072)) := by
    intro r
    blk_ext [iblk, V, h1.1, h1.2]
  simp only [← eu, ← ew]
  generalize (iblk m c 0 t : Vec Ideal S2048x128 .f32) = u
  generalize (iblk m c 1 t : Vec Ideal S4x128 .f32) = w
  unfold out0_2
  have hz : (![0, 0] : Fin 2 → ℕ) = fun _ => 0 := by decide
  unfold r0_0 r0_1 r0_2 r0_3 r0_4
  simp only [View.canon_unit_zero (S := S2048x128) hz, View.ld_unit_zero (S := S2048x128) hz]
  rw [body_apply]
  pointwise

end kernel

section reference
open Cert.Reference23Ideal Cert.Reference23Ideal.Gen

/-- The first 3072 columns under three rows of zeros, and their convolution. -/
def padded (u : FVec Ideal S2048x4096 .f32) : FVec Ideal S2051x3072 .f32 :=
  concatenate S2051x3072 0 [⟨S3x3072, (broadcastInDim S3x3072 ![] bcast_S_S3x3072 (constant S_ .f32 0x00000000#32))⟩, ⟨S2048x3072, (extractStridedSlice S2048x3072 ![0, 0] u slices_S2048x4096_S2048x3072_0_0)⟩] concatenates_S3x3072_S2048x3072_S2051x3072_d0
def row (v : FVec Ideal S1x3072 .f32) : FVec Ideal S2048x3072 .f32 :=
  broadcastInDim S2048x3072 ![0, 1] bcast_S1x3072_S2048x3072_0_1 (broadcastInDim S1x3072 ![1] bcast_S3072_S1x3072_1 (shapeCast _ v shapeCasts_S1x3072_S3072))
def convolved (u : FVec Ideal S2048x4096 .f32) (w : FVec Ideal S4x3072 .f32) : FVec Ideal S2048x3072 .f32 :=
  addf (addf (addf (addf (broadcastInDim S2048x3072 ![] bcast_S_S2048x3072 (constant S_ .f32 0x00000000#32))
    (mulf (row (extractStridedSlice S1x3072 ![0, 0] w slices_S4x3072_S1x3072_0_0)) (extractStridedSlice S2048x3072 ![0, 0] (padded u) slices_S2051x3072_S2048x3072_0_0)))
    (mulf (row (extractStridedSlice S1x3072 ![1, 0] w slices_S4x3072_S1x3072_1_0)) (extractStridedSlice S2048x3072 ![1, 0] (padded u) slices_S2051x3072_S2048x3072_1_0)))
    (mulf (row (extractStridedSlice S1x3072 ![2, 0] w slices_S4x3072_S1x3072_2_0)) (extractStridedSlice S2048x3072 ![2, 0] (padded u) slices_S2051x3072_S2048x3072_2_0)))
    (mulf (row (extractStridedSlice S1x3072 ![3, 0] w slices_S4x3072_S1x3072_3_0)) (extractStridedSlice S2048x3072 ![3, 0] (padded u) slices_S2051x3072_S2048x3072_3_0))

/-- Silu, as the reference has it. -/
def siluOf (x : FVec Ideal S2048x3072 .f32) : FVec Ideal S2048x3072 .f32 :=
  mulf x (Host.divf (broadcastInDim S2048x3072 ![] bcast_S_S2048x3072 (constant S_ .f32 0x3F800000#32)) (addf (broadcastInDim S2048x3072 ![] bcast_S_S2048x3072 (constant S_ .f32 0x3F800000#32)) (Host.exp (Host.negf x))))

theorem convolved_apply (u : FVec Ideal S2048x4096 .f32) (w : FVec Ideal S4x3072 .f32) (i : Fin 2048) (j : Fin 3072) :
    convolved u w (ix2 i j) = conv (w (ix2 0 j)) (w (ix2 1 j)) (w (ix2 2 j)) (w (ix2 3 j)) (fun t => u (ix2 t (⟨j.val, by omega⟩ : Fin 4096))) i := by
  pointwise [convolved, row, padded]
  unfold conv
  rw [← Cert.ConvRef.shifted 1 2 rfl (fun t => u (ix2 t (⟨j.val, by omega⟩ : Fin 4096))) i fun _ => by omega,
    ← Cert.ConvRef.shifted 2 1 rfl (fun t => u (ix2 t (⟨j.val, by omega⟩ : Fin 4096))) i fun _ => by omega]
  rfl

variable (m : (ℓ : Loc nD τ sig) → Buf (Elt Ideal) ℓ) (c : Dev nD)

theorem result (u : FVec Ideal S2048x4096 .f32) (w : FVec Ideal S4x3072 .f32)
    (h0 : m ((c.tc : Thread nD τ).loc main_arg0) = u) (h1 : m ((c.tc : Thread nD τ).loc main_arg1) = w) :
    Value.res_main_v32 m c = siluOf (convolved u w) := by
  subst h0 h1
  rfl

/-- The reference's result. -/
theorem reference (u : FVec Ideal S2048x4096 .f32) (w : FVec Ideal S4x3072 .f32)
    (h0 : m ((c.tc : Thread nD τ).loc main_arg0) = u) (h1 : m ((c.tc : Thread nD τ).loc main_arg1) = w) :
    Value.res_main_v32 m c = ofSilu u w := by
  rw [result m c u w h0 h1]
  refine ext_table fun i j => ?_
  pointwise [siluOf]
  rw [convolved_apply]
  rfl

end reference

end Cert.Conv23

end
-- ==== Proof.ConvRef20.lean ====
/-
  The reference for the gradient of the short convolution and silu in q's columns.
-/
module

public import proofs.«01_k».proof.Proof.ConvRef
public import proofs.«01_k».proof.Proof.Gen.Reference20Ideal.Run

@[expose] public section

set_option maxRecDepth 16384

noncomputable section

namespace Cert.ConvRef20

open Idealize.ShloMosaic Cert.Delta Cert.Products Cert.Causal Cert.Reference20Ideal Cert.Reference20Ideal.Gen Cert.ConvRef

/-- The columns of the input and of the taps that the reference takes. -/
def own (u : FVec Ideal S2048x4096 .f32) : FVec Ideal S2048x1024 .f32 := extractStridedSlice S2048x1024 ![0, 0] u slices_S2048x4096_S2048x1024_0_0
def ownTaps (w : FVec Ideal S4x3072 .f32) : FVec Ideal S4x1024 .f32 := extractStridedSlice S4x1024 ![0, 0] w slices_S4x3072_S4x1024_0_0

/-- The first result, with the gradient of the input among the columns that stay. -/
def among (x : FVec Ideal S2048x1024 .f32) (d : FVec Ideal S2048x4096 .f32) : FVec Ideal S2048x4096 .f32 :=
  concatenate S2048x4096 1 [⟨S2048x1024, x⟩, ⟨S2048x3072, (extractStridedSlice S2048x3072 ![0, 1024] d slices_S2048x4096_S2048x3072_0_1024)⟩] concatenates_S2048x1024_S2048x3072_S2048x4096_d1

variable (u : FVec Ideal S2048x4096 .f32) (w : FVec Ideal S4x3072 .f32) (g : FVec Ideal S2048x1024 .f32) (d : FVec Ideal S2048x4096 .f32)

theorem off : 0 + 1024 ≤ 3072 := by decide

theorem own_u (i : Fin 2048) (j : Fin 1024) : own u (ix2 i j) = part 0 (by decide) u i j := by
  pointwise [own]
  rfl

theorem own_w (i : Fin 4) (j : Fin 1024) : ownTaps w (ix2 i j) = part 0 off w i j := by
  pointwise [ownTaps]
  rfl

section real
variable (hg : ∀ (i : Fin 2048) (j : Fin 1024), IsReal (g (ix2 i j)))
include hg

theorem inner_col (j : Fin 1024) : (fun t => inner (own u) (ownTaps w) g (ix2 t j)) = gradAt 0 off u w g j := by
  funext t
  rw [inner_apply _ _ _ hg]
  simp only [own_u, own_w]
  rfl

theorem among_apply : among (input (ownTaps w) (inner (own u) (ownTaps w) g)) d = ofInput 0 off u w g d := by
  refine ext_table fun i j => ?_
  pointwise [among]
  by_cases h : j.val < 1024
  · rw [dif_pos h, dif_pos (by omega)]
    exact (input_apply ..).trans (by rw [inner_col u w g hg, own_w, own_w, own_w, own_w])
  · rw [dif_neg h, dif_neg fun x => h (by omega)]
    exact congrArg d (congrArg (ix2 i) (Fin.ext (by show 1024 + (j.val - 1024) = j.val; omega)))

theorem weight_taps : weight (own u) (inner (own u) (ownTaps w) g) = ofTaps 0 off u w g := by
  refine ext_table fun i j => ?_
  rw [weight_apply, inner_col u w g hg]
  simp only [own_u]

end real

variable (m : (ℓ : Loc nD τ sig) → Buf (Elt Ideal) ℓ) (c : Dev nD)
  (h0 : m ((c.tc : Thread nD τ).loc main_arg0) = u) (h1 : m ((c.tc : Thread nD τ).loc main_arg1) = w)
  (h2 : m ((c.tc : Thread nD τ).loc main_arg2) = g) (h3 : m ((c.tc : Thread nD τ).loc main_arg3) = d)
include h0 h1 h2

theorem result_taps : Value.res_main_v77 m c = weight (own u) (inner (own u) (ownTaps w) g) := by
  subst h0 h1 h2
  rfl

include h3 in
theorem result_input : Value.res_main_v81 m c = among (input (ownTaps w) (inner (own u) (ownTaps w) g)) d := by
  subst h0 h1 h2 h3
  rfl

variable (hg : ∀ (i : Fin 2048) (j : Fin 1024), IsReal (g (ix2 i j)))
include hg

/-- The two results of the reference. -/
theorem reference_taps : Value.res_main_v77 m c = ofTaps 0 off u w g :=
  (result_taps u w g m c h0 h1 h2).trans (weight_taps u w g hg)

include h3 in
theorem reference_input : Value.res_main_v81 m c = ofInput 0 off u w g d :=
  (result_input u w g d m c h0 h1 h2 h3).trans (among_apply u w g d hg)

end Cert.ConvRef20

end
-- ==== Proof.ConvRef21.lean ====
/-
  The reference for the gradient of the short convolution and silu in k's columns.
-/
module

public import proofs.«01_k».proof.Proof.ConvRef
public import proofs.«01_k».proof.Proof.Gen.Reference21Ideal.Run

@[expose] public section

set_option maxRecDepth 16384

noncomputable section

namespace Cert.ConvRef21

open Idealize.ShloMosaic Cert.Delta Cert.Products Cert.Causal Cert.Reference21Ideal Cert.Reference21Ideal.Gen Cert.ConvRef

/-- The columns of the input and of the taps that the reference takes. -/
def own (u : FVec Ideal S2048x4096 .f32) : FVec Ideal S2048x1024 .f32 := extractStridedSlice S2048x1024 ![0, 1024] u slices_S2048x4096_S2048x1024_0_1024
def ownTaps (w : FVec Ideal S4x3072 .f32) : FVec Ideal S4x1024 .f32 := extractStridedSlice S4x1024 ![0, 1024] w slices_S4x3072_S4x1024_0_1024

/-- The first result, with the gradient of the input among the columns that stay. -/
def among (x : FVec Ideal S2048x1024 .f32) (d : FVec Ideal S2048x4096 .f32) : FVec Ideal S2048x4096 .f32 :=
  concatenate S2048x4096 1 [⟨S2048x1024, ((extractStridedSlice S2048x1024 ![0, 0] d slices_S2048x4096_S2048x1024_0_0) : (⟨S2048x1024, .f32⟩ : BufTy).Contents (Elt Ideal))⟩, ⟨S2048x1024, x⟩, ⟨S2048x2048, (extractStridedSlice S2048x2048 ![0, 2048] d slices_S2048x4096_S2048x2048_0_2048)⟩] concatenates_S2048x1024_S2048x1024_S2048x2048_S2048x4096_d1

variable (u : FVec Ideal S2048x4096 .f32) (w : FVec Ideal S4x3072 .f32) (g : FVec Ideal S2048x1024 .f32) (d : FVec Ideal S2048x4096 .f32)

theorem off : 1024 + 1024 ≤ 3072 := by decide

theorem own_u (i : Fin 2048) (j : Fin 1024) : own u (ix2 i j) = part 1024 (by decide) u i j := by
  pointwise [own]
  exact congrArg u (congrArg (ix2 i) (Fin.ext (Nat.add_comm _ _)))

theorem own_w (i : Fin 4) (j : Fin 1024) : ownTaps w (ix2 i j) = part 1024 off w i j := by
  pointwise [ownTaps]
  exact congrArg w (congrArg (ix2 i) (Fin.ext (Nat.add_comm _ _)))

section real
variable (hg : ∀ (i : Fin 2048) (j : Fin 1024), IsReal (g (ix2 i j)))
include hg

theorem inner_col (j : Fin 1024) : (fun t => inner (own u) (ownTaps w) g (ix2 t j)) = gradAt 1024 off u w g j := by
  funext t
  rw [inner_apply _ _ _ hg]
  simp only [own_u, own_w]
  rfl

theorem among_apply : among (input (ownTaps w) (inner (own u) (ownTaps w) g)) d = ofInput 1024 off u w g d := by
  refine ext_table fun i j => ?_
  pointwise [among]
  by_cases h : j.val < 1024
  · rw [dif_pos h, dif_neg fun x => by omega]
  · by_cases h' : j.val - 1024 < 1024
    · rw [dif_neg h, dif_pos h', dif_pos ⟨by omega, by omega⟩]
      exact (input_apply ..).trans (by rw [inner_col u w g hg, own_w, own_w, own_w, own_w])
    · rw [dif_neg h, dif_neg h', dif_neg fun x => by omega]
      exact congrArg d (congrArg (ix2 i) (Fin.ext (by show 2048 + (j.val - 1024 - 1024) = j.val; omega)))

theorem weight_taps : weight (own u) (inner (own u) (ownTaps w) g) = ofTaps 1024 off u w g := by
  refine ext_table fun i j => ?_
  rw [weight_apply, inner_col u w g hg]
  simp only [own_u]

end real

variable (m : (ℓ : Loc nD τ sig) → Buf (Elt Ideal) ℓ) (c : Dev nD)
  (h0 : m ((c.tc : Thread nD τ).loc main_arg0) = u) (h1 : m ((c.tc : Thread nD τ).loc main_arg1) = w)
  (h2 : m ((c.tc : Thread nD τ).loc main_arg2) = g) (h3 : m ((c.tc : Thread nD τ).loc main_arg3) = d)
include h0 h1 h2

theorem result_taps : Value.res_main_v77 m c = weight (own u) (inner (own u) (ownTaps w) g) := by
  subst h0 h1 h2
  rfl

include h3 in
theorem result_input : Value.res_main_v82 m c = among (input (ownTaps w) (inner (own u) (ownTaps w) g)) d := by
  subst h0 h1 h2 h3
  rfl

variable (hg : ∀ (i : Fin 2048) (j : Fin 1024), IsReal (g (ix2 i j)))
include hg

/-- The two results of the reference. -/
theorem reference_taps : Value.res_main_v77 m c = ofTaps 1024 off u w g :=
  (result_taps u w g m c h0 h1 h2).trans (weight_taps u w g hg)

include h3 in
theorem reference_input : Value.res_main_v82 m c = ofInput 1024 off u w g d :=
  (result_input u w g d m c h0 h1 h2 h3).trans (among_apply u w g d hg)

end Cert.ConvRef21

end
-- ==== Proof.ConvRef22.lean ====
/-
  The reference for the gradient of the short convolution and silu in v's columns.
-/
module

public import proofs.«01_k».proof.Proof.ConvRef
public import proofs.«01_k».proof.Proof.Gen.Reference22Ideal.Run

@[expose] public section

set_option maxRecDepth 16384

noncomputable section

namespace Cert.ConvRef22

open Idealize.ShloMosaic Cert.Delta Cert.Products Cert.Causal Cert.Reference22Ideal Cert.Reference22Ideal.Gen Cert.ConvRef

/-- The columns of the input and of the taps that the reference takes. -/
def own (u : FVec Ideal S2048x4096 .f32) : FVec Ideal S2048x1024 .f32 := extractStridedSlice S2048x1024 ![0, 2048] u slices_S2048x4096_S2048x1024_0_2048
def ownTaps (w : FVec Ideal S4x3072 .f32) : FVec Ideal S4x1024 .f32 := extractStridedSlice S4x1024 ![0, 2048] w slices_S4x3072_S4x1024_0_2048

/-- The first result, with the gradient of the input among the columns that stay. -/
def among (x : FVec Ideal S2048x1024 .f32) (d : FVec Ideal S2048x4096 .f32) : FVec Ideal S2048x4096 .f32 :=
  concatenate S2048x4096 1 [⟨S2048x2048, ((extractStridedSlice S2048x2048 ![0, 0] d slices_S2048x4096_S2048x2048_0_0) : (⟨S2048x2048, .f32⟩ : BufTy).Contents (Elt Ideal))⟩, ⟨S2048x1024, x⟩, ⟨S2048x1024, (extractStridedSlice S2048x1024 ![0, 3072] d slices_S2048x4096_S2048x1024_0_3072)⟩] concatenates_S2048x2048_S2048x1024_S2048x1024_S2048x4096_d1

variable (u : FVec Ideal S2048x4096 .f32) (w : FVec Ideal S4x3072 .f32) (g : FVec Ideal S2048x1024 .f32) (d : FVec Ideal S2048x4096 .f32)

theorem off : 2048 + 1024 ≤ 3072 := by decide

theorem own_u (i : Fin 2048) (j : Fin 1024) : own u (ix2 i j) = part 2048 (by decide) u i j := by
  pointwise [own]
  exact congrArg u (congrArg (ix2 i) (Fin.ext (Nat.add_comm _ _)))

theorem own_w (i : Fin 4) (j : Fin 1024) : ownTaps w (ix2 i j) = part 2048 off w i j := by
  pointwise [ownTaps]
  exact congrArg w (congrArg (ix2 i) (Fin.ext (Nat.add_comm _ _)))

section real
variable (hg : ∀ (i : Fin 2048) (j : Fin 1024), IsReal (g (ix2 i j)))
include hg

theorem inner_col (j : Fin 1024) : (fun t => inner (own u) (ownTaps w) g (ix2 t j)) = gradAt 2048 off u w g j := by
  funext t
  rw [inner_apply _ _ _ hg]
  simp only [own_u, own_w]
  rfl

theorem among_apply : among (input (ownTaps w) (inner (own u) (ownTaps w) g)) d = ofInput 2048 off u w g d := by
  refine ext_table fun i j => ?_
  pointwise [among]
  by_cases h : j.val < 2048
  · rw [dif_pos h, dif_neg fun x => by omega]
  · by_cases h' : j.val - 2048 < 1024
    · rw [dif_neg h, dif_pos h', dif_pos ⟨by omega, by omega⟩]
      exact (input_apply ..).trans (by rw [inner_col u w g hg, own_w, own_w, own_w, own_w])
    · rw [dif_neg h, dif_neg h', dif_neg fun x => by omega]
      exact congrArg d (congrArg (ix2 i) (Fin.ext (by show 3072 + (j.val - 2048 - 1024) = j.val; omega)))

theorem weight_taps : weight (own u) (inner (own u) (ownTaps w) g) = ofTaps 2048 off u w g := by
  refine ext_table fun i j => ?_
  rw [weight_apply, inner_col u w g hg]
  simp only [own_u]

end real

variable (m : (ℓ : Loc nD τ sig) → Buf (Elt Ideal) ℓ) (c : Dev nD)
  (h0 : m ((c.tc : Thread nD τ).loc main_arg0) = u) (h1 : m ((c.tc : Thread nD τ).loc main_arg1) = w)
  (h2 : m ((c.tc : Thread nD τ).loc main_arg2) = g) (h3 : m ((c.tc : Thread nD τ).loc main_arg3) = d)
include h0 h1 h2

theorem result_taps : Value.res_main_v77 m c = weight (own u) (inner (own u) (ownTaps w) g) := by
  subst h0 h1 h2
  rfl

include h3 in
theorem result_input : Value.res_main_v82 m c = among (input (ownTaps w) (inner (own u) (ownTaps w) g)) d := by
  subst h0 h1 h2 h3
  rfl

variable (hg : ∀ (i : Fin 2048) (j : Fin 1024), IsReal (g (ix2 i j)))
include hg

/-- The two results of the reference. -/
theorem reference_taps : Value.res_main_v77 m c = ofTaps 2048 off u w g :=
  (result_taps u w g m c h0 h1 h2).trans (weight_taps u w g hg)

include h3 in
theorem reference_input : Value.res_main_v82 m c = ofInput 2048 off u w g d :=
  (result_input u w g d m c h0 h1 h2 h3).trans (among_apply u w g d hg)

end Cert.ConvRef22

end
-- ==== Proof.ConvClaims.lean ====
/-
  The claims on the gradients of the short convolution and silu.
-/
module

public import proofs.«01_k».proof.Proof.Gen.Pre_finite_dout
public import proofs.«01_k».proof.Proof.Given
public import proofs.«01_k».proof.Proof.Conv20
public import proofs.«01_k».proof.Proof.Conv21
public import proofs.«01_k».proof.Proof.Conv22
public import proofs.«01_k».proof.Proof.Conv23
public import proofs.«01_k».proof.Proof.ConvRef20
public import proofs.«01_k».proof.Proof.ConvRef21
public import proofs.«01_k».proof.Proof.ConvRef22
public import Idealize.ShloMosaic.Adequacy
public import Idealize.ShloMosaic.Init

@[expose] public section

noncomputable section

namespace Cert.Conv

open Idealize.ShloMosaic Idealize.SL.Sem Cert.Delta

/-- The precondition, of the gradient from above. -/
theorem real_of (pm : FVec Ideal ⟨2, ![2048, 4096]⟩ .f32) (w : FVec Ideal ⟨2, ![4, 3072]⟩ .f32) (g : FVec Ideal ⟨2, ![2048, 1024]⟩ .f32)
    (d : FVec Ideal ⟨2, ![2048, 4096]⟩ .f32) (h : Cert.Pre_finite_dout.fn (F := Ideal) pm w g d = fun _ => 1#1) (i : Fin 2048) (j : Fin 1024) :
    IsReal (g (ix2 i j)) := by
  have e := congrFun h (ix2 i j)
  pointwise [Cert.Pre_finite_dout.fn] at e
  exact real_of_word e

/-! ### q's columns -/

theorem frame20 : Cert.quiescent_Reference20Ideal := fun m ρ _ =>
  (θ_run Cert.Reference20Ideal.defs _ _).mono (fun r h => ⟨fun c => (h c).2.2, sem_eq_zero_of_no_sems (by decide) r.2⟩)
    (Cert.Reference20Ideal.Value.run (F := Ideal) m ρ)

theorem value20 : Cert.algebraic_Kernel20Ideal_Reference20Ideal_pre_finite_dout := by
  intro m g m' g' hpre hag
  refine ⟨fun c => (Cert.Kernel20Ideal.Gen.dats m 0 c).arrAt 3 Cert.Kernel20Ideal.cfg0.N,
    fun c => (Cert.Kernel20Ideal.Gen.dats m 0 c).arrAt 4 Cert.Kernel20Ideal.cfg0.N,
    Cert.Kernel20Ideal.Value.run_blocks (F := Ideal) m g,
    (θ_run Cert.Reference20Ideal.defs _ _).mono (fun r h c => ?_) (Cert.Reference20Ideal.Value.run (F := Ideal) m' g')⟩
  obtain ⟨h0, h1, h2, h3⟩ := hag c
  have hd := real_of _ _ _ _ (hpre c)
  refine ⟨(h c).1.trans ?_, (h c).2.1.trans ?_, (h c).2.2⟩
  · exact (Cert.ConvRef20.reference_input _ _ _ _ m' c h0 h1 h2 h3 hd).trans (Cert.Conv20.final_input m c).symm
  · exact (Cert.ConvRef20.reference_taps _ _ _ m' c h0 h1 h2 hd).trans (Cert.Conv20.final_taps m c).symm

/-! ### k's columns -/

theorem frame21 : Cert.quiescent_Reference21Ideal := fun m ρ _ =>
  (θ_run Cert.Reference21Ideal.defs _ _).mono (fun r h => ⟨fun c => (h c).2.2, sem_eq_zero_of_no_sems (by decide) r.2⟩)
    (Cert.Reference21Ideal.Value.run (F := Ideal) m ρ)

theorem value21 : Cert.algebraic_Kernel21Ideal_Reference21Ideal_pre_finite_dout := by
  intro m g m' g' hpre hag
  refine ⟨fun c => (Cert.Kernel21Ideal.Gen.dats m 0 c).arrAt 3 Cert.Kernel21Ideal.cfg0.N,
    fun c => (Cert.Kernel21Ideal.Gen.dats m 0 c).arrAt 4 Cert.Kernel21Ideal.cfg0.N,
    Cert.Kernel21Ideal.Value.run_blocks (F := Ideal) m g,
    (θ_run Cert.Reference21Ideal.defs _ _).mono (fun r h c => ?_) (Cert.Reference21Ideal.Value.run (F := Ideal) m' g')⟩
  obtain ⟨h0, h1, h2, h3⟩ := hag c
  have hd := real_of _ _ _ _ (hpre c)
  refine ⟨(h c).1.trans ?_, (h c).2.1.trans ?_, (h c).2.2⟩
  · exact (Cert.ConvRef21.reference_input _ _ _ _ m' c h0 h1 h2 h3 hd).trans (Cert.Conv21.final_input m c).symm
  · exact (Cert.ConvRef21.reference_taps _ _ _ m' c h0 h1 h2 hd).trans (Cert.Conv21.final_taps m c).symm

/-! ### v's columns -/

theorem frame22 : Cert.quiescent_Reference22Ideal := fun m ρ _ =>
  (θ_run Cert.Reference22Ideal.defs _ _).mono (fun r h => ⟨fun c => (h c).2.2, sem_eq_zero_of_no_sems (by decide) r.2⟩)
    (Cert.Reference22Ideal.Value.run (F := Ideal) m ρ)

theorem value22 : Cert.algebraic_Kernel22Ideal_Reference22Ideal_pre_finite_dout := by
  intro m g m' g' hpre hag
  refine ⟨fun c => (Cert.Kernel22Ideal.Gen.dats m 0 c).arrAt 3 Cert.Kernel22Ideal.cfg0.N,
    fun c => (Cert.Kernel22Ideal.Gen.dats m 0 c).arrAt 4 Cert.Kernel22Ideal.cfg0.N,
    Cert.Kernel22Ideal.Value.run_blocks (F := Ideal) m g,
    (θ_run Cert.Reference22Ideal.defs _ _).mono (fun r h c => ?_) (Cert.Reference22Ideal.Value.run (F := Ideal) m' g')⟩
  obtain ⟨h0, h1, h2, h3⟩ := hag c
  have hd := real_of _ _ _ _ (hpre c)
  refine ⟨(h c).1.trans ?_, (h c).2.1.trans ?_, (h c).2.2⟩
  · exact (Cert.ConvRef22.reference_input _ _ _ _ m' c h0 h1 h2 h3 hd).trans (Cert.Conv22.final_input m c).symm
  · exact (Cert.ConvRef22.reference_taps _ _ _ m' c h0 h1 h2 hd).trans (Cert.Conv22.final_taps m c).symm

/-! ### The convolution and silu, of all columns -/

theorem frame23 : Cert.quiescent_Reference23Ideal := fun m ρ _ =>
  (θ_run Cert.Reference23Ideal.defs _ _).mono (fun r h => ⟨fun c => (h c).2, sem_eq_zero_of_no_sems (by decide) r.2⟩)
    (Cert.Reference23Ideal.Value.run (F := Ideal) m ρ)

theorem value23 : Cert.algebraic_Kernel23Ideal_Reference23Ideal := by
  intro m g m' g' _ hag
  refine ⟨fun c => (Cert.Kernel23Ideal.Gen.dats m 0 c).arrAt 2 Cert.Kernel23Ideal.cfg0.N,
    Cert.Kernel23Ideal.Value.run_blocks (F := Ideal) m g,
    (θ_run Cert.Reference23Ideal.defs _ _).mono (fun r h c => ?_) (Cert.Reference23Ideal.Value.run (F := Ideal) m' g')⟩
  obtain ⟨h0, h1⟩ := hag c
  refine ⟨(h c).1.trans ?_, (h c).2⟩
  exact (Cert.Conv23.reference m' c _ _ h0 h1).trans (Cert.Conv23.final m c).symm

end Cert.Conv

end
-- ==== Proof.Modulation.lean ====
/-
  The product that makes a layer's modulation from silu of the condition, and the gradient of its weight.
-/
module

public import proofs.«01_k».proof.Proof.Causal

@[expose] public section

noncomputable section

namespace Cert.Modulation

open Idealize.ShloMosaic Cert.Products Cert.Causal

/-- Silu of every number. -/
def silued (x : (⟨2, ![16, 1024]⟩ : Shape).Idx → EReal) : (⟨2, ![16, 1024]⟩ : Shape).Idx → EReal := fun y => silu (x y)

/-- One layer's weight. -/
def layer (o : Fin 4) (w : (⟨3, ![4, 1024, 1536]⟩ : Shape).Idx → EReal) : (⟨2, ![1024, 1536]⟩ : Shape).Idx → EReal :=
  fun y => w (ix3 o (y 0) (y 1))

/-- The modulation before its bias. -/
def made (o : Fin 4) (x : (⟨2, ![16, 1024]⟩ : Shape).Idx → EReal) (w : (⟨3, ![4, 1024, 1536]⟩ : Shape).Idx → EReal) :
    (⟨2, ![16, 1536]⟩ : Shape).Idx → EReal :=
  table (nn (silued x) (layer o w))

/-- The stacked array of a function of layer, row and column. -/
def stack (f : Fin 4 → Fin 1024 → Fin 1536 → EReal) : (⟨3, ![4, 1024, 1536]⟩ : Shape).Idx → EReal := fun y => f (y 0) (y 1) (y 2)

/-- The gradient of one layer's weight, among those of the other layers. -/
def ofWeight (o : Fin 4) (x : (⟨2, ![16, 1024]⟩ : Shape).Idx → EReal) (d : (⟨2, ![16, 1536]⟩ : Shape).Idx → EReal)
    (g : (⟨3, ![4, 1024, 1536]⟩ : Shape).Idx → EReal) : (⟨3, ![4, 1024, 1536]⟩ : Shape).Idx → EReal :=
  stack fun q i j => if q = o then tn (silued x) d i j else g (ix3 q i j)

theorem ofWeight_apply (o : Fin 4) (x : (⟨2, ![16, 1024]⟩ : Shape).Idx → EReal) (d : (⟨2, ![16, 1536]⟩ : Shape).Idx → EReal)
    (g : (⟨3, ![4, 1024, 1536]⟩ : Shape).Idx → EReal) (q : Fin 4) (i : Fin 1024) (j : Fin 1536) :
    ofWeight o x d g (ix3 q i j) = if q = o then tn (silued x) d i j else g (ix3 q i j) := rfl

/-- Silu as the kernel writes it, with a subtraction for the sign. -/
theorem silu_sub (x : EReal) : x * Ideal.div 1 (1 + Ideal.exp (0 - x)) = silu x := by
  unfold silu squash
  rw [show (0 : EReal) - x = -x by rw [sub_eq_add_neg, zero_add]]

end Cert.Modulation

end
-- ==== Proof.Mod24.lean ====
/-
  The gradient of the weight that makes the modulation: the kernel's two blocks of columns, in one layer's place, and the reference.
-/
module

public import proofs.«01_k».proof.Proof.Modulation
public import proofs.«01_k».proof.Proof.Gen.Kernel24Ideal.Value
public import proofs.«01_k».proof.Proof.Gen.Reference24Ideal.Run
public import Idealize.ShloMosaic.Lib.Pipeline.ValueKit

@[expose] public section

set_option maxRecDepth 16384

noncomputable section

namespace Cert.Mod24

open Idealize.ShloMosaic Cert.Products Cert.Causal Cert.Modulation

section kernel
open Cert.Kernel24Ideal Cert.Kernel24Ideal.Gen

variable (m : (ℓ : Loc nD τ sig) → Buf (Elt Ideal) ℓ) (c : Dev nD)

/-- A grid point takes all of the condition and half of the columns. -/
theorem index : ∀ t : Fin cfg0.N, (win0_0.index t 0 = 0 ∧ win0_0.index t 1 = 0)
    ∧ (win0_1.index t 0 = 0 ∧ win0_1.index t 1 = t.val) ∧ (win0_2.index t 0 = 1 ∧ win0_2.index t 1 = 0 ∧ win0_2.index t 2 = t.val) := by
  decide +kernel

theorem lt_N (t : Fin cfg0.N) : t.val < 2 := t.isLt

theorem body_apply (x : Vec Ideal S16x1024 .f32) (d : Vec Ideal S16x768 .f32) (i : Fin 1024) (j : Fin 768) :
    k0_pay1 x d (ix3 0 i j) = tn (silued x) d i j := by
  pointwise [k0_pay1]
  exact Finset.sum_congr rfl fun k _ => congrArg (fun a : EReal => a * d (ix2 k j)) (silu_sub _)

/-- What a grid point leaves. -/
theorem outs (t : Fin cfg0.N) : outsAt0 m c t = k0_pay1 (iblk m c 0 t) (iblk m c 1 t) := by
  unfold outsAt0
  generalize (iblk m c 0 t : Vec Ideal S16x1024 .f32) = x
  generalize (iblk m c 1 t : Vec Ideal S16x768 .f32) = d
  frame_out

/-- What the result's buffer holds before the sweep. -/
theorem kept : V m c main_v0 = V m c main_arg2 := by
  rfl

/-- One entry of the layer's gradient, by the block that holds it. -/
theorem entry (t : Fin cfg0.N) (i : Fin 1024) (l : Fin 768) (j : Fin 1536) (hj : j.val = t.val * 768 + l.val) :
    (dats m 0 c).arrAt 2 cfg0.N (ix3 1 i j : S4x1024x1536.Idx) = tn (silued (V m c main_arg0)) (V m c main_arg1) i j := by
  obtain ⟨h0, h1, h⟩ := index t
  have ht := lt_N t
  have hf : (cfg0.win 2).flush t = true := (by decide +kernel : ∀ t : Fin cfg0.N, (cfg0.win 2).flush t = true) t
  obtain ⟨j, hl⟩ := j
  change j = t.val * 768 + l.val at hj
  subst hj
  have e : (win0_2.blk t).view.emb (ix3 0 i l) = (ix3 1 i (⟨t.val * 768 + l.val, hl⟩ : Fin 1536) : S4x1024x1536.Idx) := by
    blk_ext [h.1, h.2.1, h.2.2]
  have b := congrFun (Value.blocks2 m c t hf) (ix3 0 i l)
  blk_simp [h.1, h.2.1, h.2.2] at b
  rw [e, after0_2, outs, body_apply] at b
  rw [b]
  refine tn_congr (fun k => congrArg silu ?_) fun k => ?_
  · blk_ext [iblk, V, h0.1, h0.2]
  · blk_ext [iblk, V, h1.1, h1.2]

/-- The array after the sweep. -/
theorem final : (dats m 0 c).arrAt 2 cfg0.N = ofWeight 1 (V m c main_arg0) (V m c main_arg1) (V m c main_arg2) := by
  funext y
  obtain ⟨q, i, j, rfl⟩ : ∃ (q : Fin 4) (i : Fin 1024) (j : Fin 1536), y = ix3 q i j := ⟨y 0, y 1, y 2, by funext a; fin_cases a <;> rfl⟩
  rw [ofWeight_apply]
  by_cases hq : q = 1
  · subst hq
    rw [if_pos rfl]
    exact entry m c ⟨j.val / 768, by rw [show cfg0.N = 2 from N_0]; omega⟩ i ⟨j.val % 768, by omega⟩ j
      (by show j.val = j.val / 768 * 768 + j.val % 768; omega)
  · rw [if_neg hq, Value.entry2 m c _ fun t hf hi => hq ?_]
    · exact congrFun (kept m c) _
    · have h := (index t).2.2
      mem_blk [h.1, h.2.1, h.2.2] at hi
      have hi := hi.1
      simp only [ix3_0] at hi
      exact Fin.ext (by show q.val = 1; omega)

end kernel

section reference
open Cert.Reference24Ideal Cert.Reference24Ideal.Gen

/-- The reference takes the product the other way round and turns it over. -/
theorem reference (x : FVec Ideal S16x1024 .f32) (d : FVec Ideal S16x1536 .f32) (g : FVec Ideal S4x1024x1536 .f32) :
    (concatenate S4x1024x1536 0 [⟨S1x1024x1536, ((extractStridedSlice S1x1024x1536 ![0, 0, 0] g slices_S4x1024x1536_S1x1024x1536_0_0_0) : FVec Ideal S1x1024x1536 .f32)⟩,
      ⟨S1x1024x1536, ((broadcastInDim S1x1024x1536 ![1, 2] bcast_S1024x1536_S1x1024x1536_1_2 (transpose S1024x1536 [1, 0] (Host.dotGeneral dot_S16x1536_S16x1024_S1536x1024_0_0_1_1_n_n none d
        (mulf x (Host.divf (broadcastInDim S16x1024 ![] bcast_S_S16x1024 (constant S_ .f32 0x3F800000#32)) (addf (broadcastInDim S16x1024 ![] bcast_S_S16x1024 (constant S_ .f32 0x3F800000#32)) (Host.exp (Host.negf x)))))) transposes_S1536x1024_S1024x1536_1_0)) : FVec Ideal S1x1024x1536 .f32)⟩,
      ⟨S2x1024x1536, ((extractStridedSlice S2x1024x1536 ![2, 0, 0] g slices_S4x1024x1536_S2x1024x1536_2_0_0) : FVec Ideal S2x1024x1536 .f32)⟩]
      concatenates_S1x1024x1536_S1x1024x1536_S2x1024x1536_S4x1024x1536_d0 : FVec Ideal S4x1024x1536 .f32) = ofWeight 1 x d g := by
  funext y
  obtain ⟨q, i, j, rfl⟩ : ∃ (q : Fin 4) (i : Fin 1024) (j : Fin 1536), y = ix3 q i j := ⟨y 0, y 1, y 2, by funext a; fin_cases a <;> rfl⟩
  rw [ofWeight_apply]
  by_cases hq : q = 1
  · subst hq
    rw [if_pos rfl]
    pointwise
    exact Finset.sum_congr rfl fun k _ => mul_comm _ _
  · rw [if_neg hq]
    pointwise
    fin_cases q
    · rfl
    · exact absurd rfl hq
    · rfl
    · rfl

end reference

end Cert.Mod24

end
-- ==== Proof.Mod25.lean ====
/-
  The product that makes the modulation: the kernel's two blocks of columns, and the reference.
-/
module

public import proofs.«01_k».proof.Proof.Modulation
public import proofs.«01_k».proof.Proof.Gen.Kernel25Ideal.Value
public import proofs.«01_k».proof.Proof.Gen.Reference25Ideal.Run
public import Idealize.ShloMosaic.Lib.Pipeline.ValueKit

@[expose] public section

set_option maxRecDepth 16384

noncomputable section

namespace Cert.Mod25

open Idealize.ShloMosaic Cert.Products Cert.Causal Cert.Modulation

section kernel
open Cert.Kernel25Ideal Cert.Kernel25Ideal.Gen

variable (m : (ℓ : Loc nD τ sig) → Buf (Elt Ideal) ℓ) (c : Dev nD)

/-- A grid point takes all of the condition and half of the layer's columns. -/
theorem index : ∀ t : Fin cfg0.N, (win0_0.index t 0 = 0 ∧ win0_0.index t 1 = 0)
    ∧ (win0_1.index t 0 = 1 ∧ win0_1.index t 1 = 0 ∧ win0_1.index t 2 = t.val) ∧ (win0_2.index t 0 = 0 ∧ win0_2.index t 1 = t.val) := by
  decide +kernel

theorem body_apply (x : Vec Ideal S16x1024 .f32) (w : Vec Ideal S1x1024x768 .f32) (i : Fin 16) (j : Fin 768) :
    k0_pay1 x w (ix2 i j) = nn (silued x) (fun y => w (ix3 0 (y 0) (y 1)) : (⟨2, ![1024, 768]⟩ : Shape).Idx → EReal) i j := by
  pointwise [k0_pay1]
  exact Finset.sum_congr rfl fun k _ => congrArg (fun a : EReal => a * w (ix3 0 k j)) (silu_sub _)

/-- The array after the sweep. -/
theorem final : (dats m 0 c).arrAt 2 cfg0.N = made 1 (V m c main_arg0) (V m c main_arg1) := by
  refine (dats m 0 c).arrAt_eq_of_covers 2 _ (by decide +kernel) fun t hf y => ?_
  obtain ⟨h0, h1, h2⟩ := index t
  have ht : t.val < 2 := t.isLt
  obtain ⟨i, l, rfl⟩ : ∃ (i : Fin 16) (l : Fin 768), y = ix2 i l := ⟨y 0, y 1, by funext a; fin_cases a <;> rfl⟩
  blk_simp [h2.1, h2.2]
  rw [after0_2]
  have e : (win0_2.blk t).view.emb (ix2 i l) = (ix2 i (⟨t.val * 768 + l.val, by omega⟩ : Fin 1536) : S16x1536.Idx) := by
    blk_ext [h2.1, h2.2]
  rw [e]
  unfold made
  rw [table_apply]
  unfold out0_2
  have hz : (![0, 0] : Fin 2 → ℕ) = fun _ => 0 := by decide
  have hz' : (![0, 0, 0] : Fin 3 → ℕ) = fun _ => 0 := by decide
  simp only [View.canon_unit_zero (S := S16x768) hz, View.ld_unit_zero (S := S16x1024) hz, View.ld_unit_zero (S := S1x1024x768) hz']
  rw [body_apply]
  refine nn_congr (fun k => congrArg silu ?_) fun k => ?_
  · blk_ext [iblk, V, h0.1, h0.2]
  · unfold layer
    blk_ext [iblk, V, h1.1, h1.2.1, h1.2.2]

end kernel

section reference
open Cert.Reference25Ideal Cert.Reference25Ideal.Gen

/-- The reference's product. -/
theorem reference (x : FVec Ideal S16x1024 .f32) (w : FVec Ideal S4x1024x1536 .f32) :
    Host.dotGeneral (F := Ideal) dot_S16x1024_S1024x1536_S16x1536_1_0_0_1_n_n none (mulf x (Host.divf (broadcastInDim S16x1024 ![] bcast_S_S16x1024 (constant S_ .f32 0x3F800000#32)) (addf (broadcastInDim S16x1024 ![] bcast_S_S16x1024 (constant S_ .f32 0x3F800000#32)) (Host.exp (Host.negf x)))))
      (shapeCast _ (extractStridedSlice S1x1024x1536 ![1, 0, 0] w slices_S4x1024x1536_S1x1024x1536_1_0_0) shapeCasts_S1x1024x1536_S1024x1536)
      = made 1 x w := by
  refine ext_table fun i j => ?_
  pointwise
  rfl

end reference

end Cert.Mod25

end
-- ==== Proof.ModulationClaims.lean ====
/-
  The claims about the product that makes a layer's modulation, and about the gradient of its weight.
-/
module

public import proofs.«01_k».proof.Defs
public import proofs.«01_k».proof.Proof.Mod24
public import proofs.«01_k».proof.Proof.Mod25
public import Idealize.ShloMosaic.Adequacy
public import Idealize.ShloMosaic.Init

@[expose] public section

noncomputable section

namespace Cert.Modulation

open Idealize.ShloMosaic Idealize.SL.Sem

/-! ### The gradient of the weight -/

theorem frame24 : Cert.quiescent_Reference24Ideal := fun m ρ _ =>
  (θ_run Cert.Reference24Ideal.defs _ _).mono (fun r h => ⟨fun c => (h c).2, sem_eq_zero_of_no_sems (by decide) r.2⟩)
    (Cert.Reference24Ideal.Value.run (F := Ideal) m ρ)

theorem value24 : Cert.algebraic_Kernel24Ideal_Reference24Ideal := by
  intro m g m' g' _ hag
  refine ⟨fun c => (Cert.Kernel24Ideal.Gen.dats m 0 c).arrAt 2 Cert.Kernel24Ideal.cfg0.N,
    Cert.Kernel24Ideal.Value.run_blocks (F := Ideal) m g,
    (θ_run Cert.Reference24Ideal.defs _ _).mono (fun r h c => ?_) (Cert.Reference24Ideal.Value.run (F := Ideal) m' g')⟩
  obtain ⟨h0, h1, h2⟩ := hag c
  refine ⟨(h c).1.trans ?_, (h c).2⟩
  rw [h0, h1, h2]
  exact (Cert.Mod24.reference _ _ _).trans (Cert.Mod24.final m c).symm

/-! ### The product -/

theorem frame25 : Cert.quiescent_Reference25Ideal := fun m ρ _ =>
  (θ_run Cert.Reference25Ideal.defs _ _).mono (fun r h => ⟨fun c => (h c).2, sem_eq_zero_of_no_sems (by decide) r.2⟩)
    (Cert.Reference25Ideal.Value.run (F := Ideal) m ρ)

theorem value25 : Cert.algebraic_Kernel25Ideal_Reference25Ideal := by
  intro m g m' g' _ hag
  refine ⟨fun c => (Cert.Kernel25Ideal.Gen.dats m 0 c).arrAt 2 Cert.Kernel25Ideal.cfg0.N,
    Cert.Kernel25Ideal.Value.run_blocks (F := Ideal) m g,
    (θ_run Cert.Reference25Ideal.defs _ _).mono (fun r h c => ?_) (Cert.Reference25Ideal.Value.run (F := Ideal) m' g')⟩
  obtain ⟨h0, h1⟩ := hag c
  refine ⟨(h c).1.trans ?_, (h c).2⟩
  rw [h0, h1]
  exact (Cert.Mod25.reference _ _).trans (Cert.Mod25.final m c).symm

end Cert.Modulation

end
-- ==== Proof.Mlp2.lean ====
/-
  The gradient of the MLP's inner values: each block of the kernel's array is the block of the reference's.
-/
module

public import proofs.«01_k».proof.Proof.Products
public import proofs.«01_k».proof.Proof.Gen.Kernel2Ideal.Value
public import proofs.«01_k».proof.Proof.Gen.Reference2Ideal.Run
public import Idealize.ShloMosaic.Lib.Pipeline.ValueKit

@[expose] public section

set_option maxRecDepth 16384

noncomputable section

namespace Cert.Mlp2

open Idealize.ShloMosaic Cert.Products

section kernel
open Cert.Kernel2Ideal Cert.Kernel2Ideal.Gen

variable (m : (ℓ : Loc nD τ sig) → Buf (Elt Ideal) ℓ) (c : Dev nD)

/-- Where each window's block of a grid point lies. -/
theorem index : ∀ t : Fin cfg0.N, (win0_0.index t 0 = t.val / 4 ∧ win0_0.index t 1 = 0)
    ∧ (win0_1.index t 0 = t.val % 4 ∧ win0_1.index t 1 = 0)
    ∧ (win0_2.index t 0 = t.val / 4 ∧ win0_2.index t 1 = t.val % 4)
    ∧ (win0_3.index t 0 = t.val / 4 ∧ win0_3.index t 1 = t.val % 4) := by
  decide +kernel

theorem lt8 (t : Fin cfg0.N) : t.val < 8 := t.isLt

/-- What the body makes of its blocks, at an index. -/
theorem body_apply (x w a : Vec Ideal S1024x1024 .bf16) (i j : Fin 1024) :
    k0_pay1 x w a (ix2 i j) = nt x w i j * steep (a (ix2 i j)) := by
  pointwise [k0_pay1]
  rfl

/-- The array after the sweep. -/
theorem final : (dats m 0 c).arrAt 3 cfg0.N
    = table fun i j => nt (V m c main_arg0) (V m c main_arg1) i j * steep (V m c main_arg2 (ix2 i j)) := by
  refine (dats m 0 c).arrAt_eq_of_covers 3 _ (by decide +kernel) fun t hf y => ?_
  obtain ⟨h0, h1, h2, h3⟩ := index t
  have ht := lt8 t
  obtain ⟨i, l, rfl⟩ : ∃ (i l : Fin 1024), y = ix2 i l := ⟨y 0, y 1, by funext a; fin_cases a <;> rfl⟩
  blk_simp [h3.1, h3.2]
  rw [after0_3]
  have e : (win0_3.blk t).view.emb (ix2 i l) = (ix2 (⟨t.val / 4 * 1024 + i.val, by omega⟩ : Fin 2048) (⟨t.val % 4 * 1024 + l.val, by omega⟩ : Fin 4096) : S2048x4096.Idx) := by
    blk_ext [h3.1, h3.2]
  rw [e, table_apply]
  unfold out0_3
  have hz : (![0, 0] : Fin 2 → ℕ) = fun _ => 0 := by decide
  rw [View.canon_unit_zero (S := S1024x1024) hz, View.ld_unit_zero (S := S1024x1024) hz, View.ld_unit_zero (S := S1024x1024) hz,
    View.ld_unit_zero (S := S1024x1024) hz, body_apply]
  refine congrArg₂ (· * ·) (nt_congr (fun k => ?_) fun k => ?_) (congrArg steep ?_)
  · blk_ext [iblk, V, h0.1, h0.2]
  · blk_ext [iblk, V, h1.1, h1.2]
  · blk_ext [iblk, V, h2.1, h2.2]

end kernel

section reference
open Cert.Reference2Ideal Cert.Reference2Ideal.Gen

/-- The reference's result: where the inner value is not positive it takes nought, and there the derivative is nought. -/
theorem reference (x : FVec Ideal S2048x1024 .bf16) (w : FVec Ideal S4096x1024 .bf16) (a : FVec Ideal S2048x4096 .bf16) :
    truncf (F := Ideal) .bf16 (select (cmpf .ogt (extf .f32 a bitsLt_bf16_f32) (broadcastInDim S2048x4096 ![] bcast_S_S2048x4096 (constant S_ .f32 0x00000000#32)))
      (mulf (Host.dotGeneral dot_S2048x1024_S4096x1024_S2048x4096_1_1_0_0_n_n none (extf .f32 x bitsLt_bf16_f32) (extf .f32 w bitsLt_bf16_f32))
        (mulf (broadcastInDim S2048x4096 ![] bcast_S_S2048x4096 (constant S_ .f32 0x40000000#32))
          (maximumf (extf .f32 a bitsLt_bf16_f32) (broadcastInDim S2048x4096 ![] bcast_S_S2048x4096 (constant S_ .f32 0x00000000#32)))))
      (broadcastInDim S2048x4096 ![] bcast_S_S2048x4096 (constant S_ .f32 0x00000000#32))) bitsLt_bf16_f32
    = table fun i j => nt x w i j * steep (a (ix2 i j)) := by
  refine ext_table fun i j => ?_
  pointwise
  by_cases h : 0 < a (ix2 i j)
  · rw [if_pos h]; rfl
  · rw [if_neg h, steep_of_le (not_lt.mp h), mul_zero]

end reference

end Cert.Mlp2

end
-- ==== Proof.Mlp3.lean ====
/-
  The gradient of the MLP's second weight: the columns of the inner values by the output's gradient.
-/
module

public import proofs.«01_k».proof.Proof.Products
public import proofs.«01_k».proof.Proof.Gen.Kernel3Ideal.Value
public import proofs.«01_k».proof.Proof.Gen.Reference3Ideal.Run
public import Idealize.ShloMosaic.Lib.Pipeline.ValueKit

@[expose] public section

set_option maxRecDepth 16384

noncomputable section

namespace Cert.Mlp3

open Idealize.ShloMosaic Cert.Products

section kernel
open Cert.Kernel3Ideal Cert.Kernel3Ideal.Gen

variable (m : (ℓ : Loc nD τ sig) → Buf (Elt Ideal) ℓ) (c : Dev nD)

/-- A grid point takes a quarter of the inner values' columns, and all of the output's gradient. -/
theorem index : ∀ t : Fin cfg0.N, (win0_0.index t 0 = 0 ∧ win0_0.index t 1 = t.val)
    ∧ (win0_1.index t 0 = 0 ∧ win0_1.index t 1 = 0) ∧ (win0_2.index t 0 = t.val ∧ win0_2.index t 1 = 0) := by
  decide +kernel

theorem body_apply (x w : Vec Ideal S2048x1024 .bf16) (i j : Fin 1024) : k0_pay1 x w (ix2 i j) = tn x w i j := by
  pointwise [k0_pay1]
  rfl

/-- The array after the sweep. -/
theorem final : (dats m 0 c).arrAt 2 cfg0.N = table (tn (V m c main_arg0) (V m c main_arg1)) := by
  refine (dats m 0 c).arrAt_eq_of_covers 2 _ (by decide +kernel) fun t hf y => ?_
  obtain ⟨h0, h1, h2⟩ := index t
  have ht : t.val < 4 := t.isLt
  obtain ⟨i, l, rfl⟩ : ∃ (i l : Fin 1024), y = ix2 i l := ⟨y 0, y 1, by funext a; fin_cases a <;> rfl⟩
  blk_simp [h2.1, h2.2]
  rw [after0_2]
  have e : (win0_2.blk t).view.emb (ix2 i l) = (ix2 (⟨t.val * 1024 + i.val, by omega⟩ : Fin 4096) l : S4096x1024.Idx) := by
    blk_ext [h2.1, h2.2]
  rw [e, table_apply]
  unfold out0_2
  have hz : (![0, 0] : Fin 2 → ℕ) = fun _ => 0 := by decide
  rw [View.canon_unit_zero (S := S1024x1024) hz, View.ld_unit_zero (S := S2048x1024) hz, View.ld_unit_zero (S := S2048x1024) hz, body_apply]
  refine tn_congr (fun k => ?_) fun k => ?_
  · blk_ext [iblk, V, h0.1, h0.2]
  · blk_ext [iblk, V, h1.1, h1.2]

end kernel

section reference
open Cert.Reference3Ideal Cert.Reference3Ideal.Gen

/-- The reference takes the product the other way round and turns it over. -/
theorem reference (x : FVec Ideal S2048x4096 .bf16) (w : FVec Ideal S2048x1024 .bf16) :
    truncf (F := Ideal) .bf16 (transpose S4096x1024 [1, 0] (Host.dotGeneral dot_S2048x1024_S2048x4096_S1024x4096_0_0_1_1_n_n none
      (extf .f32 w bitsLt_bf16_f32) (extf .f32 x bitsLt_bf16_f32)) transposes_S1024x4096_S4096x1024_1_0) bitsLt_bf16_f32 = table (tn x w) := by
  refine ext_table fun i j => ?_
  pointwise
  exact Finset.sum_congr rfl fun k _ => mul_comm _ _

end reference

end Cert.Mlp3

end
-- ==== Proof.Mlp4.lean ====
/-
  The gradient of the MLP's first weight: the columns of the input by the inner values' gradient.
-/
module

public import proofs.«01_k».proof.Proof.Products
public import proofs.«01_k».proof.Proof.Gen.Kernel4Ideal.Value
public import proofs.«01_k».proof.Proof.Gen.Reference4Ideal.Run
public import Idealize.ShloMosaic.Lib.Pipeline.ValueKit

@[expose] public section

set_option maxRecDepth 16384

noncomputable section

namespace Cert.Mlp4

open Idealize.ShloMosaic Cert.Products

section kernel
open Cert.Kernel4Ideal Cert.Kernel4Ideal.Gen

variable (m : (ℓ : Loc nD τ sig) → Buf (Elt Ideal) ℓ) (c : Dev nD)

/-- A grid point takes all of the input, and a quarter of the columns of the inner values' gradient. -/
theorem index : ∀ t : Fin cfg0.N, (win0_0.index t 0 = 0 ∧ win0_0.index t 1 = 0)
    ∧ (win0_1.index t 0 = 0 ∧ win0_1.index t 1 = t.val) ∧ (win0_2.index t 0 = 0 ∧ win0_2.index t 1 = t.val) := by
  decide +kernel

theorem body_apply (x w : Vec Ideal S2048x1024 .bf16) (i j : Fin 1024) : k0_pay1 x w (ix2 i j) = tn x w i j := by
  pointwise [k0_pay1]
  rfl

/-- The array after the sweep. -/
theorem final : (dats m 0 c).arrAt 2 cfg0.N = table (tn (V m c main_arg0) (V m c main_arg1)) := by
  refine (dats m 0 c).arrAt_eq_of_covers 2 _ (by decide +kernel) fun t hf y => ?_
  obtain ⟨h0, h1, h2⟩ := index t
  have ht : t.val < 4 := t.isLt
  obtain ⟨i, l, rfl⟩ : ∃ (i l : Fin 1024), y = ix2 i l := ⟨y 0, y 1, by funext a; fin_cases a <;> rfl⟩
  blk_simp [h2.1, h2.2]
  rw [after0_2]
  have e : (win0_2.blk t).view.emb (ix2 i l) = (ix2 i (⟨t.val * 1024 + l.val, by omega⟩ : Fin 4096) : S1024x4096.Idx) := by
    blk_ext [h2.1, h2.2]
  rw [e, table_apply]
  unfold out0_2
  have hz : (![0, 0] : Fin 2 → ℕ) = fun _ => 0 := by decide
  rw [View.canon_unit_zero (S := S1024x1024) hz, View.ld_unit_zero (S := S2048x1024) hz, View.ld_unit_zero (S := S2048x1024) hz, body_apply]
  refine tn_congr (fun k => ?_) fun k => ?_
  · blk_ext [iblk, V, h0.1, h0.2]
  · blk_ext [iblk, V, h1.1, h1.2]

end kernel

section reference
open Cert.Reference4Ideal Cert.Reference4Ideal.Gen

/-- The reference takes the product the other way round and turns it over. -/
theorem reference (x : FVec Ideal S2048x1024 .bf16) (w : FVec Ideal S2048x4096 .bf16) :
    truncf (F := Ideal) .bf16 (transpose S1024x4096 [1, 0] (Host.dotGeneral dot_S2048x4096_S2048x1024_S4096x1024_0_0_1_1_n_n none
      (extf .f32 w bitsLt_bf16_f32) (extf .f32 x bitsLt_bf16_f32)) transposes_S4096x1024_S1024x4096_1_0) bitsLt_bf16_f32 = table (tn x w) := by
  refine ext_table fun i j => ?_
  pointwise
  exact Finset.sum_congr rfl fun k _ => mul_comm _ _

end reference

end Cert.Mlp4

end
-- ==== Proof.Mlp5.lean ====
/-
  The gradient of the MLP's input: the kernel adds the products of four blocks in its scratch, the reference takes
  one product over the whole axis.
-/
module

public import proofs.«01_k».proof.Proof.Products
public import proofs.«01_k».proof.Proof.Gen.Kernel5Ideal.Value
public import proofs.«01_k».proof.Proof.Gen.Reference5Ideal.Run
public import Idealize.ShloMosaic.Lib.Pipeline.ValueKit

@[expose] public section

set_option maxRecDepth 16384

noncomputable section

namespace Cert.Mlp5

open Idealize.ShloMosaic Cert.Products

section kernel
open Cert.Kernel5Ideal Cert.Kernel5Ideal.Gen

section body
variable (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole)
  (x : Vec Ideal S1024x1024 .bf16) (w : Vec Ideal S1024x1024 .bf16) (s : Vec Ideal S1024x1024 .f32)

theorem hz : (![0, 0] : Fin 2 → ℕ) = fun _ => 0 := by decide

/-- The first point of a block starts the scratch. -/
theorem scratch_A (hc0 : cond0_0 i) (hc1 : ¬cond0_1 i) (hc2 : ¬cond0_2 i) :
    sout0_A_0 c i arg3 harg3 arg4 harg4 arg5 harg5 arg6 harg6 hc0 hc1 hc2 x w = k0_pay1 x w := by
  unfold sout0_A_0
  rw [View.read_writes_eq_canon _ _ _ (fun _ => scover0_A_0 ..)]
  unfold kernelRun0_A
  dsimp only
  sl_unfold_words
  simp only [View.readAt_eq_ld, harg3.read_unread, harg4.read_unread, View.ld_unit_zero (S := S1024x1024) hz]
  exact View.canon_unit_zero (S := S1024x1024) hz _ _

/-- A point between adds to it. -/
theorem scratch_B (hc0 : ¬cond0_0 i) (hc1 : cond0_1 i) (hc2 : ¬cond0_2 i) :
    sout0_B_0 c i arg3 harg3 arg4 harg4 arg5 harg5 arg6 harg6 hc0 hc1 hc2 x w s = k0_pay2 s x w := by
  unfold sout0_B_0
  rw [View.read_writes_eq_canon _ _ _ (fun _ => scover0_B_0 ..)]
  unfold kernelRun0_B
  dsimp only
  sl_unfold_words
  simp only [View.readAt_eq_ld, harg3.read_unread, harg4.read_unread, harg6.read_unread, View.ld_unit_zero (S := S1024x1024) hz]
  exact View.canon_unit_zero (S := S1024x1024) hz _ _

/-- The last point adds to it and writes the sum out. -/
theorem out_C (hc0 : ¬cond0_0 i) (hc1 : cond0_1 i) (hc2 : cond0_2 i) :
    out0_C_2 c i arg3 harg3 arg4 harg4 arg5 harg5 arg6 harg6 hc0 hc1 hc2 x w s = k0_pay2 s x w := by
  unfold out0_C_2
  rw [View.read_writes_eq_canon _ _ _ (fun _ => cover0_C_2 ..)]
  unfold kernelRun0_C
  dsimp only
  sl_unfold_words
  simp only [View.readAt_eq_ld, harg3.read_unread, harg4.read_unread, harg6.read_unread, View.ld_unit_zero (S := S1024x1024) hz,
    View.readCov_unit_zero (S := S1024x1024) _ hz]
  exact View.canon_unit_zero (S := S1024x1024) hz _ _

end body

theorem first_apply (x : Vec Ideal S1024x1024 .bf16) (w : Vec Ideal S1024x1024 .bf16) (i : Fin 1024) (j : Fin 1024) :
    k0_pay1 x w (ix2 i j) = nt x w i j := by
  pointwise [k0_pay1]
  rfl

theorem next_apply (s : Vec Ideal S1024x1024 .f32) (x : Vec Ideal S1024x1024 .bf16) (w : Vec Ideal S1024x1024 .bf16) (i : Fin 1024) (j : Fin 1024) :
    k0_pay2 s x w (ix2 i j) = (s (ix2 i j) : EReal) + nt x w i j := by
  pointwise [k0_pay2]
  rfl

variable (m : (ℓ : Loc nD τ sig) → Buf (Elt Ideal) ℓ) (c : Dev nD)

/-- Where each window's block of a grid point lies. -/
theorem index : ∀ t : Fin cfg0.N, (win0_0.index t 0 = t.val / 4 ∧ win0_0.index t 1 = t.val % 4)
    ∧ (win0_1.index t 0 = 0 ∧ win0_1.index t 1 = t.val % 4)
    ∧ (win0_2.index t 0 = t.val / 4 ∧ win0_2.index t 1 = 0) := by
  decide +kernel

/-- The output is written back at the last point of each block. -/
theorem last : ∀ t : Fin cfg0.N, (cfg0.win 2).flush t = true → t.val % 4 = 3 := by
  decide +kernel

theorem lt_N (t : Fin cfg0.N) : t.val < 8 := t.isLt

/-- The product of a grid point's blocks. -/
def part (t : Fin cfg0.N) (i : Fin 1024) (l : Fin 1024) : EReal :=
  nt (iblk m c 0 t : Vec Ideal S1024x1024 .bf16) (iblk m c 1 t : Vec Ideal S1024x1024 .bf16) i l

theorem part_eq (t : Fin cfg0.N) (i : Fin 1024) (l : Fin 1024) : part m c t i l
    = ∑ k : Fin 1024, ntTerm (V m c main_arg0) (V m c main_arg1) (⟨t.val / 4 * 1024 + i.val, by have := lt_N t; omega⟩ : Fin 2048) l
      (⟨t.val % 4 * 1024 + k.val, by omega⟩ : Fin 4096) := by
  obtain ⟨h0, h1, -⟩ := index t
  have ht := lt_N t
  unfold part nt ntTerm
  refine Finset.sum_congr rfl fun k _ => congrArg₂ (fun a b : EReal => a * b) ?_ ?_
  · blk_ext [iblk, V, h0.1, h0.2]
  · blk_ext [iblk, V, h1.1, h1.2]

/-- The grid point before. -/
def before (t : Fin cfg0.N) : Fin cfg0.N := ⟨t.val - 1, Nat.lt_of_le_of_lt (Nat.sub_le _ _) t.isLt⟩

theorem scratch_first (t : Fin cfg0.N) (h : t.val % 4 = 0) (i : Fin 1024) (l : Fin 1024) :
    (outsAt0 m c t.val t.isLt).2 (ix2 i l) = part m c t i l := by
  rw [outsAt0_A m c t h (by omega) (by omega), scratch_A]
  exact first_apply _ _ i l

theorem scratch_next (t : Fin cfg0.N) (h : 1 ≤ t.val % 4) (h' : t.val % 4 ≠ 3) (i : Fin 1024) (l : Fin 1024) :
    (outsAt0 m c t.val t.isLt).2 (ix2 i l)
      = ((outsAt0 m c (before t).val (before t).isLt).2 (ix2 i l) : EReal) + part m c t i l := by
  rw [outsAt0_B m c t (by omega) h h', scratch_B]
  exact next_apply _ _ _ i l

theorem out_last (t : Fin cfg0.N) (h : t.val % 4 = 3) (i : Fin 1024) (l : Fin 1024) :
    (outsAt0 m c t.val t.isLt).1 (ix2 i l)
      = ((outsAt0 m c (before t).val (before t).isLt).2 (ix2 i l) : EReal) + part m c t i l := by
  rw [outsAt0_C m c t (by omega) (by omega) h, out_C]
  exact next_apply _ _ _ i l

/-- The four products of a block together are the product over the whole axis. -/
theorem parts (t : Fin cfg0.N) (h : t.val % 4 = 3) (i : Fin 1024) (l : Fin 1024) :
    ((outsAt0 m c t.val t.isLt).1 (ix2 i l) : EReal)
      = nt (V m c main_arg0) (V m c main_arg1) (⟨t.val / 4 * 1024 + i.val, by have := lt_N t; omega⟩ : Fin 2048) l := by
  have b1 : (before t).val = t.val - 1 := rfl
  have b2 : (before (before t)).val = t.val - 1 - 1 := rfl
  have b3 : (before (before (before t))).val = t.val - 1 - 1 - 1 := rfl
  refine (add_four (out_last m c t h i l) (scratch_next m c (before t) (by omega) (by omega) i l)
    (scratch_next m c (before (before t)) (by omega) (by omega) i l) (scratch_first m c (before (before (before t))) (by omega) i l)).trans ?_
  rw [part_eq, part_eq, part_eq, part_eq]
  have d1 : (t.val - 1) / 4 = t.val / 4 := by omega
  have d2 : (t.val - 1 - 1) / 4 = t.val / 4 := by omega
  have d3 : (t.val - 1 - 1 - 1) / 4 = t.val / 4 := by omega
  have r1 : (t.val - 1) % 4 = 2 := by omega
  have r2 : (t.val - 1 - 1) % 4 = 1 := by omega
  have r3 : (t.val - 1 - 1 - 1) % 4 = 0 := by omega
  simp only [b1, b2, b3, d1, d2, d3, r1, r2, r3, h]
  exact sum_four 1024 4096 rfl (ntTerm (V m c main_arg0) (V m c main_arg1) _ _) (fun _ => rfl) (fun _ => rfl) (fun _ => rfl) fun _ => rfl

/-- The array after the sweep. -/
theorem final : (dats m 0 c).arrAt 2 cfg0.N = table (nt (V m c main_arg0) (V m c main_arg1)) := by
  refine (dats m 0 c).arrAt_eq_of_covers 2 _ (by decide +kernel) fun t hf y => ?_
  obtain ⟨-, -, h2⟩ := index t
  have ht := lt_N t
  obtain ⟨i, l, rfl⟩ : ∃ (i : Fin 1024) (l : Fin 1024), y = ix2 i l := ⟨y 0, y 1, by funext a; fin_cases a <;> rfl⟩
  blk_simp [h2.1, h2.2]
  rw [after0_2]
  have e : (win0_2.blk t).view.emb (ix2 i l) = (ix2 (⟨t.val / 4 * 1024 + i.val, by omega⟩ : Fin 2048) l : S2048x1024.Idx) := by
    blk_ext [h2.1, h2.2]
  rw [e, table_apply]
  exact parts m c t (last t hf) i l

end kernel

section reference
open Cert.Reference5Ideal Cert.Reference5Ideal.Gen

/-- The reference's product. -/
theorem reference (x : FVec Ideal S2048x4096 .bf16) (w : FVec Ideal S1024x4096 .bf16) :
    Host.dotGeneral (F := Ideal) dot_S2048x4096_S1024x4096_S2048x1024_1_1_0_0_n_n none (extf .f32 x bitsLt_bf16_f32) (extf .f32 w bitsLt_bf16_f32)
      = table (nt x w) := by
  refine ext_table fun i j => ?_
  pointwise
  rfl

end reference

end Cert.Mlp5

end
-- ==== Proof.Mlp6.lean ====
/-
  The MLP's first product: its inner values, and the squares of their positive parts.
-/
module

public import proofs.«01_k».proof.Proof.Products
public import proofs.«01_k».proof.Proof.Gen.Kernel6Ideal.Value
public import proofs.«01_k».proof.Proof.Gen.Reference6Ideal.Run
public import Idealize.ShloMosaic.Lib.Pipeline.ValueKit

@[expose] public section

set_option maxRecDepth 16384

noncomputable section

namespace Cert.Mlp6

open Idealize.ShloMosaic Cert.Products

section kernel
open Cert.Kernel6Ideal Cert.Kernel6Ideal.Gen

variable (m : (ℓ : Loc nD τ sig) → Buf (Elt Ideal) ℓ) (c : Dev nD)

/-- Where each window's block of a grid point lies. -/
theorem index : ∀ t : Fin cfg0.N, (win0_0.index t 0 = t.val / 4 ∧ win0_0.index t 1 = 0)
    ∧ (win0_1.index t 0 = 0 ∧ win0_1.index t 1 = t.val % 4)
    ∧ (win0_2.index t 0 = t.val / 4 ∧ win0_2.index t 1 = t.val % 4)
    ∧ (win0_3.index t 0 = t.val / 4 ∧ win0_3.index t 1 = t.val % 4) := by
  decide +kernel

theorem lt8 (t : Fin cfg0.N) : t.val < 8 := t.isLt

theorem inner_apply (x w : Vec Ideal S1024x1024 .bf16) (i j : Fin 1024) : k0_pay2 x w (ix2 i j) = nn x w i j := by
  pointwise [k0_pay2, k0_pay1]
  rfl

theorem squares_apply (x w : Vec Ideal S1024x1024 .bf16) (i j : Fin 1024) : k0_pay3 x w (ix2 i j) = max (nn x w i j) 0 * max (nn x w i j) 0 := by
  pointwise [k0_pay3, k0_pay1]
  rfl

/-- A grid point's blocks give the product's block. -/
theorem block (t : Fin cfg0.N) (i l : Fin 1024) :
    nn (iblk m c 0 t : Vec Ideal S1024x1024 .bf16) (iblk m c 1 t : Vec Ideal S1024x1024 .bf16) i l
      = nn (V m c main_arg0) (V m c main_arg1) (⟨t.val / 4 * 1024 + i.val, by have := lt8 t; omega⟩ : Fin 2048) (⟨t.val % 4 * 1024 + l.val, by omega⟩ : Fin 4096) := by
  obtain ⟨h0, h1, -⟩ := index t
  have ht := lt8 t
  refine nn_congr (fun k => ?_) fun k => ?_
  · blk_ext [iblk, V, h0.1, h0.2]
  · blk_ext [iblk, V, h1.1, h1.2]

theorem hz : (![0, 0] : Fin 2 → ℕ) = fun _ => 0 := by decide

/-- The inner values after the sweep. -/
theorem final_inner : (dats m 0 c).arrAt 2 cfg0.N = table (nn (V m c main_arg0) (V m c main_arg1)) := by
  refine (dats m 0 c).arrAt_eq_of_covers 2 _ (by decide +kernel) fun t hf y => ?_
  obtain ⟨-, -, h2, -⟩ := index t
  have ht := lt8 t
  obtain ⟨i, l, rfl⟩ : ∃ (i l : Fin 1024), y = ix2 i l := ⟨y 0, y 1, by funext a; fin_cases a <;> rfl⟩
  blk_simp [h2.1, h2.2]
  rw [after0_2]
  have e : (win0_2.blk t).view.emb (ix2 i l) = (ix2 (⟨t.val / 4 * 1024 + i.val, by omega⟩ : Fin 2048) (⟨t.val % 4 * 1024 + l.val, by omega⟩ : Fin 4096) : S2048x4096.Idx) := by
    blk_ext [h2.1, h2.2]
  rw [e, table_apply]
  unfold out0_2
  rw [View.canon_unit_zero (S := S1024x1024) hz, View.ld_unit_zero (S := S1024x1024) hz, View.ld_unit_zero (S := S1024x1024) hz, inner_apply]
  exact block m c t i l

/-- The squares after the sweep. -/
theorem final_squares : (dats m 0 c).arrAt 3 cfg0.N
    = table fun i j => max (nn (V m c main_arg0) (V m c main_arg1) i j) 0 * max (nn (V m c main_arg0) (V m c main_arg1) i j) 0 := by
  refine (dats m 0 c).arrAt_eq_of_covers 3 _ (by decide +kernel) fun t hf y => ?_
  obtain ⟨-, -, -, h3⟩ := index t
  have ht := lt8 t
  obtain ⟨i, l, rfl⟩ : ∃ (i l : Fin 1024), y = ix2 i l := ⟨y 0, y 1, by funext a; fin_cases a <;> rfl⟩
  blk_simp [h3.1, h3.2]
  rw [after0_3]
  have e : (win0_3.blk t).view.emb (ix2 i l) = (ix2 (⟨t.val / 4 * 1024 + i.val, by omega⟩ : Fin 2048) (⟨t.val % 4 * 1024 + l.val, by omega⟩ : Fin 4096) : S2048x4096.Idx) := by
    blk_ext [h3.1, h3.2]
  rw [e, table_apply]
  unfold out0_3
  rw [View.canon_unit_zero (S := S1024x1024) hz, View.ld_unit_zero (S := S1024x1024) hz, View.ld_unit_zero (S := S1024x1024) hz, squares_apply, block]

end kernel

section reference
open Cert.Reference6Ideal Cert.Reference6Ideal.Gen

variable (x : FVec Ideal S2048x1024 .bf16) (w : FVec Ideal S1024x4096 .bf16)

/-- The reference's inner values. -/
theorem reference_inner : truncf (F := Ideal) .bf16 (Host.dotGeneral dot_S2048x1024_S1024x4096_S2048x4096_1_0_0_1_n_n none
      (extf .f32 x bitsLt_bf16_f32) (extf .f32 w bitsLt_bf16_f32)) bitsLt_bf16_f32 = table (nn x w) := by
  refine ext_table fun i j => ?_
  pointwise
  rfl

/-- The reference's squares. -/
theorem reference_squares : truncf (F := Ideal) .bf16
      (mulf (maximumf (Host.dotGeneral dot_S2048x1024_S1024x4096_S2048x4096_1_0_0_1_n_n none (extf .f32 x bitsLt_bf16_f32) (extf .f32 w bitsLt_bf16_f32))
          (broadcastInDim S2048x4096 ![] bcast_S_S2048x4096 (constant S_ .f32 0x00000000#32)))
        (maximumf (Host.dotGeneral dot_S2048x1024_S1024x4096_S2048x4096_1_0_0_1_n_n none (extf .f32 x bitsLt_bf16_f32) (extf .f32 w bitsLt_bf16_f32))
          (broadcastInDim S2048x4096 ![] bcast_S_S2048x4096 (constant S_ .f32 0x00000000#32)))) bitsLt_bf16_f32
    = table fun i j => max (nn x w i j) 0 * max (nn x w i j) 0 := by
  refine ext_table fun i j => ?_
  pointwise
  rfl

end reference

end Cert.Mlp6

end
-- ==== Proof.Mlp7.lean ====
/-
  The MLP's second product: the kernel adds the products of four blocks in its scratch, the reference takes
  one product over the whole axis.
-/
module

public import proofs.«01_k».proof.Proof.Products
public import proofs.«01_k».proof.Proof.Gen.Kernel7Ideal.Value
public import proofs.«01_k».proof.Proof.Gen.Reference7Ideal.Run
public import Idealize.ShloMosaic.Lib.Pipeline.ValueKit

@[expose] public section

set_option maxRecDepth 16384

noncomputable section

namespace Cert.Mlp7

open Idealize.ShloMosaic Cert.Products

section kernel
open Cert.Kernel7Ideal Cert.Kernel7Ideal.Gen

section body
variable (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole)
  (x : Vec Ideal S1024x1024 .bf16) (w : Vec Ideal S1024x1024 .bf16) (s : Vec Ideal S1024x1024 .f32)

theorem hz : (![0, 0] : Fin 2 → ℕ) = fun _ => 0 := by decide

/-- The first point of a block starts the scratch. -/
theorem scratch_A (hc0 : cond0_0 i) (hc1 : ¬cond0_1 i) (hc2 : ¬cond0_2 i) :
    sout0_A_0 c i arg3 harg3 arg4 harg4 arg5 harg5 arg6 harg6 hc0 hc1 hc2 x w = k0_pay1 x w := by
  unfold sout0_A_0
  rw [View.read_writes_eq_canon _ _ _ (fun _ => scover0_A_0 ..)]
  unfold kernelRun0_A
  dsimp only
  sl_unfold_words
  simp only [View.readAt_eq_ld, harg3.read_unread, harg4.read_unread, View.ld_unit_zero (S := S1024x1024) hz]
  exact View.canon_unit_zero (S := S1024x1024) hz _ _

/-- A point between adds to it. -/
theorem scratch_B (hc0 : ¬cond0_0 i) (hc1 : cond0_1 i) (hc2 : ¬cond0_2 i) :
    sout0_B_0 c i arg3 harg3 arg4 harg4 arg5 harg5 arg6 harg6 hc0 hc1 hc2 x w s = k0_pay2 s x w := by
  unfold sout0_B_0
  rw [View.read_writes_eq_canon _ _ _ (fun _ => scover0_B_0 ..)]
  unfold kernelRun0_B
  dsimp only
  sl_unfold_words
  simp only [View.readAt_eq_ld, harg3.read_unread, harg4.read_unread, harg6.read_unread, View.ld_unit_zero (S := S1024x1024) hz]
  exact View.canon_unit_zero (S := S1024x1024) hz _ _

/-- The last point adds to it and writes the sum out. -/
theorem out_C (hc0 : ¬cond0_0 i) (hc1 : cond0_1 i) (hc2 : cond0_2 i) :
    out0_C_2 c i arg3 harg3 arg4 harg4 arg5 harg5 arg6 harg6 hc0 hc1 hc2 x w s = k0_pay2 s x w := by
  unfold out0_C_2
  rw [View.read_writes_eq_canon _ _ _ (fun _ => cover0_C_2 ..)]
  unfold kernelRun0_C
  dsimp only
  sl_unfold_words
  simp only [View.readAt_eq_ld, harg3.read_unread, harg4.read_unread, harg6.read_unread, View.ld_unit_zero (S := S1024x1024) hz,
    View.readCov_unit_zero (S := S1024x1024) _ hz]
  exact View.canon_unit_zero (S := S1024x1024) hz _ _

end body

theorem first_apply (x : Vec Ideal S1024x1024 .bf16) (w : Vec Ideal S1024x1024 .bf16) (i : Fin 1024) (j : Fin 1024) :
    k0_pay1 x w (ix2 i j) = nn x w i j := by
  pointwise [k0_pay1]
  rfl

theorem next_apply (s : Vec Ideal S1024x1024 .f32) (x : Vec Ideal S1024x1024 .bf16) (w : Vec Ideal S1024x1024 .bf16) (i : Fin 1024) (j : Fin 1024) :
    k0_pay2 s x w (ix2 i j) = (s (ix2 i j) : EReal) + nn x w i j := by
  pointwise [k0_pay2]
  rfl

variable (m : (ℓ : Loc nD τ sig) → Buf (Elt Ideal) ℓ) (c : Dev nD)

/-- Where each window's block of a grid point lies. -/
theorem index : ∀ t : Fin cfg0.N, (win0_0.index t 0 = t.val / 4 ∧ win0_0.index t 1 = t.val % 4)
    ∧ (win0_1.index t 0 = t.val % 4 ∧ win0_1.index t 1 = 0)
    ∧ (win0_2.index t 0 = t.val / 4 ∧ win0_2.index t 1 = 0) := by
  decide +kernel

/-- The output is written back at the last point of each block. -/
theorem last : ∀ t : Fin cfg0.N, (cfg0.win 2).flush t = true → t.val % 4 = 3 := by
  decide +kernel

theorem lt_N (t : Fin cfg0.N) : t.val < 8 := t.isLt

/-- The product of a grid point's blocks. -/
def part (t : Fin cfg0.N) (i : Fin 1024) (l : Fin 1024) : EReal :=
  nn (iblk m c 0 t : Vec Ideal S1024x1024 .bf16) (iblk m c 1 t : Vec Ideal S1024x1024 .bf16) i l

theorem part_eq (t : Fin cfg0.N) (i : Fin 1024) (l : Fin 1024) : part m c t i l
    = ∑ k : Fin 1024, nnTerm (V m c main_arg0) (V m c main_arg1) (⟨t.val / 4 * 1024 + i.val, by have := lt_N t; omega⟩ : Fin 2048) l
      (⟨t.val % 4 * 1024 + k.val, by omega⟩ : Fin 4096) := by
  obtain ⟨h0, h1, -⟩ := index t
  have ht := lt_N t
  unfold part nn nnTerm
  refine Finset.sum_congr rfl fun k _ => congrArg₂ (fun a b : EReal => a * b) ?_ ?_
  · blk_ext [iblk, V, h0.1, h0.2]
  · blk_ext [iblk, V, h1.1, h1.2]

/-- The grid point before. -/
def before (t : Fin cfg0.N) : Fin cfg0.N := ⟨t.val - 1, Nat.lt_of_le_of_lt (Nat.sub_le _ _) t.isLt⟩

theorem scratch_first (t : Fin cfg0.N) (h : t.val % 4 = 0) (i : Fin 1024) (l : Fin 1024) :
    (outsAt0 m c t.val t.isLt).2 (ix2 i l) = part m c t i l := by
  rw [outsAt0_A m c t h (by omega) (by omega), scratch_A]
  exact first_apply _ _ i l

theorem scratch_next (t : Fin cfg0.N) (h : 1 ≤ t.val % 4) (h' : t.val % 4 ≠ 3) (i : Fin 1024) (l : Fin 1024) :
    (outsAt0 m c t.val t.isLt).2 (ix2 i l)
      = ((outsAt0 m c (before t).val (before t).isLt).2 (ix2 i l) : EReal) + part m c t i l := by
  rw [outsAt0_B m c t (by omega) h h', scratch_B]
  exact next_apply _ _ _ i l

theorem out_last (t : Fin cfg0.N) (h : t.val % 4 = 3) (i : Fin 1024) (l : Fin 1024) :
    (outsAt0 m c t.val t.isLt).1 (ix2 i l)
      = ((outsAt0 m c (before t).val (before t).isLt).2 (ix2 i l) : EReal) + part m c t i l := by
  rw [outsAt0_C m c t (by omega) (by omega) h, out_C]
  exact next_apply _ _ _ i l

/-- The four products of a block together are the product over the whole axis. -/
theorem parts (t : Fin cfg0.N) (h : t.val % 4 = 3) (i : Fin 1024) (l : Fin 1024) :
    ((outsAt0 m c t.val t.isLt).1 (ix2 i l) : EReal)
      = nn (V m c main_arg0) (V m c main_arg1) (⟨t.val / 4 * 1024 + i.val, by have := lt_N t; omega⟩ : Fin 2048) l := by
  have b1 : (before t).val = t.val - 1 := rfl
  have b2 : (before (before t)).val = t.val - 1 - 1 := rfl
  have b3 : (before (before (before t))).val = t.val - 1 - 1 - 1 := rfl
  refine (add_four (out_last m c t h i l) (scratch_next m c (before t) (by omega) (by omega) i l)
    (scratch_next m c (before (before t)) (by omega) (by omega) i l) (scratch_first m c (before (before (before t))) (by omega) i l)).trans ?_
  rw [part_eq, part_eq, part_eq, part_eq]
  have d1 : (t.val - 1) / 4 = t.val / 4 := by omega
  have d2 : (t.val - 1 - 1) / 4 = t.val / 4 := by omega
  have d3 : (t.val - 1 - 1 - 1) / 4 = t.val / 4 := by omega
  have r1 : (t.val - 1) % 4 = 2 := by omega
  have r2 : (t.val - 1 - 1) % 4 = 1 := by omega
  have r3 : (t.val - 1 - 1 - 1) % 4 = 0 := by omega
  simp only [b1, b2, b3, d1, d2, d3, r1, r2, r3, h]
  exact sum_four 1024 4096 rfl (nnTerm (V m c main_arg0) (V m c main_arg1) _ _) (fun _ => rfl) (fun _ => rfl) (fun _ => rfl) fun _ => rfl

/-- The array after the sweep. -/
theorem final : (dats m 0 c).arrAt 2 cfg0.N = table (nn (V m c main_arg0) (V m c main_arg1)) := by
  refine (dats m 0 c).arrAt_eq_of_covers 2 _ (by decide +kernel) fun t hf y => ?_
  obtain ⟨-, -, h2⟩ := index t
  have ht := lt_N t
  obtain ⟨i, l, rfl⟩ : ∃ (i : Fin 1024) (l : Fin 1024), y = ix2 i l := ⟨y 0, y 1, by funext a; fin_cases a <;> rfl⟩
  blk_simp [h2.1, h2.2]
  rw [after0_2]
  have e : (win0_2.blk t).view.emb (ix2 i l) = (ix2 (⟨t.val / 4 * 1024 + i.val, by omega⟩ : Fin 2048) l : S2048x1024.Idx) := by
    blk_ext [h2.1, h2.2]
  rw [e, table_apply]
  exact parts m c t (last t hf) i l

end kernel

section reference
open Cert.Reference7Ideal Cert.Reference7Ideal.Gen

/-- The reference's product. -/
theorem reference (x : FVec Ideal S2048x4096 .bf16) (w : FVec Ideal S4096x1024 .bf16) :
    Host.dotGeneral (F := Ideal) dot_S2048x4096_S4096x1024_S2048x1024_1_0_0_1_n_n none (extf .f32 x bitsLt_bf16_f32) (extf .f32 w bitsLt_bf16_f32)
      = table (nn x w) := by
  refine ext_table fun i j => ?_
  pointwise
  rfl

end reference

end Cert.Mlp7

end
-- ==== Proof.MlpClaims.lean ====
/-
  The claims about the MLP's calls: the references' frames, and the values.
-/
module

public import proofs.«01_k».proof.Defs
public import proofs.«01_k».proof.Proof.Mlp2
public import proofs.«01_k».proof.Proof.Mlp3
public import proofs.«01_k».proof.Proof.Mlp4
public import proofs.«01_k».proof.Proof.Mlp5
public import proofs.«01_k».proof.Proof.Mlp6
public import proofs.«01_k».proof.Proof.Mlp7
public import proofs.«01_k».proof.Proof.Gen.Kernel2Ideal
public import proofs.«01_k».proof.Proof.Gen.Reference2Ideal
public import proofs.«01_k».proof.Proof.Gen.Kernel3Ideal
public import proofs.«01_k».proof.Proof.Gen.Reference3Ideal
public import proofs.«01_k».proof.Proof.Gen.Kernel4Ideal
public import proofs.«01_k».proof.Proof.Gen.Reference4Ideal
public import proofs.«01_k».proof.Proof.Gen.Kernel5Ideal
public import proofs.«01_k».proof.Proof.Gen.Reference5Ideal
public import proofs.«01_k».proof.Proof.Gen.Kernel6Ideal
public import proofs.«01_k».proof.Proof.Gen.Reference6Ideal
public import proofs.«01_k».proof.Proof.Gen.Kernel7Ideal
public import proofs.«01_k».proof.Proof.Gen.Reference7Ideal

@[expose] public section

noncomputable section

namespace Cert.Mlp

open Idealize.ShloMosaic Idealize.ShloMosaic.TcCoe Idealize.SL.Sem

/-! ### The gradient of the MLP's inner values -/

theorem frame2 : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

theorem value2 : Cert.algebraic_Kernel2Ideal_Reference2Ideal := by
  intro m g m' g' _ hag
  refine ⟨fun c => (Cert.Kernel2Ideal.Gen.dats m 0 c).arrAt 3 Cert.Kernel2Ideal.cfg0.N,
    Cert.Kernel2Ideal.Value.run_blocks (F := Ideal) m g,
    (θ_run Cert.Reference2Ideal.defs _ _).mono (fun r h c => ?_) (Cert.Reference2Ideal.Value.run (F := Ideal) m' g')⟩
  obtain ⟨h0, h1, h2⟩ := hag c
  refine ⟨(h c).1.trans ?_, (h c).2⟩
  rw [h0, h1, h2]
  exact (Cert.Mlp2.reference _ _ _).trans (Cert.Mlp2.final m c).symm

/-! ### The gradient of its second weight -/

theorem frame3 : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

theorem value3 : Cert.algebraic_Kernel3Ideal_Reference3Ideal := by
  intro m g m' g' _ hag
  refine ⟨fun c => (Cert.Kernel3Ideal.Gen.dats m 0 c).arrAt 2 Cert.Kernel3Ideal.cfg0.N,
    Cert.Kernel3Ideal.Value.run_blocks (F := Ideal) m g,
    (θ_run Cert.Reference3Ideal.defs _ _).mono (fun r h c => ?_) (Cert.Reference3Ideal.Value.run (F := Ideal) m' g')⟩
  obtain ⟨h0, h1⟩ := hag c
  refine ⟨(h c).1.trans ?_, (h c).2⟩
  rw [h0, h1]
  exact (Cert.Mlp3.reference _ _).trans (Cert.Mlp3.final m c).symm

/-! ### The gradient of its first weight -/

theorem frame4 : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

theorem value4 : Cert.algebraic_Kernel4Ideal_Reference4Ideal := by
  intro m g m' g' _ hag
  refine ⟨fun c => (Cert.Kernel4Ideal.Gen.dats m 0 c).arrAt 2 Cert.Kernel4Ideal.cfg0.N,
    Cert.Kernel4Ideal.Value.run_blocks (F := Ideal) m g,
    (θ_run Cert.Reference4Ideal.defs _ _).mono (fun r h c => ?_) (Cert.Reference4Ideal.Value.run (F := Ideal) m' g')⟩
  obtain ⟨h0, h1⟩ := hag c
  refine ⟨(h c).1.trans ?_, (h c).2⟩
  rw [h0, h1]
  exact (Cert.Mlp4.reference _ _).trans (Cert.Mlp4.final m c).symm

/-! ### The gradient of its input -/

theorem frame5 : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

theorem value5 : Cert.algebraic_Kernel5Ideal_Reference5Ideal := by
  intro m g m' g' _ hag
  refine ⟨fun c => (Cert.Kernel5Ideal.Gen.dats m 0 c).arrAt 2 Cert.Kernel5Ideal.cfg0.N,
    Cert.Kernel5Ideal.Value.run_blocks (F := Ideal) m g,
    (θ_run Cert.Reference5Ideal.defs _ _).mono (fun r h c => ?_) (Cert.Reference5Ideal.Value.run (F := Ideal) m' g')⟩
  obtain ⟨h0, h1⟩ := hag c
  refine ⟨(h c).1.trans ?_, (h c).2⟩
  rw [h0, h1]
  exact (Cert.Mlp5.reference _ _).trans (Cert.Mlp5.final m c).symm

/-! ### Its first product and the squares -/

theorem frame6 : Cert.quiescent_Reference6Ideal := fun m ρ _ =>
  (θ_run Cert.Reference6Ideal.defs _ _).mono (fun r h => ⟨fun c => (h c).2.2, sem_eq_zero_of_no_sems (by decide) r.2⟩)
    (Cert.Reference6Ideal.Value.run (F := Ideal) m ρ)

theorem value6 : Cert.algebraic_Kernel6Ideal_Reference6Ideal := by
  intro m g m' g' _ hag
  refine ⟨fun c => (Cert.Kernel6Ideal.Gen.dats m 0 c).arrAt 2 Cert.Kernel6Ideal.cfg0.N, fun c => (Cert.Kernel6Ideal.Gen.dats m 0 c).arrAt 3 Cert.Kernel6Ideal.cfg0.N,
    Cert.Kernel6Ideal.Value.run_blocks (F := Ideal) m g,
    (θ_run Cert.Reference6Ideal.defs _ _).mono (fun r h c => ?_) (Cert.Reference6Ideal.Value.run (F := Ideal) m' g')⟩
  obtain ⟨h0, h1⟩ := hag c
  refine ⟨(h c).1.trans ?_, (h c).2.1.trans ?_, (h c).2.2⟩
  · rw [h0, h1]
    exact (Cert.Mlp6.reference_inner _ _).trans (Cert.Mlp6.final_inner m c).symm
  · rw [h0, h1]
    exact (Cert.Mlp6.reference_squares _ _).trans (Cert.Mlp6.final_squares m c).symm

/-! ### Its second product -/

theorem frame7 : Cert.quiescent_Reference7Ideal := fun m ρ _ =>
  (θ_run Cert.Reference7Ideal.defs _ _).mono (fun r h => ⟨fun c => (h c).2, sem_eq_zero_of_no_sems (by decide) r.2⟩)
    (Cert.Reference7Ideal.Value.run (F := Ideal) m ρ)

theorem value7 : Cert.algebraic_Kernel7Ideal_Reference7Ideal := by
  intro m g m' g' _ hag
  refine ⟨fun c => (Cert.Kernel7Ideal.Gen.dats m 0 c).arrAt 2 Cert.Kernel7Ideal.cfg0.N,
    Cert.Kernel7Ideal.Value.run_blocks (F := Ideal) m g,
    (θ_run Cert.Reference7Ideal.defs _ _).mono (fun r h c => ?_) (Cert.Reference7Ideal.Value.run (F := Ideal) m' g')⟩
  obtain ⟨h0, h1⟩ := hag c
  refine ⟨(h c).1.trans ?_, (h c).2⟩
  rw [h0, h1]
  exact (Cert.Mlp7.reference _ _).trans (Cert.Mlp7.final m c).symm

end Cert.Mlp

end
-- ==== Proof.Mixer8.lean ====
/-
  The gradient of what a mixer's last product takes: the output's gradient by the weight's transpose.
-/
module

public import proofs.«01_k».proof.Proof.Products
public import proofs.«01_k».proof.Proof.Gen.Kernel8Ideal.Value
public import proofs.«01_k».proof.Proof.Gen.Reference8Ideal.Run
public import Idealize.ShloMosaic.Lib.Pipeline.ValueKit

@[expose] public section

set_option maxRecDepth 16384

noncomputable section

namespace Cert.Mixer8

open Idealize.ShloMosaic Cert.Products

section kernel
open Cert.Kernel8Ideal Cert.Kernel8Ideal.Gen

variable (m : (ℓ : Loc nD τ sig) → Buf (Elt Ideal) ℓ) (c : Dev nD)

/-- A grid point takes half of the output's gradient, and all of the weight. -/
theorem index : ∀ t : Fin cfg0.N, (win0_0.index t 0 = t.val ∧ win0_0.index t 1 = 0)
    ∧ (win0_1.index t 0 = 0 ∧ win0_1.index t 1 = 0) ∧ (win0_2.index t 0 = t.val ∧ win0_2.index t 1 = 0) := by
  decide +kernel

theorem body_apply (x : Vec Ideal S1024x1024 .bf16) (w : Vec Ideal S1024x1024 .bf16) (i : Fin 1024) (j : Fin 1024) :
    k0_pay1 x w (ix2 i j) = nt x w i j := by
  pointwise [k0_pay1]
  rfl

/-- The array after the sweep. -/
theorem final : (dats m 0 c).arrAt 2 cfg0.N = table (nt (V m c main_arg0) (V m c main_arg1)) := by
  refine (dats m 0 c).arrAt_eq_of_covers 2 _ (by decide +kernel) fun t hf y => ?_
  obtain ⟨h0, h1, h2⟩ := index t
  have ht : t.val < 2 := t.isLt
  obtain ⟨i, l, rfl⟩ : ∃ (i : Fin 1024) (l : Fin 1024), y = ix2 i l := ⟨y 0, y 1, by funext a; fin_cases a <;> rfl⟩
  blk_simp [h2.1, h2.2]
  rw [after0_2]
  have e : (win0_2.blk t).view.emb (ix2 i l) = (ix2 (⟨t.val * 1024 + i.val, by omega⟩ : Fin 2048) l : S2048x1024.Idx) := by
    blk_ext [h2.1, h2.2]
  rw [e, table_apply]
  unfold out0_2
  have hz : (![0, 0] : Fin 2 → ℕ) = fun _ => 0 := by decide
  simp only [View.canon_unit_zero (S := S1024x1024) hz, View.ld_unit_zero (S := S1024x1024) hz]
  rw [body_apply]
  refine nt_congr (fun k => ?_) fun k => ?_
  · blk_ext [iblk, V, h0.1, h0.2]
  · blk_ext [iblk, V, h1.1, h1.2]

end kernel

section reference
open Cert.Reference8Ideal Cert.Reference8Ideal.Gen

/-- The reference's product. -/
theorem reference (x : FVec Ideal S2048x1024 .bf16) (w : FVec Ideal S1024x1024 .bf16) :
    Host.dotGeneral (F := Ideal) dot_S2048x1024_S1024x1024_S2048x1024_1_1_0_0_n_n none (extf .f32 x bitsLt_bf16_f32) (extf .f32 w bitsLt_bf16_f32)
      = table (nt x w) := by
  refine ext_table fun i j => ?_
  pointwise
  rfl

end reference

end Cert.Mixer8

end
-- ==== Proof.Mixer9.lean ====
/-
  The gradient of a mixer's last weight: the columns of what the product took by the output's gradient.
-/
module

public import proofs.«01_k».proof.Proof.Products
public import proofs.«01_k».proof.Proof.Gen.Kernel9Ideal.Value
public import proofs.«01_k».proof.Proof.Gen.Reference9Ideal.Run
public import Idealize.ShloMosaic.Lib.Pipeline.ValueKit

@[expose] public section

set_option maxRecDepth 16384

noncomputable section

namespace Cert.Mixer9

open Idealize.ShloMosaic Cert.Products

section kernel
open Cert.Kernel9Ideal Cert.Kernel9Ideal.Gen

variable (m : (ℓ : Loc nD τ sig) → Buf (Elt Ideal) ℓ) (c : Dev nD)

/-- The one grid point takes all of both. -/
theorem index : ∀ t : Fin cfg0.N, (win0_0.index t 0 = 0 ∧ win0_0.index t 1 = 0)
    ∧ (win0_1.index t 0 = 0 ∧ win0_1.index t 1 = 0) ∧ (win0_2.index t 0 = 0 ∧ win0_2.index t 1 = 0) := by
  decide +kernel

theorem body_apply (x : Vec Ideal S2048x1024 .bf16) (w : Vec Ideal S2048x1024 .bf16) (i : Fin 1024) (j : Fin 1024) :
    k0_pay1 x w (ix2 i j) = tn x w i j := by
  pointwise [k0_pay1]
  rfl

/-- The array after the sweep. -/
theorem final : (dats m 0 c).arrAt 2 cfg0.N = table (tn (V m c main_arg0) (V m c main_arg1)) := by
  refine (dats m 0 c).arrAt_eq_of_covers 2 _ (by decide +kernel) fun t hf y => ?_
  obtain ⟨h0, h1, h2⟩ := index t
  obtain ⟨i, l, rfl⟩ : ∃ (i : Fin 1024) (l : Fin 1024), y = ix2 i l := ⟨y 0, y 1, by funext a; fin_cases a <;> rfl⟩
  blk_simp [h2.1, h2.2]
  rw [after0_2]
  have e : (win0_2.blk t).view.emb (ix2 i l) = (ix2 i l : S1024x1024.Idx) := by
    blk_ext [h2.1, h2.2]
  rw [e, table_apply]
  unfold out0_2
  have hz : (![0, 0] : Fin 2 → ℕ) = fun _ => 0 := by decide
  simp only [View.canon_unit_zero (S := S1024x1024) hz, View.ld_unit_zero (S := S2048x1024) hz]
  rw [body_apply]
  refine tn_congr (fun k => ?_) fun k => ?_
  · blk_ext [iblk, V, h0.1, h0.2]
  · blk_ext [iblk, V, h1.1, h1.2]

end kernel

section reference
open Cert.Reference9Ideal Cert.Reference9Ideal.Gen

/-- The reference takes the product the other way round and turns it over. -/
theorem reference (x : FVec Ideal S2048x1024 .bf16) (w : FVec Ideal S2048x1024 .bf16) :
    truncf (F := Ideal) .bf16 (transpose S1024x1024 [1, 0] (Host.dotGeneral dot_S2048x1024_S2048x1024_S1024x1024_0_0_1_1_n_n none
      (extf .f32 w bitsLt_bf16_f32) (extf .f32 x bitsLt_bf16_f32)) transposes_S1024x1024_S1024x1024_1_0) bitsLt_bf16_f32
      = table (tn x w) := by
  refine ext_table fun i j => ?_
  pointwise
  exact Finset.sum_congr rfl fun k _ => mul_comm _ _

end reference

end Cert.Mixer9

end
-- ==== Proof.Mixer10.lean ====
/-
  The gradient of the delta rule mixer's first weight: the kernel adds the products of two blocks of the tokens in its
  scratch, the reference takes one product over all of them.
-/
module

public import proofs.«01_k».proof.Proof.Products
public import proofs.«01_k».proof.Proof.Gen.Kernel10Ideal.Value
public import proofs.«01_k».proof.Proof.Gen.Reference10Ideal.Run
public import Idealize.ShloMosaic.Lib.Pipeline.ValueKit

@[expose] public section

set_option maxRecDepth 16384

noncomputable section

namespace Cert.Mixer10

open Idealize.ShloMosaic Cert.Products

section kernel
open Cert.Kernel10Ideal Cert.Kernel10Ideal.Gen

section body
variable (c : Dev nD) (i : grid0.Coords) (arg3 : Memref sig .tc .vmem S1024x1024 .bf16) (harg3 : arg3.IsWhole) (arg4 : Memref sig .tc .vmem S1024x1024 .f32) (harg4 : arg4.IsWhole) (arg5 : Memref sig .tc .vmem S1024x1024 .bf16) (harg5 : arg5.IsWhole) (arg6 : Memref sig .tc .vmem S1024x1024 .f32) (harg6 : arg6.IsWhole)
  (x : Vec Ideal S1024x1024 .bf16) (w : Vec Ideal S1024x1024 .f32) (s : Vec Ideal S1024x1024 .f32)

theorem hz : (![0, 0] : Fin 2 → ℕ) = fun _ => 0 := by decide

/-- The first point of a block starts the scratch. -/
theorem scratch_A (hc0 : cond0_0 i) (hc1 : ¬cond0_1 i) (hc2 : ¬cond0_2 i) :
    sout0_A_0 c i arg3 harg3 arg4 harg4 arg5 harg5 arg6 harg6 hc0 hc1 hc2 x w = k0_pay1 x w := by
  unfold sout0_A_0
  rw [View.read_writes_eq_canon _ _ _ (fun _ => scover0_A_0 ..)]
  unfold kernelRun0_A
  dsimp only
  sl_unfold_words
  simp only [View.readAt_eq_ld, harg3.read_unread, harg4.read_unread, View.ld_unit_zero (S := S1024x1024) hz]
  exact View.canon_unit_zero (S := S1024x1024) hz _ _

/-- The last point adds to it and writes the sum out. -/
theorem out_B (hc0 : ¬cond0_0 i) (hc1 : cond0_1 i) (hc2 : cond0_2 i) :
    out0_B_2 c i arg3 harg3 arg4 harg4 arg5 harg5 arg6 harg6 hc0 hc1 hc2 x w s = k0_pay3 (k0_pay2 s x w) := by
  unfold out0_B_2
  rw [View.read_writes_eq_canon _ _ _ (fun _ => cover0_B_2 ..)]
  unfold kernelRun0_B
  dsimp only
  sl_unfold_words
  simp only [View.readAt_eq_ld, harg3.read_unread, harg4.read_unread, harg6.read_unread, View.ld_unit_zero (S := S1024x1024) hz,
    View.readCov_unit_zero (S := S1024x1024) _ hz]
  exact View.canon_unit_zero (S := S1024x1024) hz _ _

end body

theorem first_apply (x : Vec Ideal S1024x1024 .bf16) (w : Vec Ideal S1024x1024 .f32) (i : Fin 1024) (j : Fin 1024) :
    k0_pay1 x w (ix2 i j) = tn x w i j := by
  pointwise [k0_pay1]
  rfl

theorem next_apply (s : Vec Ideal S1024x1024 .f32) (x : Vec Ideal S1024x1024 .bf16) (w : Vec Ideal S1024x1024 .f32) (i : Fin 1024) (j : Fin 1024) :
    k0_pay2 s x w (ix2 i j) = (s (ix2 i j) : EReal) + tn x w i j := by
  pointwise [k0_pay2]
  rfl

theorem last_apply (s : Vec Ideal S1024x1024 .f32) (x : Vec Ideal S1024x1024 .bf16) (w : Vec Ideal S1024x1024 .f32) (i : Fin 1024) (j : Fin 1024) :
    k0_pay3 (k0_pay2 s x w) (ix2 i j) = (s (ix2 i j) : EReal) + tn x w i j := by
  pointwise [k0_pay3, k0_pay2]
  rfl

variable (m : (ℓ : Loc nD τ sig) → Buf (Elt Ideal) ℓ) (c : Dev nD)

/-- Where each window's block of a grid point lies. -/
theorem index : ∀ t : Fin cfg0.N, (win0_0.index t 0 = t.val % 2 ∧ win0_0.index t 1 = 0)
    ∧ (win0_1.index t 0 = t.val % 2 ∧ win0_1.index t 1 = t.val / 2)
    ∧ (win0_2.index t 0 = 0 ∧ win0_2.index t 1 = t.val / 2) := by
  decide +kernel

/-- The output is written back at the last point of each block. -/
theorem last : ∀ t : Fin cfg0.N, (cfg0.win 2).flush t = true → t.val % 2 = 1 := by
  decide +kernel

theorem lt_N (t : Fin cfg0.N) : t.val < 8 := t.isLt

/-- The product of a grid point's blocks. -/
def part (t : Fin cfg0.N) (i : Fin 1024) (l : Fin 1024) : EReal :=
  tn (iblk m c 0 t : Vec Ideal S1024x1024 .bf16) (iblk m c 1 t : Vec Ideal S1024x1024 .f32) i l

theorem part_eq (t : Fin cfg0.N) (i : Fin 1024) (l : Fin 1024) : part m c t i l
    = ∑ k : Fin 1024, tnTerm (V m c main_arg0) (V m c main_arg1) i (⟨t.val / 2 * 1024 + l.val, by have := lt_N t; omega⟩ : Fin 4096)
      (⟨t.val % 2 * 1024 + k.val, by omega⟩ : Fin 2048) := by
  obtain ⟨h0, h1, -⟩ := index t
  have ht := lt_N t
  unfold part tn tnTerm
  refine Finset.sum_congr rfl fun k _ => congrArg₂ (fun a b : EReal => a * b) ?_ ?_
  · blk_ext [iblk, V, h0.1, h0.2]
  · blk_ext [iblk, V, h1.1, h1.2]

/-- The grid point before. -/
def before (t : Fin cfg0.N) : Fin cfg0.N := ⟨t.val - 1, Nat.lt_of_le_of_lt (Nat.sub_le _ _) t.isLt⟩

theorem scratch_first (t : Fin cfg0.N) (h : t.val % 2 = 0) (i : Fin 1024) (l : Fin 1024) :
    (outsAt0 m c t.val t.isLt).2 (ix2 i l) = part m c t i l := by
  rw [outsAt0_A m c t h (by omega) (by omega), scratch_A]
  exact first_apply _ _ i l

theorem out_last (t : Fin cfg0.N) (h : t.val % 2 = 1) (i : Fin 1024) (l : Fin 1024) :
    (outsAt0 m c t.val t.isLt).1 (ix2 i l)
      = ((outsAt0 m c (before t).val (before t).isLt).2 (ix2 i l) : EReal) + part m c t i l := by
  rw [outsAt0_B m c t (by omega) h h, out_B]
  exact last_apply _ _ _ i l

/-- The two products of a block together are the product over the whole axis. -/
theorem parts (t : Fin cfg0.N) (h : t.val % 2 = 1) (i : Fin 1024) (l : Fin 1024) :
    ((outsAt0 m c t.val t.isLt).1 (ix2 i l) : EReal)
      = tn (V m c main_arg0) (V m c main_arg1) i (⟨t.val / 2 * 1024 + l.val, by have := lt_N t; omega⟩ : Fin 4096) := by
  have hb : (before t).val = t.val - 1 := rfl
  rw [out_last m c t h, scratch_first m c (before t) (by omega), part_eq, part_eq]
  have d0 : (t.val - 1) / 2 = t.val / 2 := by omega
  have d1 : (t.val - 1) % 2 = 0 := by omega
  simp only [hb, d0, d1, h]
  exact sum_two 1024 2048 rfl (tnTerm (V m c main_arg0) (V m c main_arg1) _ _) (fun _ => rfl) fun _ => rfl

/-- The array after the sweep. -/
theorem final : (dats m 0 c).arrAt 2 cfg0.N = table (tn (V m c main_arg0) (V m c main_arg1)) := by
  refine (dats m 0 c).arrAt_eq_of_covers 2 _ (by decide +kernel) fun t hf y => ?_
  obtain ⟨-, -, h2⟩ := index t
  have ht := lt_N t
  obtain ⟨i, l, rfl⟩ : ∃ (i : Fin 1024) (l : Fin 1024), y = ix2 i l := ⟨y 0, y 1, by funext a; fin_cases a <;> rfl⟩
  blk_simp [h2.1, h2.2]
  rw [after0_2]
  have e : (win0_2.blk t).view.emb (ix2 i l) = (ix2 i (⟨t.val / 2 * 1024 + l.val, by omega⟩ : Fin 4096) : S1024x4096.Idx) := by
    blk_ext [h2.1, h2.2]
  rw [e, table_apply]
  exact parts m c t (last t hf) i l

end kernel

section reference
open Cert.Reference10Ideal Cert.Reference10Ideal.Gen

/-- The reference takes the product the other way round and turns it over. -/
theorem reference (x : FVec Ideal S2048x1024 .bf16) (w : FVec Ideal S2048x4096 .f32) :
    truncf (F := Ideal) .bf16 (transpose S1024x4096 [1, 0] (Host.dotGeneral dot_S2048x4096_S2048x1024_S4096x1024_0_0_1_1_n_n none
      w (extf .f32 x bitsLt_bf16_f32)) transposes_S4096x1024_S1024x4096_1_0) bitsLt_bf16_f32
      = table (tn x w) := by
  refine ext_table fun i j => ?_
  pointwise
  exact Finset.sum_congr rfl fun k _ => mul_comm _ _

end reference

end Cert.Mixer10

end
-- ==== Proof.Mixer11.lean ====
/-
  The gradient of the delta rule mixer's input: the kernel adds the products of four blocks in its scratch, the reference
  takes one product over the whole axis; to both the gradient by way of the gates is added.
-/
module

public import proofs.«01_k».proof.Proof.Products
public import proofs.«01_k».proof.Proof.Gen.Kernel11Ideal.Value
public import proofs.«01_k».proof.Proof.Gen.Reference11Ideal.Run
public import Idealize.ShloMosaic.Lib.Pipeline.ValueKit

@[expose] public section

set_option maxRecDepth 16384

noncomputable section

namespace Cert.Mixer11

open Idealize.ShloMosaic Cert.Products

section kernel
open Cert.Kernel11Ideal Cert.Kernel11Ideal.Gen

section body
variable (c : Dev nD) (i : grid0.Coords) (arg3 : Memref sig .tc .vmem S1024x1024 .f32) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1024 .f32) (harg7 : arg7.IsWhole)
  (x : Vec Ideal S1024x1024 .f32) (w : Vec Ideal S1024x1024 .bf16) (e : Vec Ideal S1024x1024 .f32) (s : Vec Ideal S1024x1024 .f32)

theorem hz : (![0, 0] : Fin 2 → ℕ) = fun _ => 0 := by decide

/-- The first point of a block starts the scratch. -/
theorem scratch_A (hc0 : cond0_0 i) (hc1 : ¬cond0_1 i) (hc2 : ¬cond0_2 i) :
    sout0_A_0 c i arg3 harg3 arg4 harg4 arg5 harg5 arg6 harg6 arg7 harg7 hc0 hc1 hc2 x w e = k0_pay1 x w := by
  unfold sout0_A_0
  rw [View.read_writes_eq_canon _ _ _ (fun _ => scover0_A_0 ..)]
  unfold kernelRun0_A
  dsimp only
  sl_unfold_words
  simp only [View.readAt_eq_ld, harg3.read_unread, harg4.read_unread, View.ld_unit_zero (S := S1024x1024) hz]
  exact View.canon_unit_zero (S := S1024x1024) hz _ _

/-- A point between adds to it. -/
theorem scratch_B (hc0 : ¬cond0_0 i) (hc1 : cond0_1 i) (hc2 : ¬cond0_2 i) :
    sout0_B_0 c i arg3 harg3 arg4 harg4 arg5 harg5 arg6 harg6 arg7 harg7 hc0 hc1 hc2 x w e s = k0_pay2 s x w := by
  unfold sout0_B_0
  rw [View.read_writes_eq_canon _ _ _ (fun _ => scover0_B_0 ..)]
  unfold kernelRun0_B
  dsimp only
  sl_unfold_words
  simp only [View.readAt_eq_ld, harg3.read_unread, harg4.read_unread, harg7.read_unread, View.ld_unit_zero (S := S1024x1024) hz]
  exact View.canon_unit_zero (S := S1024x1024) hz _ _

/-- The last point adds to it and writes the sum out, the other array added. -/
theorem out_C (hc0 : ¬cond0_0 i) (hc1 : cond0_1 i) (hc2 : cond0_2 i) :
    out0_C_3 c i arg3 harg3 arg4 harg4 arg5 harg5 arg6 harg6 arg7 harg7 hc0 hc1 hc2 x w e s = k0_pay3 (k0_pay2 s x w) e := by
  unfold out0_C_3
  rw [View.read_writes_eq_canon _ _ _ (fun _ => cover0_C_3 ..)]
  unfold kernelRun0_C
  dsimp only
  sl_unfold_words
  simp only [View.readAt_eq_ld, harg3.read_unread, harg4.read_unread, harg5.read_unread, harg7.read_unread, View.ld_unit_zero (S := S1024x1024) hz,
    View.readCov_unit_zero (S := S1024x1024) _ hz]
  exact View.canon_unit_zero (S := S1024x1024) hz _ _

end body

theorem first_apply (x : Vec Ideal S1024x1024 .f32) (w : Vec Ideal S1024x1024 .bf16) (i : Fin 1024) (j : Fin 1024) :
    k0_pay1 x w (ix2 i j) = nt x w i j := by
  pointwise [k0_pay1]
  rfl

theorem next_apply (s : Vec Ideal S1024x1024 .f32) (x : Vec Ideal S1024x1024 .f32) (w : Vec Ideal S1024x1024 .bf16) (i : Fin 1024) (j : Fin 1024) :
    k0_pay2 s x w (ix2 i j) = (s (ix2 i j) : EReal) + nt x w i j := by
  pointwise [k0_pay2]
  rfl

theorem last_apply (s : Vec Ideal S1024x1024 .f32) (x : Vec Ideal S1024x1024 .f32) (w : Vec Ideal S1024x1024 .bf16) (e : Vec Ideal S1024x1024 .f32) (i : Fin 1024) (j : Fin 1024) :
    k0_pay3 (k0_pay2 s x w) e (ix2 i j) = ((s (ix2 i j) : EReal) + nt x w i j) + e (ix2 i j) := by
  pointwise [k0_pay3, k0_pay2]
  rfl

variable (m : (ℓ : Loc nD τ sig) → Buf (Elt Ideal) ℓ) (c : Dev nD)

/-- Where each window's block of a grid point lies. -/
theorem index : ∀ t : Fin cfg0.N, (win0_0.index t 0 = t.val / 4 ∧ win0_0.index t 1 = t.val % 4)
    ∧ (win0_1.index t 0 = 0 ∧ win0_1.index t 1 = t.val % 4)
    ∧ (win0_2.index t 0 = t.val / 4 ∧ win0_2.index t 1 = 0)
    ∧ (win0_3.index t 0 = t.val / 4 ∧ win0_3.index t 1 = 0) := by
  decide +kernel

/-- The output is written back at the last point of each block. -/
theorem last : ∀ t : Fin cfg0.N, (cfg0.win 3).flush t = true → t.val % 4 = 3 := by
  decide +kernel

theorem lt_N (t : Fin cfg0.N) : t.val < 8 := t.isLt

/-- The product of a grid point's blocks. -/
def part (t : Fin cfg0.N) (i : Fin 1024) (l : Fin 1024) : EReal :=
  nt (iblk m c 0 t : Vec Ideal S1024x1024 .f32) (iblk m c 1 t : Vec Ideal S1024x1024 .bf16) i l

theorem part_eq (t : Fin cfg0.N) (i : Fin 1024) (l : Fin 1024) : part m c t i l
    = ∑ k : Fin 1024, ntTerm (V m c main_arg0) (V m c main_arg1) (⟨t.val / 4 * 1024 + i.val, by have := lt_N t; omega⟩ : Fin 2048) l
      (⟨t.val % 4 * 1024 + k.val, by omega⟩ : Fin 4096) := by
  obtain ⟨h0, h1, -⟩ := index t
  have ht := lt_N t
  unfold part nt ntTerm
  refine Finset.sum_congr rfl fun k _ => congrArg₂ (fun a b : EReal => a * b) ?_ ?_
  · blk_ext [iblk, V, h0.1, h0.2]
  · blk_ext [iblk, V, h1.1, h1.2]

/-- The grid point before. -/
def before (t : Fin cfg0.N) : Fin cfg0.N := ⟨t.val - 1, Nat.lt_of_le_of_lt (Nat.sub_le _ _) t.isLt⟩

theorem scratch_first (t : Fin cfg0.N) (h : t.val % 4 = 0) (i : Fin 1024) (l : Fin 1024) :
    (outsAt0 m c t.val t.isLt).2 (ix2 i l) = part m c t i l := by
  rw [outsAt0_A m c t h (by omega) (by omega), scratch_A]
  exact first_apply _ _ i l

theorem scratch_next (t : Fin cfg0.N) (h : 1 ≤ t.val % 4) (h' : t.val % 4 ≠ 3) (i : Fin 1024) (l : Fin 1024) :
    (outsAt0 m c t.val t.isLt).2 (ix2 i l)
      = ((outsAt0 m c (before t).val (before t).isLt).2 (ix2 i l) : EReal) + part m c t i l := by
  rw [outsAt0_B m c t (by omega) h h', scratch_B]
  exact next_apply _ _ _ i l

theorem out_last (t : Fin cfg0.N) (h : t.val % 4 = 3) (i : Fin 1024) (l : Fin 1024) :
    (outsAt0 m c t.val t.isLt).1 (ix2 i l)
      = (((outsAt0 m c (before t).val (before t).isLt).2 (ix2 i l) : EReal) + part m c t i l) + (iblk m c 2 t : Vec Ideal S1024x1024 .f32) (ix2 i l) := by
  rw [outsAt0_C m c t (by omega) (by omega) h, out_C]
  exact last_apply _ _ _ _ i l

/-- The four products of a block together are the product over the whole axis. -/
theorem parts (t : Fin cfg0.N) (h : t.val % 4 = 3) (i : Fin 1024) (l : Fin 1024) :
    ((outsAt0 m c (before t).val (before t).isLt).2 (ix2 i l) : EReal) + part m c t i l
      = nt (V m c main_arg0) (V m c main_arg1) (⟨t.val / 4 * 1024 + i.val, by have := lt_N t; omega⟩ : Fin 2048) l := by
  have b1 : (before t).val = t.val - 1 := rfl
  have b2 : (before (before t)).val = t.val - 1 - 1 := rfl
  have b3 : (before (before (before t))).val = t.val - 1 - 1 - 1 := rfl
  refine (add_four rfl (scratch_next m c (before t) (by omega) (by omega) i l)
    (scratch_next m c (before (before t)) (by omega) (by omega) i l) (scratch_first m c (before (before (before t))) (by omega) i l)).trans ?_
  rw [part_eq, part_eq, part_eq, part_eq]
  have d1 : (t.val - 1) / 4 = t.val / 4 := by omega
  have d2 : (t.val - 1 - 1) / 4 = t.val / 4 := by omega
  have d3 : (t.val - 1 - 1 - 1) / 4 = t.val / 4 := by omega
  have r1 : (t.val - 1) % 4 = 2 := by omega
  have r2 : (t.val - 1 - 1) % 4 = 1 := by omega
  have r3 : (t.val - 1 - 1 - 1) % 4 = 0 := by omega
  simp only [b1, b2, b3, d1, d2, d3, r1, r2, r3, h]
  exact sum_four 1024 4096 rfl (ntTerm (V m c main_arg0) (V m c main_arg1) _ _) (fun _ => rfl) (fun _ => rfl) (fun _ => rfl) fun _ => rfl

/-- The array after the sweep. -/
theorem final : (dats m 0 c).arrAt 3 cfg0.N = table fun i j => nt (V m c main_arg0) (V m c main_arg1) i j + V m c main_arg2 (ix2 i j) := by
  refine (dats m 0 c).arrAt_eq_of_covers 3 _ (by decide +kernel) fun t hf y => ?_
  obtain ⟨-, -, h2, h3⟩ := index t
  have ht := lt_N t
  obtain ⟨i, l, rfl⟩ : ∃ (i : Fin 1024) (l : Fin 1024), y = ix2 i l := ⟨y 0, y 1, by funext a; fin_cases a <;> rfl⟩
  blk_simp [h3.1, h3.2]
  rw [after0_3]
  have e : (win0_3.blk t).view.emb (ix2 i l) = (ix2 (⟨t.val / 4 * 1024 + i.val, by omega⟩ : Fin 2048) l : S2048x1024.Idx) := by
    blk_ext [h3.1, h3.2]
  rw [e, table_apply, out_last m c t (last t hf)]
  refine congrArg₂ (fun a b : EReal => a + b) (parts m c t (last t hf) i l) ?_
  blk_ext [iblk, V, h2.1, h2.2]

end kernel

section reference
open Cert.Reference11Ideal Cert.Reference11Ideal.Gen

/-- The reference's product. -/
theorem reference (x : FVec Ideal S2048x4096 .f32) (w : FVec Ideal S1024x4096 .bf16) (e : FVec Ideal S2048x1024 .f32) :
    addf (Host.dotGeneral (F := Ideal) dot_S2048x4096_S1024x4096_S2048x1024_1_1_0_0_n_n none x (extf .f32 w bitsLt_bf16_f32)) e
      = table fun i j => nt x w i j + e (ix2 i j) := by
  refine ext_table fun i j => ?_
  pointwise
  rfl

end reference

end Cert.Mixer11

end
-- ==== Proof.Mixer12.lean ====
/-
  The gradient of the convolution mixer's first weight: the columns of its input by the gradient of the values and gates.
-/
module

public import proofs.«01_k».proof.Proof.Products
public import proofs.«01_k».proof.Proof.Gen.Kernel12Ideal.Value
public import proofs.«01_k».proof.Proof.Gen.Reference12Ideal.Run
public import Idealize.ShloMosaic.Lib.Pipeline.ValueKit

@[expose] public section

set_option maxRecDepth 16384

noncomputable section

namespace Cert.Mixer12

open Idealize.ShloMosaic Cert.Products

section kernel
open Cert.Kernel12Ideal Cert.Kernel12Ideal.Gen

variable (m : (ℓ : Loc nD τ sig) → Buf (Elt Ideal) ℓ) (c : Dev nD)

/-- A grid point takes all of the input, and half of the gradient's columns. -/
theorem index : ∀ t : Fin cfg0.N, (win0_0.index t 0 = 0 ∧ win0_0.index t 1 = 0)
    ∧ (win0_1.index t 0 = 0 ∧ win0_1.index t 1 = t.val) ∧ (win0_2.index t 0 = 0 ∧ win0_2.index t 1 = t.val) := by
  decide +kernel

theorem body_apply (x : Vec Ideal S2048x1024 .bf16) (w : Vec Ideal S2048x1024 .f32) (i : Fin 1024) (j : Fin 1024) :
    k0_pay1 x w (ix2 i j) = tn x w i j := by
  pointwise [k0_pay1]
  rfl

/-- The array after the sweep. -/
theorem final : (dats m 0 c).arrAt 2 cfg0.N = table (tn (V m c main_arg0) (V m c main_arg1)) := by
  refine (dats m 0 c).arrAt_eq_of_covers 2 _ (by decide +kernel) fun t hf y => ?_
  obtain ⟨h0, h1, h2⟩ := index t
  have ht : t.val < 2 := t.isLt
  obtain ⟨i, l, rfl⟩ : ∃ (i : Fin 1024) (l : Fin 1024), y = ix2 i l := ⟨y 0, y 1, by funext a; fin_cases a <;> rfl⟩
  blk_simp [h2.1, h2.2]
  rw [after0_2]
  have e : (win0_2.blk t).view.emb (ix2 i l) = (ix2 i (⟨t.val * 1024 + l.val, by omega⟩ : Fin 2048) : S1024x2048.Idx) := by
    blk_ext [h2.1, h2.2]
  rw [e, table_apply]
  unfold out0_2
  have hz : (![0, 0] : Fin 2 → ℕ) = fun _ => 0 := by decide
  simp only [View.canon_unit_zero (S := S1024x1024) hz, View.ld_unit_zero (S := S2048x1024) hz]
  rw [body_apply]
  refine tn_congr (fun k => ?_) fun k => ?_
  · blk_ext [iblk, V, h0.1, h0.2]
  · blk_ext [iblk, V, h1.1, h1.2]

end kernel

section reference
open Cert.Reference12Ideal Cert.Reference12Ideal.Gen

/-- The reference takes the product the other way round and turns it over. -/
theorem reference (x : FVec Ideal S2048x1024 .bf16) (w : FVec Ideal S2048x2048 .f32) :
    truncf (F := Ideal) .bf16 (transpose S1024x2048 [1, 0] (Host.dotGeneral dot_S2048x2048_S2048x1024_S2048x1024_0_0_1_1_n_n none
      w (extf .f32 x bitsLt_bf16_f32)) transposes_S2048x1024_S1024x2048_1_0) bitsLt_bf16_f32
      = table (tn x w) := by
  refine ext_table fun i j => ?_
  pointwise
  exact Finset.sum_congr rfl fun k _ => mul_comm _ _

end reference

end Cert.Mixer12

end
-- ==== Proof.Mixer13.lean ====
/-
  The gradient of the convolution mixer's input: the kernel adds the products of two blocks in its scratch, the reference
  takes one product over the whole axis.
-/
module

public import proofs.«01_k».proof.Proof.Products
public import proofs.«01_k».proof.Proof.Gen.Kernel13Ideal.Value
public import proofs.«01_k».proof.Proof.Gen.Reference13Ideal.Run
public import Idealize.ShloMosaic.Lib.Pipeline.ValueKit

@[expose] public section

set_option maxRecDepth 16384

noncomputable section

namespace Cert.Mixer13

open Idealize.ShloMosaic Cert.Products

section kernel
open Cert.Kernel13Ideal Cert.Kernel13Ideal.Gen

section body
variable (c : Dev nD) (i : grid0.Coords) (arg3 : Memref sig .tc .vmem S1024x1024 .f32) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole)
  (x : Vec Ideal S1024x1024 .f32) (w : Vec Ideal S1024x1024 .bf16) (s : Vec Ideal S1024x1024 .f32)

theorem hz : (![0, 0] : Fin 2 → ℕ) = fun _ => 0 := by decide

/-- The first point of a block starts the scratch. -/
theorem scratch_A (hc0 : cond0_0 i) (hc1 : ¬cond0_1 i) (hc2 : ¬cond0_2 i) :
    sout0_A_0 c i arg3 harg3 arg4 harg4 arg5 harg5 arg6 harg6 hc0 hc1 hc2 x w = k0_pay1 x w := by
  unfold sout0_A_0
  rw [View.read_writes_eq_canon _ _ _ (fun _ => scover0_A_0 ..)]
  unfold kernelRun0_A
  dsimp only
  sl_unfold_words
  simp only [View.readAt_eq_ld, harg3.read_unread, harg4.read_unread, View.ld_unit_zero (S := S1024x1024) hz]
  exact View.canon_unit_zero (S := S1024x1024) hz _ _

/-- The last point adds to it and writes the sum out. -/
theorem out_B (hc0 : ¬cond0_0 i) (hc1 : cond0_1 i) (hc2 : cond0_2 i) :
    out0_B_2 c i arg3 harg3 arg4 harg4 arg5 harg5 arg6 harg6 hc0 hc1 hc2 x w s = k0_pay2 s x w := by
  unfold out0_B_2
  rw [View.read_writes_eq_canon _ _ _ (fun _ => cover0_B_2 ..)]
  unfold kernelRun0_B
  dsimp only
  sl_unfold_words
  simp only [View.readAt_eq_ld, harg3.read_unread, harg4.read_unread, harg6.read_unread, View.ld_unit_zero (S := S1024x1024) hz,
    View.readCov_unit_zero (S := S1024x1024) _ hz]
  exact View.canon_unit_zero (S := S1024x1024) hz _ _

end body

theorem first_apply (x : Vec Ideal S1024x1024 .f32) (w : Vec Ideal S1024x1024 .bf16) (i : Fin 1024) (j : Fin 1024) :
    k0_pay1 x w (ix2 i j) = nt x w i j := by
  pointwise [k0_pay1]
  rfl

theorem next_apply (s : Vec Ideal S1024x1024 .f32) (x : Vec Ideal S1024x1024 .f32) (w : Vec Ideal S1024x1024 .bf16) (i : Fin 1024) (j : Fin 1024) :
    k0_pay2 s x w (ix2 i j) = (s (ix2 i j) : EReal) + nt x w i j := by
  pointwise [k0_pay2]
  rfl

variable (m : (ℓ : Loc nD τ sig) → Buf (Elt Ideal) ℓ) (c : Dev nD)

/-- Where each window's block of a grid point lies. -/
theorem index : ∀ t : Fin cfg0.N, (win0_0.index t 0 = t.val / 2 ∧ win0_0.index t 1 = t.val % 2)
    ∧ (win0_1.index t 0 = 0 ∧ win0_1.index t 1 = t.val % 2)
    ∧ (win0_2.index t 0 = t.val / 2 ∧ win0_2.index t 1 = 0) := by
  decide +kernel

/-- The output is written back at the last point of each block. -/
theorem last : ∀ t : Fin cfg0.N, (cfg0.win 2).flush t = true → t.val % 2 = 1 := by
  decide +kernel

theorem lt_N (t : Fin cfg0.N) : t.val < 4 := t.isLt

/-- The product of a grid point's blocks. -/
def part (t : Fin cfg0.N) (i : Fin 1024) (l : Fin 1024) : EReal :=
  nt (iblk m c 0 t : Vec Ideal S1024x1024 .f32) (iblk m c 1 t : Vec Ideal S1024x1024 .bf16) i l

theorem part_eq (t : Fin cfg0.N) (i : Fin 1024) (l : Fin 1024) : part m c t i l
    = ∑ k : Fin 1024, ntTerm (V m c main_arg0) (V m c main_arg1) (⟨t.val / 2 * 1024 + i.val, by have := lt_N t; omega⟩ : Fin 2048) l
      (⟨t.val % 2 * 1024 + k.val, by omega⟩ : Fin 2048) := by
  obtain ⟨h0, h1, -⟩ := index t
  have ht := lt_N t
  unfold part nt ntTerm
  refine Finset.sum_congr rfl fun k _ => congrArg₂ (fun a b : EReal => a * b) ?_ ?_
  · blk_ext [iblk, V, h0.1, h0.2]
  · blk_ext [iblk, V, h1.1, h1.2]

/-- The grid point before. -/
def before (t : Fin cfg0.N) : Fin cfg0.N := ⟨t.val - 1, Nat.lt_of_le_of_lt (Nat.sub_le _ _) t.isLt⟩

theorem scratch_first (t : Fin cfg0.N) (h : t.val % 2 = 0) (i : Fin 1024) (l : Fin 1024) :
    (outsAt0 m c t.val t.isLt).2 (ix2 i l) = part m c t i l := by
  rw [outsAt0_A m c t h (by omega) (by omega), scratch_A]
  exact first_apply _ _ i l

theorem out_last (t : Fin cfg0.N) (h : t.val % 2 = 1) (i : Fin 1024) (l : Fin 1024) :
    (outsAt0 m c t.val t.isLt).1 (ix2 i l)
      = ((outsAt0 m c (before t).val (before t).isLt).2 (ix2 i l) : EReal) + part m c t i l := by
  rw [outsAt0_B m c t (by omega) h h, out_B]
  exact next_apply _ _ _ i l

/-- The two products of a block together are the product over the whole axis. -/
theorem parts (t : Fin cfg0.N) (h : t.val % 2 = 1) (i : Fin 1024) (l : Fin 1024) :
    ((outsAt0 m c t.val t.isLt).1 (ix2 i l) : EReal)
      = nt (V m c main_arg0) (V m c main_arg1) (⟨t.val / 2 * 1024 + i.val, by have := lt_N t; omega⟩ : Fin 2048) l := by
  have hb : (before t).val = t.val - 1 := rfl
  rw [out_last m c t h, scratch_first m c (before t) (by omega), part_eq, part_eq]
  have d0 : (t.val - 1) / 2 = t.val / 2 := by omega
  have d1 : (t.val - 1) % 2 = 0 := by omega
  simp only [hb, d0, d1, h]
  exact sum_two 1024 2048 rfl (ntTerm (V m c main_arg0) (V m c main_arg1) _ _) (fun _ => rfl) fun _ => rfl

/-- The array after the sweep. -/
theorem final : (dats m 0 c).arrAt 2 cfg0.N = table (nt (V m c main_arg0) (V m c main_arg1)) := by
  refine (dats m 0 c).arrAt_eq_of_covers 2 _ (by decide +kernel) fun t hf y => ?_
  obtain ⟨-, -, h2⟩ := index t
  have ht := lt_N t
  obtain ⟨i, l, rfl⟩ : ∃ (i : Fin 1024) (l : Fin 1024), y = ix2 i l := ⟨y 0, y 1, by funext a; fin_cases a <;> rfl⟩
  blk_simp [h2.1, h2.2]
  rw [after0_2]
  have e : (win0_2.blk t).view.emb (ix2 i l) = (ix2 (⟨t.val / 2 * 1024 + i.val, by omega⟩ : Fin 2048) l : S2048x1024.Idx) := by
    blk_ext [h2.1, h2.2]
  rw [e, table_apply]
  exact parts m c t (last t hf) i l

end kernel

section reference
open Cert.Reference13Ideal Cert.Reference13Ideal.Gen

/-- The reference's product. -/
theorem reference (x : FVec Ideal S2048x2048 .f32) (w : FVec Ideal S1024x2048 .bf16) :
    Host.dotGeneral (F := Ideal) dot_S2048x2048_S1024x2048_S2048x1024_1_1_0_0_n_n none x (extf .f32 w bitsLt_bf16_f32)
      = table (nt x w) := by
  refine ext_table fun i j => ?_
  pointwise
  rfl

end reference

end Cert.Mixer13

end
-- ==== Proof.Mixer14.lean ====
/-
  The gradient of the weight that makes the delta rule's gates: the kernel adds the products of two blocks of the tokens in
  its scratch, the reference takes one product over all of them.
-/
module

public import proofs.«01_k».proof.Proof.Products
public import proofs.«01_k».proof.Proof.Gen.Kernel14Ideal.Value
public import proofs.«01_k».proof.Proof.Gen.Reference14Ideal.Run
public import Idealize.ShloMosaic.Lib.Pipeline.ValueKit

@[expose] public section

set_option maxRecDepth 16384

noncomputable section

namespace Cert.Mixer14

open Idealize.ShloMosaic Cert.Products

section kernel
open Cert.Kernel14Ideal Cert.Kernel14Ideal.Gen

section body
variable (c : Dev nD) (i : grid0.Coords) (arg3 : Memref sig .tc .vmem S1024x1024 .bf16) (harg3 : arg3.IsWhole) (arg4 : Memref sig .tc .vmem S1024x128 .f32) (harg4 : arg4.IsWhole) (arg5 : Memref sig .tc .vmem S1024x128 .bf16) (harg5 : arg5.IsWhole) (arg6 : Memref sig .tc .vmem S1024x128 .f32) (harg6 : arg6.IsWhole)
  (x : Vec Ideal S1024x1024 .bf16) (w : Vec Ideal S1024x128 .f32) (s : Vec Ideal S1024x128 .f32)

theorem hz : (![0, 0] : Fin 2 → ℕ) = fun _ => 0 := by decide

/-- The first point of a block starts the scratch. -/
theorem scratch_A (hc0 : cond0_0 i) (hc1 : ¬cond0_1 i) (hc2 : ¬cond0_2 i) :
    sout0_A_0 c i arg3 harg3 arg4 harg4 arg5 harg5 arg6 harg6 hc0 hc1 hc2 x w = k0_pay1 x w := by
  unfold sout0_A_0
  rw [View.read_writes_eq_canon _ _ _ (fun _ => scover0_A_0 ..)]
  unfold kernelRun0_A
  dsimp only
  sl_unfold_words
  simp only [View.readAt_eq_ld, harg3.read_unread, harg4.read_unread, View.ld_unit_zero (S := S1024x1024) hz, View.ld_unit_zero (S := S1024x128) hz]
  exact View.canon_unit_zero (S := S1024x128) hz _ _

/-- The last point adds to it and writes the sum out. -/
theorem out_B (hc0 : ¬cond0_0 i) (hc1 : cond0_1 i) (hc2 : cond0_2 i) :
    out0_B_2 c i arg3 harg3 arg4 harg4 arg5 harg5 arg6 harg6 hc0 hc1 hc2 x w s = k0_pay3 (k0_pay2 s x w) := by
  unfold out0_B_2
  rw [View.read_writes_eq_canon _ _ _ (fun _ => cover0_B_2 ..)]
  unfold kernelRun0_B
  dsimp only
  sl_unfold_words
  simp only [View.readAt_eq_ld, harg3.read_unread, harg4.read_unread, harg6.read_unread, View.ld_unit_zero (S := S1024x1024) hz, View.ld_unit_zero (S := S1024x128) hz,
    View.readCov_unit_zero (S := S1024x128) _ hz]
  exact View.canon_unit_zero (S := S1024x128) hz _ _

end body

theorem first_apply (x : Vec Ideal S1024x1024 .bf16) (w : Vec Ideal S1024x128 .f32) (i : Fin 1024) (j : Fin 128) :
    k0_pay1 x w (ix2 i j) = tn x w i j := by
  pointwise [k0_pay1]
  rfl

theorem next_apply (s : Vec Ideal S1024x128 .f32) (x : Vec Ideal S1024x1024 .bf16) (w : Vec Ideal S1024x128 .f32) (i : Fin 1024) (j : Fin 128) :
    k0_pay2 s x w (ix2 i j) = (s (ix2 i j) : EReal) + tn x w i j := by
  pointwise [k0_pay2]
  rfl

theorem last_apply (s : Vec Ideal S1024x128 .f32) (x : Vec Ideal S1024x1024 .bf16) (w : Vec Ideal S1024x128 .f32) (i : Fin 1024) (j : Fin 128) :
    k0_pay3 (k0_pay2 s x w) (ix2 i j) = (s (ix2 i j) : EReal) + tn x w i j := by
  pointwise [k0_pay3, k0_pay2]
  rfl

variable (m : (ℓ : Loc nD τ sig) → Buf (Elt Ideal) ℓ) (c : Dev nD)

/-- Where each window's block of a grid point lies. -/
theorem index : ∀ t : Fin cfg0.N, (win0_0.index t 0 = t.val % 2 ∧ win0_0.index t 1 = 0)
    ∧ (win0_1.index t 0 = t.val % 2 ∧ win0_1.index t 1 = 0)
    ∧ (win0_2.index t 0 = 0 ∧ win0_2.index t 1 = 0) := by
  decide +kernel

/-- The output is written back at the last point of each block. -/
theorem last : ∀ t : Fin cfg0.N, (cfg0.win 2).flush t = true → t.val % 2 = 1 := by
  decide +kernel

theorem lt_N (t : Fin cfg0.N) : t.val < 2 := t.isLt

/-- The product of a grid point's blocks. -/
def part (t : Fin cfg0.N) (i : Fin 1024) (l : Fin 128) : EReal :=
  tn (iblk m c 0 t : Vec Ideal S1024x1024 .bf16) (iblk m c 1 t : Vec Ideal S1024x128 .f32) i l

theorem part_eq (t : Fin cfg0.N) (i : Fin 1024) (l : Fin 128) : part m c t i l
    = ∑ k : Fin 1024, tnTerm (V m c main_arg0) (V m c main_arg1) i l
      (⟨t.val % 2 * 1024 + k.val, by omega⟩ : Fin 2048) := by
  obtain ⟨h0, h1, -⟩ := index t
  have ht := lt_N t
  unfold part tn tnTerm
  refine Finset.sum_congr rfl fun k _ => congrArg₂ (fun a b : EReal => a * b) ?_ ?_
  · blk_ext [iblk, V, h0.1, h0.2]
  · blk_ext [iblk, V, h1.1, h1.2]

/-- The grid point before. -/
def before (t : Fin cfg0.N) : Fin cfg0.N := ⟨t.val - 1, Nat.lt_of_le_of_lt (Nat.sub_le _ _) t.isLt⟩

theorem scratch_first (t : Fin cfg0.N) (h : t.val % 2 = 0) (i : Fin 1024) (l : Fin 128) :
    (outsAt0 m c t.val t.isLt).2 (ix2 i l) = part m c t i l := by
  rw [outsAt0_A m c t h (by omega) (by omega), scratch_A]
  exact first_apply _ _ i l

theorem out_last (t : Fin cfg0.N) (h : t.val % 2 = 1) (i : Fin 1024) (l : Fin 128) :
    (outsAt0 m c t.val t.isLt).1 (ix2 i l)
      = ((outsAt0 m c (before t).val (before t).isLt).2 (ix2 i l) : EReal) + part m c t i l := by
  rw [outsAt0_B m c t (by omega) h h, out_B]
  exact last_apply _ _ _ i l

/-- The two products of a block together are the product over the whole axis. -/
theorem parts (t : Fin cfg0.N) (h : t.val % 2 = 1) (i : Fin 1024) (l : Fin 128) :
    ((outsAt0 m c t.val t.isLt).1 (ix2 i l) : EReal)
      = tn (V m c main_arg0) (V m c main_arg1) i l := by
  have hb : (before t).val = t.val - 1 := rfl
  rw [out_last m c t h, scratch_first m c (before t) (by omega), part_eq, part_eq]
  have d0 : (t.val - 1) / 2 = t.val / 2 := by omega
  have d1 : (t.val - 1) % 2 = 0 := by omega
  simp only [hb, d0, d1, h]
  exact sum_two 1024 2048 rfl (tnTerm (V m c main_arg0) (V m c main_arg1) _ _) (fun _ => rfl) fun _ => rfl

/-- The array after the sweep. -/
theorem final : (dats m 0 c).arrAt 2 cfg0.N = table (tn (V m c main_arg0) (V m c main_arg1)) := by
  refine (dats m 0 c).arrAt_eq_of_covers 2 _ (by decide +kernel) fun t hf y => ?_
  obtain ⟨-, -, h2⟩ := index t
  have ht := lt_N t
  obtain ⟨i, l, rfl⟩ : ∃ (i : Fin 1024) (l : Fin 128), y = ix2 i l := ⟨y 0, y 1, by funext a; fin_cases a <;> rfl⟩
  blk_simp [h2.1, h2.2]
  rw [after0_2]
  have e : (win0_2.blk t).view.emb (ix2 i l) = (ix2 i l : S1024x128.Idx) := by
    blk_ext [h2.1, h2.2]
  rw [e, table_apply]
  exact parts m c t (last t hf) i l

end kernel

section reference
open Cert.Reference14Ideal Cert.Reference14Ideal.Gen

/-- The reference takes the product the other way round and turns it over. -/
theorem reference (x : FVec Ideal S2048x1024 .bf16) (w : FVec Ideal S2048x128 .f32) :
    truncf (F := Ideal) .bf16 (transpose S1024x128 [1, 0] (Host.dotGeneral dot_S2048x128_S2048x1024_S128x1024_0_0_1_1_n_n none
      w (extf .f32 x bitsLt_bf16_f32)) transposes_S128x1024_S1024x128_1_0) bitsLt_bf16_f32
      = table (tn x w) := by
  refine ext_table fun i j => ?_
  pointwise
  exact Finset.sum_congr rfl fun k _ => mul_comm _ _

end reference

end Cert.Mixer14

end
-- ==== Proof.Mixer15.lean ====
/-
  The gradient of the delta rule mixer's input by way of the gates: their gradient by the small weight's transpose.
-/
module

public import proofs.«01_k».proof.Proof.Products
public import proofs.«01_k».proof.Proof.Gen.Kernel15Ideal.Value
public import proofs.«01_k».proof.Proof.Gen.Reference15Ideal.Run
public import Idealize.ShloMosaic.Lib.Pipeline.ValueKit

@[expose] public section

set_option maxRecDepth 16384

noncomputable section

namespace Cert.Mixer15

open Idealize.ShloMosaic Cert.Products

section kernel
open Cert.Kernel15Ideal Cert.Kernel15Ideal.Gen

variable (m : (ℓ : Loc nD τ sig) → Buf (Elt Ideal) ℓ) (c : Dev nD)

/-- A grid point takes half of the gates' gradient, and all of the weight. -/
theorem index : ∀ t : Fin cfg0.N, (win0_0.index t 0 = t.val ∧ win0_0.index t 1 = 0)
    ∧ (win0_1.index t 0 = 0 ∧ win0_1.index t 1 = 0) ∧ (win0_2.index t 0 = t.val ∧ win0_2.index t 1 = 0) := by
  decide +kernel

theorem body_apply (x : Vec Ideal S1024x128 .f32) (w : Vec Ideal S1024x128 .bf16) (i : Fin 1024) (j : Fin 1024) :
    k0_pay1 x w (ix2 i j) = nt x w i j := by
  pointwise [k0_pay1]
  rfl

/-- The array after the sweep. -/
theorem final : (dats m 0 c).arrAt 2 cfg0.N = table (nt (V m c main_arg0) (V m c main_arg1)) := by
  refine (dats m 0 c).arrAt_eq_of_covers 2 _ (by decide +kernel) fun t hf y => ?_
  obtain ⟨h0, h1, h2⟩ := index t
  have ht : t.val < 2 := t.isLt
  obtain ⟨i, l, rfl⟩ : ∃ (i : Fin 1024) (l : Fin 1024), y = ix2 i l := ⟨y 0, y 1, by funext a; fin_cases a <;> rfl⟩
  blk_simp [h2.1, h2.2]
  rw [after0_2]
  have e : (win0_2.blk t).view.emb (ix2 i l) = (ix2 (⟨t.val * 1024 + i.val, by omega⟩ : Fin 2048) l : S2048x1024.Idx) := by
    blk_ext [h2.1, h2.2]
  rw [e, table_apply]
  unfold out0_2
  have hz : (![0, 0] : Fin 2 → ℕ) = fun _ => 0 := by decide
  simp only [View.canon_unit_zero (S := S1024x1024) hz, View.ld_unit_zero (S := S1024x128) hz]
  rw [body_apply]
  refine nt_congr (fun k => ?_) fun k => ?_
  · blk_ext [iblk, V, h0.1, h0.2]
  · blk_ext [iblk, V, h1.1, h1.2]

end kernel

section reference
open Cert.Reference15Ideal Cert.Reference15Ideal.Gen

/-- The reference's product. -/
theorem reference (x : FVec Ideal S2048x128 .f32) (w : FVec Ideal S1024x128 .bf16) :
    Host.dotGeneral (F := Ideal) dot_S2048x128_S1024x128_S2048x1024_1_1_0_0_n_n none x (extf .f32 w bitsLt_bf16_f32)
      = table (nt x w) := by
  refine ext_table fun i j => ?_
  pointwise
  rfl

end reference

end Cert.Mixer15

end
-- ==== Proof.Mixer16.lean ====
/-
  A mixer's last product.
-/
module

public import proofs.«01_k».proof.Proof.Products
public import proofs.«01_k».proof.Proof.Gen.Kernel16Ideal.Value
public import proofs.«01_k».proof.Proof.Gen.Reference16Ideal.Run
public import Idealize.ShloMosaic.Lib.Pipeline.ValueKit

@[expose] public section

set_option maxRecDepth 16384

noncomputable section

namespace Cert.Mixer16

open Idealize.ShloMosaic Cert.Products

section kernel
open Cert.Kernel16Ideal Cert.Kernel16Ideal.Gen

variable (m : (ℓ : Loc nD τ sig) → Buf (Elt Ideal) ℓ) (c : Dev nD)

/-- A grid point takes half of the rows, and all of the weight. -/
theorem index : ∀ t : Fin cfg0.N, (win0_0.index t 0 = t.val ∧ win0_0.index t 1 = 0)
    ∧ (win0_1.index t 0 = 0 ∧ win0_1.index t 1 = 0) ∧ (win0_2.index t 0 = t.val ∧ win0_2.index t 1 = 0) := by
  decide +kernel

theorem body_apply (x : Vec Ideal S1024x1024 .bf16) (w : Vec Ideal S1024x1024 .bf16) (i : Fin 1024) (j : Fin 1024) :
    k0_pay1 x w (ix2 i j) = nn x w i j := by
  pointwise [k0_pay1]
  rfl

/-- The array after the sweep. -/
theorem final : (dats m 0 c).arrAt 2 cfg0.N = table (nn (V m c main_arg0) (V m c main_arg1)) := by
  refine (dats m 0 c).arrAt_eq_of_covers 2 _ (by decide +kernel) fun t hf y => ?_
  obtain ⟨h0, h1, h2⟩ := index t
  have ht : t.val < 2 := t.isLt
  obtain ⟨i, l, rfl⟩ : ∃ (i : Fin 1024) (l : Fin 1024), y = ix2 i l := ⟨y 0, y 1, by funext a; fin_cases a <;> rfl⟩
  blk_simp [h2.1, h2.2]
  rw [after0_2]
  have e : (win0_2.blk t).view.emb (ix2 i l) = (ix2 (⟨t.val * 1024 + i.val, by omega⟩ : Fin 2048) l : S2048x1024.Idx) := by
    blk_ext [h2.1, h2.2]
  rw [e, table_apply]
  unfold out0_2
  have hz : (![0, 0] : Fin 2 → ℕ) = fun _ => 0 := by decide
  simp only [View.canon_unit_zero (S := S1024x1024) hz, View.ld_unit_zero (S := S1024x1024) hz]
  rw [body_apply]
  refine nn_congr (fun k => ?_) fun k => ?_
  · blk_ext [iblk, V, h0.1, h0.2]
  · blk_ext [iblk, V, h1.1, h1.2]

end kernel

section reference
open Cert.Reference16Ideal Cert.Reference16Ideal.Gen

/-- The reference's product. -/
theorem reference (x : FVec Ideal S2048x1024 .bf16) (w : FVec Ideal S1024x1024 .bf16) :
    Host.dotGeneral (F := Ideal) dot_S2048x1024_S1024x1024_S2048x1024_1_0_0_1_n_n none (extf .f32 x bitsLt_bf16_f32) (extf .f32 w bitsLt_bf16_f32)
      = table (nn x w) := by
  refine ext_table fun i j => ?_
  pointwise
  rfl

end reference

end Cert.Mixer16

end
-- ==== Proof.Mixer17.lean ====
/-
  The delta rule mixer's first product.
-/
module

public import proofs.«01_k».proof.Proof.Products
public import proofs.«01_k».proof.Proof.Gen.Kernel17Ideal.Value
public import proofs.«01_k».proof.Proof.Gen.Reference17Ideal.Run
public import Idealize.ShloMosaic.Lib.Pipeline.ValueKit

@[expose] public section

set_option maxRecDepth 16384

noncomputable section

namespace Cert.Mixer17

open Idealize.ShloMosaic Cert.Products

section kernel
open Cert.Kernel17Ideal Cert.Kernel17Ideal.Gen

variable (m : (ℓ : Loc nD τ sig) → Buf (Elt Ideal) ℓ) (c : Dev nD)

/-- A grid point takes half of the rows, and a quarter of the weight's columns. -/
theorem index : ∀ t : Fin cfg0.N, (win0_0.index t 0 = t.val / 4 ∧ win0_0.index t 1 = 0)
    ∧ (win0_1.index t 0 = 0 ∧ win0_1.index t 1 = t.val % 4) ∧ (win0_2.index t 0 = t.val / 4 ∧ win0_2.index t 1 = t.val % 4) := by
  decide +kernel

theorem body_apply (x : Vec Ideal S1024x1024 .bf16) (w : Vec Ideal S1024x1024 .bf16) (i : Fin 1024) (j : Fin 1024) :
    k0_pay1 x w (ix2 i j) = nn x w i j := by
  pointwise [k0_pay1]
  rfl

/-- The array after the sweep. -/
theorem final : (dats m 0 c).arrAt 2 cfg0.N = table (nn (V m c main_arg0) (V m c main_arg1)) := by
  refine (dats m 0 c).arrAt_eq_of_covers 2 _ (by decide +kernel) fun t hf y => ?_
  obtain ⟨h0, h1, h2⟩ := index t
  have ht : t.val < 8 := t.isLt
  obtain ⟨i, l, rfl⟩ : ∃ (i : Fin 1024) (l : Fin 1024), y = ix2 i l := ⟨y 0, y 1, by funext a; fin_cases a <;> rfl⟩
  blk_simp [h2.1, h2.2]
  rw [after0_2]
  have e : (win0_2.blk t).view.emb (ix2 i l) = (ix2 (⟨t.val / 4 * 1024 + i.val, by omega⟩ : Fin 2048) (⟨t.val % 4 * 1024 + l.val, by omega⟩ : Fin 4096) : S2048x4096.Idx) := by
    blk_ext [h2.1, h2.2]
  rw [e, table_apply]
  unfold out0_2
  have hz : (![0, 0] : Fin 2 → ℕ) = fun _ => 0 := by decide
  simp only [View.canon_unit_zero (S := S1024x1024) hz, View.ld_unit_zero (S := S1024x1024) hz]
  rw [body_apply]
  refine nn_congr (fun k => ?_) fun k => ?_
  · blk_ext [iblk, V, h0.1, h0.2]
  · blk_ext [iblk, V, h1.1, h1.2]

end kernel

section reference
open Cert.Reference17Ideal Cert.Reference17Ideal.Gen

/-- The reference's product. -/
theorem reference (x : FVec Ideal S2048x1024 .bf16) (w : FVec Ideal S1024x4096 .bf16) :
    Host.dotGeneral (F := Ideal) dot_S2048x1024_S1024x4096_S2048x4096_1_0_0_1_n_n none (extf .f32 x bitsLt_bf16_f32) (extf .f32 w bitsLt_bf16_f32)
      = table (nn x w) := by
  refine ext_table fun i j => ?_
  pointwise
  rfl

end reference

end Cert.Mixer17

end
-- ==== Proof.Mixer18.lean ====
/-
  The convolution mixer's first product.
-/
module

public import proofs.«01_k».proof.Proof.Products
public import proofs.«01_k».proof.Proof.Gen.Kernel18Ideal.Value
public import proofs.«01_k».proof.Proof.Gen.Reference18Ideal.Run
public import Idealize.ShloMosaic.Lib.Pipeline.ValueKit

@[expose] public section

set_option maxRecDepth 16384

noncomputable section

namespace Cert.Mixer18

open Idealize.ShloMosaic Cert.Products

section kernel
open Cert.Kernel18Ideal Cert.Kernel18Ideal.Gen

variable (m : (ℓ : Loc nD τ sig) → Buf (Elt Ideal) ℓ) (c : Dev nD)

/-- A grid point takes half of the rows, and half of the weight's columns. -/
theorem index : ∀ t : Fin cfg0.N, (win0_0.index t 0 = t.val / 2 ∧ win0_0.index t 1 = 0)
    ∧ (win0_1.index t 0 = 0 ∧ win0_1.index t 1 = t.val % 2) ∧ (win0_2.index t 0 = t.val / 2 ∧ win0_2.index t 1 = t.val % 2) := by
  decide +kernel

theorem body_apply (x : Vec Ideal S1024x1024 .bf16) (w : Vec Ideal S1024x1024 .bf16) (i : Fin 1024) (j : Fin 1024) :
    k0_pay1 x w (ix2 i j) = nn x w i j := by
  pointwise [k0_pay1]
  rfl

/-- The array after the sweep. -/
theorem final : (dats m 0 c).arrAt 2 cfg0.N = table (nn (V m c main_arg0) (V m c main_arg1)) := by
  refine (dats m 0 c).arrAt_eq_of_covers 2 _ (by decide +kernel) fun t hf y => ?_
  obtain ⟨h0, h1, h2⟩ := index t
  have ht : t.val < 4 := t.isLt
  obtain ⟨i, l, rfl⟩ : ∃ (i : Fin 1024) (l : Fin 1024), y = ix2 i l := ⟨y 0, y 1, by funext a; fin_cases a <;> rfl⟩
  blk_simp [h2.1, h2.2]
  rw [after0_2]
  have e : (win0_2.blk t).view.emb (ix2 i l) = (ix2 (⟨t.val / 2 * 1024 + i.val, by omega⟩ : Fin 2048) (⟨t.val % 2 * 1024 + l.val, by omega⟩ : Fin 2048) : S2048x2048.Idx) := by
    blk_ext [h2.1, h2.2]
  rw [e, table_apply]
  unfold out0_2
  have hz : (![0, 0] : Fin 2 → ℕ) = fun _ => 0 := by decide
  simp only [View.canon_unit_zero (S := S1024x1024) hz, View.ld_unit_zero (S := S1024x1024) hz]
  rw [body_apply]
  refine nn_congr (fun k => ?_) fun k => ?_
  · blk_ext [iblk, V, h0.1, h0.2]
  · blk_ext [iblk, V, h1.1, h1.2]

end kernel

section reference
open Cert.Reference18Ideal Cert.Reference18Ideal.Gen

/-- The reference's product. -/
theorem reference (x : FVec Ideal S2048x1024 .bf16) (w : FVec Ideal S1024x2048 .bf16) :
    Host.dotGeneral (F := Ideal) dot_S2048x1024_S1024x2048_S2048x2048_1_0_0_1_n_n none (extf .f32 x bitsLt_bf16_f32) (extf .f32 w bitsLt_bf16_f32)
      = table (nn x w) := by
  refine ext_table fun i j => ?_
  pointwise
  rfl

end reference

end Cert.Mixer18

end
-- ==== Proof.Mixer19.lean ====
/-
  The product that makes the gates of the delta rule.
-/
module

public import proofs.«01_k».proof.Proof.Products
public import proofs.«01_k».proof.Proof.Gen.Kernel19Ideal.Value
public import proofs.«01_k».proof.Proof.Gen.Reference19Ideal.Run
public import Idealize.ShloMosaic.Lib.Pipeline.ValueKit

@[expose] public section

set_option maxRecDepth 16384

noncomputable section

namespace Cert.Mixer19

open Idealize.ShloMosaic Cert.Products

section kernel
open Cert.Kernel19Ideal Cert.Kernel19Ideal.Gen

variable (m : (ℓ : Loc nD τ sig) → Buf (Elt Ideal) ℓ) (c : Dev nD)

/-- A grid point takes half of the rows, and all of the small weight. -/
theorem index : ∀ t : Fin cfg0.N, (win0_0.index t 0 = t.val ∧ win0_0.index t 1 = 0)
    ∧ (win0_1.index t 0 = 0 ∧ win0_1.index t 1 = 0) ∧ (win0_2.index t 0 = t.val ∧ win0_2.index t 1 = 0) := by
  decide +kernel

theorem body_apply (x : Vec Ideal S1024x1024 .bf16) (w : Vec Ideal S1024x128 .bf16) (i : Fin 1024) (j : Fin 128) :
    k0_pay1 x w (ix2 i j) = nn x w i j := by
  pointwise [k0_pay1]
  rfl

/-- The array after the sweep. -/
theorem final : (dats m 0 c).arrAt 2 cfg0.N = table (nn (V m c main_arg0) (V m c main_arg1)) := by
  refine (dats m 0 c).arrAt_eq_of_covers 2 _ (by decide +kernel) fun t hf y => ?_
  obtain ⟨h0, h1, h2⟩ := index t
  have ht : t.val < 2 := t.isLt
  obtain ⟨i, l, rfl⟩ : ∃ (i : Fin 1024) (l : Fin 128), y = ix2 i l := ⟨y 0, y 1, by funext a; fin_cases a <;> rfl⟩
  blk_simp [h2.1, h2.2]
  rw [after0_2]
  have e : (win0_2.blk t).view.emb (ix2 i l) = (ix2 (⟨t.val * 1024 + i.val, by omega⟩ : Fin 2048) l : S2048x128.Idx) := by
    blk_ext [h2.1, h2.2]
  rw [e, table_apply]
  unfold out0_2
  have hz : (![0, 0] : Fin 2 → ℕ) = fun _ => 0 := by decide
  simp only [View.canon_unit_zero (S := S1024x128) hz, View.ld_unit_zero (S := S1024x1024) hz, View.ld_unit_zero (S := S1024x128) hz]
  rw [body_apply]
  refine nn_congr (fun k => ?_) fun k => ?_
  · blk_ext [iblk, V, h0.1, h0.2]
  · blk_ext [iblk, V, h1.1, h1.2]

end kernel

section reference
open Cert.Reference19Ideal Cert.Reference19Ideal.Gen

/-- The reference's product. -/
theorem reference (x : FVec Ideal S2048x1024 .bf16) (w : FVec Ideal S1024x128 .bf16) :
    Host.dotGeneral (F := Ideal) dot_S2048x1024_S1024x128_S2048x128_1_0_0_1_n_n none (extf .f32 x bitsLt_bf16_f32) (extf .f32 w bitsLt_bf16_f32)
      = table (nn x w) := by
  refine ext_table fun i j => ?_
  pointwise
  rfl

end reference

end Cert.Mixer19

end
-- ==== Proof.MixerClaims.lean ====
/-
  The claims about the mixers' products: the references' frames, and the values.
-/
module

public import proofs.«01_k».proof.Defs
public import proofs.«01_k».proof.Proof.Mixer8
public import proofs.«01_k».proof.Proof.Mixer9
public import proofs.«01_k».proof.Proof.Mixer10
public import proofs.«01_k».proof.Proof.Mixer11
public import proofs.«01_k».proof.Proof.Mixer12
public import proofs.«01_k».proof.Proof.Mixer13
public import proofs.«01_k».proof.Proof.Mixer14
public import proofs.«01_k».proof.Proof.Mixer15
public import proofs.«01_k».proof.Proof.Mixer16
public import proofs.«01_k».proof.Proof.Mixer17
public import proofs.«01_k».proof.Proof.Mixer18
public import proofs.«01_k».proof.Proof.Mixer19
public import proofs.«01_k».proof.Proof.Gen.Kernel8Ideal
public import proofs.«01_k».proof.Proof.Gen.Reference8Ideal
public import proofs.«01_k».proof.Proof.Gen.Kernel9Ideal
public import proofs.«01_k».proof.Proof.Gen.Reference9Ideal
public import proofs.«01_k».proof.Proof.Gen.Kernel10Ideal
public import proofs.«01_k».proof.Proof.Gen.Reference10Ideal
public import proofs.«01_k».proof.Proof.Gen.Kernel11Ideal
public import proofs.«01_k».proof.Proof.Gen.Reference11Ideal
public import proofs.«01_k».proof.Proof.Gen.Kernel12Ideal
public import proofs.«01_k».proof.Proof.Gen.Reference12Ideal
public import proofs.«01_k».proof.Proof.Gen.Kernel13Ideal
public import proofs.«01_k».proof.Proof.Gen.Reference13Ideal
public import proofs.«01_k».proof.Proof.Gen.Kernel14Ideal
public import proofs.«01_k».proof.Proof.Gen.Reference14Ideal
public import proofs.«01_k».proof.Proof.Gen.Kernel15Ideal
public import proofs.«01_k».proof.Proof.Gen.Reference15Ideal
public import proofs.«01_k».proof.Proof.Gen.Kernel16Ideal
public import proofs.«01_k».proof.Proof.Gen.Reference16Ideal
public import proofs.«01_k».proof.Proof.Gen.Kernel17Ideal
public import proofs.«01_k».proof.Proof.Gen.Reference17Ideal
public import proofs.«01_k».proof.Proof.Gen.Kernel18Ideal
public import proofs.«01_k».proof.Proof.Gen.Reference18Ideal
public import proofs.«01_k».proof.Proof.Gen.Kernel19Ideal
public import proofs.«01_k».proof.Proof.Gen.Reference19Ideal

@[expose] public section

noncomputable section

namespace Cert.Mixer

open Idealize.ShloMosaic Idealize.ShloMosaic.TcCoe Idealize.SL.Sem

/-! ### The gradient of what a mixer's last product takes -/

theorem frame8 : Cert.quiescent_Reference8Ideal := fun m ρ _ =>
  (θ_run Cert.Reference8Ideal.defs _ _).mono (fun r h => ⟨fun c => (h c).2, sem_eq_zero_of_no_sems (by decide) r.2⟩)
    (Cert.Reference8Ideal.Value.run (F := Ideal) m ρ)

theorem value8 : Cert.algebraic_Kernel8Ideal_Reference8Ideal := by
  intro m g m' g' _ hag
  refine ⟨fun c => (Cert.Kernel8Ideal.Gen.dats m 0 c).arrAt 2 Cert.Kernel8Ideal.cfg0.N,
    Cert.Kernel8Ideal.Value.run_blocks (F := Ideal) m g,
    (θ_run Cert.Reference8Ideal.defs _ _).mono (fun r h c => ?_) (Cert.Reference8Ideal.Value.run (F := Ideal) m' g')⟩
  obtain ⟨h0, h1⟩ := hag c
  refine ⟨(h c).1.trans ?_, (h c).2⟩
  rw [h0, h1]
  exact (Cert.Mixer8.reference _ _).trans (Cert.Mixer8.final m c).symm

/-! ### The gradient of a mixer's last weight -/

theorem frame9 : Cert.quiescent_Reference9Ideal := fun m ρ _ =>
  (θ_run Cert.Reference9Ideal.defs _ _).mono (fun r h => ⟨fun c => (h c).2, sem_eq_zero_of_no_sems (by decide) r.2⟩)
    (Cert.Reference9Ideal.Value.run (F := Ideal) m ρ)

theorem value9 : Cert.algebraic_Kernel9Ideal_Reference9Ideal := by
  intro m g m' g' _ hag
  refine ⟨fun c => (Cert.Kernel9Ideal.Gen.dats m 0 c).arrAt 2 Cert.Kernel9Ideal.cfg0.N,
    Cert.Kernel9Ideal.Value.run_blocks (F := Ideal) m g,
    (θ_run Cert.Reference9Ideal.defs _ _).mono (fun r h c => ?_) (Cert.Reference9Ideal.Value.run (F := Ideal) m' g')⟩
  obtain ⟨h0, h1⟩ := hag c
  refine ⟨(h c).1.trans ?_, (h c).2⟩
  rw [h0, h1]
  exact (Cert.Mixer9.reference _ _).trans (Cert.Mixer9.final m c).symm

/-! ### The gradient of the delta rule mixer's first weight -/

theorem frame10 : Cert.quiescent_Reference10Ideal := fun m ρ _ =>
  (θ_run Cert.Reference10Ideal.defs _ _).mono (fun r h => ⟨fun c => (h c).2, sem_eq_zero_of_no_sems (by decide) r.2⟩)
    (Cert.Reference10Ideal.Value.run (F := Ideal) m ρ)

theorem value10 : Cert.algebraic_Kernel10Ideal_Reference10Ideal := by
  intro m g m' g' _ hag
  refine ⟨fun c => (Cert.Kernel10Ideal.Gen.dats m 0 c).arrAt 2 Cert.Kernel10Ideal.cfg0.N,
    Cert.Kernel10Ideal.Value.run_blocks (F := Ideal) m g,
    (θ_run Cert.Reference10Ideal.defs _ _).mono (fun r h c => ?_) (Cert.Reference10Ideal.Value.run (F := Ideal) m' g')⟩
  obtain ⟨h0, h1⟩ := hag c
  refine ⟨(h c).1.trans ?_, (h c).2⟩
  rw [h0, h1]
  exact (Cert.Mixer10.reference _ _).trans (Cert.Mixer10.final m c).symm

/-! ### The gradient of its input -/

theorem frame11 : Cert.quiescent_Reference11Ideal := fun m ρ _ =>
  (θ_run Cert.Reference11Ideal.defs _ _).mono (fun r h => ⟨fun c => (h c).2, sem_eq_zero_of_no_sems (by decide) r.2⟩)
    (Cert.Reference11Ideal.Value.run (F := Ideal) m ρ)

theorem value11 : Cert.algebraic_Kernel11Ideal_Reference11Ideal := by
  intro m g m' g' _ hag
  refine ⟨fun c => (Cert.Kernel11Ideal.Gen.dats m 0 c).arrAt 3 Cert.Kernel11Ideal.cfg0.N,
    Cert.Kernel11Ideal.Value.run_blocks (F := Ideal) m g,
    (θ_run Cert.Reference11Ideal.defs _ _).mono (fun r h c => ?_) (Cert.Reference11Ideal.Value.run (F := Ideal) m' g')⟩
  obtain ⟨h0, h1, h2⟩ := hag c
  refine ⟨(h c).1.trans ?_, (h c).2⟩
  rw [h0, h1, h2]
  exact (Cert.Mixer11.reference _ _ _).trans (Cert.Mixer11.final m c).symm

/-! ### The gradient of the convolution mixer's first weight -/

theorem frame12 : Cert.quiescent_Reference12Ideal := fun m ρ _ =>
  (θ_run Cert.Reference12Ideal.defs _ _).mono (fun r h => ⟨fun c => (h c).2, sem_eq_zero_of_no_sems (by decide) r.2⟩)
    (Cert.Reference12Ideal.Value.run (F := Ideal) m ρ)

theorem value12 : Cert.algebraic_Kernel12Ideal_Reference12Ideal := by
  intro m g m' g' _ hag
  refine ⟨fun c => (Cert.Kernel12Ideal.Gen.dats m 0 c).arrAt 2 Cert.Kernel12Ideal.cfg0.N,
    Cert.Kernel12Ideal.Value.run_blocks (F := Ideal) m g,
    (θ_run Cert.Reference12Ideal.defs _ _).mono (fun r h c => ?_) (Cert.Reference12Ideal.Value.run (F := Ideal) m' g')⟩
  obtain ⟨h0, h1⟩ := hag c
  refine ⟨(h c).1.trans ?_, (h c).2⟩
  rw [h0, h1]
  exact (Cert.Mixer12.reference _ _).trans (Cert.Mixer12.final m c).symm

/-! ### The gradient of its input -/

theorem frame13 : Cert.quiescent_Reference13Ideal := fun m ρ _ =>
  (θ_run Cert.Reference13Ideal.defs _ _).mono (fun r h => ⟨fun c => (h c).2, sem_eq_zero_of_no_sems (by decide) r.2⟩)
    (Cert.Reference13Ideal.Value.run (F := Ideal) m ρ)

theorem value13 : Cert.algebraic_Kernel13Ideal_Reference13Ideal := by
  intro m g m' g' _ hag
  refine ⟨fun c => (Cert.Kernel13Ideal.Gen.dats m 0 c).arrAt 2 Cert.Kernel13Ideal.cfg0.N,
    Cert.Kernel13Ideal.Value.run_blocks (F := Ideal) m g,
    (θ_run Cert.Reference13Ideal.defs _ _).mono (fun r h c => ?_) (Cert.Reference13Ideal.Value.run (F := Ideal) m' g')⟩
  obtain ⟨h0, h1⟩ := hag c
  refine ⟨(h c).1.trans ?_, (h c).2⟩
  rw [h0, h1]
  exact (Cert.Mixer13.reference _ _).trans (Cert.Mixer13.final m c).symm

/-! ### The gradient of the weight that makes the gates -/

theorem frame14 : Cert.quiescent_Reference14Ideal := fun m ρ _ =>
  (θ_run Cert.Reference14Ideal.defs _ _).mono (fun r h => ⟨fun c => (h c).2, sem_eq_zero_of_no_sems (by decide) r.2⟩)
    (Cert.Reference14Ideal.Value.run (F := Ideal) m ρ)

theorem value14 : Cert.algebraic_Kernel14Ideal_Reference14Ideal := by
  intro m g m' g' _ hag
  refine ⟨fun c => (Cert.Kernel14Ideal.Gen.dats m 0 c).arrAt 2 Cert.Kernel14Ideal.cfg0.N,
    Cert.Kernel14Ideal.Value.run_blocks (F := Ideal) m g,
    (θ_run Cert.Reference14Ideal.defs _ _).mono (fun r h c => ?_) (Cert.Reference14Ideal.Value.run (F := Ideal) m' g')⟩
  obtain ⟨h0, h1⟩ := hag c
  refine ⟨(h c).1.trans ?_, (h c).2⟩
  rw [h0, h1]
  exact (Cert.Mixer14.reference _ _).trans (Cert.Mixer14.final m c).symm

/-! ### The gradient of the input by way of the gates -/

theorem frame15 : Cert.quiescent_Reference15Ideal := fun m ρ _ =>
  (θ_run Cert.Reference15Ideal.defs _ _).mono (fun r h => ⟨fun c => (h c).2, sem_eq_zero_of_no_sems (by decide) r.2⟩)
    (Cert.Reference15Ideal.Value.run (F := Ideal) m ρ)

theorem value15 : Cert.algebraic_Kernel15Ideal_Reference15Ideal := by
  intro m g m' g' _ hag
  refine ⟨fun c => (Cert.Kernel15Ideal.Gen.dats m 0 c).arrAt 2 Cert.Kernel15Ideal.cfg0.N,
    Cert.Kernel15Ideal.Value.run_blocks (F := Ideal) m g,
    (θ_run Cert.Reference15Ideal.defs _ _).mono (fun r h c => ?_) (Cert.Reference15Ideal.Value.run (F := Ideal) m' g')⟩
  obtain ⟨h0, h1⟩ := hag c
  refine ⟨(h c).1.trans ?_, (h c).2⟩
  rw [h0, h1]
  exact (Cert.Mixer15.reference _ _).trans (Cert.Mixer15.final m c).symm

/-! ### A mixer's last product -/

theorem frame16 : Cert.quiescent_Reference16Ideal := fun m ρ _ =>
  (θ_run Cert.Reference16Ideal.defs _ _).mono (fun r h => ⟨fun c => (h c).2, sem_eq_zero_of_no_sems (by decide) r.2⟩)
    (Cert.Reference16Ideal.Value.run (F := Ideal) m ρ)

theorem value16 : Cert.algebraic_Kernel16Ideal_Reference16Ideal := by
  intro m g m' g' _ hag
  refine ⟨fun c => (Cert.Kernel16Ideal.Gen.dats m 0 c).arrAt 2 Cert.Kernel16Ideal.cfg0.N,
    Cert.Kernel16Ideal.Value.run_blocks (F := Ideal) m g,
    (θ_run Cert.Reference16Ideal.defs _ _).mono (fun r h c => ?_) (Cert.Reference16Ideal.Value.run (F := Ideal) m' g')⟩
  obtain ⟨h0, h1⟩ := hag c
  refine ⟨(h c).1.trans ?_, (h c).2⟩
  rw [h0, h1]
  exact (Cert.Mixer16.reference _ _).trans (Cert.Mixer16.final m c).symm

/-! ### The delta rule mixer's first product -/

theorem frame17 : Cert.quiescent_Reference17Ideal := fun m ρ _ =>
  (θ_run Cert.Reference17Ideal.defs _ _).mono (fun r h => ⟨fun c => (h c).2, sem_eq_zero_of_no_sems (by decide) r.2⟩)
    (Cert.Reference17Ideal.Value.run (F := Ideal) m ρ)

theorem value17 : Cert.algebraic_Kernel17Ideal_Reference17Ideal := by
  intro m g m' g' _ hag
  refine ⟨fun c => (Cert.Kernel17Ideal.Gen.dats m 0 c).arrAt 2 Cert.Kernel17Ideal.cfg0.N,
    Cert.Kernel17Ideal.Value.run_blocks (F := Ideal) m g,
    (θ_run Cert.Reference17Ideal.defs _ _).mono (fun r h c => ?_) (Cert.Reference17Ideal.Value.run (F := Ideal) m' g')⟩
  obtain ⟨h0, h1⟩ := hag c
  refine ⟨(h c).1.trans ?_, (h c).2⟩
  rw [h0, h1]
  exact (Cert.Mixer17.reference _ _).trans (Cert.Mixer17.final m c).symm

/-! ### The convolution mixer's first product -/

theorem frame18 : Cert.quiescent_Reference18Ideal := fun m ρ _ =>
  (θ_run Cert.Reference18Ideal.defs _ _).mono (fun r h => ⟨fun c => (h c).2, sem_eq_zero_of_no_sems (by decide) r.2⟩)
    (Cert.Reference18Ideal.Value.run (F := Ideal) m ρ)

theorem value18 : Cert.algebraic_Kernel18Ideal_Reference18Ideal := by
  intro m g m' g' _ hag
  refine ⟨fun c => (Cert.Kernel18Ideal.Gen.dats m 0 c).arrAt 2 Cert.Kernel18Ideal.cfg0.N,
    Cert.Kernel18Ideal.Value.run_blocks (F := Ideal) m g,
    (θ_run Cert.Reference18Ideal.defs _ _).mono (fun r h c => ?_) (Cert.Reference18Ideal.Value.run (F := Ideal) m' g')⟩
  obtain ⟨h0, h1⟩ := hag c
  refine ⟨(h c).1.trans ?_, (h c).2⟩
  rw [h0, h1]
  exact (Cert.Mixer18.reference _ _).trans (Cert.Mixer18.final m c).symm

/-! ### The product that makes the gates -/

theorem frame19 : Cert.quiescent_Reference19Ideal := fun m ρ _ =>
  (θ_run Cert.Reference19Ideal.defs _ _).mono (fun r h => ⟨fun c => (h c).2, sem_eq_zero_of_no_sems (by decide) r.2⟩)
    (Cert.Reference19Ideal.Value.run (F := Ideal) m ρ)

theorem value19 : Cert.algebraic_Kernel19Ideal_Reference19Ideal := by
  intro m g m' g' _ hag
  refine ⟨fun c => (Cert.Kernel19Ideal.Gen.dats m 0 c).arrAt 2 Cert.Kernel19Ideal.cfg0.N,
    Cert.Kernel19Ideal.Value.run_blocks (F := Ideal) m g,
    (θ_run Cert.Reference19Ideal.defs _ _).mono (fun r h c => ?_) (Cert.Reference19Ideal.Value.run (F := Ideal) m' g')⟩
  obtain ⟨h0, h1⟩ := hag c
  refine ⟨(h c).1.trans ?_, (h c).2⟩
  rw [h0, h1]
  exact (Cert.Mixer19.reference _ _).trans (Cert.Mixer19.final m c).symm

end Cert.Mixer

end
-- ==== Proof.Final.lean ====
/-
  The kernel's arrays after its sweep, as the reference's results.
-/
module

public import proofs.«01_k».proof.Proof.Inv
public import Idealize.ShloMosaic.Lib.Pipeline.ValueKit

@[expose] public section

noncomputable section

namespace Cert.Delta

open Idealize.ShloMosaic Cert.KernelIdeal Cert.KernelIdeal.Gen
open Cert.ReferenceIdeal.Step (State R_main_v10 R_main_v11 R_main_v12 R_main_v14 R_main_v15 R_main_v16 b242 b250 b413 b414 b429 b444 b445)

set_option maxRecDepth 16384

variable (m : (ℓ : Loc nD τ sig) → Buf (Elt Ideal) ℓ) (c : Dev nD)

theorem index1 : ∀ t : Fin cfg0.N, (win0_9.index t 0 = 31 - t.val ∧ win0_9.index t 1 = 0)
    ∧ (win0_10.index t 0 = 31 - t.val ∧ win0_10.index t 1 = 0)
    ∧ (win0_11.index t 0 = 31 - t.val ∧ win0_11.index t 1 = 0)
    ∧ (win0_12.index t 0 = 31 - t.val ∧ win0_12.index t 1 = 3)
    ∧ (win0_13.index t 0 = 31 - t.val ∧ win0_13.index t 1 = 0)
    ∧ (win0_14.index t 0 = 0 ∧ win0_14.index t 1 = 0) := by
  decide +kernel

theorem outs_q (t : Fin cfg0.N) : (outsAt0 m c t.val t.isLt).1 = rows (k572 (inAt m c t)) := by
  obtain ⟨n, hn⟩ := t
  cases n with
  | zero => rw [outs_first m c ⟨0, hn⟩ rfl]
  | succ n => exact congrArg (·.1) (outs_later m c n hn)

/-- The rows of the queries' gradient that trip `t` adds. -/
theorem res_q (t : ℕ) (ht : t < 32) (i : Fin 64) (l : Fin 1024) :
    R_main_v10 (sAt m c 32) (ix2 (⟨(31 - t) * 64 + i.val, by omega⟩ : Fin 2048) l) = b444 t (sAt m c t) (ix2 i l) := by
  have e := seq_11 (start m c) (chunkOf t) i l (by
    pointwise [start, Cert.ReferenceIdeal.Step.init, Cert.ReferenceIdeal.Step.K_main_v5, Cert.ReferenceIdeal.Step.K_main_cst])
  rw [show 31 - (chunkOf t).val = t from by show 31 - (31 - t) = t; omega] at e
  refine Eq.trans ?_ e
  pointwise [R_main_v10, chunkOf]
  have hk : ((31 - t) * 64 + i.val) / 64 = 31 - t := by omega
  simp only [hk]

/-- The queries' gradient. -/
theorem final_q (R : RealArgs m c) : (dats m 0 c).arrAt 9 cfg0.N = R_main_v10 (sAt m c 32) := by
  refine (dats m 0 c).arrAt_eq_of_covers 9 _ (by decide +kernel) fun t hf y => ?_
  have h := (index1 t).1
  have ht := lt32 t
  obtain ⟨i, l, rfl⟩ : ∃ (i : Fin 64) (l : Fin 1024), y = ix2 i l := ⟨y 0, y 1, by funext a; fin_cases a <;> rfl⟩
  obtain ⟨L, T⟩ := together m c R t.val t.isLt
  blk_simp [h.1, h.2]
  rw [after0_9, outs_q]
  have e : (win0_9.blk t).view.emb (ix2 i l) = (ix2 (⟨(31 - t.val) * 64 + i.val, by omega⟩ : Fin 2048) l : S2048x1024.Idx) := by
    blk_ext [h.1, h.2]
  rw [e]
  exact (wrote_q L i l).trans (res_q m c t.val ht i l).symm

theorem outs_k (t : Fin cfg0.N) : (outsAt0 m c t.val t.isLt).2.1 = rows (k557 (inAt m c t)) := by
  obtain ⟨n, hn⟩ := t
  cases n with
  | zero => rw [outs_first m c ⟨0, hn⟩ rfl]
  | succ n => exact congrArg (·.2.1) (outs_later m c n hn)

/-- The rows of the keys' gradient that trip `t` adds. -/
theorem res_k (t : ℕ) (ht : t < 32) (i : Fin 64) (l : Fin 1024) :
    R_main_v11 (sAt m c 32) (ix2 (⟨(31 - t) * 64 + i.val, by omega⟩ : Fin 2048) l) = b429 t (sAt m c t) (ix2 i l) := by
  have e := seq_12 (start m c) (chunkOf t) i l (by
    pointwise [start, Cert.ReferenceIdeal.Step.init, Cert.ReferenceIdeal.Step.K_main_v5, Cert.ReferenceIdeal.Step.K_main_cst])
  rw [show 31 - (chunkOf t).val = t from by show 31 - (31 - t) = t; omega] at e
  refine Eq.trans ?_ e
  pointwise [R_main_v11, chunkOf]
  have hk : ((31 - t) * 64 + i.val) / 64 = 31 - t := by omega
  simp only [hk]

/-- The keys' gradient. -/
theorem final_k (R : RealArgs m c) : (dats m 0 c).arrAt 10 cfg0.N = R_main_v11 (sAt m c 32) := by
  refine (dats m 0 c).arrAt_eq_of_covers 10 _ (by decide +kernel) fun t hf y => ?_
  have h := (index1 t).2.1
  have ht := lt32 t
  obtain ⟨i, l, rfl⟩ : ∃ (i : Fin 64) (l : Fin 1024), y = ix2 i l := ⟨y 0, y 1, by funext a; fin_cases a <;> rfl⟩
  obtain ⟨L, T⟩ := together m c R t.val t.isLt
  blk_simp [h.1, h.2]
  rw [after0_10, outs_k]
  have e : (win0_10.blk t).view.emb (ix2 i l) = (ix2 (⟨(31 - t.val) * 64 + i.val, by omega⟩ : Fin 2048) l : S2048x1024.Idx) := by
    blk_ext [h.1, h.2]
  rw [e]
  exact (wrote_k L T i l).trans (res_k m c t.val ht i l).symm

theorem outs_v (t : Fin cfg0.N) : (outsAt0 m c t.val t.isLt).2.2.1 = rows (k462 (inAt m c t)) := by
  obtain ⟨n, hn⟩ := t
  cases n with
  | zero => rw [outs_first m c ⟨0, hn⟩ rfl]
  | succ n => exact congrArg (·.2.2.1) (outs_later m c n hn)

/-- The rows of the values' gradient that trip `t` adds. -/
theorem res_v (t : ℕ) (ht : t < 32) (i : Fin 64) (l : Fin 1024) :
    R_main_v12 (sAt m c 32) (ix2 (⟨(31 - t) * 64 + i.val, by omega⟩ : Fin 2048) l) = b414 t (sAt m c t) (ix2 i l) := by
  have e := seq_13 (start m c) (chunkOf t) i l (by
    pointwise [start, Cert.ReferenceIdeal.Step.init, Cert.ReferenceIdeal.Step.K_main_v5, Cert.ReferenceIdeal.Step.K_main_cst])
  rw [show 31 - (chunkOf t).val = t from by show 31 - (31 - t) = t; omega] at e
  refine Eq.trans ?_ e
  pointwise [R_main_v12, chunkOf]
  have hk : ((31 - t) * 64 + i.val) / 64 = 31 - t := by omega
  simp only [hk]

/-- The values' gradient. -/
theorem final_v (R : RealArgs m c) : (dats m 0 c).arrAt 11 cfg0.N = R_main_v12 (sAt m c 32) := by
  refine (dats m 0 c).arrAt_eq_of_covers 11 _ (by decide +kernel) fun t hf y => ?_
  have h := (index1 t).2.2.1
  have ht := lt32 t
  obtain ⟨i, l, rfl⟩ : ∃ (i : Fin 64) (l : Fin 1024), y = ix2 i l := ⟨y 0, y 1, by funext a; fin_cases a <;> rfl⟩
  obtain ⟨L, T⟩ := together m c R t.val t.isLt
  blk_simp [h.1, h.2]
  rw [after0_11, outs_v]
  have e : (win0_11.blk t).view.emb (ix2 i l) = (ix2 (⟨(31 - t.val) * 64 + i.val, by omega⟩ : Fin 2048) l : S2048x1024.Idx) := by
    blk_ext [h.1, h.2]
  rw [e]
  exact (wrote_v L i l).trans (res_v m c t.val ht i l).symm

theorem outs_g (t : Fin cfg0.N) : (outsAt0 m c t.val t.isLt).2.2.2.2.1 = k715 (inAt m c t) := by
  obtain ⟨n, hn⟩ := t
  cases n with
  | zero => rw [outs_first m c ⟨0, hn⟩ rfl]
  | succ n => exact congrArg (·.2.2.2.2.1) (outs_later m c n hn)

/-- The rows of the gates' gradient that trip `t` adds. -/
theorem res_g (t : ℕ) (ht : t < 32) (i : Fin 64) (l : Fin 128) :
    R_main_v15 (sAt m c 32) (ix2 (⟨(31 - t) * 64 + i.val, by omega⟩ : Fin 2048) l) = b413 t (sAt m c t) (ix2 i l) := by
  have e := seq_15 (start m c) (chunkOf t) i l (by
    pointwise [start, Cert.ReferenceIdeal.Step.init, Cert.ReferenceIdeal.Step.K_main_v6, Cert.ReferenceIdeal.Step.K_main_cst_0])
  rw [show 31 - (chunkOf t).val = t from by show 31 - (31 - t) = t; omega] at e
  refine Eq.trans ?_ e
  pointwise [R_main_v15, chunkOf]
  have hk : ((31 - t) * 64 + i.val) / 64 = 31 - t := by omega
  simp only [hk]

/-- The gates' gradient. -/
theorem final_g (R : RealArgs m c) : (dats m 0 c).arrAt 13 cfg0.N = R_main_v15 (sAt m c 32) := by
  refine (dats m 0 c).arrAt_eq_of_covers 13 _ (by decide +kernel) fun t hf y => ?_
  have h := (index1 t).2.2.2.2.1
  have ht := lt32 t
  obtain ⟨i, l, rfl⟩ : ∃ (i : Fin 64) (l : Fin 128), y = ix2 i l := ⟨y 0, y 1, by funext a; fin_cases a <;> rfl⟩
  obtain ⟨L, T⟩ := together m c R t.val t.isLt
  blk_simp [h.1, h.2]
  rw [after0_13, outs_g]
  have e : (win0_13.blk t).view.emb (ix2 i l) = (ix2 (⟨(31 - t.val) * 64 + i.val, by omega⟩ : Fin 2048) l : S2048x128.Idx) := by
    blk_ext [h.1, h.2]
  rw [e]
  exact (k715_eq L T i l).trans (res_g m c t.val ht i l).symm

theorem outs_z (t : Fin cfg0.N) : (outsAt0 m c t.val t.isLt).2.2.2.1 = rows (k352 (inAt m c t)) := by
  obtain ⟨n, hn⟩ := t
  cases n with
  | zero => rw [outs_first m c ⟨0, hn⟩ rfl]
  | succ n => exact congrArg (·.2.2.2.1) (outs_later m c n hn)

/-- The rows of the output gate's gradient that trip `t` adds, in the columns of the gate. -/
theorem res_z (t : ℕ) (ht : t < 32) (i : Fin 64) (l : Fin 1024) :
    R_main_v14 (sAt m c 32) (ix2 (⟨(31 - t) * 64 + i.val, by omega⟩ : Fin 2048) (⟨3072 + l.val, by omega⟩ : Fin 4096))
      = b242 t (sAt m c t) (ix2 i l) := by
  have e := seq_14 (start m c) (chunkOf t) i l (by
    pointwise [start, Cert.ReferenceIdeal.Step.init, Cert.ReferenceIdeal.Step.K_main_v5, Cert.ReferenceIdeal.Step.K_main_cst])
  rw [show 31 - (chunkOf t).val = t from by show 31 - (31 - t) = t; omega] at e
  refine Eq.trans ?_ e
  pointwise [R_main_v14, chunkOf]
  rw [dif_pos (by omega)]
  have hk : ((31 - t) * 64 + i.val) / 64 = 31 - t := by omega
  simp only [hk]

/-- The output gate's gradient, in the columns that the kernel writes. -/
theorem final_z (R : RealArgs m c) (y : S2048x4096.Idx) (hy : 3072 ≤ (y 1).val) :
    (dats m 0 c).arrAt 12 cfg0.N y = R_main_v14 (sAt m c 32) y := by
  have h0 : (y 0).val < 2048 := (y 0).isLt
  have h1 : (y 1).val < 4096 := (y 1).isLt
  let t : Fin cfg0.N := ⟨31 - (y 0).val / 64, by rw [show cfg0.N = 32 from N_0]; omega⟩
  have h := (index1 t).2.2.2.1
  have ht := lt32 t
  let i : Fin 64 := ⟨(y 0).val % 64, by omega⟩
  let l : Fin 1024 := ⟨(y 1).val - 3072, by omega⟩
  have hf : (cfg0.win 12).flush t = true := (by decide +kernel : ∀ t : Fin cfg0.N, (cfg0.win 12).flush t = true) t
  obtain ⟨L, T⟩ := together m c R t.val t.isLt
  have e0 : y = (ix2 (⟨(31 - t.val) * 64 + i.val, by omega⟩ : Fin 2048) (⟨3072 + l.val, by omega⟩ : Fin 4096) : S2048x4096.Idx) := by
    funext a
    fin_cases a
    · apply Fin.ext; show (y 0).val = (31 - (31 - (y 0).val / 64)) * 64 + (y 0).val % 64; omega
    · apply Fin.ext; show (y 1).val = 3072 + ((y 1).val - 3072); omega
  have e : (win0_12.blk t).view.emb (ix2 i l) = y := by
    rw [e0]
    blk_ext [h.1, h.2]
  have b := congrFun (Value.blocks12 m c t hf) (ix2 i l)
  blk_simp [h.1, h.2] at b
  rw [e, after0_12, outs_z] at b
  rw [b]
  refine (wrote_z L T i l).trans ?_
  rw [e0]
  exact (res_z m c t.val ht i l).symm

/-- The norm weight's gradient after `n + 1` trips. -/
theorem outs_w : ∀ (n : ℕ) (hn : n < cfg0.N) (R : RealArgs m c) (d : Fin 128),
    (outsAt0 m c n hn).2.2.2.2.2.1 (ix2 0 d) = (sAt m c (n + 1)).main_v9_10 (ix1 d) := by
  intro n
  induction n with
  | zero =>
    intro hn R d
    obtain ⟨L, T⟩ := together m c R 0 hn
    rw [outs_first m c ⟨0, hn⟩ rfl]
    refine (k359_eq L d).trans ?_
    rw [show sAt m c (0 + 1) = Cert.ReferenceIdeal.Step.step 0 (sAt m c 0) from rfl, Cert.ReferenceIdeal.Step.step_main_v9_10]
    pointwise [b445, start, Cert.ReferenceIdeal.Step.init, Cert.ReferenceIdeal.Step.K_main_v8]
    have z : (sAt m c 0).main_v9_10 (ix1 d) = 0 := by
      show (start m c).main_v9_10 (ix1 d) = 0
      pointwise [start, Cert.ReferenceIdeal.Step.init, Cert.ReferenceIdeal.Step.K_main_v8, Cert.ReferenceIdeal.Step.K_main_cst_2]
    rw [z, zero_add]
  | succ n ih =>
    intro hn R d
    obtain ⟨L, T⟩ := together m c R (n + 1) hn
    rw [outs_later m c n hn]
    have e := ih (Nat.lt_of_succ_lt hn) R d
    have e' := k359_eq L d
    rw [show sAt m c (n + 1 + 1) = Cert.ReferenceIdeal.Step.step (n + 1) (sAt m c (n + 1)) from rfl, Cert.ReferenceIdeal.Step.step_main_v9_10]
    pointwise [b445, k0_pay1]
    rw [e, e']

/-- The norm weight's gradient. -/
theorem final_w (R : RealArgs m c) : (dats m 0 c).arrAt 14 cfg0.N = R_main_v16 (sAt m c 32) := by
  refine (dats m 0 c).arrAt_eq_of_covers 14 _ (by decide +kernel) fun t hf y => ?_
  have h := (index1 t).2.2.2.2.2
  have ht := lt32 t
  have hl : t.val = 31 :=
    (by decide +kernel : ∀ t : Fin cfg0.N, (cfg0.win 14).flush t = true → t.val = 31) t hf
  obtain ⟨a, l, rfl⟩ : ∃ (a : Fin 1) (l : Fin 128), y = ix2 a l := ⟨y 0, y 1, by funext a; fin_cases a <;> rfl⟩
  blk_simp [h.1, h.2]
  rw [after0_14]
  obtain rfl : a = 0 := Subsingleton.elim _ _
  have e : (win0_14.blk t).view.emb (ix2 0 l) = (ix2 0 l : S1x128.Idx) := by
    blk_ext [h.1, h.2]
  rw [e]
  refine (outs_w m c t.val t.isLt R l).trans ?_
  rw [hl]
  pointwise [R_main_v16]

end Cert.Delta
-- ==== Proof.lean ====
/-
  The proof of the claims about the backward sweep of the gated delta rule: three frames, which are the generated ones; the
  idealized program, which is the program itself; and the value claim, which `Cert.Delta` proves result by result.
  The claims about the MLP's products are proved in `Cert.Mlp`, those about the mixers' in `Cert.Mixer`, those about the short
  convolutions in `Cert.Conv`, and those about the modulation's product in `Cert.Modulation`.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.On_written
public import proofs.«01_k».proof.Proof.Gen.Pre_finite
public import proofs.«01_k».proof.Proof.Gen.KernelIdeal.Value
public import proofs.«01_k».proof.Proof.Gen.ReferenceIdeal.Run
public import proofs.«01_k».proof.Proof.Gen.ReferenceIdeal.Step
public import proofs.«01_k».proof.Proof.Gen.ReferenceIdeal.StepRun
public import proofs.«01_k».proof.Proof.Gen.Kernel2.Frame
public import proofs.«01_k».proof.Proof.Gen.Kernel3.Frame
public import proofs.«01_k».proof.Proof.Gen.Kernel4.Frame
public import proofs.«01_k».proof.Proof.Gen.Kernel5.Frame
public import proofs.«01_k».proof.Proof.Gen.Kernel6.Frame
public import proofs.«01_k».proof.Proof.Gen.Kernel7.Frame
public import proofs.«01_k».proof.Proof.Gen.Kernel8.Frame
public import proofs.«01_k».proof.Proof.Gen.Kernel9.Frame
public import proofs.«01_k».proof.Proof.Gen.Kernel10.Frame
public import proofs.«01_k».proof.Proof.Gen.Kernel11.Frame
public import proofs.«01_k».proof.Proof.Gen.Kernel12.Frame
public import proofs.«01_k».proof.Proof.Gen.Kernel13.Frame
public import proofs.«01_k».proof.Proof.Gen.Kernel14.Frame
public import proofs.«01_k».proof.Proof.Gen.Kernel15.Frame
public import proofs.«01_k».proof.Proof.Gen.Kernel16.Frame
public import proofs.«01_k».proof.Proof.Gen.Kernel17.Frame
public import proofs.«01_k».proof.Proof.Gen.Kernel18.Frame
public import proofs.«01_k».proof.Proof.Gen.Kernel19.Frame
public import proofs.«01_k».proof.Proof.Gen.Kernel20.Frame
public import proofs.«01_k».proof.Proof.ConvClaims
public import proofs.«01_k».proof.Proof.ModulationClaims
public import proofs.«01_k».proof.Proof.Gen.Kernel21.Frame
public import proofs.«01_k».proof.Proof.Gen.Kernel22.Frame
public import proofs.«01_k».proof.Proof.Gen.Kernel23.Frame
public import proofs.«01_k».proof.Proof.Gen.Kernel24.Frame
public import proofs.«01_k».proof.Proof.Gen.Kernel25.Frame
public import proofs.«01_k».proof.Proof.MlpClaims
public import proofs.«01_k».proof.Proof.MixerClaims
public import proofs.«01_k».proof.Proof.Final
public import proofs.«01_k».proof.Proof.Given
public import Idealize.ShloMosaic.Adequacy
public import Idealize.ShloMosaic.Init

@[expose] public section

noncomputable section

namespace Cert.Proof

open Idealize.ShloMosaic Idealize.SL.Sem

/-- From equal arguments the reference starts where `Cert.Delta.start` does. -/
theorem start_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) :
    Cert.Delta.sAt m c 0 = Cert.ReferenceIdeal.StepRun.initState m' c := by
  show Cert.Delta.start m c = _
  unfold Cert.Delta.start Cert.ReferenceIdeal.StepRun.initState
  rw [h0, h1, h2, h3, h4, h5, h6]

/-- The reference's frame: its run, of which the arguments are the last seven, and it has no semaphores. -/
theorem frame_reference : Cert.quiescent_ReferenceIdeal := fun m ρ _ =>
  (θ_run Cert.ReferenceIdeal.defs _ _).mono (fun r h => ⟨fun c => (h c).2.2.2.2.2.2,
    sem_eq_zero_of_no_sems (by decide) r.2⟩) (Cert.ReferenceIdeal.Value.run (F := Ideal) m ρ)

/-- The value claim. -/
theorem value : Cert.algebraic_KernelIdeal_ReferenceIdeal_on_written_pre_finite := by
  intro m g m' g' hpre hag
  refine ⟨fun c => Cert.ReferenceIdeal.Step.R_main_v10 (Cert.Delta.sAt m c 32),
    fun c => Cert.ReferenceIdeal.Step.R_main_v11 (Cert.Delta.sAt m c 32),
    fun c => Cert.ReferenceIdeal.Step.R_main_v12 (Cert.Delta.sAt m c 32),
    fun c => Cert.ReferenceIdeal.Step.R_main_v14 (Cert.Delta.sAt m c 32),
    fun c => Cert.ReferenceIdeal.Step.R_main_v15 (Cert.Delta.sAt m c 32),
    fun c => Cert.ReferenceIdeal.Step.R_main_v16 (Cert.Delta.sAt m c 32),
    (θ_run Cert.KernelIdeal.defs _ _).mono (fun r h c => ?_) (Cert.KernelIdeal.Value.run_blocks (F := Ideal) m g),
    (θ_run Cert.ReferenceIdeal.defs _ _).mono (fun r h c => ?_) (Cert.ReferenceIdeal.StepRun.run_iter (F := Ideal) m' g'
      (fun c n => Cert.Delta.sAt m c n) (fun c => ?_) (fun _ _ => rfl))⟩
  · obtain ⟨e0, e1, e2, e3, e4, e5, a0, a1, a2, a3, a4, a5, a6⟩ := h c
    have R := Cert.Delta.args_of m c hpre
    refine ⟨fun i _ => congrFun (e0.trans (Cert.Delta.final_q m c R)) i, fun i _ => congrFun (e1.trans (Cert.Delta.final_k m c R)) i,
      fun i _ => congrFun (e2.trans (Cert.Delta.final_v m c R)) i,
      fun i hi => (congrFun e3 i).trans (Cert.Delta.final_z m c R i (Cert.Delta.gate_column _ _ _ _ _ _ _ i hi)),
      fun i _ => congrFun (e4.trans (Cert.Delta.final_g m c R)) i, fun i _ => congrFun (e5.trans (Cert.Delta.final_w m c R)) i,
      a0, a1, a2, a3, a4, a5, a6⟩
  · obtain ⟨e0, e1, e2, e3, e4, e5, a0, a1, a2, a3, a4, a5, a6⟩ := h c
    exact ⟨fun i _ => congrFun e0 i, fun i _ => congrFun e1 i, fun i _ => congrFun e2 i, fun i _ => congrFun e3 i,
      fun i _ => congrFun e4 i, fun i _ => congrFun e5 i, a0, a1, a2, a3, a4, a5, a6⟩
  · obtain ⟨h0, h1, h2, h3, h4, h5, h6⟩ := hag c
    exact start_eq m m' c h0 h1 h2 h3 h4 h5 h6

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  Cert.Kernel17.Gen.facts, Cert.Kernel17Ideal.Gen.facts, Cert.Reference17Ideal.Gen.facts,
  Cert.Kernel18.Gen.facts, Cert.Kernel18Ideal.Gen.facts, Cert.Reference18Ideal.Gen.facts,
  Cert.Kernel19.Gen.facts, Cert.Kernel19Ideal.Gen.facts, Cert.Reference19Ideal.Gen.facts,
  Cert.Kernel20.Gen.facts, Cert.Kernel20Ideal.Gen.facts, Cert.Reference20Ideal.Gen.facts,
  Cert.Kernel21.Gen.facts, Cert.Kernel21Ideal.Gen.facts, Cert.Reference21Ideal.Gen.facts,
  Cert.Kernel22.Gen.facts, Cert.Kernel22Ideal.Gen.facts, Cert.Reference22Ideal.Gen.facts,
  Cert.Kernel23.Gen.facts, Cert.Kernel23Ideal.Gen.facts, Cert.Reference23Ideal.Gen.facts,
  Cert.Kernel24.Gen.facts, Cert.Kernel24Ideal.Gen.facts, Cert.Reference24Ideal.Gen.facts,
  Cert.Kernel25.Gen.facts, Cert.Kernel25Ideal.Gen.facts, Cert.Reference25Ideal.Gen.facts,
  Cert.Pre_finite.Gen.facts, Cert.Pre_finite_dout.Gen.facts, Cert.On_written.Gen.facts,
  fun m ρ _ => Cert.Kernel.Gen.frame m ρ, fun m ρ _ => Cert.KernelIdeal.Gen.frame m ρ,
  fun m ρ _ => Cert.KernelIdeal.Gen.frame m ρ, frame_reference, fun m ρ _ => frame_reference m ρ trivial,
  fun m ρ _ => Cert.Kernel2.Gen.frame m ρ, fun m ρ _ => Cert.Kernel2Ideal.Gen.frame m ρ, Cert.Mlp.frame2,
  fun m ρ _ => Cert.Kernel3.Gen.frame m ρ, fun m ρ _ => Cert.Kernel3Ideal.Gen.frame m ρ, Cert.Mlp.frame3,
  fun m ρ _ => Cert.Kernel4.Gen.frame m ρ, fun m ρ _ => Cert.Kernel4Ideal.Gen.frame m ρ, Cert.Mlp.frame4,
  fun m ρ _ => Cert.Kernel5.Gen.frame m ρ, fun m ρ _ => Cert.Kernel5Ideal.Gen.frame m ρ, Cert.Mlp.frame5,
  fun m ρ _ => Cert.Kernel6.Gen.frame m ρ, fun m ρ _ => Cert.Kernel6Ideal.Gen.frame m ρ, Cert.Mlp.frame6,
  fun m ρ _ => Cert.Kernel7.Gen.frame m ρ, fun m ρ _ => Cert.Kernel7Ideal.Gen.frame m ρ, Cert.Mlp.frame7,
  fun m ρ _ => Cert.Kernel8.Gen.frame m ρ, fun m ρ _ => Cert.Kernel8Ideal.Gen.frame m ρ, Cert.Mixer.frame8,
  fun m ρ _ => Cert.Kernel9.Gen.frame m ρ, fun m ρ _ => Cert.Kernel9Ideal.Gen.frame m ρ, Cert.Mixer.frame9,
  fun m ρ _ => Cert.Kernel10.Gen.frame m ρ, fun m ρ _ => Cert.Kernel10Ideal.Gen.frame m ρ, Cert.Mixer.frame10,
  fun m ρ _ => Cert.Kernel11.Gen.frame m ρ, fun m ρ _ => Cert.Kernel11Ideal.Gen.frame m ρ, Cert.Mixer.frame11,
  fun m ρ _ => Cert.Kernel12.Gen.frame m ρ, fun m ρ _ => Cert.Kernel12Ideal.Gen.frame m ρ, Cert.Mixer.frame12,
  fun m ρ _ => Cert.Kernel13.Gen.frame m ρ, fun m ρ _ => Cert.Kernel13Ideal.Gen.frame m ρ, Cert.Mixer.frame13,
  fun m ρ _ => Cert.Kernel14.Gen.frame m ρ, fun m ρ _ => Cert.Kernel14Ideal.Gen.frame m ρ, Cert.Mixer.frame14,
  fun m ρ _ => Cert.Kernel15.Gen.frame m ρ, fun m ρ _ => Cert.Kernel15Ideal.Gen.frame m ρ, Cert.Mixer.frame15,
  fun m ρ _ => Cert.Kernel16.Gen.frame m ρ, fun m ρ _ => Cert.Kernel16Ideal.Gen.frame m ρ, Cert.Mixer.frame16,
  fun m ρ _ => Cert.Kernel17.Gen.frame m ρ, fun m ρ _ => Cert.Kernel17Ideal.Gen.frame m ρ, Cert.Mixer.frame17,
  fun m ρ _ => Cert.Kernel18.Gen.frame m ρ, fun m ρ _ => Cert.Kernel18Ideal.Gen.frame m ρ, Cert.Mixer.frame18,
  fun m ρ _ => Cert.Kernel19.Gen.frame m ρ, fun m ρ _ => Cert.Kernel19Ideal.Gen.frame m ρ, Cert.Mixer.frame19,
  fun m ρ _ => Cert.Kernel20.Gen.frame m ρ, fun m ρ _ => Cert.Kernel20Ideal.Gen.frame m ρ, fun m ρ _ => Cert.Kernel20Ideal.Gen.frame m ρ,
  Cert.Conv.frame20, fun m ρ _ => Cert.Conv.frame20 m ρ trivial,
  fun m ρ _ => Cert.Kernel21.Gen.frame m ρ, fun m ρ _ => Cert.Kernel21Ideal.Gen.frame m ρ, fun m ρ _ => Cert.Kernel21Ideal.Gen.frame m ρ,
  Cert.Conv.frame21, fun m ρ _ => Cert.Conv.frame21 m ρ trivial,
  fun m ρ _ => Cert.Kernel22.Gen.frame m ρ, fun m ρ _ => Cert.Kernel22Ideal.Gen.frame m ρ, fun m ρ _ => Cert.Kernel22Ideal.Gen.frame m ρ,
  Cert.Conv.frame22, fun m ρ _ => Cert.Conv.frame22 m ρ trivial,
  fun m ρ _ => Cert.Kernel23.Gen.frame m ρ, fun m ρ _ => Cert.Kernel23Ideal.Gen.frame m ρ, Cert.Conv.frame23,
  fun m ρ _ => Cert.Kernel24.Gen.frame m ρ, fun m ρ _ => Cert.Kernel24Ideal.Gen.frame m ρ, Cert.Modulation.frame24,
  fun m ρ _ => Cert.Kernel25.Gen.frame m ρ, fun m ρ _ => Cert.Kernel25Ideal.Gen.frame m ρ, Cert.Modulation.frame25,
  trivial, value,
  trivial, Cert.Mlp.value2, trivial, Cert.Mlp.value3, trivial, Cert.Mlp.value4, trivial, Cert.Mlp.value5, trivial, Cert.Mlp.value6, trivial, Cert.Mlp.value7,
  trivial, Cert.Mixer.value8, trivial, Cert.Mixer.value9, trivial, Cert.Mixer.value10, trivial, Cert.Mixer.value11, trivial, Cert.Mixer.value12, trivial, Cert.Mixer.value13, trivial, Cert.Mixer.value14, trivial, Cert.Mixer.value15, trivial, Cert.Mixer.value16, trivial, Cert.Mixer.value17, trivial, Cert.Mixer.value18, trivial, Cert.Mixer.value19,
  trivial, Cert.Conv.value20, trivial, Cert.Conv.value21, trivial, Cert.Conv.value22, trivial, Cert.Conv.value23,
  trivial, Cert.Modulation.value24, trivial, Cert.Modulation.value25⟩

end Cert.Proof

end
